-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_finite_ffnb [hPre_finite_ffnb : Cert.Pre_finite_ffnb.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_finite_ffnb.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4))) = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_finite_ffnb [hPre_finite_ffnb : Cert.Pre_finite_ffnb.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_finite_ffnb.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4))) = (fun _ => 1#1)

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ r.2.sem = fun _ => 0)

def quiescent_FfnBIdeal_pre_finite_ffnb [hFfnBIdeal : Cert.FfnBIdeal.Facts] [hPre_finite_ffnb : Cert.Pre_finite_ffnb.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_finite_ffnb m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4))
      ∧ r.2.sem = fun _ => 0)

def quiescent_FfnBRefIdeal_pre_finite_ffnb [hFfnBRefIdeal : Cert.FfnBRefIdeal.Facts] [hPre_finite_ffnb : Cert.Pre_finite_ffnb.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_finite_ffnb m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4)
      ∧ r.2.mem ((c.tc : Thread Cert.InB.nD Cert.InB.τ).loc Cert.InB.main_arg5) = m ((c.tc : Thread Cert.InB.nD Cert.InB.τ).loc Cert.InB.main_arg5)
      ∧ r.2.mem ((c.tc : Thread Cert.InB.nD Cert.InB.τ).loc Cert.InB.main_arg6) = m ((c.tc : Thread Cert.InB.nD Cert.InB.τ).loc Cert.InB.main_arg6)
      ∧ r.2.mem ((c.tc : Thread Cert.InB.nD Cert.InB.τ).loc Cert.InB.main_arg7) = m ((c.tc : Thread Cert.InB.nD Cert.InB.τ).loc Cert.InB.main_arg7)
      ∧ r.2.mem ((c.tc : Thread Cert.InB.nD Cert.InB.τ).loc Cert.InB.main_arg8) = m ((c.tc : Thread Cert.InB.nD Cert.InB.τ).loc Cert.InB.main_arg8)
      ∧ r.2.mem ((c.tc : Thread Cert.InB.nD Cert.InB.τ).loc Cert.InB.main_arg9) = m ((c.tc : Thread Cert.InB.nD Cert.InB.τ).loc Cert.InB.main_arg9)
      ∧ r.2.mem ((c.tc : Thread Cert.InB.nD Cert.InB.τ).loc Cert.InB.main_arg10) = m ((c.tc : Thread Cert.InB.nD Cert.InB.τ).loc Cert.InB.main_arg10)
      ∧ r.2.mem ((c.tc : Thread Cert.InB.nD Cert.InB.τ).loc Cert.InB.main_arg11) = m ((c.tc : Thread Cert.InB.nD Cert.InB.τ).loc Cert.InB.main_arg11)
      ∧ r.2.mem ((c.tc : Thread Cert.InB.nD Cert.InB.τ).loc Cert.InB.main_arg12) = m ((c.tc : Thread Cert.InB.nD Cert.InB.τ).loc Cert.InB.main_arg12)
      ∧ r.2.mem ((c.tc : Thread Cert.InB.nD Cert.InB.τ).loc Cert.InB.main_arg13) = m ((c.tc : Thread Cert.InB.nD Cert.InB.τ).loc Cert.InB.main_arg13)
      ∧ r.2.mem ((c.tc : Thread Cert.InB.nD Cert.InB.τ).loc Cert.InB.main_arg14) = m ((c.tc : Thread Cert.InB.nD Cert.InB.τ).loc Cert.InB.main_arg14)
      ∧ r.2.mem ((c.tc : Thread Cert.InB.nD Cert.InB.τ).loc Cert.InB.main_arg15) = m ((c.tc : Thread Cert.InB.nD Cert.InB.τ).loc Cert.InB.main_arg15))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
      ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
      ∧ r.2.mem ((c.tc : Thread Cert.InBIdeal.nD Cert.InBIdeal.τ).loc Cert.InBIdeal.main_arg6) = m ((c.tc : Thread Cert.InBIdeal.nD Cert.InBIdeal.τ).loc Cert.InBIdeal.main_arg6)
      ∧ r.2.mem ((c.tc : Thread Cert.InBIdeal.nD Cert.InBIdeal.τ).loc Cert.InBIdeal.main_arg7) = m ((c.tc : Thread Cert.InBIdeal.nD Cert.InBIdeal.τ).loc Cert.InBIdeal.main_arg7)
      ∧ r.2.mem ((c.tc : Thread Cert.InBIdeal.nD Cert.InBIdeal.τ).loc Cert.InBIdeal.main_arg8) = m ((c.tc : Thread Cert.InBIdeal.nD Cert.InBIdeal.τ).loc Cert.InBIdeal.main_arg8)
      ∧ r.2.mem ((c.tc : Thread Cert.InBIdeal.nD Cert.InBIdeal.τ).loc Cert.InBIdeal.main_arg9) = m ((c.tc : Thread Cert.InBIdeal.nD Cert.InBIdeal.τ).loc Cert.InBIdeal.main_arg9)
      ∧ r.2.mem ((c.tc : Thread Cert.InBIdeal.nD Cert.InBIdeal.τ).loc Cert.InBIdeal.main_arg10) = m ((c.tc : Thread Cert.InBIdeal.nD Cert.InBIdeal.τ).loc Cert.InBIdeal.main_arg10)
      ∧ r.2.mem ((c.tc : Thread Cert.InBIdeal.nD Cert.InBIdeal.τ).loc Cert.InBIdeal.main_arg11) = m ((c.tc : Thread Cert.InBIdeal.nD Cert.InBIdeal.τ).loc Cert.InBIdeal.main_arg11)
      ∧ r.2.mem ((c.tc : Thread Cert.InBIdeal.nD Cert.InBIdeal.τ).loc Cert.InBIdeal.main_arg12) = m ((c.tc : Thread Cert.InBIdeal.nD Cert.InBIdeal.τ).loc Cert.InBIdeal.main_arg12)
      ∧ r.2.mem ((c.tc : Thread Cert.InBIdeal.nD Cert.InBIdeal.τ).loc Cert.InBIdeal.main_arg13) = m ((c.tc : Thread Cert.InBIdeal.nD Cert.InBIdeal.τ).loc Cert.InBIdeal.main_arg13)
      ∧ r.2.mem ((c.tc : Thread Cert.InBIdeal.nD Cert.InBIdeal.τ).loc Cert.InBIdeal.main_arg14) = m ((c.tc : Thread Cert.InBIdeal.nD Cert.InBIdeal.τ).loc Cert.InBIdeal.main_arg14)
      ∧ r.2.mem ((c.tc : Thread Cert.InBIdeal.nD Cert.InBIdeal.τ).loc Cert.InBIdeal.main_arg15) = m ((c.tc : Thread Cert.InBIdeal.nD Cert.InBIdeal.τ).loc Cert.InBIdeal.main_arg15))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4)
      ∧ r.2.mem ((c.tc : Thread Cert.InBRefIdeal.nD Cert.InBRefIdeal.τ).loc Cert.InBRefIdeal.main_arg5) = m ((c.tc : Thread Cert.InBRefIdeal.nD Cert.InBRefIdeal.τ).loc Cert.InBRefIdeal.main_arg5)
      ∧ r.2.mem ((c.tc : Thread Cert.InBRefIdeal.nD Cert.InBRefIdeal.τ).loc Cert.InBRefIdeal.main_arg6) = m ((c.tc : Thread Cert.InBRefIdeal.nD Cert.InBRefIdeal.τ).loc Cert.InBRefIdeal.main_arg6)
      ∧ r.2.mem ((c.tc : Thread Cert.InBRefIdeal.nD Cert.InBRefIdeal.τ).loc Cert.InBRefIdeal.main_arg7) = m ((c.tc : Thread Cert.InBRefIdeal.nD Cert.InBRefIdeal.τ).loc Cert.InBRefIdeal.main_arg7)
      ∧ r.2.mem ((c.tc : Thread Cert.InBRefIdeal.nD Cert.InBRefIdeal.τ).loc Cert.InBRefIdeal.main_arg8) = m ((c.tc : Thread Cert.InBRefIdeal.nD Cert.InBRefIdeal.τ).loc Cert.InBRefIdeal.main_arg8)
      ∧ r.2.mem ((c.tc : Thread Cert.InBRefIdeal.nD Cert.InBRefIdeal.τ).loc Cert.InBRefIdeal.main_arg9) = m ((c.tc : Thread Cert.InBRefIdeal.nD Cert.InBRefIdeal.τ).loc Cert.InBRefIdeal.main_arg9)
      ∧ r.2.mem ((c.tc : Thread Cert.InBRefIdeal.nD Cert.InBRefIdeal.τ).loc Cert.InBRefIdeal.main_arg10) = m ((c.tc : Thread Cert.InBRefIdeal.nD Cert.InBRefIdeal.τ).loc Cert.InBRefIdeal.main_arg10)
      ∧ r.2.mem ((c.tc : Thread Cert.InBRefIdeal.nD Cert.InBRefIdeal.τ).loc Cert.InBRefIdeal.main_arg11) = m ((c.tc : Thread Cert.InBRefIdeal.nD Cert.InBRefIdeal.τ).loc Cert.InBRefIdeal.main_arg11)
      ∧ r.2.mem ((c.tc : Thread Cert.InBRefIdeal.nD Cert.InBRefIdeal.τ).loc Cert.InBRefIdeal.main_arg12) = m ((c.tc : Thread Cert.InBRefIdeal.nD Cert.InBRefIdeal.τ).loc Cert.InBRefIdeal.main_arg12)
      ∧ r.2.mem ((c.tc : Thread Cert.InBRefIdeal.nD Cert.InBRefIdeal.τ).loc Cert.InBRefIdeal.main_arg13) = m ((c.tc : Thread Cert.InBRefIdeal.nD Cert.InBRefIdeal.τ).loc Cert.InBRefIdeal.main_arg13)
      ∧ r.2.mem ((c.tc : Thread Cert.InBRefIdeal.nD Cert.InBRefIdeal.τ).loc Cert.InBRefIdeal.main_arg14) = m ((c.tc : Thread Cert.InBRefIdeal.nD Cert.InBRefIdeal.τ).loc Cert.InBRefIdeal.main_arg14)
      ∧ r.2.mem ((c.tc : Thread Cert.InBRefIdeal.nD Cert.InBRefIdeal.τ).loc Cert.InBRefIdeal.main_arg15) = m ((c.tc : Thread Cert.InBRefIdeal.nD Cert.InBRefIdeal.τ).loc Cert.InBRefIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v53) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Attn_AttnIdeal : Prop :=
  IdealRules.named_const.Statement Cert.AttnIdeal.κ "ln2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v52_0)) (v1 : (c : Dev Cert.AttnIdeal.nD) → Buf (Elt Ideal) ((c.tc : Thread Cert.AttnIdeal.nD Cert.AttnIdeal.τ).loc Cert.AttnIdeal.main_v52_1)) (v2 : (c : Dev Cert.AttnIdeal.nD) → Buf (Elt Ideal) ((c.tc : Thread Cert.AttnIdeal.nD Cert.AttnIdeal.τ).loc Cert.AttnIdeal.main_v52_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v52_0) = v0 c
          ∧ r.2.mem ((c.tc : Thread Cert.AttnIdeal.nD Cert.AttnIdeal.τ).loc Cert.AttnIdeal.main_v52_1) = v1 c
          ∧ r.2.mem ((c.tc : Thread Cert.AttnIdeal.nD Cert.AttnIdeal.τ).loc Cert.AttnIdeal.main_v52_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_v79) = v1 c
          ∧ r.2.mem ((c.tc : Thread Cert.AttnRefIdeal.nD Cert.AttnRefIdeal.τ).loc Cert.AttnRefIdeal.main_v80) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_FfnB_FfnBIdeal : Prop :=
  True

def algebraic_FfnBIdeal_FfnBRefIdeal_pre_finite_ffnb [hFfnBIdeal : Cert.FfnBIdeal.Facts] [hFfnBRefIdeal : Cert.FfnBRefIdeal.Facts] [hPre_finite_ffnb : Cert.Pre_finite_ffnb.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_finite_ffnb m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)) →
    ∃ (v0 : (c : Dev Cert.FfnBIdeal.nD) → Buf (Elt Ideal) ((c.tc : Thread Cert.FfnBIdeal.nD Cert.FfnBIdeal.τ).loc Cert.FfnBIdeal.main_v16_0)) (v1 : (c : Dev Cert.FfnBIdeal.nD) → Buf (Elt Ideal) ((c.tc : Thread Cert.FfnBIdeal.nD Cert.FfnBIdeal.τ).loc Cert.FfnBIdeal.main_v16_1)) (v2 : (c : Dev Cert.FfnBIdeal.nD) → Buf (Elt Ideal) ((c.tc : Thread Cert.FfnBIdeal.nD Cert.FfnBIdeal.τ).loc Cert.FfnBIdeal.main_v16_2)) (v3 : (c : Dev Cert.FfnBIdeal.nD) → Buf (Elt Ideal) ((c.tc : Thread Cert.FfnBIdeal.nD Cert.FfnBIdeal.τ).loc Cert.FfnBIdeal.main_v16_3)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v16_0) = v0 c
          ∧ r.2.mem ((c.tc : Thread Cert.FfnBIdeal.nD Cert.FfnBIdeal.τ).loc Cert.FfnBIdeal.main_v16_1) = v1 c
          ∧ r.2.mem ((c.tc : Thread Cert.FfnBIdeal.nD Cert.FfnBIdeal.τ).loc Cert.FfnBIdeal.main_v16_2) = v2 c
          ∧ r.2.mem ((c.tc : Thread Cert.FfnBIdeal.nD Cert.FfnBIdeal.τ).loc Cert.FfnBIdeal.main_v16_3) = v3 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v19) = v0 c
          ∧ r.2.mem ((c.tc : Thread Cert.FfnBRefIdeal.nD Cert.FfnBRefIdeal.τ).loc Cert.FfnBRefIdeal.main_v21) = v1 c
          ∧ r.2.mem ((c.tc : Thread Cert.FfnBRefIdeal.nD Cert.FfnBRefIdeal.τ).loc Cert.FfnBRefIdeal.main_v22) = v2 c
          ∧ r.2.mem ((c.tc : Thread Cert.FfnBRefIdeal.nD Cert.FfnBRefIdeal.τ).loc Cert.FfnBRefIdeal.main_v17) = v3 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)
      ∧ m' ((c.tc : Thread Cert.InBRefIdeal.nD Cert.InBRefIdeal.τ).loc Cert.InBRefIdeal.main_arg4) = m ((c.tc : Thread Cert.InBIdeal.nD Cert.InBIdeal.τ).loc Cert.InBIdeal.main_arg4)
      ∧ m' ((c.tc : Thread Cert.InBRefIdeal.nD Cert.InBRefIdeal.τ).loc Cert.InBRefIdeal.main_arg5) = m ((c.tc : Thread Cert.InBIdeal.nD Cert.InBIdeal.τ).loc Cert.InBIdeal.main_arg5)
      ∧ m' ((c.tc : Thread Cert.InBRefIdeal.nD Cert.InBRefIdeal.τ).loc Cert.InBRefIdeal.main_arg6) = m ((c.tc : Thread Cert.InBIdeal.nD Cert.InBIdeal.τ).loc Cert.InBIdeal.main_arg6)
      ∧ m' ((c.tc : Thread Cert.InBRefIdeal.nD Cert.InBRefIdeal.τ).loc Cert.InBRefIdeal.main_arg7) = m ((c.tc : Thread Cert.InBIdeal.nD Cert.InBIdeal.τ).loc Cert.InBIdeal.main_arg7)
      ∧ m' ((c.tc : Thread Cert.InBRefIdeal.nD Cert.InBRefIdeal.τ).loc Cert.InBRefIdeal.main_arg8) = m ((c.tc : Thread Cert.InBIdeal.nD Cert.InBIdeal.τ).loc Cert.InBIdeal.main_arg8)
      ∧ m' ((c.tc : Thread Cert.InBRefIdeal.nD Cert.InBRefIdeal.τ).loc Cert.InBRefIdeal.main_arg9) = m ((c.tc : Thread Cert.InBIdeal.nD Cert.InBIdeal.τ).loc Cert.InBIdeal.main_arg9)
      ∧ m' ((c.tc : Thread Cert.InBRefIdeal.nD Cert.InBRefIdeal.τ).loc Cert.InBRefIdeal.main_arg10) = m ((c.tc : Thread Cert.InBIdeal.nD Cert.InBIdeal.τ).loc Cert.InBIdeal.main_arg10)
      ∧ m' ((c.tc : Thread Cert.InBRefIdeal.nD Cert.InBRefIdeal.τ).loc Cert.InBRefIdeal.main_arg11) = m ((c.tc : Thread Cert.InBIdeal.nD Cert.InBIdeal.τ).loc Cert.InBIdeal.main_arg11)
      ∧ m' ((c.tc : Thread Cert.InBRefIdeal.nD Cert.InBRefIdeal.τ).loc Cert.InBRefIdeal.main_arg12) = m ((c.tc : Thread Cert.InBIdeal.nD Cert.InBIdeal.τ).loc Cert.InBIdeal.main_arg12)
      ∧ m' ((c.tc : Thread Cert.InBRefIdeal.nD Cert.InBRefIdeal.τ).loc Cert.InBRefIdeal.main_arg13) = m ((c.tc : Thread Cert.InBIdeal.nD Cert.InBIdeal.τ).loc Cert.InBIdeal.main_arg13)
      ∧ m' ((c.tc : Thread Cert.InBRefIdeal.nD Cert.InBRefIdeal.τ).loc Cert.InBRefIdeal.main_arg14) = m ((c.tc : Thread Cert.InBIdeal.nD Cert.InBIdeal.τ).loc Cert.InBIdeal.main_arg14)
      ∧ m' ((c.tc : Thread Cert.InBRefIdeal.nD Cert.InBRefIdeal.τ).loc Cert.InBRefIdeal.main_arg15) = m ((c.tc : Thread Cert.InBIdeal.nD Cert.InBIdeal.τ).loc Cert.InBIdeal.main_arg15)) →
    ∃ (v0 : (c : Dev Cert.InBIdeal.nD) → Buf (Elt Ideal) ((c.tc : Thread Cert.InBIdeal.nD Cert.InBIdeal.τ).loc Cert.InBIdeal.main_v62)) (v1 : (c : Dev Cert.InBIdeal.nD) → Buf (Elt Ideal) ((c.tc : Thread Cert.InBIdeal.nD Cert.InBIdeal.τ).loc Cert.InBIdeal.main_v66)) (v2 : (c : Dev Cert.InBIdeal.nD) → Buf (Elt Ideal) ((c.tc : Thread Cert.InBIdeal.nD Cert.InBIdeal.τ).loc Cert.InBIdeal.main_v60_6)) (v3 : (c : Dev Cert.InBIdeal.nD) → Buf (Elt Ideal) ((c.tc : Thread Cert.InBIdeal.nD Cert.InBIdeal.τ).loc Cert.InBIdeal.main_v60_7)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v62) = v0 c
          ∧ r.2.mem ((c.tc : Thread Cert.InBIdeal.nD Cert.InBIdeal.τ).loc Cert.InBIdeal.main_v66) = v1 c
          ∧ r.2.mem ((c.tc : Thread Cert.InBIdeal.nD Cert.InBIdeal.τ).loc Cert.InBIdeal.main_v60_6) = v2 c
          ∧ r.2.mem ((c.tc : Thread Cert.InBIdeal.nD Cert.InBIdeal.τ).loc Cert.InBIdeal.main_v60_7) = v3 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
          ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
          ∧ r.2.mem ((c.tc : Thread Cert.InBIdeal.nD Cert.InBIdeal.τ).loc Cert.InBIdeal.main_arg6) = m ((c.tc : Thread Cert.InBIdeal.nD Cert.InBIdeal.τ).loc Cert.InBIdeal.main_arg6)
          ∧ r.2.mem ((c.tc : Thread Cert.InBIdeal.nD Cert.InBIdeal.τ).loc Cert.InBIdeal.main_arg7) = m ((c.tc : Thread Cert.InBIdeal.nD Cert.InBIdeal.τ).loc Cert.InBIdeal.main_arg7)
          ∧ r.2.mem ((c.tc : Thread Cert.InBIdeal.nD Cert.InBIdeal.τ).loc Cert.InBIdeal.main_arg8) = m ((c.tc : Thread Cert.InBIdeal.nD Cert.InBIdeal.τ).loc Cert.InBIdeal.main_arg8)
          ∧ r.2.mem ((c.tc : Thread Cert.InBIdeal.nD Cert.InBIdeal.τ).loc Cert.InBIdeal.main_arg9) = m ((c.tc : Thread Cert.InBIdeal.nD Cert.InBIdeal.τ).loc Cert.InBIdeal.main_arg9)
          ∧ r.2.mem ((c.tc : Thread Cert.InBIdeal.nD Cert.InBIdeal.τ).loc Cert.InBIdeal.main_arg10) = m ((c.tc : Thread Cert.InBIdeal.nD Cert.InBIdeal.τ).loc Cert.InBIdeal.main_arg10)
          ∧ r.2.mem ((c.tc : Thread Cert.InBIdeal.nD Cert.InBIdeal.τ).loc Cert.InBIdeal.main_arg11) = m ((c.tc : Thread Cert.InBIdeal.nD Cert.InBIdeal.τ).loc Cert.InBIdeal.main_arg11)
          ∧ r.2.mem ((c.tc : Thread Cert.InBIdeal.nD Cert.InBIdeal.τ).loc Cert.InBIdeal.main_arg12) = m ((c.tc : Thread Cert.InBIdeal.nD Cert.InBIdeal.τ).loc Cert.InBIdeal.main_arg12)
          ∧ r.2.mem ((c.tc : Thread Cert.InBIdeal.nD Cert.InBIdeal.τ).loc Cert.InBIdeal.main_arg13) = m ((c.tc : Thread Cert.InBIdeal.nD Cert.InBIdeal.τ).loc Cert.InBIdeal.main_arg13)
          ∧ r.2.mem ((c.tc : Thread Cert.InBIdeal.nD Cert.InBIdeal.τ).loc Cert.InBIdeal.main_arg14) = m ((c.tc : Thread Cert.InBIdeal.nD Cert.InBIdeal.τ).loc Cert.InBIdeal.main_arg14)
          ∧ r.2.mem ((c.tc : Thread Cert.InBIdeal.nD Cert.InBIdeal.τ).loc Cert.InBIdeal.main_arg15) = m ((c.tc : Thread Cert.InBIdeal.nD Cert.InBIdeal.τ).loc Cert.InBIdeal.main_arg15))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v177) = v0 c
          ∧ r.2.mem ((c.tc : Thread Cert.InBRefIdeal.nD Cert.InBRefIdeal.τ).loc Cert.InBRefIdeal.main_v155) = v1 c
          ∧ r.2.mem ((c.tc : Thread Cert.InBRefIdeal.nD Cert.InBRefIdeal.τ).loc Cert.InBRefIdeal.main_v181) = v2 c
          ∧ r.2.mem ((c.tc : Thread Cert.InBRefIdeal.nD Cert.InBRefIdeal.τ).loc Cert.InBRefIdeal.main_v159) = v3 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3)
          ∧ r.2.mem ((c.tc : Thread Cert.InBRefIdeal.nD Cert.InBRefIdeal.τ).loc Cert.InBRefIdeal.main_arg4) = m' ((c.tc : Thread Cert.InBRefIdeal.nD Cert.InBRefIdeal.τ).loc Cert.InBRefIdeal.main_arg4)
          ∧ r.2.mem ((c.tc : Thread Cert.InBRefIdeal.nD Cert.InBRefIdeal.τ).loc Cert.InBRefIdeal.main_arg5) = m' ((c.tc : Thread Cert.InBRefIdeal.nD Cert.InBRefIdeal.τ).loc Cert.InBRefIdeal.main_arg5)
          ∧ r.2.mem ((c.tc : Thread Cert.InBRefIdeal.nD Cert.InBRefIdeal.τ).loc Cert.InBRefIdeal.main_arg6) = m' ((c.tc : Thread Cert.InBRefIdeal.nD Cert.InBRefIdeal.τ).loc Cert.InBRefIdeal.main_arg6)
          ∧ r.2.mem ((c.tc : Thread Cert.InBRefIdeal.nD Cert.InBRefIdeal.τ).loc Cert.InBRefIdeal.main_arg7) = m' ((c.tc : Thread Cert.InBRefIdeal.nD Cert.InBRefIdeal.τ).loc Cert.InBRefIdeal.main_arg7)
          ∧ r.2.mem ((c.tc : Thread Cert.InBRefIdeal.nD Cert.InBRefIdeal.τ).loc Cert.InBRefIdeal.main_arg8) = m' ((c.tc : Thread Cert.InBRefIdeal.nD Cert.InBRefIdeal.τ).loc Cert.InBRefIdeal.main_arg8)
          ∧ r.2.mem ((c.tc : Thread Cert.InBRefIdeal.nD Cert.InBRefIdeal.τ).loc Cert.InBRefIdeal.main_arg9) = m' ((c.tc : Thread Cert.InBRefIdeal.nD Cert.InBRefIdeal.τ).loc Cert.InBRefIdeal.main_arg9)
          ∧ r.2.mem ((c.tc : Thread Cert.InBRefIdeal.nD Cert.InBRefIdeal.τ).loc Cert.InBRefIdeal.main_arg10) = m' ((c.tc : Thread Cert.InBRefIdeal.nD Cert.InBRefIdeal.τ).loc Cert.InBRefIdeal.main_arg10)
          ∧ r.2.mem ((c.tc : Thread Cert.InBRefIdeal.nD Cert.InBRefIdeal.τ).loc Cert.InBRefIdeal.main_arg11) = m' ((c.tc : Thread Cert.InBRefIdeal.nD Cert.InBRefIdeal.τ).loc Cert.InBRefIdeal.main_arg11)
          ∧ r.2.mem ((c.tc : Thread Cert.InBRefIdeal.nD Cert.InBRefIdeal.τ).loc Cert.InBRefIdeal.main_arg12) = m' ((c.tc : Thread Cert.InBRefIdeal.nD Cert.InBRefIdeal.τ).loc Cert.InBRefIdeal.main_arg12)
          ∧ r.2.mem ((c.tc : Thread Cert.InBRefIdeal.nD Cert.InBRefIdeal.τ).loc Cert.InBRefIdeal.main_arg13) = m' ((c.tc : Thread Cert.InBRefIdeal.nD Cert.InBRefIdeal.τ).loc Cert.InBRefIdeal.main_arg13)
          ∧ r.2.mem ((c.tc : Thread Cert.InBRefIdeal.nD Cert.InBRefIdeal.τ).loc Cert.InBRefIdeal.main_arg14) = m' ((c.tc : Thread Cert.InBRefIdeal.nD Cert.InBRefIdeal.τ).loc Cert.InBRefIdeal.main_arg14)
          ∧ r.2.mem ((c.tc : Thread Cert.InBRefIdeal.nD Cert.InBRefIdeal.τ).loc Cert.InBRefIdeal.main_arg15) = m' ((c.tc : Thread Cert.InBRefIdeal.nD Cert.InBRefIdeal.τ).loc Cert.InBRefIdeal.main_arg15))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hFfnB : Cert.FfnB.Facts) (hFfnBIdeal : Cert.FfnBIdeal.Facts) (hFfnBRefIdeal : Cert.FfnBRefIdeal.Facts) (hInB : Cert.InB.Facts) (hInBIdeal : Cert.InBIdeal.Facts) (hInBRefIdeal : Cert.InBRefIdeal.Facts) (hPre_finite : Cert.Pre_finite.Facts) (hPre_finite_attn : Cert.Pre_finite_attn.Facts) (hPre_finite_ffnb : Cert.Pre_finite_ffnb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_FfnB (hFfnB := hFfnB)
    ∧ quiescent_FfnBIdeal (hFfnBIdeal := hFfnBIdeal)
    ∧ quiescent_FfnBIdeal_pre_finite_ffnb (hFfnBIdeal := hFfnBIdeal) (hPre_finite_ffnb := hPre_finite_ffnb)
    ∧ quiescent_FfnBRefIdeal (hFfnBRefIdeal := hFfnBRefIdeal)
    ∧ quiescent_FfnBRefIdeal_pre_finite_ffnb (hFfnBRefIdeal := hFfnBRefIdeal) (hPre_finite_ffnb := hPre_finite_ffnb)
    ∧ quiescent_InB (hInB := hInB)
    ∧ quiescent_InBIdeal (hInBIdeal := hInBIdeal)
    ∧ quiescent_InBRefIdeal (hInBRefIdeal := hInBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_FfnB_FfnBIdeal
    ∧ algebraic_FfnBIdeal_FfnBRefIdeal_pre_finite_ffnb (hFfnBIdeal := hFfnBIdeal) (hFfnBRefIdeal := hFfnBRefIdeal) (hPre_finite_ffnb := hPre_finite_ffnb)
    ∧ preserves_InB_InBIdeal
    ∧ algebraic_InBIdeal_InBRefIdeal (hInBIdeal := hInBIdeal) (hInBRefIdeal := hInBRefIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1024x2816 .f32) (main_arg5 : FVec F S1024x2816 .f32) (main_arg6 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite_attn.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x8x32 : S_.BroadcastsInDim S4096x8x32 (![] : Fin 0 → Fin S4096x8x32.rank)
  reducesTo_S4096x8x32_S_d0_1_2 : S4096x8x32.ReducesTo [0, 1, 2] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x8x64 .f32) (main_arg5 : FVec F S4096x8x64 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x8x64 .f32 := Host.absf main_arg4
  let main_cst_6 : FVec F S_ .f32 := constant S_ .f32 0x7F800000#32
  let main_v20 : FVec F S4096x8x64 .f32 := broadcastInDim S4096x8x64 ![] bcast_S_S4096x8x64 main_cst_6
  let main_v21 : IVec S4096x8x64 1 := cmpf .olt main_v19 main_v20
  let main_c_7 : IVec S_ 1 := constantI S_ 1 1#1
  let main_v22 : IVec S_ 1 := (fun x v => Host.reduce IntOp.andi x v reducesTo_S4096x8x64_S_d0_1_2 h_S_) main_v21 main_c_7
  let main_v23 : IVec S_ 1 := andi main_v18 main_v22
  let main_v24 : FVec F S4096x8x64 .f32 := Host.absf main_arg5
  let main_cst_8 : FVec F S_ .f32 := constant S_ .f32 0x7F800000#32
  let main_v25 : FVec F S4096x8x64 .f32 := broadcastInDim S4096x8x64 ![] bcast_S_S4096x8x64 main_cst_8
  let main_v26 : IVec S4096x8x64 1 := cmpf .olt main_v24 main_v25
  let main_c_9 : IVec S_ 1 := constantI S_ 1 1#1
  let main_v27 : IVec S_ 1 := (fun x v => Host.reduce IntOp.andi x v reducesTo_S4096x8x64_S_d0_1_2 h_S_) main_v26 main_c_9
  let main_v28 : IVec S_ 1 := andi main_v23 main_v27
  main_v28

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x8x32 .f32 := Host.absf main_arg1
  let main_cst_0 : FVec F S_ .f32 := constant S_ .f32 0x7F800000#32
  let main_v5 : FVec F S4096x8x32 .f32 := broadcastInDim S4096x8x32 ![] bcast_S_S4096x8x32 main_cst_0
  let main_v6 : IVec S4096x8x32 1 := cmpf .olt main_v4 main_v5
  let main_c_1 : IVec S_ 1 := constantI S_ 1 1#1
  let main_v7 : IVec S_ 1 := (fun x v => Host.reduce IntOp.andi x v reducesTo_S4096x8x32_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Pre_finite_ffnb.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x2816 .f32) (main_arg3 : FVec F S1024x2816 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_v13 main_v16
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x704x1024, .f32⟩
  | .hbm, ⟨14, _⟩ => ⟨S4x704x1024, .bf16⟩
  | .hbm, ⟨15, _⟩ => ⟨S4096x1024, .bf16⟩
  | .hbm, ⟨16, _⟩ => ⟨S4x4096x704, .f32⟩
  | .hbm, ⟨17, _⟩ => ⟨S4x4096x704, .f32⟩
  | .hbm, ⟨18, _⟩ => ⟨S4096x1024, .bf16⟩
  | .hbm, ⟨19, _⟩ => ⟨S4096x1024, .f32⟩
  | .hbm, ⟨20, _⟩ => ⟨S1x1024, .f32⟩
  | .hbm, ⟨21, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x704x1024, .bf16⟩
  | .local _ .vmem, ⟨8, _⟩ => ⟨S4x704x1024, .bf16⟩
  | .local _ .vmem, ⟨9, _⟩ => ⟨S4x704x1024, .bf16⟩
  | .local _ .vmem, ⟨10, _⟩ => ⟨S4x256x704, .f32⟩
  | .local _ .vmem, ⟨11, _⟩ => ⟨S4x256x704, .f32⟩
  | .local _ .vmem, ⟨12, _⟩ => ⟨S4x256x704, .f32⟩
  | .local _ .vmem, ⟨13, _⟩ => ⟨S4x256x704, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x4x704 : Shape := ⟨3, ![4096, 4, 704]⟩
abbrev S4x4096x704 : Shape := ⟨3, ![4, 4096, 704]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x4x704, .f32⟩
  | .hbm, ⟨105, _⟩ => ⟨S4x4096x704, .f32⟩
  | .hbm, ⟨106, _⟩ => ⟨S4096x4x704, .f32⟩
  | .hbm, ⟨107, _⟩ => ⟨S4x4096x704, .f32⟩
  | .hbm, ⟨108, _⟩ => ⟨S4096x1024, .bf16⟩
  | .hbm, ⟨109, _⟩ => ⟨S_, .f32⟩
  | .hbm, ⟨110, _⟩ => ⟨S1024, .f32⟩
  | .hbm, ⟨111, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Attn.lean ====
abbrev S4096x8x64 : Shape := ⟨3, ![4096, 8, 64]⟩
abbrev S4096x8x32 : Shape := ⟨3, ![4096, 8, 32]⟩
abbrev S4096x32 : Shape := ⟨2, ![4096, 32]⟩
abbrev S4096x8x96 : Shape := ⟨3, ![4096, 8, 96]⟩
abbrev S4096x1x32 : Shape := ⟨3, ![4096, 1, 32]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S8x4096x4096 : Shape := ⟨3, ![8, 4096, 4096]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4x2x4096 : Shape := ⟨3, ![4, 2, 4096]⟩
abbrev S4096x8 : Shape := ⟨2, ![4096, 8]⟩
abbrev S1024x4096 : Shape := ⟨2, ![1024, 4096]⟩
abbrev S512x512 : Shape := ⟨2, ![512, 512]⟩
abbrev S512x256 : Shape := ⟨2, ![512, 256]⟩
abbrev S4096x256 : Shape := ⟨2, ![4096, 256]⟩
abbrev S2x2x4096 : Shape := ⟨3, ![2, 2, 4096]⟩
abbrev S512x4096 : Shape := ⟨2, ![512, 4096]⟩
abbrev S4x512x128 : Shape := ⟨3, ![4, 512, 128]⟩
abbrev S512x128 : Shape := ⟨2, ![512, 128]⟩
abbrev S1x512x128 : Shape := ⟨3, ![1, 512, 128]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 75
  | .vmem => 22
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x8x96, .f32⟩
  | .hbm, ⟨7, _⟩ => ⟨S4096x1x32, .f32⟩
  | .hbm, ⟨8, _⟩ => ⟨S4096x8x32, .f32⟩
  | .hbm, ⟨9, _⟩ => ⟨S4096x8x96, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8x96, .f32⟩
  | .hbm, ⟨15, _⟩ => ⟨S4096x8x96, .f32⟩
  | .hbm, ⟨16, _⟩ => ⟨S_, .i32⟩
  | .hbm, ⟨17, _⟩ => ⟨S_, .f32⟩
  | .hbm, ⟨18, _⟩ => ⟨S4096x8x128, .f32⟩
  | .hbm, ⟨19, _⟩ => ⟨S4096x1024, .f32⟩
  | .hbm, ⟨20, _⟩ => ⟨S4096x1024, .bf16⟩
  | .hbm, ⟨21, _⟩ => ⟨S_, .i32⟩
  | .hbm, ⟨22, _⟩ => ⟨S_, .f32⟩
  | .hbm, ⟨23, _⟩ => ⟨S4096x8x128, .f32⟩
  | .hbm, ⟨24, _⟩ => ⟨S4096x1024, .f32⟩
  | .hbm, ⟨25, _⟩ => ⟨S4096x1024, .bf16⟩
  | .hbm, ⟨26, _⟩ => ⟨S4096x512, .f32⟩
  | .hbm, ⟨27, _⟩ => ⟨S4096x512, .bf16⟩
  | .hbm, ⟨28, _⟩ => ⟨S8x4096x4096, .f32⟩
  | .hbm, ⟨29, _⟩ => ⟨S4096x4096x8, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x64x4096, .f32⟩
  | .hbm, ⟨58, _⟩ => ⟨S4096x8x64, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S4x2x4096, .f32⟩
  | .hbm, ⟨64, _⟩ => ⟨S4096x8x64, .f32⟩
  | .hbm, ⟨65, _⟩ => ⟨S_, .f32⟩
  | .hbm, ⟨66, _⟩ => ⟨S4096x8, .f32⟩
  | .hbm, ⟨67, _⟩ => ⟨S8x4096, .f32⟩
  | .hbm, ⟨68, _⟩ => ⟨S4x2x4096, .f32⟩
  | .hbm, ⟨69, _⟩ => ⟨S4096x512, .f32⟩
  | .hbm, ⟨70, _⟩ => ⟨S4096x512, .bf16⟩
  | .hbm, ⟨71, _⟩ => ⟨S1024x4096, .bf16⟩
  | .hbm, ⟨72, _⟩ => ⟨S1024x4096, .f32⟩
  | .hbm, ⟨73, _⟩ => ⟨S4096x1024, .f32⟩
  | .hbm, ⟨74, _⟩ => ⟨S4096x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S4096x256, .bf16⟩
  | .local _ .vmem, ⟨9, _⟩ => ⟨S4096x256, .bf16⟩
  | .local _ .vmem, ⟨10, _⟩ => ⟨S2x2x4096, .f32⟩
  | .local _ .vmem, ⟨11, _⟩ => ⟨S2x2x4096, .f32⟩
  | .local _ .vmem, ⟨12, _⟩ => ⟨S2x2x4096, .f32⟩
  | .local _ .vmem, ⟨13, _⟩ => ⟨S2x2x4096, .f32⟩
  | .local _ .vmem, ⟨14, _⟩ => ⟨S512x4096, .f32⟩
  | .local _ .vmem, ⟨15, _⟩ => ⟨S512x4096, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S4x512x128, .bf16⟩
  | .local _ .vmem, ⟨21, _⟩ => ⟨S4x512x128, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v42 : BitVec 32 := Scalar.muli arg1 c512_i32
  v42
def k0_off1 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v46 : Index := Scalar.indexCast v43
  let c0_27 : Index := 0#32
  ![v46.toNat, 0]
def k0_off2 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v52 : Index := Scalar.indexCast v43
  let c128_31 : Index := 128#32
  ![v52.toNat, 128]
def k0_off3 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v58 : Index := Scalar.indexCast v43
  let c256_34 : Index := 256#32
  ![v58.toNat, 256]
def k0_off4 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v64 : Index := Scalar.indexCast v43
  let c384_37 : Index := 384#32
  ![v64.toNat, 384]
def k0_off5 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v70 : Index := Scalar.indexCast v43
  let c0_42 : Index := 0#32
  ![v70.toNat, 0]
def k0_off6 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v82 : Index := Scalar.indexCast v43
  let c128_52 : Index := 128#32
  ![v82.toNat, 128]
def k0_off7 (i : grid0.Coords) : Fin 3 → Nat :=
  let c0_59 : Index := 0#32
  let c0_60 : Index := 0#32
  let arg1 : BitVec 32 := BitVec.ofNat 32 (i 1).val
  let c512_i32 : BitVec 32 := 512#32
  let v42 : BitVec 32 := Scalar.muli arg1 c512_i32
  let v43 : BitVec 32 := v42
  let v92 : Index := Scalar.indexCast v43
  ![0, 0, v92.toNat]
def k0_off8 (i : grid0.Coords) : Fin 2 → Nat :=
  let c0_78 : Index := 0#32
  let arg1 : BitVec 32 := BitVec.ofNat 32 (i 1).val
  let c512_i32 : BitVec 32 := 512#32
  let v42 : BitVec 32 := Scalar.muli arg1 c512_i32
  let v43 : BitVec 32 := v42
  let v129 : Index := Scalar.indexCast v43
  ![0, v129.toNat]
def k0_off9 (i : grid0.Coords) : Fin 3 → Nat :=
  let c0_83 : Index := 0#32
  let c1_84 : Index := 1#32
  let arg1 : BitVec 32 := BitVec.ofNat 32 (i 1).val
  let c512_i32 : BitVec 32 := 512#32
  let v42 : BitVec 32 := Scalar.muli arg1 c512_i32
  let v43 : BitVec 32 := v42
  let v139 : Index := Scalar.indexCast v43
  ![0, 1, v139.toNat]
def k0_off10 (i : grid0.Coords) : Fin 2 → Nat :=
  let c128_102 : Index := 128#32
  let arg1 : BitVec 32 := BitVec.ofNat 32 (i 1).val
  let c512_i32 : BitVec 32 := 512#32
  let v42 : BitVec 32 := Scalar.muli arg1 c512_i32
  let v43 : BitVec 32 := v42
  let v176 : Index := Scalar.indexCast v43
  ![128, v176.toNat]
def k0_off11 (i : grid0.Coords) : Fin 3 → Nat :=
  let c1_107 : Index := 1#32
  let c0_108 : Index := 0#32
  let arg1 : BitVec 32 := BitVec.ofNat 32 (i 1).val
  let c512_i32 : BitVec 32 := 512#32
  let v42 : BitVec 32 := Scalar.muli arg1 c512_i32
  let v43 : BitVec 32 := v42
  let v186 : Index := Scalar.indexCast v43
  ![1, 0, v186.toNat]
def k0_off12 (i : grid0.Coords) : Fin 2 → Nat :=
  let c256_126 : Index := 256#32
  let arg1 : BitVec 32 := BitVec.ofNat 32 (i 1).val
  let c512_i32 : BitVec 32 := 512#32
  let v42 : BitVec 32 := Scalar.muli arg1 c512_i32
  let v43 : BitVec 32 := v42
  let v223 : Index := Scalar.indexCast v43
  ![256, v223.toNat]
def k0_off13 (i : grid0.Coords) : Fin 3 → Nat :=
  let c1_131 : Index := 1#32
  let c1_132 : Index := 1#32
  let arg1 : BitVec 32 := BitVec.ofNat 32 (i 1).val
  let c512_i32 : BitVec 32 := 512#32
  let v42 : BitVec 32 := Scalar.muli arg1 c512_i32
  let v43 : BitVec 32 := v42
  let v233 : Index := Scalar.indexCast v43
  ![1, 1, v233.toNat]
def k0_off14 (i : grid0.Coords) : Fin 2 → Nat :=
  let c384_150 : Index := 384#32
  let arg1 : BitVec 32 := BitVec.ofNat 32 (i 1).val
  let c512_i32 : BitVec 32 := 512#32
  let v42 : BitVec 32 := Scalar.muli arg1 c512_i32
  let v43 : BitVec 32 := v42
  let v270 : Index := Scalar.indexCast v43
  ![384, v270.toNat]
@[reducible] def k0_t1_loop (i : grid0.Coords) : Scf.Loop 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_157 : BitVec 32 := 1#32
  ⟨v280, v285, c1_i32_157⟩
def k0_mult2 (i : grid0.Coords) (k0_t1 : Fin (k0_t1_loop i).trips) : BitVec 32 :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  v309
def k0_off15 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v313 : Index := Scalar.indexCast v310
  let c0_185 : Index := 0#32
  ![v313.toNat, 0]
def k0_off16 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v319 : Index := Scalar.indexCast v310
  let c128_189 : Index := 128#32
  ![v319.toNat, 128]
def k0_off17 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v325 : Index := Scalar.indexCast v310
  let c256_193 : Index := 256#32
  ![v325.toNat, 256]
def k0_off18 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v331 : Index := Scalar.indexCast v310
  let c384_197 : Index := 384#32
  ![v331.toNat, 384]
def k0_off19 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v337 : Index := Scalar.indexCast v310
  let c0_202 : Index := 0#32
  ![v337.toNat, 0]
def k0_off20 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v349 : Index := Scalar.indexCast v310
  let c128_212 : Index := 128#32
  ![v349.toNat, 128]
def k0_off21 (i : grid0.Coords) (k0_t1 : Fin (k0_t1_loop i).trips) : Fin 3 → Nat :=
  let c0_219 : Index := 0#32
  let c0_220 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v359 : Index := Scalar.indexCast v310
  ![0, 0, v359.toNat]
def k0_off22 (i : grid0.Coords) (k0_t1 : Fin (k0_t1_loop i).trips) : Fin 2 → Nat :=
  let c0_237 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v391 : Index := Scalar.indexCast v310
  ![0, v391.toNat]
def k0_off23 (i : grid0.Coords) (k0_t1 : Fin (k0_t1_loop i).trips) : Fin 3 → Nat :=
  let c0_242 : Index := 0#32
  let c1_243 : Index := 1#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v401 : Index := Scalar.indexCast v310
  ![0, 1, v401.toNat]
def k0_off24 (i : grid0.Coords) (k0_t1 : Fin (k0_t1_loop i).trips) : Fin 2 → Nat :=
  let c128_260 : Index := 128#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v433 : Index := Scalar.indexCast v310
  ![128, v433.toNat]
def k0_off25 (i : grid0.Coords) (k0_t1 : Fin (k0_t1_loop i).trips) : Fin 3 → Nat :=
  let c1_265 : Index := 1#32
  let c0_266 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v443 : Index := Scalar.indexCast v310
  ![1, 0, v443.toNat]
def k0_off26 (i : grid0.Coords) (k0_t1 : Fin (k0_t1_loop i).trips) : Fin 2 → Nat :=
  let c256_283 : Index := 256#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v475 : Index := Scalar.indexCast v310
  ![256, v475.toNat]
def k0_off27 (i : grid0.Coords) (k0_t1 : Fin (k0_t1_loop i).trips) : Fin 3 → Nat :=
  let c1_288 : Index := 1#32
  let c1_289 : Index := 1#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v485 : Index := Scalar.indexCast v310
  ![1, 1, v485.toNat]
def k0_off28 (i : grid0.Coords) (k0_t1 : Fin (k0_t1_loop i).trips) : Fin 2 → Nat :=
  let c384_306 : Index := 384#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v517 : Index := Scalar.indexCast v310
  ![384, v517.toNat]
@[reducible] def k0_t2_loop (i : grid0.Coords) : Scf.Loop 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let v282 : BitVec 32 := Scalar.addi v280 v281
  let c1_i32_158 : BitVec 32 := 1#32
  ⟨v285, v282, c1_i32_158⟩
def k0_mult3 (i : grid0.Coords) (k0_t2 : Fin (k0_t2_loop i).trips) : BitVec 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  v309
def k0_off29 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v313 : Index := Scalar.indexCast v310
  let c0_185 : Index := 0#32
  ![v313.toNat, 0]
def k0_off30 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v319 : Index := Scalar.indexCast v310
  let c128_189 : Index := 128#32
  ![v319.toNat, 128]
def k0_off31 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v325 : Index := Scalar.indexCast v310
  let c256_193 : Index := 256#32
  ![v325.toNat, 256]
def k0_off32 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v331 : Index := Scalar.indexCast v310
  let c384_197 : Index := 384#32
  ![v331.toNat, 384]
def k0_off33 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v337 : Index := Scalar.indexCast v310
  let c0_202 : Index := 0#32
  ![v337.toNat, 0]
def k0_off34 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v349 : Index := Scalar.indexCast v310
  let c128_212 : Index := 128#32
  ![v349.toNat, 128]
def k0_off35 (i : grid0.Coords) (k0_t2 : Fin (k0_t2_loop i).trips) : Fin 3 → Nat :=
  let c0_219 : Index := 0#32
  let c0_220 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v359 : Index := Scalar.indexCast v310
  ![0, 0, v359.toNat]
def k0_off36 (i : grid0.Coords) (k0_t2 : Fin (k0_t2_loop i).trips) : Fin 2 → Nat :=
  let c0_237 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v391 : Index := Scalar.indexCast v310
  ![0, v391.toNat]
def k0_off37 (i : grid0.Coords) (k0_t2 : Fin (k0_t2_loop i).trips) : Fin 3 → Nat :=
  let c0_242 : Index := 0#32
  let c1_243 : Index := 1#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v401 : Index := Scalar.indexCast v310
  ![0, 1, v401.toNat]
def k0_off38 (i : grid0.Coords) (k0_t2 : Fin (k0_t2_loop i).trips) : Fin 2 → Nat :=
  let c128_260 : Index := 128#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v433 : Index := Scalar.indexCast v310
  ![128, v433.toNat]
def k0_off39 (i : grid0.Coords) (k0_t2 : Fin (k0_t2_loop i).trips) : Fin 3 → Nat :=
  let c1_265 : Index := 1#32
  let c0_266 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v443 : Index := Scalar.indexCast v310
  ![1, 0, v443.toNat]
def k0_off40 (i : grid0.Coords) (k0_t2 : Fin (k0_t2_loop i).trips) : Fin 2 → Nat :=
  let c256_283 : Index := 256#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v475 : Index := Scalar.indexCast v310
  ![256, v475.toNat]
def k0_off41 (i : grid0.Coords) (k0_t2 : Fin (k0_t2_loop i).trips) : Fin 3 → Nat :=
  let c1_288 : Index := 1#32
  let c1_289 : Index := 1#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v485 : Index := Scalar.indexCast v310
  ![1, 1, v485.toNat]
def k0_off42 (i : grid0.Coords) (k0_t2 : Fin (k0_t2_loop i).trips) : Fin 2 → Nat :=
  let c384_306 : Index := 384#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v517 : Index := Scalar.indexCast v310
  ![384, v517.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "ln2" => some ((Real.log 2 : ℝ) : EReal)
  | _ => none
-- ==== AttnRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x32 : Shape := ⟨3, ![8, 4096, 32]⟩
abbrev S8x4096x64 : Shape := ⟨3, ![8, 4096, 64]⟩
abbrev S4096x8x128 : Shape := ⟨3, ![4096, 8, 128]⟩
abbrev S4096x1024 : Shape := ⟨2, ![4096, 1024]⟩
abbrev S1024x4096 : Shape := ⟨2, ![1024, 4096]⟩
abbrev S4096x512 : Shape := ⟨2, ![4096, 512]⟩

abbrev nBuf : Space → Nat
  | .hbm => 112
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x8x32, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .i1⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x64x4096, .f32⟩
  | .hbm, ⟨66, _⟩ => ⟨S4096x8x64, .f32⟩
  | .hbm, ⟨67, _⟩ => ⟨S8x64x4096, .f32⟩
  | .hbm, ⟨68, _⟩ => ⟨S8x4096x4096, .f32⟩
  | .hbm, ⟨69, _⟩ => ⟨S8x64x4096, .f32⟩
  | .hbm, ⟨70, _⟩ => ⟨S4096x8x64, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S8x4096x32, .f32⟩
  | .hbm, ⟨92, _⟩ => ⟨S4096x8x32, .f32⟩
  | .hbm, ⟨93, _⟩ => ⟨S8x4096x32, .f32⟩
  | .hbm, ⟨94, _⟩ => ⟨S4096x8x32, .f32⟩
  | .hbm, ⟨95, _⟩ => ⟨S8x4096x64, .f32⟩
  | .hbm, ⟨96, _⟩ => ⟨S4096x8x64, .f32⟩
  | .hbm, ⟨97, _⟩ => ⟨S8x4096x64, .f32⟩
  | .hbm, ⟨98, _⟩ => ⟨S4096x8x64, .f32⟩
  | .hbm, ⟨99, _⟩ => ⟨S_, .f32⟩
  | .hbm, ⟨100, _⟩ => ⟨S4096x8x32, .f32⟩
  | .hbm, ⟨101, _⟩ => ⟨S4096x8x128, .f32⟩
  | .hbm, ⟨102, _⟩ => ⟨S4096x1024, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S1024x4096, .f32⟩
  | .hbm, ⟨107, _⟩ => ⟨S_, .f32⟩
  | .hbm, ⟨108, _⟩ => ⟨S4096x8x32, .f32⟩
  | .hbm, ⟨109, _⟩ => ⟨S4096x8x128, .f32⟩
  | .hbm, ⟨110, _⟩ => ⟨S4096x1024, .f32⟩
  | .hbm, ⟨111, _⟩ => ⟨S4096x512, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== FfnB.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S512x704 : Shape := ⟨2, ![512, 704]⟩
abbrev S704x1024 : Shape := ⟨2, ![704, 1024]⟩

abbrev nBuf : Space → Nat
  | .hbm => 25
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S4096x2816, .f32⟩
  | .hbm, ⟨14, _⟩ => ⟨S4096x4x704, .f32⟩
  | .hbm, ⟨15, _⟩ => ⟨S4x4096x704, .f32⟩
  | .hbm, ⟨16, _⟩ => ⟨S4096x2816, .f32⟩
  | .hbm, ⟨17, _⟩ => ⟨S4096x4x704, .f32⟩
  | .hbm, ⟨18, _⟩ => ⟨S4x4096x704, .f32⟩
  | .hbm, ⟨19, _⟩ => ⟨S4096x1024, .bf16⟩
  | .hbm, ⟨20, _⟩ => ⟨S4096x1024, .bf16⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S512x1024, .bf16⟩
  | .local _ .vmem, ⟨7, _⟩ => ⟨S512x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | .local _ .vmem, ⟨18, _⟩ => ⟨S1x704x1024, .f32⟩
  | .local _ .vmem, ⟨19, _⟩ => ⟨S1x704x1024, .f32⟩
  | .local _ .vmem, ⟨20, _⟩ => ⟨S512x1024, .f32⟩
  | .local _ .vmem, ⟨21, _⟩ => ⟨S512x1024, .f32⟩
  | .local _ .vmem, ⟨22, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_44 : BitVec 32 := 0#32
  let v61 : BitVec 1 := Scalar.cmpi .eq arg0 c0_i32_44
  let v62 : BitVec 32 := Scalar.extui v61
  let c0_i32_45 : BitVec 32 := 0#32
  let v63 : BitVec 1 := Scalar.cmpi .ne v62 c0_i32_45
  v63

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def k0_cond3 (i : grid0.Coords) : BitVec 1 :=
  let arg0 : BitVec 32 := BitVec.ofNat 32 (i 0).val
  let c0_i32_46 : BitVec 32 := 0#32
  let v64 : BitVec 1 := Scalar.cmpi .sgt arg0 c0_i32_46
  let c3_i32 : BitVec 32 := 3#32
  let v65 : BitVec 1 := Scalar.cmpi .slt arg0 c3_i32
  let v66 : BitVec 1 := Scalar.andi v64 v65
  let v67 : BitVec 32 := Scalar.extui v66
  let c0_i32_47 : BitVec 32 := 0#32
  let v68 : BitVec 1 := Scalar.cmpi .ne v67 c0_i32_47
  v68

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def k0_cond4 (i : grid0.Coords) : BitVec 1 :=
  let arg0 : BitVec 32 := BitVec.ofNat 32 (i 0).val
  let c3_i32_48 : BitVec 32 := 3#32
  let v69 : BitVec 1 := Scalar.cmpi .eq arg0 c3_i32_48
  let v70 : BitVec 32 := Scalar.extui v69
  let c0_i32_49 : BitVec 32 := 0#32
  let v71 : BitVec 1 := Scalar.cmpi .ne v70 c0_i32_49
  v71

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnBRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S2816x1024, .f32⟩
  | .hbm, ⟨32, _⟩ => ⟨S1024x2816, .f32⟩
  | .hbm, ⟨33, _⟩ => ⟨S4096x1024, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S2816x1024, .f32⟩
  | .hbm, ⟨39, _⟩ => ⟨S4x704x1024, .f32⟩
  | .hbm, ⟨40, _⟩ => ⟨S2816x1024, .f32⟩
  | .hbm, ⟨41, _⟩ => ⟨S4x704x1024, .f32⟩
  | .hbm, ⟨42, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== InB.lean ====
abbrev S4096x1024 : Shape := ⟨2, ![4096, 1024]⟩
abbrev S4096 : Shape := ⟨1, ![4096]⟩
abbrev S1x1024 : Shape := ⟨2, ![1, 1024]⟩
abbrev S1024x2592 : Shape := ⟨2, ![1024, 2592]⟩
abbrev S1x384 : Shape := ⟨2, ![1, 384]⟩
abbrev S384x8x96 : Shape := ⟨3, ![384, 8, 96]⟩
abbrev S1x128 : Shape := ⟨2, ![1, 128]⟩
abbrev S128x8x128 : Shape := ⟨3, ![128, 8, 128]⟩
abbrev S4096x8x96 : Shape := ⟨3, ![4096, 8, 96]⟩
abbrev S4096x8x64 : Shape := ⟨3, ![4096, 8, 64]⟩
abbrev S4096x512 : Shape := ⟨2, ![4096, 512]⟩
abbrev S2592x1024 : Shape := ⟨2, ![2592, 1024]⟩
abbrev S512x1024 : Shape := ⟨2, ![512, 1024]⟩
abbrev S_ : Shape := ⟨0, ![]⟩
abbrev S64x1024 : Shape := ⟨2, ![64, 1024]⟩
abbrev S32x1024 : Shape := ⟨2, ![32, 1024]⟩
abbrev S2048x1024 : Shape := ⟨2, ![2048, 1024]⟩
abbrev S2688x1024 : Shape := ⟨2, ![2688, 1024]⟩
abbrev S384x8x128 : Shape := ⟨3, ![384, 8, 128]⟩
abbrev S384x1024 : Shape := ⟨2, ![384, 1024]⟩
abbrev S128x8x64 : Shape := ⟨3, ![128, 8, 64]⟩
abbrev S128x1024 : Shape := ⟨2, ![128, 1024]⟩
abbrev S128x512 : Shape := ⟨2, ![128, 512]⟩
abbrev S4096x1 : Shape := ⟨2, ![4096, 1]⟩
abbrev S4096x2592 : Shape := ⟨2, ![4096, 2592]⟩
abbrev S16 : Shape := ⟨1, ![16]⟩
abbrev S64 : Shape := ⟨1, ![64]⟩
abbrev S32 : Shape := ⟨1, ![32]⟩
abbrev S128 : Shape := ⟨1, ![128]⟩
abbrev S4096x128 : Shape := ⟨2, ![4096, 128]⟩
abbrev S4096x384 : Shape := ⟨2, ![4096, 384]⟩
abbrev S4096x8x128 : Shape := ⟨3, ![4096, 8, 128]⟩
abbrev S1024x4096 : Shape := ⟨2, ![1024, 4096]⟩
abbrev S4x672x1024 : Shape := ⟨3, ![4, 672, 1024]⟩
abbrev S256x1024 : Shape := ⟨2, ![256, 1024]⟩
abbrev S256x384 : Shape := ⟨2, ![256, 384]⟩
abbrev S256x128 : Shape := ⟨2, ![256, 128]⟩
abbrev S1024x256 : Shape := ⟨2, ![1024, 256]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x104x1024 : Shape := ⟨3, ![1, 104, 1024]⟩
abbrev S104x1024 : Shape := ⟨2, ![104, 1024]⟩
abbrev S1x648x1024 : Shape := ⟨3, ![1, 648, 1024]⟩
abbrev S648x1024 : Shape := ⟨2, ![648, 1024]⟩
abbrev S128x256 : Shape := ⟨2, ![128, 256]⟩
abbrev S384 : Shape := ⟨1, ![384]⟩
abbrev S256x640 : Shape := ⟨2, ![256, 640]⟩
abbrev S640x1024 : Shape := ⟨2, ![640, 1024]⟩
abbrev S1x512x1024 : Shape := ⟨3, ![1, 512, 1024]⟩
abbrev S1x32x1024 : Shape := ⟨3, ![1, 32, 1024]⟩
abbrev S1024 : Shape := ⟨1, ![1024]⟩

abbrev nBuf : Space → Nat
  | .hbm => 110
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1x1024, .f32⟩
  | .hbm, ⟨3, _⟩ => ⟨S1024x2592, .f32⟩
  | .hbm, ⟨4, _⟩ => ⟨S1x384, .f32⟩
  | .hbm, ⟨5, _⟩ => ⟨S384x8x96, .f32⟩
  | .hbm, ⟨6, _⟩ => ⟨S1x128, .f32⟩
  | .hbm, ⟨7, _⟩ => ⟨S128x8x128, .f32⟩
  | .hbm, ⟨8, _⟩ => ⟨S4096x1024, .f32⟩
  | .hbm, ⟨9, _⟩ => ⟨S4096x8x96, .f32⟩
  | .hbm, ⟨10, _⟩ => ⟨S4096x8x96, .f32⟩
  | .hbm, ⟨11, _⟩ => ⟨S4096x8x64, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S2592x1024, .f32⟩
  | .hbm, ⟨17, _⟩ => ⟨S2592x1024, .bf16⟩
  | .hbm, ⟨18, _⟩ => ⟨S384x8x96, .bf16⟩
  | .hbm, ⟨19, _⟩ => ⟨S128x8x128, .bf16⟩
  | .hbm, ⟨20, _⟩ => ⟨S512x1024, .bf16⟩
  | .hbm, ⟨21, _⟩ => ⟨S_, .bf16⟩
  | .hbm, ⟨22, _⟩ => ⟨S64x1024, .bf16⟩
  | .hbm, ⟨23, _⟩ => ⟨S32x1024, .bf16⟩
  | .hbm, ⟨24, _⟩ => ⟨S_, .bf16⟩
  | .hbm, ⟨25, _⟩ => ⟨S32x1024, .bf16⟩
  | .hbm, ⟨26, _⟩ => ⟨S2048x1024, .bf16⟩
  | .hbm, ⟨27, _⟩ => ⟨S2688x1024, .bf16⟩
  | .hbm, ⟨28, _⟩ => ⟨S_, .i32⟩
  | .hbm, ⟨29, _⟩ => ⟨S_, .bf16⟩
  | .hbm, ⟨30, _⟩ => ⟨S384x8x128, .bf16⟩
  | .hbm, ⟨31, _⟩ => ⟨S384x1024, .bf16⟩
  | .hbm, ⟨32, _⟩ => ⟨S128x8x64, .bf16⟩
  | .hbm, ⟨33, _⟩ => ⟨S_, .i32⟩
  | .hbm, ⟨34, _⟩ => ⟨S_, .bf16⟩
  | .hbm, ⟨35, _⟩ => ⟨S128x8x128, .bf16⟩
  | .hbm, ⟨36, _⟩ => ⟨S128x1024, .bf16⟩
  | .hbm, ⟨37, _⟩ => ⟨S128x8x64, .bf16⟩
  | .hbm, ⟨38, _⟩ => ⟨S128x512, .bf16⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2592, .f32⟩
  | .hbm, ⟨55, _⟩ => ⟨S4096, .f32⟩
  | .hbm, ⟨56, _⟩ => ⟨S4096x1, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S32, .f32⟩
  | .hbm, ⟨77, _⟩ => ⟨S128, .f32⟩
  | .hbm, ⟨78, _⟩ => ⟨S1x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x384, .f32⟩
  | .hbm, ⟨83, _⟩ => ⟨S4096x128, .f32⟩
  | .hbm, ⟨84, _⟩ => ⟨S_, .i32⟩
  | .hbm, ⟨85, _⟩ => ⟨S_, .f32⟩
  | .hbm, ⟨86, _⟩ => ⟨S4096x8x128, .f32⟩
  | .hbm, ⟨87, _⟩ => ⟨S4096x1024, .f32⟩
  | .hbm, ⟨88, _⟩ => ⟨S1024x4096, .f32⟩
  | .hbm, ⟨89, _⟩ => ⟨S_, .i32⟩
  | .hbm, ⟨90, _⟩ => ⟨S_, .f32⟩
  | .hbm, ⟨91, _⟩ => ⟨S4096x8x128, .f32⟩
  | .hbm, ⟨92, _⟩ => ⟨S4096x1024, .f32⟩
  | .hbm, ⟨93, _⟩ => ⟨S4096x512, .f32⟩
  | .hbm, ⟨94, _⟩ => ⟨S4096x128, .f32⟩
  | .hbm, ⟨95, _⟩ => ⟨S4096x128, .f32⟩
  | .hbm, ⟨96, _⟩ => ⟨S4096x1024, .f32⟩
  | .hbm, ⟨97, _⟩ => ⟨S4x672x1024, .f32⟩
  | .hbm, ⟨98, _⟩ => ⟨S384x1024, .f32⟩
  | .hbm, ⟨99, _⟩ => ⟨S128x1024, .f32⟩
  | .hbm, ⟨100, _⟩ => ⟨S128x512, .f32⟩
  | .hbm, ⟨101, _⟩ => ⟨S1x1024, .f32⟩
  | .hbm, ⟨102, _⟩ => ⟨S1x384, .f32⟩
  | .hbm, ⟨103, _⟩ => ⟨S1x128, .f32⟩
  | .hbm, ⟨104, _⟩ => ⟨S384x8x128, .f32⟩
  | .hbm, ⟨105, _⟩ => ⟨S384x8x96, .f32⟩
  | .hbm, ⟨106, _⟩ => ⟨S128x8x128, .f32⟩
  | .hbm, ⟨107, _⟩ => ⟨S128x8x64, .f32⟩
  | .hbm, ⟨108, _⟩ => ⟨S128x8x64, .f32⟩
  | .hbm, ⟨109, _⟩ => ⟨S128x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x384, .f32⟩
  | .local _ .vmem, ⟨5, _⟩ => ⟨S256x384, .f32⟩
  | .local _ .vmem, ⟨6, _⟩ => ⟨S256x128, .f32⟩
  | .local _ .vmem, ⟨7, _⟩ => ⟨S256x128, .f32⟩
  | .local _ .vmem, ⟨8, _⟩ => ⟨S1024x256, .f32⟩
  | .local _ .vmem, ⟨9, _⟩ => ⟨S1024x256, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x1024, .f32⟩
  | .local _ .vmem, ⟨27, _⟩ => ⟨S2688x1024, .bf16⟩
  | .local _ .vmem, ⟨28, _⟩ => ⟨S1x384, .f32⟩
  | .local _ .vmem, ⟨29, _⟩ => ⟨S384x1024, .bf16⟩
  | .local _ .vmem, ⟨30, _⟩ => ⟨S1x128, .f32⟩
  | .local _ .vmem, ⟨31, _⟩ => ⟨S128x1024, .bf16⟩
  | .local _ .vmem, ⟨32, _⟩ => ⟨S128x512, .bf16⟩
  | .local _ .vmem, ⟨33, _⟩ => ⟨S256x1024, .f32⟩
  | .local _ .vmem, ⟨34, _⟩ => ⟨S256x1024, .f32⟩
  | .local _ .vmem, ⟨35, _⟩ => ⟨S4x672x1024, .f32⟩
  | .local _ .vmem, ⟨36, _⟩ => ⟨S384x1024, .f32⟩
  | .local _ .vmem, ⟨37, _⟩ => ⟨S128x1024, .f32⟩
  | .local _ .vmem, ⟨38, _⟩ => ⟨S128x512, .f32⟩
  | .local _ .vmem, ⟨39, _⟩ => ⟨S1x1024, .f32⟩
  | .local _ .vmem, ⟨40, _⟩ => ⟨S1x384, .f32⟩
  | .local _ .vmem, ⟨41, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_call0_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_call1_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_call2_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_13 : Ref sig .tc := ⟨.hbm, 89, rfl⟩
abbrev main_call3_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60_0 : Ref sig .tc := ⟨.hbm, 96, rfl⟩
abbrev main_v60_1 : Ref sig .tc := ⟨.hbm, 97, rfl⟩
abbrev main_v60_2 : Ref sig .tc := ⟨.hbm, 98, rfl⟩
abbrev main_v60_3 : Ref sig .tc := ⟨.hbm, 99, rfl⟩
abbrev main_v60_4 : Ref sig .tc := ⟨.hbm, 100, rfl⟩
abbrev main_v60_5 : Ref sig .tc := ⟨.hbm, 101, rfl⟩
abbrev main_v60_6 : Ref sig .tc := ⟨.hbm, 102, rfl⟩
abbrev main_v60_7 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2688x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x672x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S384x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== InBRefIdeal.lean ====
abbrev S4096x1024 : Shape := ⟨2, ![4096, 1024]⟩
abbrev S4096 : Shape := ⟨1, ![4096]⟩
abbrev S1x1024 : Shape := ⟨2, ![1, 1024]⟩
abbrev S1024x2592 : Shape := ⟨2, ![1024, 2592]⟩
abbrev S1x384 : Shape := ⟨2, ![1, 384]⟩
abbrev S384x8x96 : Shape := ⟨3, ![384, 8, 96]⟩
abbrev S1x128 : Shape := ⟨2, ![1, 128]⟩
abbrev S128x8x128 : Shape := ⟨3, ![128, 8, 128]⟩
abbrev S4096x8x96 : Shape := ⟨3, ![4096, 8, 96]⟩
abbrev S4096x8x64 : Shape := ⟨3, ![4096, 8, 64]⟩
abbrev S4096x512 : Shape := ⟨2, ![4096, 512]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x2592 : Shape := ⟨2, ![4096, 2592]⟩
abbrev S4096x384 : Shape := ⟨2, ![4096, 384]⟩
abbrev S4096x128 : Shape := ⟨2, ![4096, 128]⟩
abbrev S4096x32 : Shape := ⟨2, ![4096, 32]⟩
abbrev S4096x8x128 : Shape := ⟨3, ![4096, 8, 128]⟩
abbrev S4096x8x32 : Shape := ⟨3, ![4096, 8, 32]⟩
abbrev S4096x1x16 : Shape := ⟨3, ![4096, 1, 16]⟩
abbrev S4096x8x16 : Shape := ⟨3, ![4096, 8, 16]⟩
abbrev S4096x1x32 : Shape := ⟨3, ![4096, 1, 32]⟩
abbrev S8x128x128 : Shape := ⟨3, ![8, 128, 128]⟩
abbrev S128 : Shape := ⟨1, ![128]⟩
abbrev S8x96x384 : Shape := ⟨3, ![8, 96, 384]⟩
abbrev S384 : Shape := ⟨1, ![384]⟩
abbrev S2592x1024 : Shape := ⟨2, ![2592, 1024]⟩
abbrev S1024 : Shape := ⟨1, ![1024]⟩

abbrev nBuf : Space → Nat
  | .hbm => 287
  | .vmem => 0
  | .smem => 0
  | _ => 0

abbrev hbmTy0_0 (i : Nat) : BufTy := match i % 128 with
  | 0 => ⟨S4096x1024, .f32⟩
  | 1 => ⟨S4096, .i32⟩
  | 2 => ⟨S1x1024, .f32⟩
  | 3 => ⟨S1024x2592, .f32⟩
  | 4 => ⟨S1x384, .f32⟩
  | 5 => ⟨S384x8x96, .f32⟩
  | 6 => ⟨S1x128, .f32⟩
  | 7 => ⟨S128x8x128, .f32⟩
  | 8 => ⟨S4096x1024, .f32⟩
  | 9 => ⟨S4096x8x96, .f32⟩
  | 10 => ⟨S4096x8x96, .f32⟩
  | 11 => ⟨S4096x8x64, .f32⟩
  | 12 => ⟨S4096x512, .f32⟩
  | 13 => ⟨S4096x512, .f32⟩
  | 14 => ⟨S4096x512, .f32⟩
  | 15 => ⟨S4096x512, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S4096, .f32⟩
  | 33 => ⟨S4096x1, .f32⟩
  | 34 => ⟨S1x16, .f32⟩
  | 35 => ⟨S4096x16, .f32⟩
  | 36 => ⟨S4096x16, .f32⟩
  | 37 => ⟨S4096x16, .f32⟩
  | 38 => ⟨S4096x16, .f32⟩
  | 39 => ⟨S4096x16, .f32⟩
  | 40 => ⟨S4096x1024, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S4096x1024, .f32⟩
  | 58 => ⟨S4096x1024, .f32⟩
  | 59 => ⟨S4096x2592, .f32⟩
  | 60 => ⟨S4096x384, .f32⟩
  | 61 => ⟨S4096x128, .f32⟩
  | 62 => ⟨S4096x32, .f32⟩
  | 63 => ⟨S4096x384, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x384, .f32⟩
  | 79 => ⟨S4096x384, .f32⟩
  | 80 => ⟨S4096x384, .f32⟩
  | 81 => ⟨S4096x384, .f32⟩
  | 82 => ⟨S4096x8x96, .f32⟩
  | 83 => ⟨S4096x128, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x128, .f32⟩
  | 99 => ⟨S4096x128, .f32⟩
  | 100 => ⟨S4096x128, .f32⟩
  | 101 => ⟨S4096x128, .f32⟩
  | 102 => ⟨S4096x8x128, .f32⟩
  | 103 => ⟨S4096x8x32, .f32⟩
  | 104 => ⟨S4096x1x16, .f32⟩
  | 105 => ⟨S4096x1x16, .f32⟩
  | 106 => ⟨S4096x8x16, .f32⟩
  | 107 => ⟨S4096x8x16, .f32⟩
  | 108 => ⟨S4096x8x16, .f32⟩
  | 109 => ⟨S4096x8x16, .f32⟩
  | 110 => ⟨S4096x8x16, .f32⟩
  | 111 => ⟨S4096x8x16, .f32⟩
  | 112 => ⟨S4096x8x16, .f32⟩
  | 113 => ⟨S4096x8x16, .f32⟩
  | 114 => ⟨S4096x8x16, .f32⟩
  | 115 => ⟨S4096x8x16, .f32⟩
  | 116 => ⟨S4096x8x16, .f32⟩
  | 117 => ⟨S4096x8x16, .f32⟩
  | 118 => ⟨S4096x8x32, .f32⟩
  | 119 => ⟨S4096x16, .f32⟩
  | 120 => ⟨S4096x16, .f32⟩
  | 121 => ⟨S4096x16, .f32⟩
  | 122 => ⟨S4096x16, .f32⟩
  | 123 => ⟨S4096x16, .f32⟩
  | 124 => ⟨S4096x16, .f32⟩
  | 125 => ⟨S4096x16, .f32⟩
  | 126 => ⟨S4096x16, .f32⟩
  | 127 => ⟨S4096x32, .f32⟩
  | _ => ⟨S4096x1024, .f32⟩

abbrev hbmTy0_1 (i : Nat) : BufTy := match i % 128 with
  | 0 => ⟨S4096x1x32, .f32⟩
  | 1 => ⟨S4096x8x32, .f32⟩
  | 2 => ⟨S4096x8x64, .f32⟩
  | 3 => ⟨S4096x8x96, .f32⟩
  | 4 => ⟨S_, .f32⟩
  | 5 => ⟨S4096x8x96, .f32⟩
  | 6 => ⟨S4096x8x96, .f32⟩
  | 7 => ⟨S4096x8x64, .f32⟩
  | 8 => ⟨S4096x8x96, .f32⟩
  | 9 => ⟨S4096x8x64, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x2592, .f32⟩
  | 16 => ⟨S_, .f32⟩
  | 17 => ⟨S4096x2592, .f32⟩
  | 18 => ⟨S4096x2592, .f32⟩
  | 19 => ⟨S_, .f32⟩
  | 20 => ⟨S4096x2592, .f32⟩
  | 21 => ⟨S4096x2592, .f32⟩
  | 22 => ⟨S_, .f32⟩
  | 23 => ⟨S4096x2592, .f32⟩
  | 24 => ⟨S4096x2592, .f32⟩
  | 25 => ⟨S_, .f32⟩
  | 26 => ⟨S4096x8x128, .f32⟩
  | 27 => ⟨S4096x8x64, .f32⟩
  | 28 => ⟨S4096x8x32, .f32⟩
  | 29 => ⟨S_, .f32⟩
  | 30 => ⟨S4096x8x128, .f32⟩
  | 31 => ⟨S4096x8x128, .f32⟩
  | 32 => ⟨S_, .f32⟩
  | 33 => ⟨S4096x8x96, .f32⟩
  | 34 => ⟨S4096x8x96, .f32⟩
  | 35 => ⟨S4096x8x64, .f32⟩
  | 36 => ⟨S4096x8x32, .f32⟩
  | 37 => ⟨S_, .f32⟩
  | 38 => ⟨S4096x8x96, .f32⟩
  | 39 => ⟨S_, .f32⟩
  | 40 => ⟨S4096x32, .f32⟩
  | 41 => ⟨S4096x1x32, .f32⟩
  | 42 => ⟨S_, .f32⟩
  | 43 => ⟨S4096x32, .f32⟩
  | 44 => ⟨S4096x16, .f32⟩
  | 45 => ⟨S4096x16, .f32⟩
  | 46 => ⟨S4096x16, .f32⟩
  | 47 => ⟨S4096x16, .f32⟩
  | 48 => ⟨S4096x16, .f32⟩
  | 49 => ⟨S4096x16, .f32⟩
  | 50 => ⟨S4096x16, .f32⟩
  | 51 => ⟨S4096x16, .f32⟩
  | 52 => ⟨S4096x16, .f32⟩
  | 53 => ⟨S4096x32, .f32⟩
  | 54 => ⟨S4096x8x16, .f32⟩
  | 55 => ⟨S4096x8x16, .f32⟩
  | 56 => ⟨S4096x8x16, .f32⟩
  | 57 => ⟨S4096x8x16, .f32⟩
  | 58 => ⟨S4096x8x16, .f32⟩
  | 59 => ⟨S4096x8x16, .f32⟩
  | 60 => ⟨S4096x8x16, .f32⟩
  | 61 => ⟨S4096x8x16, .f32⟩
  | 62 => ⟨S4096x8x16, .f32⟩
  | 63 => ⟨S4096x8x16, .f32⟩
  | 64 => ⟨S4096x8x16, .f32⟩
  | 65 => ⟨S4096x8x16, .f32⟩
  | 66 => ⟨S4096x8x16, .f32⟩
  | 67 => ⟨S4096x8x32, .f32⟩
  | 68 => ⟨S_, .f32⟩
  | 69 => ⟨S4096x8x96, .f32⟩
  | 70 => ⟨S4096x8x96, .f32⟩
  | 71 => ⟨S8x128x128, .f32⟩
  | 72 => ⟨S128x8x128, .f32⟩
  | 73 => ⟨S4096x128, .f32⟩
  | 74 => ⟨S4096x128, .f32⟩
  | 75 => ⟨S_, .f32⟩
  | 76 => ⟨S128, .f32⟩
  | 77 => ⟨S1x128, .f32⟩
  | 78 => ⟨S4096x128, .f32⟩
  | 79 => ⟨S4096x128, .f32⟩
  | 80 => ⟨S4096x128, .f32⟩
  | 81 => ⟨S_, .f32⟩
  | 82 => ⟨S4096, .f32⟩
  | 83 => ⟨S4096x1, .f32⟩
  | 84 => ⟨S4096x128, .f32⟩
  | 85 => ⟨S4096x128, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x128, .f32⟩
  | 93 => ⟨S4096x128, .f32⟩
  | 94 => ⟨S4096x128, .f32⟩
  | 95 => ⟨S4096x128, .f32⟩
  | 96 => ⟨S4096x128, .f32⟩
  | 97 => ⟨S8x96x384, .f32⟩
  | 98 => ⟨S384x8x96, .f32⟩
  | 99 => ⟨S4096x384, .f32⟩
  | 100 => ⟨S4096x384, .f32⟩
  | 101 => ⟨S_, .f32⟩
  | 102 => ⟨S384, .f32⟩
  | 103 => ⟨S1x384, .f32⟩
  | 104 => ⟨S4096x384, .f32⟩
  | 105 => ⟨S4096x384, .f32⟩
  | 106 => ⟨S4096x384, .f32⟩
  | 107 => ⟨S_, .f32⟩
  | 108 => ⟨S4096, .f32⟩
  | 109 => ⟨S4096x1, .f32⟩
  | 110 => ⟨S4096x384, .f32⟩
  | 111 => ⟨S4096x384, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x384, .f32⟩
  | 119 => ⟨S4096x384, .f32⟩
  | 120 => ⟨S4096x384, .f32⟩
  | 121 => ⟨S4096x384, .f32⟩
  | 122 => ⟨S4096x384, .f32⟩
  | 123 => ⟨S_, .f32⟩
  | 124 => ⟨S4096x2592, .f32⟩
  | 125 => ⟨S4096x2592, .f32⟩
  | 126 => ⟨S_, .f32⟩
  | 127 => ⟨S4096x2592, .f32⟩
  | _ => ⟨S4096x1024, .f32⟩

abbrev hbmTy0_2 (i : Nat) : BufTy := match i % 128 with
  | 0 => ⟨S4096x2592, .f32⟩
  | 1 => ⟨S_, .f32⟩
  | 2 => ⟨S4096x2592, .f32⟩
  | 3 => ⟨S4096x2592, .f32⟩
  | 4 => ⟨S2592x1024, .f32⟩
  | 5 => ⟨S1024x2592, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S4096x1024, .f32⟩
  | 18 => ⟨S4096x1024, .f32⟩
  | 19 => ⟨S4096x1024, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_17 : Ref sig .tc := ⟨.hbm, 142, rfl⟩
abbrev main_v108 : Ref sig .tc := ⟨.hbm, 143, rfl⟩
abbrev main_cst_18 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_v119 : Ref sig .tc := ⟨.hbm, 159, rfl⟩
abbrev main_cst_23 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_24 : Ref sig .tc := ⟨.hbm, 165, rfl⟩
abbrev main_v124 : Ref sig .tc := ⟨.hbm, 166, rfl⟩
abbrev main_cst_25 : Ref sig .tc := ⟨.hbm, 167, rfl⟩
abbrev main_v125 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_27 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_28 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_29 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_30 : Ref sig .tc := ⟨.hbm, 215, rfl⟩
abbrev main_v168 : Ref sig .tc := ⟨.hbm, 216, rfl⟩
abbrev main_v169 : Ref sig .tc := ⟨.hbm, 217, rfl⟩
abbrev main_cst_31 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_32 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_33 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_34 : Ref sig .tc := ⟨.hbm, 241, rfl⟩
abbrev main_v190 : Ref sig .tc := ⟨.hbm, 242, rfl⟩
abbrev main_v191 : Ref sig .tc := ⟨.hbm, 243, rfl⟩
abbrev main_cst_35 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_36 : Ref sig .tc := ⟨.hbm, 251, rfl⟩
abbrev main_v198 : Ref sig .tc := ⟨.hbm, 252, rfl⟩
abbrev main_v199 : Ref sig .tc := ⟨.hbm, 253, rfl⟩
abbrev main_cst_37 : Ref sig .tc := ⟨.hbm, 254, rfl⟩
abbrev main_v200 : Ref sig .tc := ⟨.hbm, 255, rfl⟩
abbrev main_v201 : Ref sig .tc := ⟨.hbm, 256, rfl⟩
abbrev main_cst_38 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_cst_39 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_40 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_cst_41 : Ref sig .tc := ⟨.hbm, 277, rfl⟩
abbrev main_v219 : Ref sig .tc := ⟨.hbm, 278, rfl⟩
abbrev main_v220 : Ref sig .tc := ⟨.hbm, 279, rfl⟩
abbrev main_cst_42 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩

abbrev nD : Nat := 1
abbrev τ : Topo := Topo.v7x

variable {F : FTy → Type} [FloatOps F]
-- ==== Proof.Base.lean ====
/- Facts about extended reals that are real numbers, used on both sides of the comparison. -/
module

public import Idealize.ShloMosaic.Lib.Pointwise
public import Idealize.ShloMosaic.Lib.ReduceAll
public import Idealize.ShloMosaic.Lib.Tactic

@[expose] public section

noncomputable section

open Idealize.ShloMosaic

namespace Base

/-- A finite sum of real numbers, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe' (x y : ℝ) (h : y ≠ 0) : Ideal.div (x : EReal) (y : EReal) = ((x / y : ℝ) : EReal) := by
  rw [Ideal.div_coe h, ← EReal.coe_mul]; congr 1; ring

theorem rsqrt_pos (x : ℝ) (h : 0 < x) : Ideal.rsqrt (x : EReal) = (((Real.sqrt x)⁻¹ : ℝ) : EReal) := by
  rw [Ideal.rsqrt_coe, if_neg (by linarith), if_neg (by linarith)]

/-- An extended real whose absolute value lies below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : x = ((x.toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x with
  | bot => simp [Ideal.cmp] at h'
  | top => simp [Ideal.cmp] at h'
  | coe r => simp

instance : Subsingleton (⟨0, ![]⟩ : Shape).Idx := ⟨fun a b => funext fun k => k.elim0⟩

/-- An array that passes the test "all absolute values below infinity" holds real numbers. -/
theorem real_of_all {s u : Shape} {axes : List (Fin s.rank)} (x : FVec Ideal s .f32)
    (hb : (⟨0, ![]⟩ : Shape).BroadcastsInDim s (![] : Fin 0 → Fin s.rank)) (init : u.Idx → BitVec 1) (h : s.ReducesTo axes ⟨0, ![]⟩)
    (hu : 0 < u.numel) (j : (⟨0, ![]⟩ : Shape).Idx)
    (e : Host.reduce IntOp.andi (cmpf .olt (Host.absf x) (broadcastInDim s ![] hb (constant ⟨0, ![]⟩ .f32 0x7F800000#32))) init h hu j = 1#1)
    (i : s.Idx) : x i = (((x i).toReal : ℝ) : EReal) :=
  real_of_lt (x i) (Host.reduce_andi_all _ init h hu j e i)

theorem andi_split {s : Shape} {a b : IVec s 1} {j : s.Idx} (h : andi a b j = 1#1) : a j = 1#1 ∧ b j = 1#1 :=
  IntOp.andi_eq_one.1 h

end Base

end
-- ==== Proof.Spec.lean ====
/- The layer as real functions of one row: what both programs compute when every argument is a real number. -/
module

public import proofs.«01_k».proof.Proof.Base

@[expose] public section

noncomputable section

open Idealize.ShloMosaic

namespace Spec

/-- The constant added under the square roots. -/
def eps : ℝ := (8796093 : ℝ) / 8796093022208

theorem eps_pos : 0 < eps := by unfold eps; norm_num

/-- Column `f` of a row `z` times a matrix. -/
def lin (z : Fin 1024 → ℝ) (w : Fin 1024 → Fin 2816 → ℝ) (f : Fin 2816) : ℝ := ∑ k, z k * w k f

/-- The gated product `silu g * u`. -/
def act (g u : ℝ) : ℝ := g * (1 + Real.exp (-g))⁻¹ * u

/-- The layer's output in column `l`. -/
def y2 (z : Fin 1024 → ℝ) (wg wu : Fin 1024 → Fin 2816 → ℝ) (wd : Fin 2816 → Fin 1024 → ℝ) (l : Fin 1024) : ℝ :=
  ∑ f, act (lin z wg f) (lin z wu f) * wd f l

/-- The reciprocal root mean square of a row. -/
def rinv (y : Fin 1024 → ℝ) : ℝ := (Real.sqrt ((∑ k, y k * y k) / 1024 + eps))⁻¹

/-- The error of the row: residual plus normalised output minus target. -/
def err (y w h t : Fin 1024 → ℝ) (l : Fin 1024) : ℝ := h l + y l * rinv y * w l - t l

/-- The gradient with respect to the residual. -/
def dh (y w h t : Fin 1024 → ℝ) (l : Fin 1024) : ℝ := err y w h t l / 1024

/-- The gradient with respect to the layer's output. -/
def dy (y w h t : Fin 1024 → ℝ) (l : Fin 1024) : ℝ :=
  rinv y * (dh y w h t l * w l - y l * rinv y * ((∑ k, dh y w h t k * w k * (y k * rinv y)) / 1024))

theorem ms_pos (y : Fin 1024 → ℝ) : 0 < (∑ k, y k * y k) / 1024 + eps := by
  have : 0 ≤ ∑ k, y k * y k := Finset.sum_nonneg fun k _ => mul_self_nonneg _
  have := eps_pos
  positivity

/-- Row `f` of shard `j`. -/
def sh (j : Fin 4) (f : Fin 704) : Fin 2816 := ⟨j.val * 704 + f.val, by omega⟩

/-- The sum over the 2816 hidden columns, shard after shard. -/
theorem sum_shards (F : Fin 2816 → ℝ) :
    ∑ f, F f = ∑ f, F (sh 0 f) + ∑ f, F (sh 1 f) + ∑ f, F (sh 2 f) + ∑ f, F (sh 3 f) := by
  have h := Fin.sum_univ_tiles 4 704 (by norm_num) F
  rw [h, Fin.sum_univ_four]
  rfl

/-- The arguments as real numbers. -/
structure Args where
  z : Fin 4096 → Fin 1024 → ℝ
  h : Fin 4096 → Fin 1024 → ℝ
  t : Fin 4096 → Fin 1024 → ℝ
  w : Fin 1024 → ℝ
  wg : Fin 1024 → Fin 2816 → ℝ
  wu : Fin 1024 → Fin 2816 → ℝ
  wd : Fin 2816 → Fin 1024 → ℝ

namespace Args
variable (A : Args) (s : Fin 4096)

/-- The layer's output in row `s`. -/
def y : Fin 1024 → ℝ := y2 (A.z s) A.wg A.wu A.wd
def e (l : Fin 1024) : ℝ := err (A.y s) A.w (A.h s) (A.t s) l
def dres (l : Fin 1024) : ℝ := dh (A.y s) A.w (A.h s) (A.t s) l
def dout (l : Fin 1024) : ℝ := dy (A.y s) A.w (A.h s) (A.t s) l
/-- The term row `s` adds to the norm weight's gradient. -/
def dwt (l : Fin 1024) : ℝ := A.dres s l * (A.y s l * rinv (A.y s))

end Args

end Spec

end
-- ==== Proof.Pay.lean ====
/- What one tile of the kernel computes, row by row, when its blocks hold real numbers. -/
module

public import proofs.«01_k».proof.Proof.Gen.KernelIdeal.Value
public import proofs.«01_k».proof.Proof.Spec

@[expose] public section

noncomputable section

open Idealize.ShloMosaic Idealize.ShloMosaic.TcCoe

namespace Pay

open Cert.KernelIdeal Cert.KernelIdeal.Gen Base Spec

theorem c1024 : Ideal.ofBits .f32 0x44800000#32 = ((1024 : ℝ) : EReal) := by
  simp [Ideal.ofBits, Ideal.ieee, -EReal.coe_mul]; norm_num
theorem cinv : Ideal.ofBits .f32 0x3A800000#32 = ((1 / 1024 : ℝ) : EReal) := by
  simp [Ideal.ofBits, Ideal.ieee, -EReal.coe_mul]; norm_num
theorem ceps : Ideal.ofBits .f32 0x358637BD#32 = ((eps : ℝ) : EReal) := by
  simp [Ideal.ofBits, Ideal.ieee, -EReal.coe_mul, eps]; norm_num

variable (r : Fin 256)

section products
variable {Z : Vec Ideal S256x1024 .bf16} {W : Vec Ideal S1x704x1024 .bf16} {z : Fin 1024 → ℝ}
  {w : Fin 1024 → Fin 2816 → ℝ} {j : Fin 4}
  (hz : ∀ k, Z (ix2 r k) = (z k : EReal)) (hw : ∀ (f : Fin 704) k, W (ix3 0 f k) = (w k (sh j f) : EReal))
include hz hw

theorem pay5 (f : Fin 704) : k0_pay5 Z W (ix2 r f) = (lin z w (sh j f) : EReal) := by
  pointwise [k0_pay5, k0_pay4]
  simp only [hz, hw, ← EReal.coe_mul, coe_sum]; simp [lin]

theorem pay6 (f : Fin 704) : k0_pay6 Z W (ix2 r f) = (lin z w (sh j f) : EReal) := by
  pointwise [k0_pay6, k0_pay4]
  simp only [hz, hw, ← EReal.coe_mul, coe_sum]; simp [lin]

theorem pay7 (f : Fin 704) : k0_pay7 Z W (ix2 r f) = (lin z w (sh j f) : EReal) := by
  pointwise [k0_pay7, k0_pay4]
  simp only [hz, hw, ← EReal.coe_mul, coe_sum]; simp [lin]

theorem pay8 (f : Fin 704) : k0_pay8 Z W (ix2 r f) = (lin z w (sh j f) : EReal) := by
  pointwise [k0_pay8, k0_pay4]
  simp only [hz, hw, ← EReal.coe_mul, coe_sum]; simp [lin]

theorem pay9 (f : Fin 704) : k0_pay9 Z W (ix2 r f) = (lin z w (sh j f) : EReal) := by
  pointwise [k0_pay9, k0_pay4]
  simp only [hz, hw, ← EReal.coe_mul, coe_sum]; simp [lin]

theorem pay10 (f : Fin 704) : k0_pay10 Z W (ix2 r f) = (lin z w (sh j f) : EReal) := by
  pointwise [k0_pay10, k0_pay4]
  simp only [hz, hw, ← EReal.coe_mul, coe_sum]; simp [lin]

theorem pay11 (f : Fin 704) : k0_pay11 Z W (ix2 r f) = (lin z w (sh j f) : EReal) := by
  pointwise [k0_pay11, k0_pay4]
  simp only [hz, hw, ← EReal.coe_mul, coe_sum]; simp [lin]

theorem pay12 (f : Fin 704) : k0_pay12 (k0_pay4 Z) W (ix2 r f) = (lin z w (sh j f) : EReal) := by
  pointwise [k0_pay12, k0_pay4]
  simp only [hz, hw, ← EReal.coe_mul, coe_sum]; simp [lin]

end products

section gated
variable {z : Fin 1024 → ℝ} {wg wu : Fin 1024 → Fin 2816 → ℝ} {wd : Fin 2816 → Fin 1024 → ℝ}

/-- The part of the layer's output that the hidden columns of shard `j` give. -/
def part (z : Fin 1024 → ℝ) (wg wu : Fin 1024 → Fin 2816 → ℝ) (wd : Fin 2816 → Fin 1024 → ℝ) (j : Fin 4) (l : Fin 1024) : ℝ :=
  ∑ f : Fin 704, act (lin z wg (sh j f)) (lin z wu (sh j f)) * wd (sh j f) l

theorem act_coe (g u : ℝ) : (g : EReal) * Ideal.logistic (g : EReal) * (u : EReal) = (act g u : EReal) := by
  rw [Ideal.logistic_coe, ← EReal.coe_mul, ← EReal.coe_mul]; rfl

variable {j : Fin 4} {G U : FVec Ideal S256x704 .f32} {W : Vec Ideal S1x704x1024 .bf16}
  (hg : ∀ f, G (ix2 r f) = (lin z wg (sh j f) : EReal)) (hu : ∀ f, U (ix2 r f) = (lin z wu (sh j f) : EReal))
  (hw : ∀ f l, W (ix3 0 f l) = (wd (sh j f) l : EReal))
include hg hu hw

theorem pay15 (l : Fin 1024) : k0_pay15 G U W (ix2 r l) = (part z wg wu wd j l : EReal) := by
  pointwise [k0_pay15]
  simp only [hg, hu, hw, act_coe, ← EReal.coe_mul, coe_sum]; simp [part]

theorem pay18 (l : Fin 1024) : k0_pay18 G U W (ix2 r l) = (part z wg wu wd j l : EReal) := by
  pointwise [k0_pay18]
  simp only [hg, hu, hw, act_coe, ← EReal.coe_mul, coe_sum]; simp [part]

end gated

section output
variable {z : Fin 1024 → ℝ} {wg wu : Fin 1024 → Fin 2816 → ℝ} {wd : Fin 2816 → Fin 1024 → ℝ}
  {G2 U2 G3 U3 : FVec Ideal S256x704 .f32} {P0 P1 : FVec Ideal S256x1024 .f32} {W2 W3 : Vec Ideal S1x704x1024 .bf16}
  (hg2 : ∀ f, G2 (ix2 r f) = (lin z wg (sh 2 f) : EReal)) (hu2 : ∀ f, U2 (ix2 r f) = (lin z wu (sh 2 f) : EReal))
  (hg3 : ∀ f, G3 (ix2 r f) = (lin z wg (sh 3 f) : EReal)) (hu3 : ∀ f, U3 (ix2 r f) = (lin z wu (sh 3 f) : EReal))
  (hw2 : ∀ f l, W2 (ix3 0 f l) = (wd (sh 2 f) l : EReal)) (hw3 : ∀ f l, W3 (ix3 0 f l) = (wd (sh 3 f) l : EReal))
  (h0 : ∀ l, P0 (ix2 r l) = (part z wg wu wd 0 l : EReal)) (h1 : ∀ l, P1 (ix2 r l) = (part z wg wu wd 1 l : EReal))
include hg2 hu2 hg3 hu3 hw2 hw3 h0 h1

theorem pay23 (l : Fin 1024) : k0_pay23 G2 G3 U2 U3 P0 P1 W2 W3 (ix2 r l) = (y2 z wg wu wd l : EReal) := by
  pointwise [k0_pay23]
  simp only [hg2, hu2, hg3, hu3, hw2, hw3, h0, h1, act_coe, ← EReal.coe_mul, coe_sum, ← EReal.coe_add, zero_add]
  rw [y2, sum_shards]; rfl

theorem pay24 : k0_pay24 G2 G3 U2 U3 P0 P1 W2 W3 (ix2 r 0)
    = ((∑ k, y2 z wg wu wd k * y2 z wg wu wd k : ℝ) : EReal) := by
  pointwise [k0_pay24]
  simp only [pay23 r hg2 hu2 hg3 hu3 hw2 hw3 h0 h1, ← EReal.coe_mul, coe_sum]

end output

section norm
variable {y w h t : Fin 1024 → ℝ} {Y H T : FVec Ideal S256x1024 .f32} {Q : FVec Ideal S256x1 .f32} {W : Vec Ideal S1x1024 .f32}
  (hy : ∀ l, Y (ix2 r l) = (y l : EReal)) (hq : Q (ix2 r 0) = ((∑ k, y k * y k : ℝ) : EReal))
  (hw : ∀ l, W (ix2 0 l) = (w l : EReal)) (hh : ∀ l, H (ix2 r l) = (h l : EReal)) (ht : ∀ l, T (ix2 r l) = (t l : EReal))
include hq

theorem pay25 : k0_pay25 Q (ix2 r 0) = (rinv y : EReal) := by
  pointwise [k0_pay25]
  rw [hq, c1024, ceps, div_coe' _ _ (by norm_num), ← EReal.coe_add, rsqrt_pos _ (ms_pos y)]; rfl

include hy
theorem pay26 (l : Fin 1024) : k0_pay26 Y Q (ix2 r l) = ((y l * rinv y : ℝ) : EReal) := by
  pointwise [k0_pay26]
  rw [pay25 r hq, hy, ← EReal.coe_mul]

include hw hh ht
theorem pay27 (l : Fin 1024) : k0_pay27 Y W Q H T (ix2 r l) = (err y w h t l : EReal) := by
  pointwise [k0_pay27]
  rw [pay26 r hy hq, hw, hh, ht]
  simp only [← EReal.coe_mul, ← EReal.coe_add, ← EReal.coe_sub]; rfl

theorem pay29 (l : Fin 1024) : k0_pay29 Y W Q H T (ix2 r l) = (dh y w h t l : EReal) := by
  pointwise [k0_pay29]
  rw [pay27 r hy hq hw hh ht, cinv, ← EReal.coe_mul]
  congr 1; unfold dh; ring

theorem pay31 (l : Fin 1024) : k0_pay31 Y W Q H T (ix2 r l) = (dy y w h t l : EReal) := by
  pointwise [k0_pay31]
  simp only [pay29 r hy hq hw hh ht, pay26 r hy hq, pay25 r hq, hw, c1024, ← EReal.coe_mul, coe_sum]
  rw [div_coe' _ _ (by norm_num), ← EReal.coe_mul, ← EReal.coe_sub, ← EReal.coe_mul]
  rfl

end norm

section sums
variable {y h t : Fin 256 → Fin 1024 → ℝ} {w : Fin 1024 → ℝ} {Y H T : FVec Ideal S256x1024 .f32} {Q : FVec Ideal S256x1 .f32}
  {W : Vec Ideal S1x1024 .f32}
  (hy : ∀ r l, Y (ix2 r l) = (y r l : EReal)) (hq : ∀ r, Q (ix2 r 0) = ((∑ k, y r k * y r k : ℝ) : EReal))
  (hw : ∀ l, W (ix2 0 l) = (w l : EReal)) (hh : ∀ r l, H (ix2 r l) = (h r l : EReal)) (ht : ∀ r l, T (ix2 r l) = (t r l : EReal))
include hy hq hw hh ht

theorem pay28 (A : Vec Ideal S1x1024 .f32) (l : Fin 1024) : k0_pay28 Y W Q H T A (ix2 0 l)
    = A (ix2 0 l) + ((∑ r, err (y r) w (h r) (t r) l * err (y r) w (h r) (t r) l : ℝ) : EReal) := by
  pointwise [k0_pay28]
  simp only [fun r => pay27 r (hy r) (hq r) hw (hh r) (ht r), ← EReal.coe_mul, coe_sum]

theorem pay30 (l : Fin 1024) : k0_pay30 Y W Q H T (ix2 0 l)
    = ((∑ r, dh (y r) w (h r) (t r) l * (y r l * rinv (y r)) : ℝ) : EReal) := by
  pointwise [k0_pay30]
  simp only [fun r => pay29 r (hy r) (hq r) hw (hh r) (ht r), fun r => pay26 r (hy r) (hq r), ← EReal.coe_mul, coe_sum]

end sums

end Pay

end
-- ==== Proof.Blocks.lean ====
/- What the kernel's input blocks hold, in terms of the argument arrays. -/
module

public import proofs.«01_k».proof.Proof.Pay

@[expose] public section

noncomputable section

open Idealize.ShloMosaic Idealize.ShloMosaic.TcCoe Idealize.SL.Sem
open Idealize.ShloMosaic.Pipeline (Dat)

namespace Blocks

open Cert.KernelIdeal Cert.KernelIdeal.Gen Base Spec

variable (m : (ℓ : Loc nD τ sig) → Buf (Elt Ideal) ℓ) (c : Dev nD)

theorem V_v8 (i : S4096x1024.Idx) :
    (V m c main_v8 : S4096x1024.Idx → EReal) i = m ((c : Thread nD τ).loc main_arg0) i := by
  show StableHlo.after hostOps0 _ (Proc.devRef .tc main_v8) i = _
  after_results
  rfl

theorem V_v2 (j : Fin 4) (f : Fin 704) (k : Fin 1024) :
    (V m c main_v2 : S4x704x1024.Idx → EReal) (ix3 j f k) = m ((c : Thread nD τ).loc main_arg4) (ix2 k (sh j f)) := by
  show StableHlo.after hostOps0 _ (Proc.devRef .tc main_v2) _ = _
  after_results
  pointwise
  rfl

theorem V_v5 (j : Fin 4) (f : Fin 704) (k : Fin 1024) :
    (V m c main_v5 : S4x704x1024.Idx → EReal) (ix3 j f k) = m ((c : Thread nD τ).loc main_arg5) (ix2 k (sh j f)) := by
  show StableHlo.after hostOps0 _ (Proc.devRef .tc main_v5) _ = _
  after_results
  pointwise
  rfl

theorem V_v7 (j : Fin 4) (f : Fin 704) (k : Fin 1024) :
    (V m c main_v7 : S4x704x1024.Idx → EReal) (ix3 j f k) = m ((c : Thread nD τ).loc main_arg6) (ix2 (sh j f) k) := by
  show StableHlo.after hostOps0 _ (Proc.devRef .tc main_v7) _ = _
  after_results
  pointwise
  rfl

/-- Row `r` of the tile at point `t`. -/
def row (t : Fin cfg0.N) (r : Fin 256) : Fin 4096 := ⟨t.val * 256 + r.val, by have h : t.val < 16 := t.isLt; omega⟩

theorem b0 (t : Fin cfg0.N) (r : Fin 256) (k : Fin 1024) :
    (iblk m c 0 t : S256x1024.Idx → EReal) (ix2 r k) = m ((c : Thread nD τ).loc main_arg0) (ix2 (row t r) k) := by
  unfold iblk
  rw [View.read_apply]
  show (V m c main_v8 : S4096x1024.Idx → EReal) _ = _
  rw [V_v8]
  congr 1
  funext a
  apply Fin.ext
  match a with
  | ⟨0, _⟩ =>
    show win0_0.index t 0 * 256 + 1 * r.val = t.val * 256 + r.val
    rw [(by decide +kernel : ∀ t : Fin grid0.N, win0_0.index t 0 = t.val) t, one_mul]
  | ⟨1, _⟩ =>
    show win0_0.index t 1 * 1024 + 1 * k.val = k.val
    rw [(by decide +kernel : ∀ t : Fin grid0.N, win0_0.index t 1 = 0) t]; omega

theorem b1 (t : Fin cfg0.N) (r : Fin 256) (k : Fin 1024) :
    (iblk m c 1 t : S256x1024.Idx → EReal) (ix2 r k) = m ((c : Thread nD τ).loc main_arg1) (ix2 (row t r) k) := by
  unfold iblk
  rw [View.read_apply]
  show (V m c main_arg1 : S4096x1024.Idx → EReal) _ = _
  rw [V_main_arg1]
  congr 1
  funext a
  apply Fin.ext
  match a with
  | ⟨0, _⟩ =>
    show win0_1.index t 0 * 256 + 1 * r.val = t.val * 256 + r.val
    rw [(by decide +kernel : ∀ t : Fin grid0.N, win0_1.index t 0 = t.val) t, one_mul]
  | ⟨1, _⟩ =>
    show win0_1.index t 1 * 1024 + 1 * k.val = k.val
    rw [(by decide +kernel : ∀ t : Fin grid0.N, win0_1.index t 1 = 0) t]; omega

theorem b2 (t : Fin cfg0.N) (r : Fin 256) (k : Fin 1024) :
    (iblk m c 2 t : S256x1024.Idx → EReal) (ix2 r k) = m ((c : Thread nD τ).loc main_arg2) (ix2 (row t r) k) := by
  unfold iblk
  rw [View.read_apply]
  show (V m c main_arg2 : S4096x1024.Idx → EReal) _ = _
  rw [V_main_arg2]
  congr 1
  funext a
  apply Fin.ext
  match a with
  | ⟨0, _⟩ =>
    show win0_2.index t 0 * 256 + 1 * r.val = t.val * 256 + r.val
    rw [(by decide +kernel : ∀ t : Fin grid0.N, win0_2.index t 0 = t.val) t, one_mul]
  | ⟨1, _⟩ =>
    show win0_2.index t 1 * 1024 + 1 * k.val = k.val
    rw [(by decide +kernel : ∀ t : Fin grid0.N, win0_2.index t 1 = 0) t]; omega

theorem b3 (t : Fin cfg0.N) (k : Fin 1024) :
    (iblk m c 3 t : S1x1024.Idx → EReal) (ix2 0 k) = m ((c : Thread nD τ).loc main_arg3) (ix2 0 k) := by
  unfold iblk
  rw [View.read_apply]
  show (V m c main_arg3 : S1x1024.Idx → EReal) _ = _
  rw [V_main_arg3]
  congr 1
  funext a
  apply Fin.ext
  match a with
  | ⟨0, _⟩ =>
    show win0_3.index t 0 * 1 + 1 * 0 = 0
    rw [(by decide +kernel : ∀ t : Fin grid0.N, win0_3.index t 0 = 0) t]
  | ⟨1, _⟩ =>
    show win0_3.index t 1 * 1024 + 1 * k.val = k.val
    rw [(by decide +kernel : ∀ t : Fin grid0.N, win0_3.index t 1 = 0) t]; omega

theorem b4 (t : Fin cfg0.N) (j : Fin 4) (f : Fin 704) (k : Fin 1024) :
    (iblk m c 4 t : S4x704x1024.Idx → EReal) (ix3 j f k) = m ((c : Thread nD τ).loc main_arg4) (ix2 k (sh j f)) := by
  unfold iblk
  rw [View.read_apply, ← V_v2 m c j f k]
  show (V m c main_v2 : S4x704x1024.Idx → EReal) _ = _
  congr 1
  funext a
  apply Fin.ext
  match a with
  | ⟨0, _⟩ =>
    show win0_4.index t 0 * 4 + 1 * j.val = j.val
    rw [(by decide +kernel : ∀ t : Fin grid0.N, win0_4.index t 0 = 0) t]; omega
  | ⟨1, _⟩ =>
    show win0_4.index t 1 * 704 + 1 * f.val = f.val
    rw [(by decide +kernel : ∀ t : Fin grid0.N, win0_4.index t 1 = 0) t]; omega
  | ⟨2, _⟩ =>
    show win0_4.index t 2 * 1024 + 1 * k.val = k.val
    rw [(by decide +kernel : ∀ t : Fin grid0.N, win0_4.index t 2 = 0) t]; omega

/-- A load of slab `j` of a stack of weight shards. -/
theorem slab4 (t : Fin cfg0.N) (j : Fin 4) (inb : ∀ a, (![j.val, 0, 0] : Fin 3 → Nat) a + (S1x704x1024.size) a ≤ S4x704x1024.size a)
    (f : Fin 704) (k : Fin 1024) :
    (View.ld (iblk m c 4 t : S4x704x1024.Idx → EReal) (Rect.unit (s := S4x704x1024) ![j.val, 0, 0] S1x704x1024.size inb) : S1x704x1024.Idx → EReal) (ix3 0 f k)
      = m ((c : Thread nD τ).loc main_arg4) (ix2 k (sh j f)) := by
  rw [← b4 m c t]
  pointwise

theorem b5 (t : Fin cfg0.N) (j : Fin 4) (f : Fin 704) (k : Fin 1024) :
    (iblk m c 5 t : S4x704x1024.Idx → EReal) (ix3 j f k) = m ((c : Thread nD τ).loc main_arg5) (ix2 k (sh j f)) := by
  unfold iblk
  rw [View.read_apply, ← V_v5 m c j f k]
  show (V m c main_v5 : S4x704x1024.Idx → EReal) _ = _
  congr 1
  funext a
  apply Fin.ext
  match a with
  | ⟨0, _⟩ =>
    show win0_5.index t 0 * 4 + 1 * j.val = j.val
    rw [(by decide +kernel : ∀ t : Fin grid0.N, win0_5.index t 0 = 0) t]; omega
  | ⟨1, _⟩ =>
    show win0_5.index t 1 * 704 + 1 * f.val = f.val
    rw [(by decide +kernel : ∀ t : Fin grid0.N, win0_5.index t 1 = 0) t]; omega
  | ⟨2, _⟩ =>
    show win0_5.index t 2 * 1024 + 1 * k.val = k.val
    rw [(by decide +kernel : ∀ t : Fin grid0.N, win0_5.index t 2 = 0) t]; omega

/-- A load of slab `j` of a stack of weight shards. -/
theorem slab5 (t : Fin cfg0.N) (j : Fin 4) (inb : ∀ a, (![j.val, 0, 0] : Fin 3 → Nat) a + (S1x704x1024.size) a ≤ S4x704x1024.size a)
    (f : Fin 704) (k : Fin 1024) :
    (View.ld (iblk m c 5 t : S4x704x1024.Idx → EReal) (Rect.unit (s := S4x704x1024) ![j.val, 0, 0] S1x704x1024.size inb) : S1x704x1024.Idx → EReal) (ix3 0 f k)
      = m ((c : Thread nD τ).loc main_arg5) (ix2 k (sh j f)) := by
  rw [← b5 m c t]
  pointwise

theorem b6 (t : Fin cfg0.N) (j : Fin 4) (f : Fin 704) (k : Fin 1024) :
    (iblk m c 6 t : S4x704x1024.Idx → EReal) (ix3 j f k) = m ((c : Thread nD τ).loc main_arg6) (ix2 (sh j f) k) := by
  unfold iblk
  rw [View.read_apply, ← V_v7 m c j f k]
  show (V m c main_v7 : S4x704x1024.Idx → EReal) _ = _
  congr 1
  funext a
  apply Fin.ext
  match a with
  | ⟨0, _⟩ =>
    show win0_6.index t 0 * 4 + 1 * j.val = j.val
    rw [(by decide +kernel : ∀ t : Fin grid0.N, win0_6.index t 0 = 0) t]; omega
  | ⟨1, _⟩ =>
    show win0_6.index t 1 * 704 + 1 * f.val = f.val
    rw [(by decide +kernel : ∀ t : Fin grid0.N, win0_6.index t 1 = 0) t]; omega
  | ⟨2, _⟩ =>
    show win0_6.index t 2 * 1024 + 1 * k.val = k.val
    rw [(by decide +kernel : ∀ t : Fin grid0.N, win0_6.index t 2 = 0) t]; omega

/-- A load of slab `j` of a stack of weight shards. -/
theorem slab6 (t : Fin cfg0.N) (j : Fin 4) (inb : ∀ a, (![j.val, 0, 0] : Fin 3 → Nat) a + (S1x704x1024.size) a ≤ S4x704x1024.size a)
    (f : Fin 704) (k : Fin 1024) :
    (View.ld (iblk m c 6 t : S4x704x1024.Idx → EReal) (Rect.unit (s := S4x704x1024) ![j.val, 0, 0] S1x704x1024.size inb) : S1x704x1024.Idx → EReal) (ix3 0 f k)
      = m ((c : Thread nD τ).loc main_arg6) (ix2 (sh j f) k) := by
  rw [← b6 m c t]
  pointwise

end Blocks

end
-- ==== Proof.Outs.lean ====
/- What the kernel leaves in its output blocks at each grid point. -/
module

public import proofs.«01_k».proof.Proof.Blocks

@[expose] public section

noncomputable section

open Idealize.ShloMosaic Idealize.ShloMosaic.TcCoe Idealize.SL.Sem
open Idealize.ShloMosaic.Pipeline (Dat)

namespace Outs

open Cert.KernelIdeal Cert.KernelIdeal.Gen Base Spec Blocks

variable (m : (ℓ : Loc nD τ sig) → Buf (Elt Ideal) ℓ) (c : Dev nD)

/-- The argument arrays of device `c` hold the real numbers `A`. -/
structure Holds (A : Args) : Prop where
  z : ∀ s k, m ((c : Thread nD τ).loc main_arg0) (ix2 s k) = (A.z s k : EReal)
  h : ∀ s k, m ((c : Thread nD τ).loc main_arg1) (ix2 s k) = (A.h s k : EReal)
  t : ∀ s k, m ((c : Thread nD τ).loc main_arg2) (ix2 s k) = (A.t s k : EReal)
  w : ∀ k, m ((c : Thread nD τ).loc main_arg3) (ix2 0 k) = (A.w k : EReal)
  wg : ∀ k f, m ((c : Thread nD τ).loc main_arg4) (ix2 k f) = (A.wg k f : EReal)
  wu : ∀ k f, m ((c : Thread nD τ).loc main_arg5) (ix2 k f) = (A.wu k f : EReal)
  wd : ∀ f k, m ((c : Thread nD τ).loc main_arg6) (ix2 f k) = (A.wd f k : EReal)

variable {m c} {A : Args} (H : Holds m c A)

theorem hz2 : (![0, 0] : Fin 2 → Nat) = fun _ => 0 := funext fun a => by fin_cases a <;> rfl

section rows
variable (m c)
variable (t : Fin cfg0.N)

/-- The slabs of the gate, up and down weights. -/
abbrev wg0 := View.ld (iblk m c 4 t : S4x704x1024.Idx → EReal) (Rect.unit (s := S4x704x1024) ![0, 0, 0] S1x704x1024.size inb_S4x704x1024_S1x704x1024_0_0_0)
abbrev wg1 := View.ld (iblk m c 4 t : S4x704x1024.Idx → EReal) (Rect.unit (s := S4x704x1024) ![1, 0, 0] S1x704x1024.size inb_S4x704x1024_S1x704x1024_1_0_0)
abbrev wg2 := View.ld (iblk m c 4 t : S4x704x1024.Idx → EReal) (Rect.unit (s := S4x704x1024) ![2, 0, 0] S1x704x1024.size inb_S4x704x1024_S1x704x1024_2_0_0)
abbrev wg3 := View.ld (iblk m c 4 t : S4x704x1024.Idx → EReal) (Rect.unit (s := S4x704x1024) ![3, 0, 0] S1x704x1024.size inb_S4x704x1024_S1x704x1024_3_0_0)
abbrev wu0 := View.ld (iblk m c 5 t : S4x704x1024.Idx → EReal) (Rect.unit (s := S4x704x1024) ![0, 0, 0] S1x704x1024.size inb_S4x704x1024_S1x704x1024_0_0_0)
abbrev wu1 := View.ld (iblk m c 5 t : S4x704x1024.Idx → EReal) (Rect.unit (s := S4x704x1024) ![1, 0, 0] S1x704x1024.size inb_S4x704x1024_S1x704x1024_1_0_0)
abbrev wu2 := View.ld (iblk m c 5 t : S4x704x1024.Idx → EReal) (Rect.unit (s := S4x704x1024) ![2, 0, 0] S1x704x1024.size inb_S4x704x1024_S1x704x1024_2_0_0)
abbrev wu3 := View.ld (iblk m c 5 t : S4x704x1024.Idx → EReal) (Rect.unit (s := S4x704x1024) ![3, 0, 0] S1x704x1024.size inb_S4x704x1024_S1x704x1024_3_0_0)
abbrev wd0 := View.ld (iblk m c 6 t : S4x704x1024.Idx → EReal) (Rect.unit (s := S4x704x1024) ![0, 0, 0] S1x704x1024.size inb_S4x704x1024_S1x704x1024_0_0_0)
abbrev wd1 := View.ld (iblk m c 6 t : S4x704x1024.Idx → EReal) (Rect.unit (s := S4x704x1024) ![1, 0, 0] S1x704x1024.size inb_S4x704x1024_S1x704x1024_1_0_0)
abbrev wd2 := View.ld (iblk m c 6 t : S4x704x1024.Idx → EReal) (Rect.unit (s := S4x704x1024) ![2, 0, 0] S1x704x1024.size inb_S4x704x1024_S1x704x1024_2_0_0)
abbrev wd3 := View.ld (iblk m c 6 t : S4x704x1024.Idx → EReal) (Rect.unit (s := S4x704x1024) ![3, 0, 0] S1x704x1024.size inb_S4x704x1024_S1x704x1024_3_0_0)

/-- The tile's output of the layer. -/
abbrev Y : FVec Ideal S256x1024 .f32 :=
  k0_pay23 (k0_pay7 (iblk m c 0 t) (wg2 m c t)) (k0_pay8 (iblk m c 0 t) (wg3 m c t)) (k0_pay11 (iblk m c 0 t) (wu2 m c t))
    (k0_pay12 (k0_pay4 (iblk m c 0 t)) (wu3 m c t))
    (k0_pay15 (k0_pay5 (iblk m c 0 t) (wg0 m c t)) (k0_pay9 (iblk m c 0 t) (wu0 m c t)) (wd0 m c t))
    (k0_pay18 (k0_pay6 (iblk m c 0 t) (wg1 m c t)) (k0_pay10 (iblk m c 0 t) (wu1 m c t)) (wd1 m c t)) (wd2 m c t) (wd3 m c t)

/-- The row sums of its squares. -/
abbrev Q : FVec Ideal S256x1 .f32 :=
  k0_pay24 (k0_pay7 (iblk m c 0 t) (wg2 m c t)) (k0_pay8 (iblk m c 0 t) (wg3 m c t)) (k0_pay11 (iblk m c 0 t) (wu2 m c t))
    (k0_pay12 (k0_pay4 (iblk m c 0 t)) (wu3 m c t))
    (k0_pay15 (k0_pay5 (iblk m c 0 t) (wg0 m c t)) (k0_pay9 (iblk m c 0 t) (wu0 m c t)) (wd0 m c t))
    (k0_pay18 (k0_pay6 (iblk m c 0 t) (wg1 m c t)) (k0_pay10 (iblk m c 0 t) (wu1 m c t)) (wd1 m c t)) (wd2 m c t) (wd3 m c t)

end rows

variable (t : Fin cfg0.N) (r : Fin 256)
include H

theorem hz (k : Fin 1024) : (iblk m c 0 t : S256x1024.Idx → EReal) (ix2 r k) = (A.z (row t r) k : EReal) := by rw [b0, H.z]
theorem hh (k : Fin 1024) : (iblk m c 1 t : S256x1024.Idx → EReal) (ix2 r k) = (A.h (row t r) k : EReal) := by rw [b1, H.h]
theorem ht (k : Fin 1024) : (iblk m c 2 t : S256x1024.Idx → EReal) (ix2 r k) = (A.t (row t r) k : EReal) := by rw [b2, H.t]
theorem hw (k : Fin 1024) : (iblk m c 3 t : S1x1024.Idx → EReal) (ix2 0 k) = (A.w k : EReal) := by rw [b3, H.w]
theorem hwg0 (f : Fin 704) (k : Fin 1024) : wg0 m c t (ix3 0 f k) = (A.wg k (sh 0 f) : EReal) := (slab4 m c t 0 inb_S4x704x1024_S1x704x1024_0_0_0 f k).trans (H.wg _ _)
theorem hwg1 (f : Fin 704) (k : Fin 1024) : wg1 m c t (ix3 0 f k) = (A.wg k (sh 1 f) : EReal) := (slab4 m c t 1 inb_S4x704x1024_S1x704x1024_1_0_0 f k).trans (H.wg _ _)
theorem hwg2 (f : Fin 704) (k : Fin 1024) : wg2 m c t (ix3 0 f k) = (A.wg k (sh 2 f) : EReal) := (slab4 m c t 2 inb_S4x704x1024_S1x704x1024_2_0_0 f k).trans (H.wg _ _)
theorem hwg3 (f : Fin 704) (k : Fin 1024) : wg3 m c t (ix3 0 f k) = (A.wg k (sh 3 f) : EReal) := (slab4 m c t 3 inb_S4x704x1024_S1x704x1024_3_0_0 f k).trans (H.wg _ _)
theorem hwu0 (f : Fin 704) (k : Fin 1024) : wu0 m c t (ix3 0 f k) = (A.wu k (sh 0 f) : EReal) := (slab5 m c t 0 inb_S4x704x1024_S1x704x1024_0_0_0 f k).trans (H.wu _ _)
theorem hwu1 (f : Fin 704) (k : Fin 1024) : wu1 m c t (ix3 0 f k) = (A.wu k (sh 1 f) : EReal) := (slab5 m c t 1 inb_S4x704x1024_S1x704x1024_1_0_0 f k).trans (H.wu _ _)
theorem hwu2 (f : Fin 704) (k : Fin 1024) : wu2 m c t (ix3 0 f k) = (A.wu k (sh 2 f) : EReal) := (slab5 m c t 2 inb_S4x704x1024_S1x704x1024_2_0_0 f k).trans (H.wu _ _)
theorem hwu3 (f : Fin 704) (k : Fin 1024) : wu3 m c t (ix3 0 f k) = (A.wu k (sh 3 f) : EReal) := (slab5 m c t 3 inb_S4x704x1024_S1x704x1024_3_0_0 f k).trans (H.wu _ _)
theorem hwd0 (f : Fin 704) (k : Fin 1024) : wd0 m c t (ix3 0 f k) = (A.wd (sh 0 f) k : EReal) := (slab6 m c t 0 inb_S4x704x1024_S1x704x1024_0_0_0 f k).trans (H.wd _ _)
theorem hwd1 (f : Fin 704) (k : Fin 1024) : wd1 m c t (ix3 0 f k) = (A.wd (sh 1 f) k : EReal) := (slab6 m c t 1 inb_S4x704x1024_S1x704x1024_1_0_0 f k).trans (H.wd _ _)
theorem hwd2 (f : Fin 704) (k : Fin 1024) : wd2 m c t (ix3 0 f k) = (A.wd (sh 2 f) k : EReal) := (slab6 m c t 2 inb_S4x704x1024_S1x704x1024_2_0_0 f k).trans (H.wd _ _)
theorem hwd3 (f : Fin 704) (k : Fin 1024) : wd3 m c t (ix3 0 f k) = (A.wd (sh 3 f) k : EReal) := (slab6 m c t 3 inb_S4x704x1024_S1x704x1024_3_0_0 f k).trans (H.wd _ _)

theorem hY (l : Fin 1024) : Y m c t (ix2 r l) = (A.y (row t r) l : EReal) :=
  Pay.pay23 r (Pay.pay7 r (hz H t r) (hwg2 H t)) (Pay.pay11 r (hz H t r) (hwu2 H t)) (Pay.pay8 r (hz H t r) (hwg3 H t)) (Pay.pay12 r (hz H t r) (hwu3 H t))
    (hwd2 H t) (hwd3 H t) (Pay.pay15 r (Pay.pay5 r (hz H t r) (hwg0 H t)) (Pay.pay9 r (hz H t r) (hwu0 H t)) (hwd0 H t))
    (Pay.pay18 r (Pay.pay6 r (hz H t r) (hwg1 H t)) (Pay.pay10 r (hz H t r) (hwu1 H t)) (hwd1 H t)) l

theorem hQ : Q m c t (ix2 r 0) = ((∑ k, A.y (row t r) k * A.y (row t r) k : ℝ) : EReal) :=
  Pay.pay24 r (Pay.pay7 r (hz H t r) (hwg2 H t)) (Pay.pay11 r (hz H t r) (hwu2 H t)) (Pay.pay8 r (hz H t r) (hwg3 H t)) (Pay.pay12 r (hz H t r) (hwu3 H t))
    (hwd2 H t) (hwd3 H t) (Pay.pay15 r (Pay.pay5 r (hz H t r) (hwg0 H t)) (Pay.pay9 r (hz H t r) (hwu0 H t)) (hwd0 H t))
    (Pay.pay18 r (Pay.pay6 r (hz H t r) (hwg1 H t)) (Pay.pay10 r (hz H t r) (hwu1 H t)) (hwd1 H t))

theorem out9_A (h0 : t.val % 16 = 0) (l : Fin 1024) :
    (outsAt0 m c t.val t.isLt).2.2.1 (ix2 r l) = (A.dout (row t r) l : EReal) := by
  rw [outsAt0_A m c t h0]; dsimp only
  unfold out0_A_9
  rw [View.read_writes_eq_canon _ _ _ (fun y => cover0_A_9 (y := y) ..)]
  unfold kernelRun0_A
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  exact Pay.pay31 r (hY H t r) (hQ H t r) (hw H t) (hh H t r) (ht H t r) l

theorem out10_A (h0 : t.val % 16 = 0) (l : Fin 1024) :
    (outsAt0 m c t.val t.isLt).2.2.2.1 (ix2 r l) = (A.dres (row t r) l : EReal) := by
  rw [outsAt0_A m c t h0]; dsimp only
  unfold out0_A_10
  rw [View.read_writes_eq_canon _ _ _ (fun y => cover0_A_10 (y := y) ..)]
  unfold kernelRun0_A
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  exact Pay.pay29 r (hY H t r) (hQ H t r) (hw H t) (hh H t r) (ht H t r) l

theorem out9_B (h0 : ¬ t.val % 16 = 0) (l : Fin 1024) :
    (outsAt0 m c t.val t.isLt).2.2.1 (ix2 r l) = (A.dout (row t r) l : EReal) := by
  rw [outsAt0_B m c t h0]; dsimp only
  unfold out0_B_9
  rw [View.read_writes_eq_canon _ _ _ (fun y => cover0_B_9 (y := y) ..)]
  unfold kernelRun0_B
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  exact Pay.pay31 r (hY H t r) (hQ H t r) (hw H t) (hh H t r) (ht H t r) l

theorem out10_B (h0 : ¬ t.val % 16 = 0) (l : Fin 1024) :
    (outsAt0 m c t.val t.isLt).2.2.2.1 (ix2 r l) = (A.dres (row t r) l : EReal) := by
  rw [outsAt0_B m c t h0]; dsimp only
  unfold out0_B_10
  rw [View.read_writes_eq_canon _ _ _ (fun y => cover0_B_10 (y := y) ..)]
  unfold kernelRun0_B
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  exact Pay.pay29 r (hY H t r) (hQ H t r) (hw H t) (hh H t r) (ht H t r) l

end Outs

end
-- ==== Proof.Outs2.lean ====
/- The blocks the kernel stores shard by shard, and its accumulators. -/
module

public import proofs.«01_k».proof.Proof.Outs

@[expose] public section

noncomputable section

open Idealize.ShloMosaic Idealize.ShloMosaic.TcCoe Idealize.SL.Sem
open Idealize.ShloMosaic.Pipeline (Dat)

namespace Outs

open Cert.KernelIdeal Cert.KernelIdeal.Gen Base Spec Blocks

variable {m : (ℓ : Loc nD τ sig) → Buf (Elt Ideal) ℓ} {c : Dev nD} {A : Args} (H : Holds m c A) (t : Fin cfg0.N)

/-- The products with the gate (or up) weights, as the tile's stack of shards. -/
def stack (z : Fin 4096 → Fin 1024 → ℝ) (w : Fin 1024 → Fin 2816 → ℝ) (t : Fin cfg0.N) (y : S4x256x704.Idx) : EReal :=
  (lin (z (row t (y 1))) w (sh (y 0) (y 2)) : EReal)

theorem stack_emb (z : Fin 4096 → Fin 1024 → ℝ) (w : Fin 1024 → Fin 2816 → ℝ) (t : Fin cfg0.N) (j : Fin 4)
    (inb : ∀ a, (![j.val, 0, 0] : Fin 3 → Nat) a + S1x256x704.size a ≤ S4x256x704.size a) (r : Fin 256) (f : Fin 704) :
    stack z w t ((Rect.unit (s := S4x256x704) ![j.val, 0, 0] S1x256x704.size inb).emb (ix3 0 r f)) = (lin (z (row t r)) w (sh j f) : EReal) := by
  have e0 : (Rect.unit (s := S4x256x704) ![j.val, 0, 0] S1x256x704.size inb).emb (ix3 0 r f) 0 = j :=
    Fin.ext (show j.val + 1 * 0 = j.val by omega)
  have e1 : (Rect.unit (s := S4x256x704) ![j.val, 0, 0] S1x256x704.size inb).emb (ix3 0 r f) 1 = r :=
    Fin.ext (show 0 + 1 * r.val = r.val by omega)
  have e2 : (Rect.unit (s := S4x256x704) ![j.val, 0, 0] S1x256x704.size inb).emb (ix3 0 r f) 2 = f :=
    Fin.ext (show 0 + 1 * f.val = f.val by omega)
  unfold stack
  rw [e0, e1, e2]

include H

theorem out7_A (h0 : t.val % 16 = 0) (j : Fin 4) (r : Fin 256) (f : Fin 704) :
    (outsAt0 m c t.val t.isLt).1 (ix3 j r f) = (lin (A.z (row t r)) A.wg (sh j f) : EReal) := by
  rw [outsAt0_A m c t h0]; dsimp only
  unfold out0_A_7
  rw [View.read_writes_eq_canon _ _ _ (fun y => cover0_A_7 (y := y) ..)]
  refine (View.canon_apply_of_pieces (Val := Elt Ideal) (stack A.z A.wg t) _ ?_ _ (cover0_A_7 (y := _) ..)).trans rfl
  unfold kernelRun0_A
  dsimp only
  sl_unfold_words
  simp only [View.readAt_eq_ld, Memref.IsWhole.read_unread, View.ld_unit_zero (S := S256x1024) hz2]
  simp only [List.forall_mem_cons]
  refine ⟨?_, ?_, ?_, ?_, fun _ h => absurd h List.not_mem_nil⟩
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 3 inb_S4x256x704_S1x256x704_3_0_0 r f).symm
    refine Eq.trans ?_ (Pay.pay8 r (hz H t r) (hwg3 H t) f)
    pointwise [k0_pay21]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 2 inb_S4x256x704_S1x256x704_2_0_0 r f).symm
    refine Eq.trans ?_ (Pay.pay7 r (hz H t r) (hwg2 H t) f)
    pointwise [k0_pay19]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 1 inb_S4x256x704_S1x256x704_1_0_0 r f).symm
    refine Eq.trans ?_ (Pay.pay6 r (hz H t r) (hwg1 H t) f)
    pointwise [k0_pay16]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 0 inb_S4x256x704_S1x256x704_0_0_0 r f).symm
    refine Eq.trans ?_ (Pay.pay5 r (hz H t r) (hwg0 H t) f)
    pointwise [k0_pay13]
    rfl

theorem out8_A (h0 : t.val % 16 = 0) (j : Fin 4) (r : Fin 256) (f : Fin 704) :
    (outsAt0 m c t.val t.isLt).2.1 (ix3 j r f) = (lin (A.z (row t r)) A.wu (sh j f) : EReal) := by
  rw [outsAt0_A m c t h0]; dsimp only
  unfold out0_A_8
  rw [View.read_writes_eq_canon _ _ _ (fun y => cover0_A_8 (y := y) ..)]
  refine (View.canon_apply_of_pieces (Val := Elt Ideal) (stack A.z A.wu t) _ ?_ _ (cover0_A_8 (y := _) ..)).trans rfl
  unfold kernelRun0_A
  dsimp only
  sl_unfold_words
  simp only [View.readAt_eq_ld, Memref.IsWhole.read_unread, View.ld_unit_zero (S := S256x1024) hz2]
  simp only [List.forall_mem_cons]
  refine ⟨?_, ?_, ?_, ?_, fun _ h => absurd h List.not_mem_nil⟩
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 3 inb_S4x256x704_S1x256x704_3_0_0 r f).symm
    refine Eq.trans ?_ (Pay.pay12 r (hz H t r) (hwu3 H t) f)
    pointwise [k0_pay22]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 2 inb_S4x256x704_S1x256x704_2_0_0 r f).symm
    refine Eq.trans ?_ (Pay.pay11 r (hz H t r) (hwu2 H t) f)
    pointwise [k0_pay20]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 1 inb_S4x256x704_S1x256x704_1_0_0 r f).symm
    refine Eq.trans ?_ (Pay.pay10 r (hz H t r) (hwu1 H t) f)
    pointwise [k0_pay17]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 0 inb_S4x256x704_S1x256x704_0_0_0 r f).symm
    refine Eq.trans ?_ (Pay.pay9 r (hz H t r) (hwu0 H t) f)
    pointwise [k0_pay14]
    rfl

theorem out11_A (h0 : t.val % 16 = 0) (l : Fin 1024) :
    (outsAt0 m c t.val t.isLt).2.2.2.2.1 (ix2 0 l) = ((∑ r, (A.e (row t r) l * A.e (row t r) l) : ℝ) : EReal) := by
  rw [outsAt0_A m c t h0]; dsimp only
  unfold out0_A_11
  rw [View.read_writes_eq_canon _ _ _ (fun y => cover0_A_11 (y := y) ..)]
  unfold kernelRun0_A
  dsimp only
  rw [View.canon_cons_unit_zero (S := S1x1024) hz2]
  sl_unfold_words
  rw [View.readCov_unit_zero (S := S1x1024) _ hz2]
  simp only [View.readAt_eq_ld, Memref.IsWhole.read_unread, View.ld_unit_zero (S := S256x1024) hz2,
    View.ld_unit_zero (S := S1x1024) hz2, shapeCast_self]
  refine (Pay.pay28 (hY H t) (hQ H t) (hw H t) (hh H t) (ht H t) _ l).trans ?_
  pointwise [k0_pay2]
  rfl

theorem out12_A (h0 : t.val % 16 = 0) (l : Fin 1024) :
    (outsAt0 m c t.val t.isLt).2.2.2.2.2 (ix2 0 l) = ((∑ r, A.dwt (row t r) l : ℝ) : EReal) := by
  rw [outsAt0_A m c t h0]; dsimp only
  unfold out0_A_12
  rw [View.read_writes_eq_canon _ _ _ (fun y => cover0_A_12 (y := y) ..)]
  unfold kernelRun0_A
  dsimp only
  rw [View.canon_cons_unit_zero (S := S1x1024) hz2]
  sl_unfold_words
  rw [View.readCov_unit_zero (S := S1x1024) _ hz2]
  simp only [View.readAt_eq_ld, Memref.IsWhole.read_unread, View.ld_unit_zero (S := S256x1024) hz2,
    View.ld_unit_zero (S := S1x1024) hz2, shapeCast_self]
  pointwise [k0_pay1]
  refine (congrArg (fun q : EReal => _ + q) (Pay.pay30 (hY H t) (hQ H t) (hw H t) (hh H t) (ht H t) l)).trans ?_
  pointwise [k0_pay3]
  rfl

theorem out7_B (h0 : ¬ t.val % 16 = 0) (j : Fin 4) (r : Fin 256) (f : Fin 704) :
    (outsAt0 m c t.val t.isLt).1 (ix3 j r f) = (lin (A.z (row t r)) A.wg (sh j f) : EReal) := by
  rw [outsAt0_B m c t h0]; dsimp only
  unfold out0_B_7
  rw [View.read_writes_eq_canon _ _ _ (fun y => cover0_B_7 (y := y) ..)]
  refine (View.canon_apply_of_pieces (Val := Elt Ideal) (stack A.z A.wg t) _ ?_ _ (cover0_B_7 (y := _) ..)).trans rfl
  unfold kernelRun0_B
  dsimp only
  sl_unfold_words
  simp only [View.readAt_eq_ld, Memref.IsWhole.read_unread, View.ld_unit_zero (S := S256x1024) hz2]
  simp only [List.forall_mem_cons]
  refine ⟨?_, ?_, ?_, ?_, fun _ h => absurd h List.not_mem_nil⟩
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 3 inb_S4x256x704_S1x256x704_3_0_0 r f).symm
    refine Eq.trans ?_ (Pay.pay8 r (hz H t r) (hwg3 H t) f)
    pointwise [k0_pay21]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 2 inb_S4x256x704_S1x256x704_2_0_0 r f).symm
    refine Eq.trans ?_ (Pay.pay7 r (hz H t r) (hwg2 H t) f)
    pointwise [k0_pay19]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 1 inb_S4x256x704_S1x256x704_1_0_0 r f).symm
    refine Eq.trans ?_ (Pay.pay6 r (hz H t r) (hwg1 H t) f)
    pointwise [k0_pay16]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wg t 0 inb_S4x256x704_S1x256x704_0_0_0 r f).symm
    refine Eq.trans ?_ (Pay.pay5 r (hz H t r) (hwg0 H t) f)
    pointwise [k0_pay13]
    rfl

theorem out8_B (h0 : ¬ t.val % 16 = 0) (j : Fin 4) (r : Fin 256) (f : Fin 704) :
    (outsAt0 m c t.val t.isLt).2.1 (ix3 j r f) = (lin (A.z (row t r)) A.wu (sh j f) : EReal) := by
  rw [outsAt0_B m c t h0]; dsimp only
  unfold out0_B_8
  rw [View.read_writes_eq_canon _ _ _ (fun y => cover0_B_8 (y := y) ..)]
  refine (View.canon_apply_of_pieces (Val := Elt Ideal) (stack A.z A.wu t) _ ?_ _ (cover0_B_8 (y := _) ..)).trans rfl
  unfold kernelRun0_B
  dsimp only
  sl_unfold_words
  simp only [View.readAt_eq_ld, Memref.IsWhole.read_unread, View.ld_unit_zero (S := S256x1024) hz2]
  simp only [List.forall_mem_cons]
  refine ⟨?_, ?_, ?_, ?_, fun _ h => absurd h List.not_mem_nil⟩
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 3 inb_S4x256x704_S1x256x704_3_0_0 r f).symm
    refine Eq.trans ?_ (Pay.pay12 r (hz H t r) (hwu3 H t) f)
    pointwise [k0_pay22]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 2 inb_S4x256x704_S1x256x704_2_0_0 r f).symm
    refine Eq.trans ?_ (Pay.pay11 r (hz H t r) (hwu2 H t) f)
    pointwise [k0_pay20]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 1 inb_S4x256x704_S1x256x704_1_0_0 r f).symm
    refine Eq.trans ?_ (Pay.pay10 r (hz H t r) (hwu1 H t) f)
    pointwise [k0_pay17]
    rfl
  · intro x
    obtain ⟨a, r, f, rfl⟩ : ∃ (a : Fin 1) (r : Fin 256) (f : Fin 704), x = ix3 a r f := ⟨x 0, x 1, x 2, eq_ix3 x⟩
    obtain rfl : a = 0 := Subsingleton.elim _ _
    refine Eq.trans ?_ (stack_emb A.z A.wu t 0 inb_S4x256x704_S1x256x704_0_0_0 r f).symm
    refine Eq.trans ?_ (Pay.pay9 r (hz H t r) (hwu0 H t) f)
    pointwise [k0_pay14]
    rfl

theorem out11_B (h0 : ¬ t.val % 16 = 0) (l : Fin 1024) :
    (outsAt0 m c t.val t.isLt).2.2.2.2.1 (ix2 0 l) = (outsAt0 m c (t.val - 1) (by have := t.isLt; omega)).2.2.2.2.1 (ix2 0 l) + ((∑ r, (A.e (row t r) l * A.e (row t r) l) : ℝ) : EReal) := by
  rw [outsAt0_B m c t h0]; dsimp only
  unfold out0_B_11
  rw [View.read_writes_eq_canon _ _ _ (fun y => cover0_B_11 (y := y) ..)]
  unfold kernelRun0_B
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  refine (Pay.pay28 (hY H t) (hQ H t) (hw H t) (hh H t) (ht H t) _ l).trans ?_
  rfl

theorem out12_B (h0 : ¬ t.val % 16 = 0) (l : Fin 1024) :
    (outsAt0 m c t.val t.isLt).2.2.2.2.2 (ix2 0 l) = (outsAt0 m c (t.val - 1) (by have := t.isLt; omega)).2.2.2.2.2 (ix2 0 l) + ((∑ r, A.dwt (row t r) l : ℝ) : EReal) := by
  rw [outsAt0_B m c t h0]; dsimp only
  unfold out0_B_12
  rw [View.read_writes_eq_canon _ _ _ (fun y => cover0_B_12 (y := y) ..)]
  unfold kernelRun0_B
  dsimp only
  rw [View.canon_unit_zero hz2]
  sl_unfold_words
  simp only [View.readAt_eq_ld, Memref.IsWhole.read_unread, View.ld_unit_zero (S := S256x1024) hz2,
    View.ld_unit_zero (S := S1x1024) hz2, shapeCast_self]
  pointwise [k0_pay1]
  exact congrArg (fun q : EReal => _ + q) (Pay.pay30 (hY H t) (hQ H t) (hw H t) (hh H t) (ht H t) l)

end Outs

end
-- ==== Proof.Final.lean ====
/- The kernel's result arrays when its arguments are real numbers. -/
module

public import proofs.«01_k».proof.Proof.Outs2

@[expose] public section

noncomputable section

open Idealize.ShloMosaic Idealize.ShloMosaic.TcCoe Idealize.SL.Sem
open Idealize.ShloMosaic.Pipeline (Dat)

namespace Outs

open Cert.KernelIdeal Cert.KernelIdeal.Gen Base Spec Blocks

variable {m : (ℓ : Loc nD τ sig) → Buf (Elt Ideal) ℓ} {c : Dev nD} {A : Args} (H : Holds m c A)

/-- The part of a sum over the rows that the rows of tile `k` give. -/
def tileSum (f : Fin 4096 → ℝ) (k : ℕ) : ℝ := if h : k < 16 then ∑ r : Fin 256, f (row ⟨k, h⟩ r) else 0

theorem tileSum_eq (t : Fin cfg0.N) (f : Fin 4096 → ℝ) : ∑ r : Fin 256, f (row t r) = tileSum f t.val := by
  unfold tileSum; rw [dif_pos (show t.val < 16 from t.isLt)]

theorem sum_tiles (f : Fin 4096 → ℝ) : ∑ k ∈ Finset.range (15 + 1), tileSum f k = ∑ s, f s := by
  rw [Fin.sum_univ_tiles 16 256 (by norm_num) f, Finset.sum_range]
  exact Finset.sum_congr rfl fun t _ => (tileSum_eq ⟨t.val, t.isLt⟩ f).symm

include H

theorem row_surj (s : Fin 4096) : ∃ (t : Fin cfg0.N) (r : Fin 256), s = row t r :=
  ⟨⟨s.val / 256, by show s.val / 256 < 16; omega⟩, ⟨s.val % 256, by omega⟩, Fin.ext (by show s.val = s.val / 256 * 256 + s.val % 256; omega)⟩

theorem final9 (s : Fin 4096) (l : Fin 1024) :
    ((dats m 0 c).arrAt 9 cfg0.N : S4096x1024.Idx → EReal) (ix2 s l) = (A.dout s l : EReal) := by
  obtain ⟨t, r, rfl⟩ := row_surj H s
  have e : ((cfg0.win 9).blk t).view.emb (ix2 r l : S256x1024.Idx) = (ix2 (row t r) l : S4096x1024.Idx) := by
    funext a; apply Fin.ext
    match a with
    | ⟨0, _⟩ =>
      show win0_9.index t 0 * 256 + 1 * r.val = t.val * 256 + r.val
      rw [(by decide +kernel : ∀ t : Fin grid0.N, win0_9.index t 0 = t.val) t, one_mul]
    | ⟨1, _⟩ =>
      show win0_9.index t 1 * 1024 + 1 * l.val = l.val
      rw [(by decide +kernel : ∀ t : Fin grid0.N, win0_9.index t 1 = 0) t]; omega
  have h := (dats m 0 c).arrAt_emb_eq_flushed 9 (Cert.KernelIdeal.Value.disjoint9) t ((by decide +kernel : ∀ t : Fin grid0.N, win0_9.flush t = true) t) (ix2 r l : S256x1024.Idx)
  rw [e] at h
  refine h.trans ?_
  rw [Cert.KernelIdeal.Value.flushed9]
  by_cases h0 : t.val % 16 = 0
  · exact out9_A H t r h0 l
  · exact out9_B H t r h0 l

theorem final10 (s : Fin 4096) (l : Fin 1024) :
    ((dats m 0 c).arrAt 10 cfg0.N : S4096x1024.Idx → EReal) (ix2 s l) = (A.dres s l : EReal) := by
  obtain ⟨t, r, rfl⟩ := row_surj H s
  have e : ((cfg0.win 10).blk t).view.emb (ix2 r l : S256x1024.Idx) = (ix2 (row t r) l : S4096x1024.Idx) := by
    funext a; apply Fin.ext
    match a with
    | ⟨0, _⟩ =>
      show win0_10.index t 0 * 256 + 1 * r.val = t.val * 256 + r.val
      rw [(by decide +kernel : ∀ t : Fin grid0.N, win0_10.index t 0 = t.val) t, one_mul]
    | ⟨1, _⟩ =>
      show win0_10.index t 1 * 1024 + 1 * l.val = l.val
      rw [(by decide +kernel : ∀ t : Fin grid0.N, win0_10.index t 1 = 0) t]; omega
  have h := (dats m 0 c).arrAt_emb_eq_flushed 10 (Cert.KernelIdeal.Value.disjoint10) t ((by decide +kernel : ∀ t : Fin grid0.N, win0_10.flush t = true) t) (ix2 r l : S256x1024.Idx)
  rw [e] at h
  refine h.trans ?_
  rw [Cert.KernelIdeal.Value.flushed10]
  by_cases h0 : t.val % 16 = 0
  · exact out10_A H t r h0 l
  · exact out10_B H t r h0 l

theorem final7 (j : Fin 4) (s : Fin 4096) (f : Fin 704) :
    ((dats m 0 c).arrAt 7 cfg0.N : S4x4096x704.Idx → EReal) (ix3 j s f) = (lin (A.z s) A.wg (sh j f) : EReal) := by
  obtain ⟨t, r, rfl⟩ := row_surj H s
  have e : ((cfg0.win 7).blk t).view.emb (ix3 j r f : S4x256x704.Idx) = (ix3 j (row t r) f : S4x4096x704.Idx) := by
    funext a; apply Fin.ext
    match a with
    | ⟨0, _⟩ =>
      show win0_7.index t 0 * 4 + 1 * j.val = j.val
      rw [(by decide +kernel : ∀ t : Fin grid0.N, win0_7.index t 0 = 0) t]; omega
    | ⟨1, _⟩ =>
      show win0_7.index t 1 * 256 + 1 * r.val = t.val * 256 + r.val
      rw [(by decide +kernel : ∀ t : Fin grid0.N, win0_7.index t 1 = t.val) t, one_mul]
    | ⟨2, _⟩ =>
      show win0_7.index t 2 * 704 + 1 * f.val = f.val
      rw [(by decide +kernel : ∀ t : Fin grid0.N, win0_7.index t 2 = 0) t]; omega
  have h := (dats m 0 c).arrAt_emb_eq_flushed 7 (Cert.KernelIdeal.Value.disjoint7) t ((by decide +kernel : ∀ t : Fin grid0.N, win0_7.flush t = true) t) (ix3 j r f : S4x256x704.Idx)
  rw [e] at h
  refine h.trans ?_
  rw [Cert.KernelIdeal.Value.flushed7]
  by_cases h0 : t.val % 16 = 0
  · exact out7_A H t h0 j r f
  · exact out7_B H t h0 j r f

theorem final8 (j : Fin 4) (s : Fin 4096) (f : Fin 704) :
    ((dats m 0 c).arrAt 8 cfg0.N : S4x4096x704.Idx → EReal) (ix3 j s f) = (lin (A.z s) A.wu (sh j f) : EReal) := by
  obtain ⟨t, r, rfl⟩ := row_surj H s
  have e : ((cfg0.win 8).blk t).view.emb (ix3 j r f : S4x256x704.Idx) = (ix3 j (row t r) f : S4x4096x704.Idx) := by
    funext a; apply Fin.ext
    match a with
    | ⟨0, _⟩ =>
      show win0_8.index t 0 * 4 + 1 * j.val = j.val
      rw [(by decide +kernel : ∀ t : Fin grid0.N, win0_8.index t 0 = 0) t]; omega
    | ⟨1, _⟩ =>
      show win0_8.index t 1 * 256 + 1 * r.val = t.val * 256 + r.val
      rw [(by decide +kernel : ∀ t : Fin grid0.N, win0_8.index t 1 = t.val) t, one_mul]
    | ⟨2, _⟩ =>
      show win0_8.index t 2 * 704 + 1 * f.val = f.val
      rw [(by decide +kernel : ∀ t : Fin grid0.N, win0_8.index t 2 = 0) t]; omega
  have h := (dats m 0 c).arrAt_emb_eq_flushed 8 (Cert.KernelIdeal.Value.disjoint8) t ((by decide +kernel : ∀ t : Fin grid0.N, win0_8.flush t = true) t) (ix3 j r f : S4x256x704.Idx)
  rw [e] at h
  refine h.trans ?_
  rw [Cert.KernelIdeal.Value.flushed8]
  by_cases h0 : t.val % 16 = 0
  · exact out8_A H t h0 j r f
  · exact out8_B H t h0 j r f

theorem acc11 (l : Fin 1024) (n : ℕ) (hn : n < cfg0.N) :
    (outsAt0 m c n hn).2.2.2.2.1 (ix2 0 l) = ((∑ k ∈ Finset.range (n + 1), tileSum (fun s => A.e s l * A.e s l) k : ℝ) : EReal) := by
  induction n with
  | zero =>
    have h := out11_A H ⟨0, hn⟩ rfl l
    rw [show outsAt0 m c 0 hn = outsAt0 m c (⟨0, hn⟩ : Fin cfg0.N).val (⟨0, hn⟩ : Fin cfg0.N).isLt from rfl, h]
    simp only [zero_add, Finset.range_one, Finset.sum_singleton]
    rw [← tileSum_eq (⟨0, hn⟩ : Fin cfg0.N)]
  | succ n ih =>
    have h16 : n + 1 < 16 := hn
    have h := out11_B H ⟨n + 1, hn⟩ (by show ¬ (n + 1) % 16 = 0; omega) l
    rw [show outsAt0 m c (n + 1) hn = outsAt0 m c (⟨n + 1, hn⟩ : Fin cfg0.N).val (⟨n + 1, hn⟩ : Fin cfg0.N).isLt from rfl, h]
    have ih' := ih (Nat.lt_of_succ_lt hn)
    rw [Finset.sum_range_succ, EReal.coe_add, ← ih', ← tileSum_eq (⟨n + 1, hn⟩ : Fin cfg0.N)]
    rfl

theorem final11 (l : Fin 1024) :
    ((dats m 0 c).arrAt 11 cfg0.N : S1x1024.Idx → EReal) (ix2 0 l) = ((∑ s, (fun s => A.e s l * A.e s l) s : ℝ) : EReal) := by
  have hd : ∀ t t' : Fin cfg0.N, (cfg0.win 11).flush t = true → (cfg0.win 11).flush t' = true → t ≠ t' →
      Disjoint ((cfg0.win 11).blk t).view.set ((cfg0.win 11).blk t').view.set :=
    fun t t' h h' hne => absurd ((by decide +kernel : ∀ t t' : Fin grid0.N, win0_11.flush t = true → win0_11.flush t' = true → t = t') t t' h h') hne
  let t : Fin cfg0.N := ⟨15, by decide⟩
  have e : ((cfg0.win 11).blk t).view.emb (ix2 0 l : S1x1024.Idx) = (ix2 0 l : S1x1024.Idx) := by
    funext a; apply Fin.ext
    match a with
    | ⟨0, _⟩ =>
      show win0_11.index t 0 * 1 + 1 * 0 = 0
      rw [(by decide +kernel : ∀ t : Fin grid0.N, win0_11.index t 0 = 0) t]
    | ⟨1, _⟩ =>
      show win0_11.index t 1 * 1024 + 1 * l.val = l.val
      rw [(by decide +kernel : ∀ t : Fin grid0.N, win0_11.index t 1 = 0) t]; omega
  have h := (dats m 0 c).arrAt_emb_eq_flushed 11 hd t (by decide +kernel) (ix2 0 l : S1x1024.Idx)
  rw [e] at h
  refine h.trans ?_
  rw [Cert.KernelIdeal.Value.flushed11]
  refine (acc11 H l 15 t.isLt).trans ?_
  rw [sum_tiles]

theorem acc12 (l : Fin 1024) (n : ℕ) (hn : n < cfg0.N) :
    (outsAt0 m c n hn).2.2.2.2.2 (ix2 0 l) = ((∑ k ∈ Finset.range (n + 1), tileSum (fun s => A.dwt s l) k : ℝ) : EReal) := by
  induction n with
  | zero =>
    have h := out12_A H ⟨0, hn⟩ rfl l
    rw [show outsAt0 m c 0 hn = outsAt0 m c (⟨0, hn⟩ : Fin cfg0.N).val (⟨0, hn⟩ : Fin cfg0.N).isLt from rfl, h]
    simp only [zero_add, Finset.range_one, Finset.sum_singleton]
    rw [← tileSum_eq (⟨0, hn⟩ : Fin cfg0.N)]
  | succ n ih =>
    have h16 : n + 1 < 16 := hn
    have h := out12_B H ⟨n + 1, hn⟩ (by show ¬ (n + 1) % 16 = 0; omega) l
    rw [show outsAt0 m c (n + 1) hn = outsAt0 m c (⟨n + 1, hn⟩ : Fin cfg0.N).val (⟨n + 1, hn⟩ : Fin cfg0.N).isLt from rfl, h]
    have ih' := ih (Nat.lt_of_succ_lt hn)
    rw [Finset.sum_range_succ, EReal.coe_add, ← ih', ← tileSum_eq (⟨n + 1, hn⟩ : Fin cfg0.N)]
    rfl

theorem final12 (l : Fin 1024) :
    ((dats m 0 c).arrAt 12 cfg0.N : S1x1024.Idx → EReal) (ix2 0 l) = ((∑ s, (fun s => A.dwt s l) s : ℝ) : EReal) := by
  have hd : ∀ t t' : Fin cfg0.N, (cfg0.win 12).flush t = true → (cfg0.win 12).flush t' = true → t ≠ t' →
      Disjoint ((cfg0.win 12).blk t).view.set ((cfg0.win 12).blk t').view.set :=
    fun t t' h h' hne => absurd ((by decide +kernel : ∀ t t' : Fin grid0.N, win0_12.flush t = true → win0_12.flush t' = true → t = t') t t' h h') hne
  let t : Fin cfg0.N := ⟨15, by decide⟩
  have e : ((cfg0.win 12).blk t).view.emb (ix2 0 l : S1x1024.Idx) = (ix2 0 l : S1x1024.Idx) := by
    funext a; apply Fin.ext
    match a with
    | ⟨0, _⟩ =>
      show win0_12.index t 0 * 1 + 1 * 0 = 0
      rw [(by decide +kernel : ∀ t : Fin grid0.N, win0_12.index t 0 = 0) t]
    | ⟨1, _⟩ =>
      show win0_12.index t 1 * 1024 + 1 * l.val = l.val
      rw [(by decide +kernel : ∀ t : Fin grid0.N, win0_12.index t 1 = 0) t]; omega
  have h := (dats m 0 c).arrAt_emb_eq_flushed 12 hd t (by decide +kernel) (ix2 0 l : S1x1024.Idx)
  rw [e] at h
  refine h.trans ?_
  rw [Cert.KernelIdeal.Value.flushed12]
  refine (acc12 H l 15 t.isLt).trans ?_
  rw [sum_tiles]

end Outs

end
-- ==== Proof.RVal.lean ====
/- The reference's results when its arguments are real numbers. -/
module

public import proofs.«01_k».proof.Proof.Gen.ReferenceIdeal.Read
public import proofs.«01_k».proof.Proof.Spec

@[expose] public section

noncomputable section

open Idealize.ShloMosaic Idealize.ShloMosaic.TcCoe

namespace RVal

open Cert.ReferenceIdeal Cert.ReferenceIdeal.Gen Cert.ReferenceIdeal.Read Base Spec

theorem c1024 : Ideal.ofBits .f32 0x44800000#32 = ((1024 : ℝ) : EReal) := by
  simp [Ideal.ofBits, Ideal.ieee, -EReal.coe_mul]; norm_num
theorem ceps : Ideal.ofBits .f32 0x358637BD#32 = ((eps : ℝ) : EReal) := by
  simp [Ideal.ofBits, Ideal.ieee, -EReal.coe_mul, eps]; norm_num
theorem cnhalf : Ideal.ofBits .f32 0xBF000000#32 = ((-(1 / 2) : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num

variable {x0 x1 x2 : FVec Ideal S4096x1024 .f32} {x3 : FVec Ideal S1x1024 .f32} {x4 x5 : FVec Ideal S1024x2816 .f32}
  {x6 : FVec Ideal S2816x1024 .f32} {A : Args}

/-- The argument arrays hold the real numbers `A`. -/
structure Holds (x0 x1 x2 : FVec Ideal S4096x1024 .f32) (x3 : FVec Ideal S1x1024 .f32) (x4 x5 : FVec Ideal S1024x2816 .f32)
    (x6 : FVec Ideal S2816x1024 .f32) (A : Args) : Prop where
  z : ∀ s k, x0 (ix2 s k) = (A.z s k : EReal)
  h : ∀ s k, x1 (ix2 s k) = (A.h s k : EReal)
  t : ∀ s k, x2 (ix2 s k) = (A.t s k : EReal)
  w : ∀ k, x3 (ix2 0 k) = (A.w k : EReal)
  wg : ∀ k f, x4 (ix2 k f) = (A.wg k f : EReal)
  wu : ∀ k f, x5 (ix2 k f) = (A.wu k f : EReal)
  wd : ∀ f k, x6 (ix2 f k) = (A.wd f k : EReal)

variable (H : Holds x0 x1 x2 x3 x4 x5 x6 A) (s : Fin 4096)
include H

theorem v0 (f : Fin 2816) : val_main_v0 (F := Ideal) x0 x4 (ix2 s f) = (lin (A.z s) A.wg f : EReal) := by
  pointwise [val_main_v0]
  simp only [H.z, H.wg, ← EReal.coe_mul, coe_sum]; rfl

theorem v1 (f : Fin 2816) : val_main_v1 (F := Ideal) x0 x5 (ix2 s f) = (lin (A.z s) A.wu f : EReal) := by
  pointwise [val_main_v1]
  simp only [H.z, H.wu, ← EReal.coe_mul, coe_sum]; rfl

omit H in
theorem silu_coe (g : ℝ) : (g : EReal) * Ideal.div 1 (1 + Ideal.exp (-(g : EReal))) = ((g * (1 + Real.exp (-g))⁻¹ : ℝ) : EReal) := by
  rw [← EReal.coe_neg, Ideal.exp_coe, ← EReal.coe_one, ← EReal.coe_add, div_coe' _ _ (by positivity), ← EReal.coe_mul, one_div]

theorem v3 (f : Fin 2816) : val_main_v3 (F := Ideal) x0 x4 x5 (ix2 s f) = (act (lin (A.z s) A.wg f) (lin (A.z s) A.wu f) : EReal) := by
  pointwise [val_main_v3, val_main_v2, val_main_call0_v5, val_main_call0_v4, val_main_call0_v3, val_main_call0_v2, val_main_call0_v1,
    val_main_call0_v0, val_main_call0_cst, val_main_call0_cst_0]
  rw [v0 H, v1 H, silu_coe, ← EReal.coe_mul]; rfl

theorem v4 (l : Fin 1024) : val_main_v4 (F := Ideal) x0 x4 x5 x6 (ix2 s l) = (A.y s l : EReal) := by
  pointwise [val_main_v4]
  simp only [v3 H, H.wd, ← EReal.coe_mul, coe_sum]; rfl

/-- The mean square of a row of the layer's output, plus the constant. -/
def ms (A : Args) (s : Fin 4096) : ℝ := (∑ k, A.y s k * A.y s k) / 1024 + eps

omit H in
theorem ms_pos' : 0 < ms A s := ms_pos _

theorem v11 : val_main_v11 (F := Ideal) x0 x4 x5 x6 (ix2 s 0) = (ms A s : EReal) := by
  pointwise [val_main_v11, val_main_v10, val_main_v9, val_main_v8, val_main_v7, val_main_v6, val_main_v5, val_main_cst, val_main_cst_0, val_main_cst_1]
  simp only [v4 H, c1024, ceps, ← EReal.coe_mul, coe_sum, div_coe' _ _ (show (1024 : ℝ) ≠ 0 by norm_num), ← EReal.coe_add]; rfl

theorem v26 : val_main_v26 (F := Ideal) x0 x4 x5 x6 (ix2 s 0) = (ms A s : EReal) := by
  pointwise [val_main_v26, val_main_v25, val_main_v24, val_main_v23, val_main_v22, val_main_v21, val_main_v20, val_main_cst_2, val_main_cst_3, val_main_cst_4]
  simp only [v4 H, c1024, ceps, ← EReal.coe_mul, coe_sum, div_coe' _ _ (show (1024 : ℝ) ≠ 0 by norm_num), ← EReal.coe_add]; rfl

theorem v12 : val_main_v12 (F := Ideal) x0 x4 x5 x6 (ix2 s 0) = (rinv (A.y s) : EReal) := by
  pointwise [val_main_v12]
  rw [v11 H, rsqrt_pos _ (ms_pos' s)]; rfl

theorem v27 : val_main_v27 (F := Ideal) x0 x4 x5 x6 (ix2 s 0) = (rinv (A.y s) : EReal) := by
  pointwise [val_main_v27]
  rw [v26 H, rsqrt_pos _ (ms_pos' s)]; rfl

theorem v18 (l : Fin 1024) : val_main_v18 (F := Ideal) x0 x1 x2 x3 x4 x5 x6 (ix2 s l) = (A.e s l : EReal) := by
  pointwise [val_main_v18, val_main_v17, val_main_v16, val_main_v15, val_main_v14, val_main_v13]
  rw [v12 H, v4 H, H.h, H.t, H.w]
  simp only [← EReal.coe_mul, ← EReal.coe_add, ← EReal.coe_sub]; rfl

theorem v32 (l : Fin 1024) : val_main_v32 (F := Ideal) x0 x4 x5 x6 (ix2 s l) = ((A.y s l * rinv (A.y s) : ℝ) : EReal) := by
  pointwise [val_main_v32, val_main_v31]
  rw [v27 H, v4 H, ← EReal.coe_mul]

theorem v36 (l : Fin 1024) : val_main_v36 (F := Ideal) x0 x1 x2 x3 x4 x5 x6 (ix2 s l) = (A.e s l : EReal) := by
  pointwise [val_main_v36, val_main_v35, val_main_v34, val_main_v33]
  rw [v32 H, H.h, H.t, H.w]
  simp only [← EReal.coe_mul, ← EReal.coe_add, ← EReal.coe_sub]; rfl

theorem v50 (l : Fin 1024) : val_main_v50 (F := Ideal) x0 x1 x2 x3 x4 x5 x6 (ix2 s l) = (A.dres s l : EReal) := by
  pointwise [val_main_v50, val_main_v49, val_main_v48, val_main_v47, val_main_v46, val_main_v45, val_main_v39, val_main_v38, val_main_cst_6,
    val_main_cst_11, val_main_cst_12, val_main_cst_13]
  rw [v36 H, c1024, chalf, ctwo, div_coe' _ _ (show (1024 : ℝ) ≠ 0 by norm_num)]
  simp only [← EReal.coe_mul]
  congr 1
  show _ = A.e s l / 1024
  ring

theorem v53 (l : Fin 1024) : val_main_v53 (F := Ideal) x0 x1 x2 x3 x4 x5 x6 (ix2 0 l) = ((∑ s, A.dwt s l : ℝ) : EReal) := by
  pointwise [val_main_v53, val_main_v52, val_main_v51, val_main_cst_14]
  simp only [v50 H, v32 H, ← EReal.coe_mul, coe_sum]
  congr 1
  exact Finset.sum_congr rfl fun s _ => mul_comm _ _

theorem v76 (l : Fin 1024) : val_main_v76 (F := Ideal) x0 x1 x2 x3 x4 x5 x6 (ix2 0 l) = ((∑ s, A.e s l * A.e s l : ℝ) : EReal) := by
  pointwise [val_main_v76, val_main_v75, val_main_v19, val_main_cst_18]
  simp only [v18 H, ← EReal.coe_mul, coe_sum]

theorem v71 (j : Fin 4) (f : Fin 704) : val_main_v71 (F := Ideal) x0 x4 (ix3 j s f) = (lin (A.z s) A.wg (sh j f) : EReal) := by
  rw [← v0 H]
  pointwise [val_main_v71, val_main_v70]
  rfl

theorem v73 (j : Fin 4) (f : Fin 704) : val_main_v73 (F := Ideal) x0 x5 (ix3 j s f) = (lin (A.z s) A.wu (sh j f) : EReal) := by
  rw [← v1 H]
  pointwise [val_main_v73, val_main_v72]
  rfl

/-- The factor the derivative of the reciprocal root brings. -/
theorem v30 : val_main_v30 (F := Ideal) x0 x4 x5 x6 (ix2 s 0) = ((-(1 / 2) * (rinv (A.y s) / ms A s) : ℝ) : EReal) := by
  pointwise [val_main_v30, val_main_v29, val_main_v28, val_main_cst_5]
  rw [v27 H, v26 H, cnhalf, div_coe' _ _ (ms_pos' s).ne', ← EReal.coe_mul]

theorem v55 (l : Fin 1024) : val_main_v55 (F := Ideal) x0 x1 x2 x3 x4 x5 x6 (ix2 s l) = ((A.dres s l * A.w l : ℝ) : EReal) := by
  pointwise [val_main_v55, val_main_v54]
  rw [v50 H, H.w, ← EReal.coe_mul]

theorem v63 : val_main_v63 (F := Ideal) x0 x1 x2 x3 x4 x5 x6 (ix2 s 0)
    = (((∑ k, A.y s k * (A.dres s k * A.w k)) * (-(1 / 2) * (rinv (A.y s) / ms A s)) / 1024 : ℝ) : EReal) := by
  pointwise [val_main_v63, val_main_v62, val_main_v61, val_main_v58, val_main_v57, val_main_v56, val_main_cst_15, val_main_cst_16]
  simp only [v55 H, v4 H, v30 H, c1024, ← EReal.coe_mul, coe_sum, div_coe' _ _ (show (1024 : ℝ) ≠ 0 by norm_num)]

theorem v65 (l : Fin 1024) : val_main_v65 (F := Ideal) x0 x1 x2 x3 x4 x5 x6 (ix2 s l)
    = (((∑ k, A.y s k * (A.dres s k * A.w k)) * (-(1 / 2) * (rinv (A.y s) / ms A s)) / 1024 : ℝ) : EReal) := by
  rw [← v63 H]
  pointwise [val_main_v65, val_main_v64, val_main_cst_17]
  exact Fin.sum_univ_one _

theorem v74 (l : Fin 1024) : val_main_v74 (F := Ideal) x0 x1 x2 x3 x4 x5 x6 (ix2 s l) = (A.dout s l : EReal) := by
  pointwise [val_main_v74, val_main_v69, val_main_v68, val_main_v67, val_main_v66, val_main_v60, val_main_v59]
  rw [v55 H, v27 H, v4 H, v65 H]
  simp only [← EReal.coe_mul, ← EReal.coe_add]
  congr 1
  have hr : rinv (A.y s) * rinv (A.y s) = 1 / ms A s := by
    show (Real.sqrt (ms A s))⁻¹ * (Real.sqrt (ms A s))⁻¹ = _
    rw [← mul_inv, Real.mul_self_sqrt (ms_pos' s).le, one_div]
  have hs : ∑ k, A.dres s k * A.w k * (A.y s k * rinv (A.y s)) = (∑ k, A.y s k * (A.dres s k * A.w k)) * rinv (A.y s) := by
    rw [Finset.sum_mul]; exact Finset.sum_congr rfl fun k _ => by ring
  show _ = rinv (A.y s) * (A.dres s l * A.w l - A.y s l * rinv (A.y s) * ((∑ k, A.dres s k * A.w k * (A.y s k * rinv (A.y s))) / 1024))
  rw [hs, div_eq_mul_one_div (rinv (A.y s)) (ms A s), ← hr]
  ring

end RVal

end
-- ==== Proof.Assemble.lean ====
/- The kernel and the reference agree on arguments that are real numbers. -/
module

public import proofs.«01_k».proof.Defs
public import proofs.«01_k».proof.Proof.Final
public import proofs.«01_k».proof.Proof.RVal
public import proofs.«01_k».proof.Proof.Gen.Pre_finite

@[expose] public section

noncomputable section

open Idealize.ShloMosaic Idealize.ShloMosaic.TcCoe Idealize.SL.Sem

namespace Assemble

open Base Spec

section pre
open Cert.Pre_finite

variable {x0 x1 x2 : FVec Ideal S4096x1024 .f32} {x3 : FVec Ideal S1x1024 .f32} {x4 x5 : FVec Ideal S1024x2816 .f32}
  {x6 : FVec Ideal S2816x1024 .f32}

/-- The real numbers in the argument arrays. -/
def argsOf (x0 x1 x2 : FVec Ideal S4096x1024 .f32) (x3 : FVec Ideal S1x1024 .f32) (x4 x5 : FVec Ideal S1024x2816 .f32)
    (x6 : FVec Ideal S2816x1024 .f32) : Args where
  z s k := (x0 (ix2 s k)).toReal
  h s k := (x1 (ix2 s k)).toReal
  t s k := (x2 (ix2 s k)).toReal
  w k := (x3 (ix2 0 k)).toReal
  wg k f := (x4 (ix2 k f)).toReal
  wu k f := (x5 (ix2 k f)).toReal
  wd f k := (x6 (ix2 f k)).toReal

theorem holds_of_pre [Facts] (h : fn (F := Ideal) x0 x1 x2 x3 x4 x5 x6 = fun _ => 1#1) :
    RVal.Holds x0 x1 x2 x3 x4 x5 x6 (argsOf x0 x1 x2 x3 x4 x5 x6) := by
  have e := congrFun h ix0
  unfold fn fn_part1 at e
  dsimp only at e
  obtain ⟨e, e6⟩ := andi_split e
  obtain ⟨e, e5⟩ := andi_split e
  obtain ⟨e, e4⟩ := andi_split e
  obtain ⟨e, e3⟩ := andi_split e
  obtain ⟨e, e2⟩ := andi_split e
  obtain ⟨e0, e1⟩ := andi_split e
  exact ⟨fun s k => real_of_all _ _ _ _ _ _ e0 _, fun s k => real_of_all _ _ _ _ _ _ e1 _, fun s k => real_of_all _ _ _ _ _ _ e2 _,
    fun k => real_of_all _ _ _ _ _ _ e3 _, fun k f => real_of_all _ _ _ _ _ _ e4 _, fun k f => real_of_all _ _ _ _ _ _ e5 _,
    fun f k => real_of_all _ _ _ _ _ _ e6 _⟩

end pre

open Cert

set_option maxHeartbeats 2000000 in
theorem algebraic : @algebraic_KernelIdeal_ReferenceIdeal_pre_finite KernelIdeal.Gen.facts ReferenceIdeal.Gen.facts Pre_finite.Gen.facts := by
  intro m g m' g' hpre hargs
  have hR : ∀ c, _ := fun c => holds_of_pre (hpre c)
  have hK : ∀ c, Outs.Holds m c _ := fun c => ⟨(hR c).z, (hR c).h, (hR c).t, (hR c).w, (hR c).wg, (hR c).wu, (hR c).wd⟩
  refine ⟨_, _, _, _, _, _, (θ_run _ _ _).mono (fun r h => h) (KernelIdeal.Value.run_blocks (F := Ideal) m g),
    (θ_run _ _ _).mono (fun r h c => ?_) (ReferenceIdeal.Value.run (F := Ideal) m' g')⟩
  obtain ⟨a0, a1, a2, a3, a4, a5, a6⟩ := hargs c
  obtain ⟨r0, r1, r2, r3, r4, r5, k0, k1, k2, k3, k4, k5, k6⟩ := h c
  refine ⟨r0.trans ?_, r1.trans ?_, r2.trans ?_, r3.trans ?_, r4.trans ?_, r5.trans ?_, k0, k1, k2, k3, k4, k5, k6⟩
  · rw [ReferenceIdeal.Read.val_main_v71_eq, a0, a4]
    funext i
    rw [eq_ix3 i]
    exact (RVal.v71 (hR c) _ _ _).trans (Outs.final7 (hK c) _ _ _).symm
  · rw [ReferenceIdeal.Read.val_main_v73_eq, a0, a5]
    funext i
    rw [eq_ix3 i]
    exact (RVal.v73 (hR c) _ _ _).trans (Outs.final8 (hK c) _ _ _).symm
  · rw [ReferenceIdeal.Read.val_main_v74_eq, a0, a1, a2, a3, a4, a5, a6]
    funext i
    rw [eq_ix2 i]
    exact (RVal.v74 (hR c) _ _).trans (Outs.final9 (hK c) _ _).symm
  · rw [ReferenceIdeal.Read.val_main_v50_eq, a0, a1, a2, a3, a4, a5, a6]
    funext i
    rw [eq_ix2 i]
    exact (RVal.v50 (hR c) _ _).trans (Outs.final10 (hK c) _ _).symm
  · rw [ReferenceIdeal.Read.val_main_v76_eq, a0, a1, a2, a3, a4, a5, a6]
    funext i
    obtain ⟨x, l, rfl⟩ : ∃ (x : Fin 1) (l : Fin 1024), i = ix2 x l := ⟨i 0, i 1, eq_ix2 i⟩
    obtain rfl : x = 0 := Subsingleton.elim _ _
    have hr := RVal.v76 (hR c) l
    have hk := Outs.final11 (hK c) l
    rw [hr]
    exact hk.symm
  · have e : ∀ i : KernelIdeal.S1x1024.Idx, (ReferenceIdeal.Read.val_main_v53 (F := Ideal) _ _ _ _ _ _ _ : KernelIdeal.S1x1024.Idx → EReal) i
        = ((KernelIdeal.Gen.dats m 0 c).arrAt 12 KernelIdeal.cfg0.N : KernelIdeal.S1x1024.Idx → EReal) i := fun i => by
      obtain ⟨x, l, rfl⟩ : ∃ (x : Fin 1) (l : Fin 1024), i = ix2 x l := ⟨i 0, i 1, eq_ix2 i⟩
      obtain rfl : x = 0 := Subsingleton.elim _ _
      exact (RVal.v53 (hR c) l).trans (Outs.final12 (hK c) l).symm
    rw [ReferenceIdeal.Read.val_main_v53_eq, a0, a1, a2, a3, a4, a5, a6]
    exact funext e

end Assemble

end
-- ==== Proof.AttnRun.lean ====
module

public import proofs.«01_k».proof.Proof.Gen.AttnIdeal.Launch
public import proofs.«01_k».proof.Proof.Gen.AttnIdeal.Points
public import proofs.«01_k».proof.Proof.Gen.AttnIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option pp.maxSteps 60

noncomputable section

namespace Cert.AttnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

/-- The question of the body's branch: is this the first key block of the head group? -/
abbrev first (i : grid0.Coords) : Prop :=
  (Scalar.cmpi .ne (Scalar.extui (Scalar.cmpi .eq (BitVec.ofNat 32 (i 1).val) 0#32)) 0#32) = 1#1

/-- It is answered yes at the points divisible by 8. -/
theorem first_iff : ∀ t : Fin cfg0.N, first (grid0.coords t) ↔ t.val % 8 = 0 :=
  (fun t => by
    have ht : t.val < 16 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

/-- A query-gradient block stored whole holds what was stored, whatever it held before. -/
theorem whole_rebase (M : Memref sig .tc .vmem S512x4096 .f32) (hM : M.IsWhole) (f : BufTy.Contents (Elt F) M.view.ty) (v : Vec F S512x4096 .f32) :
    M.view.writes (Elt F) f [⟨Rect.unit (s := S512x4096) ![0, 0] S512x4096.size inb_S512x4096_S512x4096_0_0, v⟩]
      = M.view.writes (Elt F) M.view.junk [⟨Rect.unit (s := S512x4096) ![0, 0] S512x4096.size inb_S512x4096_S512x4096_0_0, v⟩] :=
  Memref.writes_eq_junk_of_covChk (m := M) hM f _ (.leaf 0)
    (by show LoadRect.covChk [Rect.unit (s := S512x4096) ![0, 0] S512x4096.size inb_S512x4096_S512x4096_0_0] (LoadRect.whole _) (.leaf 0) = true; decide +kernel)

/-- The first part of the body: from the query-gradient block in state `P9` it leaves it at `G9`, and stores three
    of the four value blocks. -/
abbrev First (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x3 : Vec F S512x256 .bf16) (P9 : sProp 𝕄) (G9 : BufTy.Contents (Elt F) arg9.view.ty) : Prop :=
  ∀ (E : Set ℕ) (f12 : BufTy.Contents (Elt F) arg12.view.ty) (K : _ → sProp 𝕄),
    iprop((arg5.view.loc (c : Thread nD τ) ↦[arg5.view.set]{fullShare} harg5.unread x3) ∗ P9 ∗ (arg12.view.loc (c : Thread nD τ) ↦[arg12.view.set]{fullShare} f12)
      ∗ (iprop((arg5.view.loc (c : Thread nD τ) ↦[arg5.view.set]{fullShare} harg5.unread x3) ∗ (arg9.view.loc (c : Thread nD τ) ↦[arg9.view.set]{fullShare} G9) ∗ (arg12.view.loc (c : Thread nD τ) ↦[arg12.view.set]{fullShare} arg12.view.writes (Elt F) f12
        [⟨Rect.unit (s := S4x512x128) ![2, 0, 0] S1x512x128.size inb_S4x512x128_S1x512x128_2_0_0, k0_pay71 (View.readAt (Elt F) arg5.view (Rect.unit (s := S512x256) ![0, 128] S512x128.size inb_S512x256_S512x128_0_128).toLoadRect (harg5.unread x3))⟩, ⟨Rect.unit (s := S4x512x128) ![1, 0, 0] S1x512x128.size inb_S4x512x128_S1x512x128_1_0_0, k0_pay69 (View.readAt (Elt F) arg5.view (Rect.unit (s := S512x256) ![0, 0] S512x128.size inb_S512x256_S512x128_0_0).toLoadRect (harg5.unread x3))⟩, ⟨Rect.unit (s := S4x512x128) ![0, 0, 0] S1x512x128.size inb_S4x512x128_S1x512x128_0_0_0, k0_pay68 (View.readAt (Elt F) arg5.view (Rect.unit (s := S512x256) ![0, 0] S512x128.size inb_S512x256_S512x128_0_0).toLoadRect (harg5.unread x3))⟩])) -∗ K ⟨BitVec.ofNat 32 (i 1).val, iota .tc S512x128 32 [1] iota_S512x128_d1_w32, k0_pay70 (View.readAt (Elt F) arg5.view (Rect.unit (s := S512x256) ![0, 128] S512x128.size inb_S512x256_S512x128_0_128).toLoadRect (harg5.unread x3)), k0_pay72, Scalar.ofBits .bf16 0x0000#16⟩))
    ⊢ wp frame (wpE (defs₀ (F := F)) Variants.none c none) E (k0_part13 i arg2 harg2 arg3 harg3 arg4 harg4 arg5 harg5 arg6 harg6 arg7 harg7 arg8 harg8 arg9 harg9 arg10 harg10 arg11 harg11 arg12 harg12 arg13 harg13) K

/-- The first part at the first key block of a head group. -/
def first_A (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x3 : Vec F S512x256 .bf16) (hc0 : first i) :
    { G9 : BufTy.Contents (Elt F) arg9.view.ty //
      First c i arg2 harg2 arg3 harg3 arg4 harg4 arg5 harg5 arg6 harg6 arg7 harg7 arg8 harg8 arg9 harg9 arg10 harg10 arg11 harg11 arg12 harg12 arg13 harg13 x3 iprop(∃ f, arg9.view.loc (c : Thread nD τ) ↦[arg9.view.set]{fullShare} f) G9 } := by
  refine ⟨?_, fun E f12 K => ?run⟩
  case run =>
    simp only [k0_part13_eq_skeleton]; unfold k0_part13_skel
    iintro ⟨H3, ⟨%f7, H7⟩, HS0, Hk⟩
    sl_exec (disch := first | sl_exact hc0)
    sl_step
    simp only [whole_rebase arg9 harg9 f7]
    sl_unfold_words
    iapply Hk
    isplitl [H3]; · iexact H3
    isplitl [H7]; · iexact H7
    iexact HS0

/-- The first part at the other key blocks. -/
theorem first_B (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x3 : Vec F S512x256 .bf16) (G9 : BufTy.Contents (Elt F) arg9.view.ty) (hc0 : ¬ first i) :
      First c i arg2 harg2 arg3 harg3 arg4 harg4 arg5 harg5 arg6 harg6 arg7 harg7 arg8 harg8 arg9 harg9 arg10 harg10 arg11 harg11 arg12 harg12 arg13 harg13 x3 iprop(arg9.view.loc (c : Thread nD τ) ↦[arg9.view.set]{fullShare} G9) G9 := by
    intro E f12 K
    simp only [k0_part13_eq_skeleton]; unfold k0_part13_skel
    iintro ⟨H3, H7, HS0, Hk⟩
    sl_exec (disch := first | sl_exact hc0)
    sl_step
    sl_unfold_words
    iapply Hk
    isplitl [H3]; · iexact H3
    isplitl [H7]; · iexact H7
    iexact HS0

set_option maxHeartbeats 8000000 in
/-- The body on whole staging memrefs, from the state its first part leaves the query-gradient block in. -/
def run (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole)
    (x0 : Vec F S4096x512 .bf16) (x1 : Vec F S512x512 .bf16) (x2 : Vec F S512x512 .bf16) (x3 : Vec F S512x256 .bf16) (x4 : Vec F S4096x256 .bf16) (x5 : Vec F S2x2x4096 .f32) (x6 : Vec F S2x2x4096 .f32) (P9 : sProp 𝕄) (G9 : BufTy.Contents (Elt F) arg9.view.ty) (h13 : First c i arg2 harg2 arg3 harg3 arg4 harg4 arg5 harg5 arg6 harg6 arg7 harg7 arg8 harg8 arg9 harg9 arg10 harg10 arg11 harg11 arg12 harg12 arg13 harg13 x3 P9 G9) :
    Σ' (C9 : BufTy.Contents (Elt F) arg9.view.ty) (C10 : BufTy.Contents (Elt F) arg10.view.ty),
      { L11 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ P9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} C9) ∗ (arg10.view.loc (c : Thread nD τ) ↦[arg10.view.set]{fullShare} C10) ∗ (∃ f, arg11.view.loc (c : Thread nD τ) ↦[arg11.view.set]{fullShare} arg11.view.writes (Elt F) f L11) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    rw [wp_bind]
    iapply h13 E fs0
    isplitl [H3]; · iexact H3
    isplitl [H7]; · iexact H7
    isplitl [HS0]; · iexact HS0
    iintro ⟨H3, H7, HS0⟩
    simp only [k0_part14_eq_skeleton, k0_part15_eq_skeleton, k0_part16_eq_skeleton, k0_part17_eq_skeleton, k0_part18_eq_skeleton, k0_part19_eq_skeleton, k0_part20_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexists _; iexact H9
    isplitl [HS0]
    · iexists _, _; isplitr; swap; · iexact HS0
      ipureintro; rfl
    iexists _, _; isplitr; swap; · iexact HS1
    ipureintro; rfl

end Cert.AttnK

end
-- ==== Proof.AttnFrame.lean ====
module

public import proofs.«01_k».proof.Proof.AttnRun
public import Idealize.ShloMosaic.Lib.Claim

@[expose] public section

set_option maxRecDepth 16384

noncomputable section

namespace Cert.AttnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host lines before the kernel call. -/
abbrev hostLists : List (List (HloOp τ sig (Elt F))) := [hostOps0, hostOps0_1, hostOps0_2, hostOps0_3, hostOps0_4, hostOps0_5, hostOps0_6]

/-- Core `c`'s buffers when the kernel call is entered: after the host lines. -/
abbrev V (c : Dev nD) (b : Ref sig .tc) : Buf (Elt F) ((c : Thread nD τ).loc b) := StableHlo.after (hostLists (F := F)).flatten (fun b => m (c, b)) b

theorem hostLists_fresh : (hostLists : List (List (HloOp τ sig (Elt F)))).Forall fun ops => ops.Forall fun op => op.fresh = ∅ := by
  simp only [List.Forall]; repeat' constructor

theorem hostLists_sub : (hostLists : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

/-- The program is the host lines and then the kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLists hostLists_sub hostLists_fresh main_chain

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x2x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x2x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev scM0_0 : Memref sig .tc .vmem S4x512x128 .bf16 := Memref.whole cc0_scratch0
abbrev scM0_1 : Memref sig .tc .vmem S4x512x128 .f32 := Memref.whole cc0_scratch1

/-- The scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a point leaves -/

/-- The state of the query-gradient block when a point's body starts: anything at the first key block, what the
    point before left at the others. -/
def pre9 (c : Dev nD) (t : Fin cfg0.N) (prev : Vec F S512x4096 .f32) : sProp 𝕄 :=
  if first (grid0.coords t) then iprop(∃ f, (ms0_7 t).view.loc (c : Thread nD τ) ↦[(ms0_7 t).view.set]{fullShare} f)
  else iprop((ms0_7 t).view.loc (c : Thread nD τ) ↦[(ms0_7 t).view.set]{fullShare} (hs0_7 t).unread prev)

/-- and what its first part makes of it. -/
def mid9 (c : Dev nD) (t : Fin cfg0.N) (prev : Vec F S512x4096 .f32) : BufTy.Contents (Elt F) (ms0_7 t).view.ty :=
  if h : first (grid0.coords t) then (first_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 3 t) h).1 else (hs0_7 t).unread prev

theorem first_at (c : Dev nD) (t : Fin cfg0.N) (prev : Vec F S512x4096 .f32) :
    First c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 3 t) (pre9 c t prev) (mid9 m c t prev) := by
  unfold pre9 mid9
  by_cases h : first (grid0.coords t)
  · rw [if_pos h, dif_pos h]; exact (first_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 3 t) h).2
  · rw [if_neg h, dif_neg h]; exact first_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 3 t) _ h

/-- The body's run at point `t`. -/
abbrev runAt (c : Dev nD) (t : Fin cfg0.N) (prev : Vec F S512x4096 .f32) :=
  run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (pre9 c t prev) (mid9 m c t prev) (first_at m c t prev)

/-- What point `t` leaves in the query-gradient block when the block held `prev`. -/
def left9 (c : Dev nD) (t : Fin cfg0.N) (prev : Vec F S512x4096 .f32) : Vec F S512x4096 .f32 :=
  (ms0_7 t).view.read (Elt F) (runAt m c t prev).1
/-- What it leaves in the key-gradient block. -/
def left10 (c : Dev nD) (t : Fin cfg0.N) (prev : Vec F S512x4096 .f32) : Vec F S512x512 .f32 :=
  (ms0_8 t).view.read (Elt F) (runAt m c t prev).2.1
/-- What it leaves in the value-gradient block. -/
def left11 (c : Dev nD) (t : Fin cfg0.N) (prev : Vec F S512x4096 .f32) : Vec F S512x256 .f32 :=
  (ms0_9 t).view.read (Elt F) ((ms0_9 t).view.writes (Elt F) (ms0_9 t).view.junk (runAt m c t prev).2.2.1)

theorem cover11 (c : Dev nD) (t : Fin cfg0.N) (prev : Vec F S512x4096 .f32) (y : S512x256.Idx) :
    ∃ pc ∈ (runAt m c t prev).2.2.1, y ∈ pc.1.set :=
  View.cover_of_tiledL (runAt m c t prev).2.2.1 S512x128.size (by sl_kernel_rfl) y

/-- The query-gradient block after the body at position `n`. -/
def acc (c : Dev nD) : (n : ℕ) → n < cfg0.N → Vec F S512x4096 .f32
  | 0, h => left9 m c ⟨0, h⟩ (fun _ => FloatOps.ofBits .f32 0)
  | n + 1, h => left9 m c ⟨n + 1, h⟩ (acc c n (Nat.lt_of_succ_lt h))

/-- What the block holds when the body at point `t` starts (at a first key block nothing depends on it). -/
def prevAt (c : Dev nD) (t : Fin cfg0.N) : Vec F S512x4096 .f32 :=
  if h : t.val = 0 then (fun _ => FloatOps.ofBits .f32 0) else acc m c (t.val - 1) (by omega)

theorem acc_eq (c : Dev nD) (t : Fin cfg0.N) : acc m c t.val t.isLt = left9 m c t (prevAt m c t) := by
  obtain ⟨n, hn⟩ := t
  cases n with
  | zero => rfl
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc m c t.val t.isLt
    | ⟨8, _⟩ => left10 m c t (prevAt m c t)
    | ⟨9, _⟩ => left11 m c t (prevAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = acc m c t.val t.isLt := by dsimp only [dats]
theorem after0_8 (c : Dev nD) (t : Fin cfg0.N) : (dats m 0 c).after 8 t = left10 m c t (prevAt m c t) := by dsimp only [dats]
theorem after0_9 (c : Dev nD) (t : Fin cfg0.N) : (dats m 0 c).after 9 t = left11 m c t (prevAt m c t) := by dsimp only [dats]

/-! Each input's staging buffer holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- At a point that is not a first key block the query-gradient block holds what the point before left. -/
theorem before0_7_B (c : Dev nD) (t : Fin cfg0.N) (h0 : ¬t.val % 8 = 0) (d) :
    (dats m 0 c).before 7 t d = prevAt m c t := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  unfold prevAt; rw [dif_neg (by omega)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t))

/-- The block as the pipeline hands it over is in the state the run wants. -/
theorem pre9_of (c : Dev nD) (t : Fin cfg0.N) :
    iprop((∃ d, owns (c : Thread nD τ) (ms0_7 t) fullShare ((dats m 0 c).before 7 t d))) ⊢ (pre9 c t (prevAt m c t) : sProp 𝕄) := by
  unfold pre9
  by_cases h : first (grid0.coords t)
  · rw [if_pos h]; unfold owns
    iintro ⟨%d, %f, -, H⟩; iexists _; iexact H
  · rw [if_neg h]
    simp only [before0_7_B m c t (fun e => h ((first_iff t).mpr e))]; unfold owns
    iintro ⟨%d, %f, %hf, H⟩
    obtain rfl := (hs0_7 t).eq_unread hf
    iexact H

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, acc_eq,
    show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩
  iapply ((runAt m c t (prevAt m c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pre9_of m c t); iexact H7
  isplitl [H8]; · iexists _; iexact H8
  isplitl [H9]; · iexists _; iexact H9
  isplitl [HS0]; · iexact HS0
  isplitl [HS1]; · iexact HS1
  iintro ⟨H0, H1, H2, H3, H4, H5, H6, H7, H8, ⟨%e9, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  isplitl [H8]
  · unfold owns; iexists _; isplitr
    swap; · iexact H8
    ipureintro; rfl
  unfold owns; iexists _; isplitr
  swap; · iexact H9
  ipureintro; exact View.read_writes_of_cover _ _ _ _ _ (cover11 m c t _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end at what the pipeline computes from the proof data, the counters at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- No host line writes an argument. -/
theorem V_arg (c : Dev nD) (b : Ref sig .tc) (hb : b ∈ [main_arg0, main_arg1, main_arg2, main_arg3, main_arg4, main_arg5]) :
    V m c b = m ((c : Thread nD τ).loc b) := by
  simp only [List.mem_cons, List.not_mem_nil, or_false] at hb
  rcases hb with rfl | rfl | rfl | rfl | rfl | rfl <;>
  (refine StableHlo.after_of_forall_not_mem _ _ (List.forall_iff_forall_mem.mp ?_)
   simp only [hostLists, hostOps0, hostOps0_1, hostOps0_2, hostOps0_3, hostOps0_4, hostOps0_5, hostOps0_6, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_arg m c main_arg0 (by simp)),
      ((h.1 c).2 main_arg1 (Pipeline.mem_restRefs_of main_arg1 (by decide) (by decide))).trans (V_arg m c main_arg1 (by simp)),
      ((h.1 c).2 main_arg2 (Pipeline.mem_restRefs_of main_arg2 (by decide) (by decide))).trans (V_arg m c main_arg2 (by simp)),
      ((h.1 c).2 main_arg3 (Pipeline.mem_restRefs_of main_arg3 (by decide) (by decide))).trans (V_arg m c main_arg3 (by simp)),
      ((h.1 c).2 main_arg4 (Pipeline.mem_restRefs_of main_arg4 (by decide) (by decide))).trans (V_arg m c main_arg4 (by simp)),
      ((h.1 c).2 main_arg5 (Pipeline.mem_restRefs_of main_arg5 (by decide) (by decide))).trans (V_arg m c main_arg5 (by simp))⟩, h.2⟩) (run_main m ρ)

end Cert.AttnK

end
-- ==== Proof.AttnPlain.lean ====
module

public import proofs.«01_k».proof.Defs
public import proofs.«01_k».proof.Proof.Gen.Attn
public import proofs.«01_k».proof.Proof.AttnFrame

@[expose] public section

set_option maxRecDepth 65536

noncomputable section

namespace Cert.AttnK

open Idealize.ShloMosaic Idealize.ShloMosaic.TcCoe Idealize.ShloMosaic.Tactic Idealize.SL.Sem

/-- Every named value at its bits: the named program is then the plain one, letter by letter. -/
@[reducible] def plain {F : FTy → Type} [FloatOps F] : Named F where
  named _ _ {φ} bits := FloatOps.ofBits φ bits

section
open Cert.AttnIdeal Cert.AttnIdeal.Gen
attribute [local instance] plain
/-- The frame of the named program with every named value at its bits. -/
def FrameNamed : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_named : FrameNamed := fun m ρ _ => frame m ρ
end

/-- It is the frame of the plain program. -/
theorem named_eq_plain : FrameNamed = quiescent_Attn (hAttn := Cert.Attn.Gen.facts) := by sl_kernel_rfl

theorem frame_plain : quiescent_Attn (hAttn := Cert.Attn.Gen.facts) := named_eq_plain.mp frame_named

end Cert.AttnK

end
-- ==== Proof.AttnPay.lean ====
/- What one step of the attention gradient computes for one head, when the blocks it reads hold real numbers. -/
module

public import proofs.«01_k».proof.Proof.AttnFrame
public import proofs.«01_k».proof.Proof.Base

@[expose] public section

noncomputable section

open Idealize.ShloMosaic Idealize.ShloMosaic.TcCoe

namespace Cert.AttnV

open Cert.AttnIdeal Cert.AttnIdeal.Gen Base

/-- The blocks a grid point reads, as real numbers: queries, keys, transposed keys, the values of each head padded to a
    pair's width, output gradients, and the two row statistics. -/
structure Blk where
  q : Fin 4096 → Fin 512 → ℝ
  k : Fin 512 → Fin 512 → ℝ
  kt : Fin 512 → Fin 512 → ℝ
  va : Fin 4 → Fin 512 → Fin 128 → ℝ
  g : Fin 4096 → Fin 256 → ℝ
  l : Fin 2 → Fin 2 → Fin 4096 → ℝ
  d : Fin 2 → Fin 2 → Fin 4096 → ℝ

/-- Column `d` of head `a`. -/
def hc (a : Fin 4) (d : Fin 128) : Fin 512 := ⟨128 * a.val + d.val, by omega⟩
/-- Column `l` of the pair of heads holding head `a`. -/
def pc (a : Fin 4) (l : Fin 128) : Fin 256 := ⟨128 * (a.val / 2) + l.val, by omega⟩
def hp (a : Fin 4) : Fin 2 := ⟨a.val / 2, by omega⟩
def hr (a : Fin 4) : Fin 2 := ⟨a.val % 2, by omega⟩
/-- Row `x` of the query block that starts at row `o`. -/
def ro (o : ℕ) (ho : o + 512 ≤ 4096) (x : Fin 512) : Fin 4096 := ⟨o + x.val, by omega⟩

namespace Blk
variable (B : Blk) (a : Fin 4)

def s (k : Fin 512) (r : Fin 4096) : ℝ := ∑ d, B.k k (hc a d) * B.q r (hc a d)
/-- The softmax weight of key `k` for query `r`. -/
def p (k : Fin 512) (r : Fin 4096) : ℝ := (2 : ℝ) ^ (B.s a k r - B.l (hp a) (hr a) r)
def dp (k : Fin 512) (r : Fin 4096) : ℝ := ∑ l, B.va a k l * B.g r (pc a l)
def ds (w : Fin 512 → Fin 4096 → ℝ) (k : Fin 512) (r : Fin 4096) : ℝ := w k r * (B.dp a k r - B.d (hp a) (hr a) r)

end Blk

section vectors

variable (x2 : Vec Ideal S4096x512 .bf16) (x3 x4 : Vec Ideal S512x512 .bf16) (x6 : Vec Ideal S4096x256 .bf16)
  (x7 x8 : Vec Ideal S2x2x4096 .f32) (x12 : Vec Ideal S4x512x128 .bf16) (a : Fin 4)

/-- The keys, transposed keys and padded values of head `a`. -/
def kv : Vec Ideal S512x128 .bf16 := View.ld x3 (Rect.unit (s := S512x512) ![0, 128 * a.val] S512x128.size
  (fun x => by fin_cases x; exacts [(by show 0 + 512 ≤ 512; omega), (by show 128 * a.val + 128 ≤ 512; omega)]))
def ktv : Vec Ideal S128x512 .bf16 := View.ld x4 (Rect.unit (s := S512x512) ![128 * a.val, 0] S128x512.size
  (fun x => by fin_cases x; exacts [(by show 128 * a.val + 128 ≤ 512; omega), (by show 0 + 512 ≤ 512; omega)]))
def vav : Vec Ideal S1x512x128 .bf16 := View.ld x12 (Rect.unit (s := S4x512x128) ![a.val, 0, 0] S1x512x128.size
  (fun x => by fin_cases x; exacts [(by show a.val + 1 ≤ 4; omega), (by show 0 + 512 ≤ 512; omega), (by show 0 + 128 ≤ 128; omega)]))

variable (o : ℕ) (ho : o + 512 ≤ 4096)

/-- The queries of head `a` in the block. -/
def qv : Vec Ideal S512x128 .bf16 := View.ld x2 (Rect.unit (s := S4096x512) ![o, 128 * a.val] S512x128.size
  (fun x => by fin_cases x; exacts [ho, (by show 128 * a.val + 128 ≤ 512; omega)]))
/-- The output gradients of the pair holding head `a`. -/
def gv : Vec Ideal S512x128 .bf16 := View.ld x6 (Rect.unit (s := S4096x256) ![o, 128 * (a.val / 2)] S512x128.size
  (fun x => by fin_cases x; exacts [ho, (by show 128 * (a.val / 2) + 128 ≤ 256; omega)]))
/-- A row statistic of head `a`. -/
def stv (x : Vec Ideal S2x2x4096 .f32) : Vec Ideal S1x1x512 .f32 := View.ld x (Rect.unit (s := S2x2x4096) ![a.val / 2, a.val % 2, o] S1x1x512.size
  (fun x => by fin_cases x; exacts [(by show a.val / 2 + 1 ≤ 2; omega), (by show a.val % 2 + 1 ≤ 2; omega), ho]))
/-- The weights of the block, -/
def pv : FVec Ideal S512x512 .f32 := k0_pay13 (k0_pay4 (kv x3 a) (qv x2 a o ho)) (stv a o ho x7)
/-- the same on the diagonal block, -/
def pmv : FVec Ideal S512x512 .f32 := k0_pay92 (k0_pay4 (kv x3 a) (qv x2 a o ho)) (stv a o ho x7)
/-- and the score gradients for weights `W`. -/
def dsv (W : FVec Ideal S512x512 .f32) : FVec Ideal S512x512 .f32 := k0_pay31 (k0_pay8 (vav x12 a) (gv x6 a o ho)) W (stv a o ho x8)

/-- What the step stores: the value gradients, the key gradients, the query gradients of the head. -/
def nv (W : FVec Ideal S512x512 .f32) (old : Vec Ideal S1x512x128 .f32) : Vec Ideal S1x512x128 .f32 := k0_pay32 W old (gv x6 a o ho)
def nk (D : FVec Ideal S512x512 .f32) (old : Vec Ideal S512x128 .f32) : Vec Ideal S512x128 .f32 := k0_pay28 D old (qv x2 a o ho)
def nq (D : FVec Ideal S512x512 .f32) (old : Vec Ideal S128x512 .f32) : Vec Ideal S128x512 .f32 := k0_pay29 D old (ktv x4 a)

end vectors

/-- The blocks `x2 …` hold the real numbers `B`. -/
structure Reads (B : Blk) (x2 : Vec Ideal S4096x512 .bf16) (x3 x4 : Vec Ideal S512x512 .bf16) (x6 : Vec Ideal S4096x256 .bf16)
    (x7 x8 : Vec Ideal S2x2x4096 .f32) (x12 : Vec Ideal S4x512x128 .bf16) : Prop where
  q : ∀ r x, x2 (ix2 r x) = (B.q r x : EReal)
  k : ∀ r x, x3 (ix2 r x) = (B.k r x : EReal)
  kt : ∀ r x, x4 (ix2 r x) = (B.kt r x : EReal)
  g : ∀ r x, x6 (ix2 r x) = (B.g r x : EReal)
  l : ∀ p h r, x7 (ix3 p h r) = (B.l p h r : EReal)
  d : ∀ p h r, x8 (ix3 p h r) = (B.d p h r : EReal)
  va : ∀ a k l, x12 (ix3 a k l) = (B.va a k l : EReal)

variable {B : Blk} {x2 : Vec Ideal S4096x512 .bf16} {x3 x4 : Vec Ideal S512x512 .bf16} {x6 : Vec Ideal S4096x256 .bf16}
  {x7 x8 : Vec Ideal S2x2x4096 .f32} {x12 : Vec Ideal S4x512x128 .bf16}
  (R : Reads B x2 x3 x4 x6 x7 x8 x12) (o : ℕ) (ho : o + 512 ≤ 4096) (a : Fin 4)
include R

theorem qv_at (q : Fin 512) (d : Fin 128) : qv x2 a o ho (ix2 q d) = (B.q (ro o ho q) (hc a d) : EReal) := by
  rw [← R.q]; unfold qv; change x2 _ = x2 _; congr 1; funext x; apply Fin.ext
  match x with
  | ⟨0, _⟩ => show o + 1 * q.val = o + q.val; omega
  | ⟨1, _⟩ => show 128 * a.val + 1 * d.val = 128 * a.val + d.val; omega

theorem gv_at (q : Fin 512) (l : Fin 128) : gv x6 a o ho (ix2 q l) = (B.g (ro o ho q) (pc a l) : EReal) := by
  rw [← R.g]; unfold gv; change x6 _ = x6 _; congr 1; funext x; apply Fin.ext
  match x with
  | ⟨0, _⟩ => show o + 1 * q.val = o + q.val; omega
  | ⟨1, _⟩ => show 128 * (a.val / 2) + 1 * l.val = 128 * (a.val / 2) + l.val; omega

theorem lv_at (q : Fin 512) : stv a o ho x7 (ix3 0 0 q) = (B.l (hp a) (hr a) (ro o ho q) : EReal) := by
  rw [← R.l]; unfold stv; change x7 _ = x7 _; congr 1; funext x; apply Fin.ext
  match x with
  | ⟨0, _⟩ => show a.val / 2 + 1 * 0 = a.val / 2; omega
  | ⟨1, _⟩ => show a.val % 2 + 1 * 0 = a.val % 2; omega
  | ⟨2, _⟩ => show o + 1 * q.val = o + q.val; omega

theorem dv_at (q : Fin 512) : stv a o ho x8 (ix3 0 0 q) = (B.d (hp a) (hr a) (ro o ho q) : EReal) := by
  rw [← R.d]; unfold stv; change x8 _ = x8 _; congr 1; funext x; apply Fin.ext
  match x with
  | ⟨0, _⟩ => show a.val / 2 + 1 * 0 = a.val / 2; omega
  | ⟨1, _⟩ => show a.val % 2 + 1 * 0 = a.val % 2; omega
  | ⟨2, _⟩ => show o + 1 * q.val = o + q.val; omega

theorem kv_at (k : Fin 512) (d : Fin 128) : kv x3 a (ix2 k d) = (B.k k (hc a d) : EReal) := by
  rw [← R.k]; unfold kv; change x3 _ = x3 _; congr 1; funext x; apply Fin.ext
  match x with
  | ⟨0, _⟩ => show 0 + 1 * k.val = k.val; omega
  | ⟨1, _⟩ => show 128 * a.val + 1 * d.val = 128 * a.val + d.val; omega

theorem ktv_at (d : Fin 128) (k : Fin 512) : ktv x4 a (ix2 d k) = (B.kt (hc a d) k : EReal) := by
  rw [← R.kt]; unfold ktv; change x4 _ = x4 _; congr 1; funext x; apply Fin.ext
  match x with
  | ⟨0, _⟩ => show 128 * a.val + 1 * d.val = 128 * a.val + d.val; omega
  | ⟨1, _⟩ => show 0 + 1 * k.val = k.val; omega

theorem vav_at (k : Fin 512) (l : Fin 128) : vav x12 a (ix3 0 k l) = (B.va a k l : EReal) := by
  rw [← R.va]; unfold vav; change x12 _ = x12 _; congr 1; funext x; apply Fin.ext
  match x with
  | ⟨0, _⟩ => show a.val + 1 * 0 = a.val; omega
  | ⟨1, _⟩ => show 0 + 1 * k.val = k.val; omega
  | ⟨2, _⟩ => show 0 + 1 * l.val = l.val; omega

theorem sv_at (k q : Fin 512) : k0_pay4 (kv x3 a) (qv x2 a o ho) (ix2 k q) = (B.s a k (ro o ho q) : EReal) := by
  pointwise [k0_pay4]
  simp only [kv_at R a, qv_at R o ho a, ← EReal.coe_mul, coe_sum]; simp [Blk.s]

theorem dpv_at (k q : Fin 512) : k0_pay8 (vav x12 a) (gv x6 a o ho) (ix2 k q) = (B.dp a k (ro o ho q) : EReal) := by
  pointwise [k0_pay8]
  simp only [vav_at R a, gv_at R o ho a, ← EReal.coe_mul, coe_sum]; simp [Blk.dp]

theorem pv_at (k q : Fin 512) : pv x2 x3 x7 a o ho (ix2 k q) = (B.p a k (ro o ho q) : EReal) := by
  unfold pv; pointwise [k0_pay13]
  rw [sv_at R, lv_at R o ho a, ← EReal.coe_sub]; rfl

theorem pmv_at (k q : Fin 512) : pmv x2 x3 x7 a o ho (ix2 k q) = ((if k ≤ q then B.p a k (ro o ho q) else 0 : ℝ) : EReal) := by
  unfold pmv; pointwise [k0_pay92]
  rw [sv_at R, lv_at R o ho a, ← EReal.coe_sub, WordCmp.cmpi_sle_ofNat (by have := k.isLt; omega) (by have := q.isLt; omega), WordCmp.select_ofBool]
  by_cases h : k ≤ q
  · simp only [decide_eq_true (show k.val ≤ q.val from h), if_pos h]; rfl
  · simp only [decide_eq_false (show ¬ k.val ≤ q.val from h), if_neg h]; rfl

theorem dsv_at (W : FVec Ideal S512x512 .f32) (w : Fin 512 → Fin 4096 → ℝ) (hW : ∀ k q, W (ix2 k q) = (w k (ro o ho q) : EReal)) (k q : Fin 512) :
    dsv x6 x8 x12 a o ho W (ix2 k q) = (B.ds a w k (ro o ho q) : EReal) := by
  unfold dsv; pointwise [k0_pay31]
  rw [dpv_at R, dv_at R o ho a, hW, ← EReal.coe_sub, ← EReal.coe_mul]; rfl

theorem nv_at (W : FVec Ideal S512x512 .f32) (w : Fin 512 → Fin 4096 → ℝ) (hW : ∀ k q, W (ix2 k q) = (w k (ro o ho q) : EReal))
    (old : Vec Ideal S1x512x128 .f32) (f : ℝ) (k : Fin 512) (l : Fin 128) (hf : old (ix3 0 k l) = (f : EReal)) :
    nv x6 a o ho W old (ix3 0 k l) = ((f + ∑ q, w k (ro o ho q) * B.g (ro o ho q) (pc a l) : ℝ) : EReal) := by
  unfold nv; pointwise [k0_pay32]
  simp only [hf, hW, gv_at R o ho a, ← EReal.coe_mul, coe_sum]; simp [EReal.coe_add]

theorem nk_at (D : FVec Ideal S512x512 .f32) (w : Fin 512 → Fin 4096 → ℝ) (hW : ∀ k q, D (ix2 k q) = (w k (ro o ho q) : EReal))
    (old : Vec Ideal S512x128 .f32) (f : ℝ) (k : Fin 512) (d : Fin 128) (hf : old (ix2 k d) = (f : EReal)) :
    nk x2 a o ho D old (ix2 k d) = ((f + ∑ q, w k (ro o ho q) * B.q (ro o ho q) (hc a d) : ℝ) : EReal) := by
  unfold nk; pointwise [k0_pay28]
  simp only [hf, hW, qv_at R o ho a, ← EReal.coe_mul, coe_sum]; simp [EReal.coe_add]

theorem nq_at (D : FVec Ideal S512x512 .f32) (w : Fin 512 → Fin 4096 → ℝ) (hW : ∀ k q, D (ix2 k q) = (w k (ro o ho q) : EReal))
    (old : Vec Ideal S128x512 .f32) (f : ℝ) (d : Fin 128) (q : Fin 512) (hf : old (ix2 d q) = (f : EReal)) :
    nq x4 a D old (ix2 d q) = ((f + ∑ k, B.kt (hc a d) k * w k (ro o ho q) : ℝ) : EReal) := by
  unfold nq; pointwise [k0_pay29]
  simp only [hf, hW, ktv_at R a, ← EReal.coe_mul, coe_sum]; simp [EReal.coe_add]

omit R

/-! ## The padded values and what a point stores at its end -/

/-- The values of head `a` padded to the pair's width: the other head's half is zero. -/
def half (v : Fin 512 → Fin 256 → ℝ) (a : Fin 4) (k : Fin 512) (l : Fin 128) : ℝ :=
  if (a.val % 2 = 0 ↔ l.val < 64) then v k (pc a l) else 0

section values
variable (v : Fin 512 → Fin 256 → ℝ) (X : Vec Ideal S512x128 .bf16) (k : Fin 512) (l : Fin 128) (w : ℝ) (hX : X (ix2 k l) = (w : EReal))
include hX

theorem lo_at : k0_pay68 X (ix3 0 k l) = ((if l.val < 64 then w else 0 : ℝ) : EReal) := by
  pointwise [k0_pay68, k0_pay67]
  rw [hX, WordCmp.cmpi_slt_ofNat (by have := l.isLt; omega) (by norm_num), WordCmp.select_ofBool]
  by_cases h : l.val < 64
  · rw [decide_eq_true h, if_pos h]; rfl
  · rw [decide_eq_false h, if_neg h]; rfl

theorem hi_at : k0_pay69 X (ix3 0 k l) = ((if 64 ≤ l.val then w else 0 : ℝ) : EReal) := by
  pointwise [k0_pay69, k0_pay67]
  rw [hX, WordCmp.cmpi_sge_ofNat (by have := l.isLt; omega) (by norm_num), WordCmp.select_ofBool]
  by_cases h : 64 ≤ l.val
  · rw [decide_eq_true h, if_pos h]; rfl
  · rw [decide_eq_false h, if_neg h]; rfl

end values

theorem out_at (X Y : Vec Ideal S1x512x128 .f32) (k : Fin 512) (l : Fin 128) (x y : ℝ) (hx : X (ix3 0 k l) = (x : EReal)) (hy : Y (ix3 0 k l) = (y : EReal)) :
    k0_pay1 (iota .tc S512x128 32 [1] iota_S512x128_d1_w32) X Y (ix2 k l) = ((if l.val < 64 then x else y : ℝ) : EReal) := by
  pointwise [k0_pay1]
  rw [hx, hy, WordCmp.cmpi_slt_ofNat (by have := l.isLt; omega) (by norm_num), WordCmp.select_ofBool]
  by_cases h : l.val < 64
  · rw [decide_eq_true h, if_pos h]; rfl
  · rw [decide_eq_false h, if_neg h]; rfl

theorem scaled_at (X : Vec Ideal S512x512 .f32) (k x : Fin 512) (w : ℝ) (hX : X (ix2 k x) = (w : EReal)) :
    k0_pay3 X (ix2 k x) = ((w * Real.log 2 : ℝ) : EReal) := by
  pointwise [k0_pay3]
  rw [hX]
  exact (EReal.coe_mul w (Real.log 2)).symm

end Cert.AttnV

end
-- ==== Proof.AttnStep.lean ====
/- What one query block adds to the three gradient buffers, as the list of its writes and as real numbers. -/
module

public import proofs.«01_k».proof.Proof.AttnPay

@[expose] public section

noncomputable section

open Idealize.ShloMosaic Idealize.ShloMosaic.TcCoe

namespace Cert.AttnV

open Cert.AttnIdeal Cert.AttnIdeal.Gen Base

theorem in9 (o : ℕ) (ho : o + 512 ≤ 4096) (a : Fin 4) (x : Fin 2) : (![128 * a.val, o] : Fin 2 → ℕ) x + S128x512.size x ≤ S512x4096.size x := by
  fin_cases x; exacts [(by show 128 * a.val + 128 ≤ 512; omega), ho]
theorem in10 (a : Fin 4) (x : Fin 2) : (![0, 128 * a.val] : Fin 2 → ℕ) x + S512x128.size x ≤ S512x512.size x := by
  fin_cases x; exacts [(by show 0 + 512 ≤ 512; omega), (by show 128 * a.val + 128 ≤ 512; omega)]
theorem in13 (a : Fin 4) (x : Fin 3) : (![a.val, 0, 0] : Fin 3 → ℕ) x + S1x512x128.size x ≤ S4x512x128.size x := by
  fin_cases x; exacts [(by show a.val + 1 ≤ 4; omega), (by show 0 + 512 ≤ 512; omega), (by show 0 + 128 ≤ 128; omega)]

/-- The head of a column, and the column within the head. -/
def hd (x : Fin 512) : Fin 4 := ⟨x.val / 128, by omega⟩
def lo (x : Fin 512) : Fin 128 := ⟨x.val % 128, by omega⟩
theorem hc_hd (x : Fin 512) : hc (hd x) (lo x) = x := Fin.ext (by show 128 * (x.val / 128) + x.val % 128 = x.val; omega)
theorem hd_hc (a : Fin 4) (d : Fin 128) : hd (hc a d) = a := Fin.ext (by show (128 * a.val + d.val) / 128 = a.val; omega)
theorem lo_hc (a : Fin 4) (d : Fin 128) : lo (hc a d) = d := Fin.ext (by show (128 * a.val + d.val) % 128 = d.val; omega)

/-- Four pieces, the last head's in front. -/
abbrev four {s : Shape} {e : EltTy} (p : Fin 4 → View.Piece (Elt Ideal) s e) : List (View.Piece (Elt Ideal) s e) := [p 3, p 2, p 1, p 0]

theorem four_mem {s : Shape} {e : EltTy} (p : Fin 4 → View.Piece (Elt Ideal) s e) (a : Fin 4) : p a ∈ four p := by
  fin_cases a <;> simp [four]
theorem mem_four {s : Shape} {e : EltTy} {p : Fin 4 → View.Piece (Elt Ideal) s e} {x : View.Piece (Elt Ideal) s e} (h : x ∈ four p) : ∃ a, x = p a := by
  simp only [four, List.mem_cons, List.not_mem_nil, or_false] at h
  rcases h with h | h | h | h
  exacts [⟨3, h⟩, ⟨2, h⟩, ⟨1, h⟩, ⟨0, h⟩]

section pieces
variable (x2 : Vec Ideal S4096x512 .bf16) (x3 x4 : Vec Ideal S512x512 .bf16) (x6 : Vec Ideal S4096x256 .bf16)
  (x7 x8 : Vec Ideal S2x2x4096 .f32) (x12 : Vec Ideal S4x512x128 .bf16) (o : ℕ) (ho : o + 512 ≤ 4096)
  (W : Fin 4 → FVec Ideal S512x512 .f32) (f9 : Vec Ideal S512x4096 .f32) (f10 : Vec Ideal S512x512 .f32) (f13 : Vec Ideal S4x512x128 .f32) (a : Fin 4)

/-- The write of head `a` to the query gradients, -/
def p9 : View.Piece (Elt Ideal) S512x4096 .f32 :=
  ⟨Rect.unit ![128 * a.val, o] S128x512.size (in9 o ho a),
    nq x4 a (dsv x6 x8 x12 a o ho (W a)) (View.ld f9 (Rect.unit ![128 * a.val, o] S128x512.size (in9 o ho a)))⟩
/-- to the key gradients, -/
def p10 : View.Piece (Elt Ideal) S512x512 .f32 :=
  ⟨Rect.unit ![0, 128 * a.val] S512x128.size (in10 a),
    nk x2 a o ho (dsv x6 x8 x12 a o ho (W a)) (View.ld f10 (Rect.unit ![0, 128 * a.val] S512x128.size (in10 a)))⟩
/-- and to the value gradients. -/
def p13 : View.Piece (Elt Ideal) S4x512x128 .f32 :=
  ⟨Rect.unit ![a.val, 0, 0] S1x512x128.size (in13 a),
    nv x6 a o ho (W a) (View.ld f13 (Rect.unit ![a.val, 0, 0] S1x512x128.size (in13 a)))⟩

end pieces

variable {B : Blk} {x2 : Vec Ideal S4096x512 .bf16} {x3 x4 : Vec Ideal S512x512 .bf16} {x6 : Vec Ideal S4096x256 .bf16}
  {x7 x8 : Vec Ideal S2x2x4096 .f32} {x12 : Vec Ideal S4x512x128 .bf16}
  (R : Reads B x2 x3 x4 x6 x7 x8 x12) (o : ℕ) (ho : o + 512 ≤ 4096)
  (W : Fin 4 → FVec Ideal S512x512 .f32) (w : Fin 4 → Fin 512 → Fin 4096 → ℝ)
  (hW : ∀ a k q, W a (ix2 k q) = (w a k (ro o ho q) : EReal))
include R hW

theorem p13_at (f : Vec Ideal S4x512x128 .f32) (F : Fin 4 → Fin 512 → Fin 128 → ℝ) (a : Fin 4) (hf : ∀ k l, f (ix3 a k l) = (F a k l : EReal))
    (k : Fin 512) (l : Fin 128) :
    (p13 x6 o ho W f a).2 (ix3 0 k l) = ((F a k l + ∑ q, w a k (ro o ho q) * B.g (ro o ho q) (pc a l) : ℝ) : EReal) := by
  refine nv_at R o ho a (W a) (w a) (hW a) _ _ k l ?_
  rw [← hf]; change f _ = f _; congr 1; funext x; apply Fin.ext
  match x with
  | ⟨0, _⟩ => show a.val + 1 * 0 = a.val; omega
  | ⟨1, _⟩ => show 0 + 1 * k.val = k.val; omega
  | ⟨2, _⟩ => show 0 + 1 * l.val = l.val; omega

theorem p10_at (f : Vec Ideal S512x512 .f32) (F : Fin 512 → Fin 512 → ℝ) (hf : ∀ k x, f (ix2 k x) = (F k x : EReal)) (a : Fin 4)
    (k : Fin 512) (d : Fin 128) :
    (p10 x2 x6 x8 x12 o ho W f a).2 (ix2 k d) = ((F k (hc a d) + ∑ q, B.ds a (w a) k (ro o ho q) * B.q (ro o ho q) (hc a d) : ℝ) : EReal) := by
  refine nk_at R o ho a _ (B.ds a (w a)) (dsv_at R o ho a (W a) (w a) (hW a)) _ _ k d ?_
  rw [← hf]; change f _ = f _; congr 1; funext x; apply Fin.ext
  match x with
  | ⟨0, _⟩ => show 0 + 1 * k.val = k.val; omega
  | ⟨1, _⟩ => show 128 * a.val + 1 * d.val = 128 * a.val + d.val; omega

theorem p9_at (f : Vec Ideal S512x4096 .f32) (F : Fin 512 → Fin 4096 → ℝ) (hf : ∀ x r, f (ix2 x r) = (F x r : EReal)) (a : Fin 4)
    (d : Fin 128) (q : Fin 512) :
    (p9 x4 x6 x8 x12 o ho W f a).2 (ix2 d q) = ((F (hc a d) (ro o ho q) + ∑ k, B.kt (hc a d) k * B.ds a (w a) k (ro o ho q) : ℝ) : EReal) := by
  refine nq_at R o ho a _ (B.ds a (w a)) (dsv_at R o ho a (W a) (w a) (hW a)) _ _ d q ?_
  rw [← hf]; change f _ = f _; congr 1; funext x; apply Fin.ext
  match x with
  | ⟨0, _⟩ => show 128 * a.val + 1 * d.val = 128 * a.val + d.val; omega
  | ⟨1, _⟩ => show o + 1 * q.val = o + q.val; omega

theorem write13 {sig : RefSig} {κ : Kind} {sp : Space} (v : View sig κ sp S4x512x128 .f32) (g : v.ty.Contents (Elt Ideal)) (f : Vec Ideal S4x512x128 .f32)
    (F : Fin 4 → Fin 512 → Fin 128 → ℝ) (hf : ∀ a k l, f (ix3 a k l) = (F a k l : EReal)) (a : Fin 4) (k : Fin 512) (l : Fin 128) :
    v.read (Elt Ideal) (v.writes (Elt Ideal) g (four (p13 x6 o ho W f))) (ix3 a k l)
      = ((F a k l + ∑ q, w a k (ro o ho q) * B.g (ro o ho q) (pc a l) : ℝ) : EReal) := by
  refine View.read_writes_apply_of_pieces v g (fun y => ((F (y 0) (y 1) (y 2) + ∑ q, w (y 0) (y 1) (ro o ho q) * B.g (ro o ho q) (pc (y 0) (y 2)) : ℝ) : EReal))
    _ (fun p hp' x => ?_) _ ⟨_, four_mem _ a, ?_⟩
  · obtain ⟨b, rfl⟩ := mem_four hp'
    obtain ⟨z, k', l', rfl⟩ : ∃ (z : Fin 1) (k' : Fin 512) (l' : Fin 128), x = ix3 z k' l' := ⟨x 0, x 1, x 2, by funext y; fin_cases y <;> rfl⟩
    obtain rfl : z = 0 := Subsingleton.elim _ _
    rw [p13_at R o ho W w hW f F b (hf b)]
    have e0 : ((p13 x6 o ho W f b).1.emb (ix3 0 k' l')) 0 = b := Fin.ext (by show b.val + 1 * 0 = b.val; omega)
    have e1 : ((p13 x6 o ho W f b).1.emb (ix3 0 k' l')) 1 = k' := Fin.ext (by show 0 + 1 * k'.val = k'.val; omega)
    have e2 : ((p13 x6 o ho W f b).1.emb (ix3 0 k' l')) 2 = l' := Fin.ext (by show 0 + 1 * l'.val = l'.val; omega)
    rw [e0, e1, e2]
  · refine (Rect.mem_set_unit (inb := in13 a)).mpr fun x => ?_
    match x with
    | ⟨0, _⟩ => exact ⟨le_refl _, by show a.val < a.val + 1; omega⟩
    | ⟨1, _⟩ => exact ⟨Nat.zero_le _, by show k.val < 0 + 512; omega⟩
    | ⟨2, _⟩ => exact ⟨Nat.zero_le _, by show l.val < 0 + 128; omega⟩

theorem write10 {sig : RefSig} {κ : Kind} {sp : Space} (v : View sig κ sp S512x512 .f32) (g : v.ty.Contents (Elt Ideal)) (f : Vec Ideal S512x512 .f32)
    (F : Fin 512 → Fin 512 → ℝ) (hf : ∀ k x, f (ix2 k x) = (F k x : EReal)) (k x : Fin 512) :
    v.read (Elt Ideal) (v.writes (Elt Ideal) g (four (p10 x2 x6 x8 x12 o ho W f))) (ix2 k x)
      = ((F k x + ∑ q, B.ds (hd x) (w (hd x)) k (ro o ho q) * B.q (ro o ho q) x : ℝ) : EReal) := by
  refine View.read_writes_apply_of_pieces v g (fun y => ((F (y 0) (y 1) + ∑ q, B.ds (hd (y 1)) (w (hd (y 1))) (y 0) (ro o ho q) * B.q (ro o ho q) (y 1) : ℝ) : EReal))
    _ (fun p hp' x => ?_) _ ⟨_, four_mem _ (hd x), ?_⟩
  · obtain ⟨b, rfl⟩ := mem_four hp'
    obtain ⟨k', d', rfl⟩ : ∃ (k' : Fin 512) (d' : Fin 128), x = ix2 k' d' := ⟨x 0, x 1, by funext y; fin_cases y <;> rfl⟩
    rw [p10_at R o ho W w hW f F hf b]
    have e0 : ((p10 x2 x6 x8 x12 o ho W f b).1.emb (ix2 k' d')) 0 = k' := Fin.ext (by show 0 + 1 * k'.val = k'.val; omega)
    have e1 : ((p10 x2 x6 x8 x12 o ho W f b).1.emb (ix2 k' d')) 1 = hc b d' := Fin.ext (by show 128 * b.val + 1 * d'.val = 128 * b.val + d'.val; omega)
    rw [e0, e1, hd_hc]
  · refine (Rect.mem_set_unit (inb := in10 (hd x))).mpr fun y => ?_
    match y with
    | ⟨0, _⟩ => exact ⟨Nat.zero_le _, by show k.val < 0 + 512; omega⟩
    | ⟨1, _⟩ => exact ⟨by show 128 * (x.val / 128) ≤ x.val; omega, by show x.val < 128 * (x.val / 128) + 128; omega⟩

theorem write9 {sig : RefSig} {κ : Kind} {sp : Space} (v : View sig κ sp S512x4096 .f32) (g : v.ty.Contents (Elt Ideal)) (f : Vec Ideal S512x4096 .f32)
    (hg : v.read (Elt Ideal) g = f)
    (F : Fin 512 → Fin 4096 → ℝ) (hf : ∀ x r, f (ix2 x r) = (F x r : EReal)) (x : Fin 512) (r : Fin 4096) :
    v.read (Elt Ideal) (v.writes (Elt Ideal) g (four (p9 x4 x6 x8 x12 o ho W f))) (ix2 x r)
      = ((F x r + (if o ≤ r.val ∧ r.val < o + 512 then ∑ k, B.kt x k * B.ds (hd x) (w (hd x)) k r else 0) : ℝ) : EReal) := by
  by_cases h : o ≤ r.val ∧ r.val < o + 512
  · rw [if_pos h]
    refine View.read_writes_apply_of_pieces v g (fun y => ((F (y 0) (y 1) + ∑ k, B.kt (y 0) k * B.ds (hd (y 0)) (w (hd (y 0))) k (y 1) : ℝ) : EReal))
      _ (fun p hp' x => ?_) _ ⟨_, four_mem _ (hd x), ?_⟩
    · obtain ⟨b, rfl⟩ := mem_four hp'
      obtain ⟨d', q', rfl⟩ : ∃ (d' : Fin 128) (q' : Fin 512), x = ix2 d' q' := ⟨x 0, x 1, by funext y; fin_cases y <;> rfl⟩
      rw [p9_at R o ho W w hW f F hf b]
      have e0 : ((p9 x4 x6 x8 x12 o ho W f b).1.emb (ix2 d' q')) 0 = hc b d' := Fin.ext (by show 128 * b.val + 1 * d'.val = 128 * b.val + d'.val; omega)
      have e1 : ((p9 x4 x6 x8 x12 o ho W f b).1.emb (ix2 d' q')) 1 = ro o ho q' := Fin.ext (by show o + 1 * q'.val = o + q'.val; omega)
      rw [e0, e1, hd_hc]
    · refine (Rect.mem_set_unit (inb := in9 o ho (hd x))).mpr fun y => ?_
      match y with
      | ⟨0, _⟩ => exact ⟨by show 128 * (x.val / 128) ≤ x.val; omega, by show x.val < 128 * (x.val / 128) + 128; omega⟩
      | ⟨1, _⟩ => exact h
  · rw [if_neg h, add_zero, ← hf, ← hg]
    refine View.read_writes_apply_of_forall_not_mem v g _ _ fun p hp' hm => ?_
    obtain ⟨b, rfl⟩ := mem_four hp'
    exact h ((Rect.mem_set_unit (inb := in9 o ho b)).mp hm 1)

end Cert.AttnV

end
-- ==== Proof.AttnTrip.lean ====
/- The writes of one trip of the loop over the later query blocks. -/
module

public import proofs.«01_k».proof.Proof.AttnStep

@[expose] public section

set_option maxRecDepth 16384

noncomputable section

open Idealize.ShloMosaic Idealize.ShloMosaic.TcCoe Idealize.ShloMosaic.Tactic

namespace Cert.AttnV

open Cert.AttnIdeal Cert.AttnIdeal.Gen Base Idealize.SL.Sem

/-- The first row of the query block of trip `k`. -/
abbrev off1 (i : grid0.Coords) (k : ℕ) : ℕ := 512 * ((i 1).val + 1 + k)

variable (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec Ideal S512x512 .f32) (v249 : FVec Ideal S512x512 .f32) (v251 : FVec Ideal S512x128 .f32) (v280 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (k : Fin (k0_t1_loop i).trips) (acc : BitVec 32) (f_arg9 : BufTy.Contents (Elt Ideal) arg9.view.ty) (f_arg10 : BufTy.Contents (Elt Ideal) arg10.view.ty) (f_arg13 : BufTy.Contents (Elt Ideal) arg13.view.ty)

theorem trip13 (ho : k0_off22 i k 1 + 512 ≤ 4096) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 k acc f_arg9 f_arg10 f_arg13).2.2
    = four (p13 (arg6.view.read (Elt Ideal) X_arg6) (k0_off22 i k 1) ho (fun a => pv (arg2.view.read (Elt Ideal) X_arg2) (arg3.view.read (Elt Ideal) X_arg3) (arg7.view.read (Elt Ideal) X_arg7) a (k0_off22 i k 1) ho) (arg13.view.read (Elt Ideal) f_arg13)) := by
  unfold tripL_k0_t1 trip_k0_t1
  dsimp only
  sl_unfold_words
  rfl

theorem trip10 (ho : k0_off22 i k 1 + 512 ≤ 4096) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 k acc f_arg9 f_arg10 f_arg13).2.1
    = four (p10 (arg2.view.read (Elt Ideal) X_arg2) (arg6.view.read (Elt Ideal) X_arg6) (arg8.view.read (Elt Ideal) X_arg8) (arg12.view.read (Elt Ideal) X_arg12) (k0_off22 i k 1) ho (fun a => pv (arg2.view.read (Elt Ideal) X_arg2) (arg3.view.read (Elt Ideal) X_arg3) (arg7.view.read (Elt Ideal) X_arg7) a (k0_off22 i k 1) ho) (arg10.view.read (Elt Ideal) f_arg10)) := by
  unfold tripL_k0_t1 trip_k0_t1
  dsimp only
  sl_unfold_words
  rfl

theorem trip9 (ho : k0_off22 i k 1 + 512 ≤ 4096) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 k acc f_arg9 f_arg10 f_arg13).1
    = four (p9 (arg4.view.read (Elt Ideal) X_arg4) (arg6.view.read (Elt Ideal) X_arg6) (arg8.view.read (Elt Ideal) X_arg8) (arg12.view.read (Elt Ideal) X_arg12) (k0_off22 i k 1) ho (fun a => pv (arg2.view.read (Elt Ideal) X_arg2) (arg3.view.read (Elt Ideal) X_arg3) (arg7.view.read (Elt Ideal) X_arg7) a (k0_off22 i k 1) ho) (arg9.view.read (Elt Ideal) f_arg9)) := by
  unfold tripL_k0_t1 trip_k0_t1
  dsimp only
  sl_unfold_words
  rfl

end Cert.AttnV

end
-- ==== Proof.AttnLoop.lean ====
/- The loop over the later query blocks: how often it runs, where its blocks lie, and what the three gradient
   buffers hold after some of its trips. -/
module

public import proofs.«01_k».proof.Proof.AttnTrip

@[expose] public section

set_option maxRecDepth 16384

noncomputable section

open Idealize.ShloMosaic Idealize.ShloMosaic.TcCoe Idealize.ShloMosaic.Tactic

namespace Cert.AttnV

open Cert.AttnIdeal Cert.AttnIdeal.Gen Base Idealize.SL.Sem

/-- The key block of a grid point as a number below 8. -/
theorem blk_lt (i : grid0.Coords) : ∃ j : Fin 8, (i 1).val = j.val := ⟨i 1, rfl⟩

theorem trips1 (i : grid0.Coords) : (k0_t1_loop i).trips = 7 - (i 1).val := by
  obtain ⟨j, hj⟩ := blk_lt i
  dsimp only [k0_t1_loop]
  rw [hj]; clear hj; revert j; decide

theorem trips2 (i : grid0.Coords) : (k0_t2_loop i).trips = 0 := by
  obtain ⟨j, hj⟩ := blk_lt i
  dsimp only [k0_t2_loop]
  rw [hj]; clear hj; revert j; decide

theorem off8 (i : grid0.Coords) : k0_off8 i 1 = 512 * (i 1).val := by
  obtain ⟨j, hj⟩ := blk_lt i
  dsimp only [k0_off8]
  rw [hj]; clear hj; revert j; decide

theorem off22 (i : grid0.Coords) (k : Fin (k0_t1_loop i).trips) : k0_off22 i k 1 = 512 * ((i 1).val + 1 + k.val) := by
  have hk : k.val < 7 - (i 1).val := (trips1 i) ▸ k.isLt
  obtain ⟨j, hj⟩ := blk_lt i
  obtain ⟨n, hn⟩ : ∃ n : Fin 8, k.val = n.val := ⟨⟨k.val, by omega⟩, rfl⟩
  have h : ∀ j n : Fin 8, n.val < 7 - j.val → (Scalar.indexCast (Scalar.muli (Scf.iv (Scalar.addi (BitVec.ofNat 32 j.val) 1#32) 1#32 n.val) 512#32)).toNat = 512 * (j.val + 1 + n.val) := by decide
  have := h j n (by omega)
  rw [← hj, ← hn] at this
  exact this

/-- A sum over the rows of `[s, e + 512)` is the sum over `[s, e)` and the block at `e`. -/
theorem sum_win (f : Fin 4096 → ℝ) (s e : ℕ) (hs : s ≤ e) (he : e + 512 ≤ 4096) :
    ∑ r : Fin 4096, (if s ≤ r.val ∧ r.val < e + 512 then f r else 0)
      = ∑ r : Fin 4096, (if s ≤ r.val ∧ r.val < e then f r else 0) + ∑ q, f (ro e he q) := by
  have h : ∀ r : Fin 4096, (if s ≤ r.val ∧ r.val < e + 512 then f r else 0)
      = (if s ≤ r.val ∧ r.val < e then f r else 0) + (if e ≤ r.val ∧ r.val < e + 512 then f r else 0) := by
    intro r
    by_cases h1 : s ≤ r.val ∧ r.val < e
    · rw [if_pos h1, if_pos (by omega), if_neg (by omega), add_zero]
    · by_cases h2 : e ≤ r.val ∧ r.val < e + 512
      · rw [if_neg h1, if_pos h2, if_pos (by omega), zero_add]
      · rw [if_neg h1, if_neg h2, if_neg (by omega), add_zero]
  rw [Finset.sum_congr rfl fun r _ => h r, Finset.sum_add_distrib]
  congr 1
  rw [← Finset.sum_filter]
  symm
  refine Finset.sum_bij (fun q _ => ro e he q) (fun q _ => ?_) (fun a _ b _ hab => ?_) (fun r hr => ?_) (fun _ _ => rfl)
  · have h : (ro e he q).val = e + q.val := rfl
    have := q.isLt
    simp only [Finset.mem_filter, Finset.mem_univ, true_and]; omega
  · have h : e + a.val = e + b.val := congrArg Fin.val hab
    exact Fin.ext (by omega)
  · simp only [Finset.mem_filter, Finset.mem_univ, true_and] at hr
    exact ⟨⟨r.val - e, by omega⟩, Finset.mem_univ _, Fin.ext (by show e + (r.val - e) = r.val; omega)⟩

variable (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec Ideal S512x512 .f32) (v249 : FVec Ideal S512x512 .f32) (v251 : FVec Ideal S512x128 .f32) (v280 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (G9 : BufTy.Contents (Elt Ideal) arg9.view.ty) (G10 : BufTy.Contents (Elt Ideal) arg10.view.ty) (G13 : BufTy.Contents (Elt Ideal) arg13.view.ty) (init : BitVec 32)

/-- The lists of writes after `n` trips. -/
abbrev stt (n : ℕ) := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init n

variable {B : Blk} (R : Reads B (arg2.view.read (Elt Ideal) X_arg2) (arg3.view.read (Elt Ideal) X_arg3) (arg4.view.read (Elt Ideal) X_arg4) (arg6.view.read (Elt Ideal) X_arg6) (arg7.view.read (Elt Ideal) X_arg7) (arg8.view.read (Elt Ideal) X_arg8) (arg12.view.read (Elt Ideal) X_arg12))
  (F9 : Fin 512 → Fin 4096 → ℝ) (h9 : ∀ x r, arg9.view.read (Elt Ideal) G9 (ix2 x r) = (F9 x r : EReal))
  (F10 : Fin 512 → Fin 512 → ℝ) (h10 : ∀ k x, arg10.view.read (Elt Ideal) G10 (ix2 k x) = (F10 k x : EReal))
  (F13 : Fin 4 → Fin 512 → Fin 128 → ℝ) (h13 : ∀ a k l, arg13.view.read (Elt Ideal) G13 (ix3 a k l) = (F13 a k l : EReal))

include R h13 in
theorem loop13 (n : ℕ) (hn : n ≤ 7 - (i 1).val) (a : Fin 4) (k : Fin 512) (l : Fin 128) :
    arg13.view.read (Elt Ideal) (arg13.view.writes (Elt Ideal) G13 (stt 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init n).2.2.2) (ix3 a k l)
      = ((F13 a k l + ∑ r : Fin 4096, (if 512 * ((i 1).val + 1) ≤ r.val ∧ r.val < 512 * ((i 1).val + 1 + n) then B.p a k r * B.g r (pc a l) else 0) : ℝ) : EReal) := by
  induction n generalizing a k l with
  | zero =>
    rw [Finset.sum_eq_zero fun r _ => if_neg (by omega), add_zero]
    exact h13 a k l
  | succ n ih =>
    have hk : n < (k0_t1_loop i).trips := by rw [trips1]; omega
    have e : k0_off22 i ⟨n, hk⟩ 1 = 512 * ((i 1).val + 1 + n) := off22 i ⟨n, hk⟩
    have ho : k0_off22 i ⟨n, hk⟩ 1 + 512 ≤ 4096 := by rw [e]; omega
    refine (congrArg (fun z => arg13.view.read (Elt Ideal) (arg13.view.writes (Elt Ideal) G13 z.2.2.2) (ix3 a k l))
      (st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init ⟨n, hk⟩)).trans ?_
    refine (congrFun (congrArg (arg13.view.read (Elt Ideal)) (View.writes_append ..)) _).trans ?_
    refine (congrFun (congrArg (fun z => arg13.view.read (Elt Ideal) (arg13.view.writes (Elt Ideal) _ z)) (trip13 (ho := ho) ..)) _).trans ?_
    refine (write13 R _ ho _ B.p (fun a k q => pv_at R _ ho a k q) _ _ _ _ (ih (by omega)) a k l).trans ?_
    rw [show 512 * ((i 1).val + 1 + (n + 1)) = k0_off22 i ⟨n, hk⟩ 1 + 512 by rw [e]; ring, ← e,
      sum_win (fun r => B.p a k r * B.g r (pc a l)) _ _ (by rw [e]; omega) ho, add_assoc]

include R h10 in
theorem loop10 (n : ℕ) (hn : n ≤ 7 - (i 1).val) (k x : Fin 512) :
    arg10.view.read (Elt Ideal) (arg10.view.writes (Elt Ideal) G10 (stt 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init n).2.2.1) (ix2 k x)
      = ((F10 k x + ∑ r : Fin 4096, (if 512 * ((i 1).val + 1) ≤ r.val ∧ r.val < 512 * ((i 1).val + 1 + n) then B.ds (hd x) (B.p (hd x)) k r * B.q r x else 0) : ℝ) : EReal) := by
  induction n generalizing k x with
  | zero =>
    rw [Finset.sum_eq_zero fun r _ => if_neg (by omega), add_zero]
    exact h10 k x
  | succ n ih =>
    have hk : n < (k0_t1_loop i).trips := by rw [trips1]; omega
    have e : k0_off22 i ⟨n, hk⟩ 1 = 512 * ((i 1).val + 1 + n) := off22 i ⟨n, hk⟩
    have ho : k0_off22 i ⟨n, hk⟩ 1 + 512 ≤ 4096 := by rw [e]; omega
    refine (congrArg (fun z => arg10.view.read (Elt Ideal) (arg10.view.writes (Elt Ideal) G10 z.2.2.1) (ix2 k x))
      (st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init ⟨n, hk⟩)).trans ?_
    refine (congrFun (congrArg (arg10.view.read (Elt Ideal)) (View.writes_append ..)) _).trans ?_
    refine (congrFun (congrArg (fun z => arg10.view.read (Elt Ideal) (arg10.view.writes (Elt Ideal) _ z)) (trip10 (ho := ho) ..)) _).trans ?_
    refine (write10 R _ ho _ B.p (fun a k q => pv_at R _ ho a k q) _ _ _ _ (ih (by omega)) k x).trans ?_
    rw [show 512 * ((i 1).val + 1 + (n + 1)) = k0_off22 i ⟨n, hk⟩ 1 + 512 by rw [e]; ring, ← e,
      sum_win (fun r => B.ds (hd x) (B.p (hd x)) k r * B.q r x) _ _ (by rw [e]; omega) ho, add_assoc]

include R h9 in
theorem loop9 (n : ℕ) (hn : n ≤ 7 - (i 1).val) (x : Fin 512) (r : Fin 4096) :
    arg9.view.read (Elt Ideal) (arg9.view.writes (Elt Ideal) G9 (stt 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init n).2.1) (ix2 x r)
      = ((F9 x r + (if 512 * ((i 1).val + 1) ≤ r.val ∧ r.val < 512 * ((i 1).val + 1 + n) then ∑ k, B.kt x k * B.ds (hd x) (B.p (hd x)) k r else 0) : ℝ) : EReal) := by
  induction n generalizing x r with
  | zero =>
    rw [if_neg (by omega), add_zero]
    exact h9 x r
  | succ n ih =>
    have hk : n < (k0_t1_loop i).trips := by rw [trips1]; omega
    have e : k0_off22 i ⟨n, hk⟩ 1 = 512 * ((i 1).val + 1 + n) := off22 i ⟨n, hk⟩
    have ho : k0_off22 i ⟨n, hk⟩ 1 + 512 ≤ 4096 := by rw [e]; omega
    refine (congrArg (fun z => arg9.view.read (Elt Ideal) (arg9.view.writes (Elt Ideal) G9 z.2.1) (ix2 x r))
      (st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X_arg2 X_arg3 X_arg4 X_arg6 X_arg7 X_arg8 X_arg12 G9 G10 G13 init ⟨n, hk⟩)).trans ?_
    refine (congrFun (congrArg (arg9.view.read (Elt Ideal)) (View.writes_append ..)) _).trans ?_
    refine (congrFun (congrArg (fun z => arg9.view.read (Elt Ideal) (arg9.view.writes (Elt Ideal) _ z)) (trip9 (ho := ho) ..)) _).trans ?_
    refine (write9 R _ ho _ B.p (fun a k q => pv_at R _ ho a k q) _ _ _ rfl _ (ih (by omega)) x r).trans ?_
    rw [e]
    by_cases h1 : 512 * ((i 1).val + 1) ≤ r.val ∧ r.val < 512 * ((i 1).val + 1 + n)
    · rw [if_pos h1, if_neg (by omega), if_pos (by omega), add_zero]
    · by_cases h2 : 512 * ((i 1).val + 1 + n) ≤ r.val ∧ r.val < 512 * ((i 1).val + 1 + n) + 512
      · rw [if_neg h1, if_pos h2, if_pos (by omega), add_zero]
      · rw [if_neg h1, if_neg h2, if_neg (by omega), add_zero]

end Cert.AttnV

end
-- ==== Proof.AttnDiag.lean ====
/- The query block on the diagonal: its masked weights, and what the two cleared gradient buffers hold after it. -/
module

public import proofs.«01_k».proof.Proof.AttnStep

@[expose] public section

set_option maxRecDepth 16384

noncomputable section

open Idealize.ShloMosaic Idealize.ShloMosaic.TcCoe

namespace Cert.AttnV

open Cert.AttnIdeal Cert.AttnIdeal.Gen Base

section lists
variable (x2 : Vec Ideal S4096x512 .bf16) (x6 : Vec Ideal S4096x256 .bf16)
  (x8 : Vec Ideal S2x2x4096 .f32) (x12 : Vec Ideal S4x512x128 .bf16) (o : ℕ) (ho : o + 512 ≤ 4096)
  (W : Fin 4 → FVec Ideal S512x512 .f32)

/-- The writes to the key gradients: the clearing, then the first `n` heads. -/
def l10 {sig : RefSig} {κ : Kind} {sp : Space} (v : View sig κ sp S512x512 .f32) : ℕ → List (View.Piece (Elt Ideal) S512x512 .f32)
  | 0 => [⟨Rect.unit ![0, 0] S512x512.size inb_S512x512_S512x512_0_0, k0_pay74 (F := Ideal)⟩]
  | n + 1 => p10 x2 x6 x8 x12 o ho W (v.read (Elt Ideal) (v.writes (Elt Ideal) v.junk (l10 v n))) ⟨n % 4, Nat.mod_lt _ (by decide)⟩ :: l10 v n
/-- The writes to the value gradients. -/
def l13 {sig : RefSig} {κ : Kind} {sp : Space} (v : View sig κ sp S4x512x128 .f32) : ℕ → List (View.Piece (Elt Ideal) S4x512x128 .f32)
  | 0 => [⟨Rect.unit ![0, 0, 0] S4x512x128.size inb_S4x512x128_S4x512x128_0_0_0, k0_pay75 (F := Ideal)⟩]
  | n + 1 => p13 x6 o ho W (v.read (Elt Ideal) (v.writes (Elt Ideal) v.junk (l13 v n))) ⟨n % 4, Nat.mod_lt _ (by decide)⟩ :: l13 v n

end lists

/-- A 32-bit zero is the number 0. -/
theorem z10 (x : S512x512.Idx) : k0_pay74 (F := Ideal) x = ((0 : ℝ) : EReal) := by
  pointwise [k0_pay74]; simp [Ideal.ofBits, Ideal.ieee]
theorem z13 (x : S4x512x128.Idx) : k0_pay75 (F := Ideal) x = ((0 : ℝ) : EReal) := by
  pointwise [k0_pay75]; simp [Ideal.ofBits, Ideal.ieee]

variable {B : Blk} {x2 : Vec Ideal S4096x512 .bf16} {x3 x4 : Vec Ideal S512x512 .bf16} {x6 : Vec Ideal S4096x256 .bf16}
  {x7 x8 : Vec Ideal S2x2x4096 .f32} {x12 : Vec Ideal S4x512x128 .bf16}
  (R : Reads B x2 x3 x4 x6 x7 x8 x12) (o : ℕ) (ho : o + 512 ≤ 4096)
  (W : Fin 4 → FVec Ideal S512x512 .f32) (w : Fin 4 → Fin 512 → Fin 4096 → ℝ)
  (hW : ∀ a k q, W a (ix2 k q) = (w a k (ro o ho q) : EReal))
include R hW

theorem diag10 {sig : RefSig} {κ : Kind} {sp : Space} (v : View sig κ sp S512x512 .f32) (n : ℕ) (hn : n ≤ 4) (k x : Fin 512) :
    v.read (Elt Ideal) (v.writes (Elt Ideal) v.junk (l10 x2 x6 x8 x12 o ho W v n)) (ix2 k x)
      = ((if (hd x).val < n then ∑ q, B.ds (hd x) (w (hd x)) k (ro o ho q) * B.q (ro o ho q) x else 0 : ℝ) : EReal) := by
  induction n generalizing k x with
  | zero =>
    refine View.read_writes_apply_of_pieces (Val := Elt Ideal) v _ (fun _ => ((0 : ℝ) : EReal)) _ (fun p hp y => ?_) _ ⟨_, List.mem_singleton_self _, ?_⟩
    · obtain rfl := List.mem_singleton.mp hp; exact z10 y
    · refine (Rect.mem_set_unit (inb := inb_S512x512_S512x512_0_0)).mpr fun y => ?_
      match y with
      | ⟨0, _⟩ => exact ⟨Nat.zero_le _, by show k.val < 0 + 512; omega⟩
      | ⟨1, _⟩ => exact ⟨Nat.zero_le _, by show x.val < 0 + 512; omega⟩
  | succ n ih =>
    set b : Fin 4 := ⟨n % 4, Nat.mod_lt _ (by decide)⟩ with hb
    have hbn : b.val = n := Nat.mod_eq_of_lt (by omega)
    refine (congrFun (congrArg (v.read (Elt Ideal)) (View.writes_append (L := [p10 x2 x6 x8 x12 o ho W
      (v.read (Elt Ideal) (v.writes (Elt Ideal) v.junk (l10 x2 x6 x8 x12 o ho W v n))) b]) ..)) _).trans ?_
    by_cases h : hd x = b
    · rw [if_pos (by rw [h]; omega)]
      refine View.read_writes_apply_of_pieces (Val := Elt Ideal) v _ (fun y => ((∑ q, B.ds (hd (y 1)) (w (hd (y 1))) (y 0) (ro o ho q) * B.q (ro o ho q) (y 1) : ℝ) : EReal))
        _ (fun p hp y => ?_) _ ⟨_, List.mem_singleton_self _, ?_⟩
      · obtain rfl := List.mem_singleton.mp hp
        obtain ⟨k', d', rfl⟩ : ∃ (k' : Fin 512) (d' : Fin 128), y = ix2 k' d' := ⟨y 0, y 1, by funext z; fin_cases z <;> rfl⟩
        rw [p10_at R o ho W w hW _ _ (ih (by omega)) b, if_neg (by rw [hd_hc]; omega), zero_add]
        have e0 : ((p10 x2 x6 x8 x12 o ho W (v.read (Elt Ideal) (v.writes (Elt Ideal) v.junk (l10 x2 x6 x8 x12 o ho W v n))) b).1.emb (ix2 k' d')) 0 = k' := Fin.ext (by show 0 + 1 * k'.val = k'.val; omega)
        have e1 : ((p10 x2 x6 x8 x12 o ho W (v.read (Elt Ideal) (v.writes (Elt Ideal) v.junk (l10 x2 x6 x8 x12 o ho W v n))) b).1.emb (ix2 k' d')) 1 = hc b d' := Fin.ext (by show 128 * b.val + 1 * d'.val = 128 * b.val + d'.val; omega)
        rw [e0, e1, hd_hc]
      · have hx : x.val / 128 = b.val := congrArg Fin.val h
        refine (Rect.mem_set_unit (inb := in10 b)).mpr fun y => ?_
        match y with
        | ⟨0, _⟩ => exact ⟨Nat.zero_le _, by show k.val < 0 + 512; omega⟩
        | ⟨1, _⟩ => exact ⟨by show 128 * b.val ≤ x.val; omega, by show x.val < 128 * b.val + 128; omega⟩
    · have hx : (hd x).val ≠ n := fun e => h (Fin.ext (e.trans hbn.symm))
      simp only [show ((hd x).val < n + 1 ↔ (hd x).val < n) by omega]
      refine Eq.trans (View.read_writes_apply_of_forall_not_mem v _ _ _ fun p hp hm => ?_) (ih (by omega) k x)
      obtain rfl := List.mem_singleton.mp hp
      have h1 : 128 * b.val ≤ x.val ∧ x.val < 128 * b.val + 128 := (Rect.mem_set_unit (inb := in10 b)).mp hm 1
      have h2 : (hd x).val = x.val / 128 := rfl
      omega

theorem diag13 {sig : RefSig} {κ : Kind} {sp : Space} (v : View sig κ sp S4x512x128 .f32) (n : ℕ) (hn : n ≤ 4) (a : Fin 4) (k : Fin 512) (l : Fin 128) :
    v.read (Elt Ideal) (v.writes (Elt Ideal) v.junk (l13 x6 o ho W v n)) (ix3 a k l)
      = ((if a.val < n then ∑ q, w a k (ro o ho q) * B.g (ro o ho q) (pc a l) else 0 : ℝ) : EReal) := by
  induction n generalizing a k l with
  | zero =>
    refine View.read_writes_apply_of_pieces (Val := Elt Ideal) v _ (fun _ => ((0 : ℝ) : EReal)) _ (fun p hp y => ?_) _ ⟨_, List.mem_singleton_self _, ?_⟩
    · obtain rfl := List.mem_singleton.mp hp; exact z13 y
    · refine (Rect.mem_set_unit (inb := inb_S4x512x128_S4x512x128_0_0_0)).mpr fun y => ?_
      match y with
      | ⟨0, _⟩ => exact ⟨Nat.zero_le _, by show a.val < 0 + 4; omega⟩
      | ⟨1, _⟩ => exact ⟨Nat.zero_le _, by show k.val < 0 + 512; omega⟩
      | ⟨2, _⟩ => exact ⟨Nat.zero_le _, by show l.val < 0 + 128; omega⟩
  | succ n ih =>
    set b : Fin 4 := ⟨n % 4, Nat.mod_lt _ (by decide)⟩ with hb
    have hbn : b.val = n := Nat.mod_eq_of_lt (by omega)
    refine (congrFun (congrArg (v.read (Elt Ideal)) (View.writes_append (L := [p13 x6 o ho W
      (v.read (Elt Ideal) (v.writes (Elt Ideal) v.junk (l13 x6 o ho W v n))) b]) ..)) _).trans ?_
    by_cases h : a = b
    · subst h
      rw [if_pos (by omega)]
      refine View.read_writes_apply_of_pieces (Val := Elt Ideal) v _ (fun y => ((∑ q, w b (y 1) (ro o ho q) * B.g (ro o ho q) (pc b (y 2)) : ℝ) : EReal))
        _ (fun p hp y => ?_) _ ⟨_, List.mem_singleton_self _, ?_⟩
      · obtain rfl := List.mem_singleton.mp hp
        obtain ⟨z, k', l', rfl⟩ : ∃ (z : Fin 1) (k' : Fin 512) (l' : Fin 128), y = ix3 z k' l' := ⟨y 0, y 1, y 2, by funext z; fin_cases z <;> rfl⟩
        obtain rfl : z = 0 := Subsingleton.elim _ _
        rw [p13_at R o ho W w hW _ (fun a k l => if a.val < n then ∑ q, w a k (ro o ho q) * B.g (ro o ho q) (pc a l) else 0) b
          (ih (by omega) b), if_neg (by omega), zero_add]
        have e1 : ((p13 x6 o ho W (v.read (Elt Ideal) (v.writes (Elt Ideal) v.junk (l13 x6 o ho W v n))) b).1.emb (ix3 0 k' l')) 1 = k' := Fin.ext (by show 0 + 1 * k'.val = k'.val; omega)
        have e2 : ((p13 x6 o ho W (v.read (Elt Ideal) (v.writes (Elt Ideal) v.junk (l13 x6 o ho W v n))) b).1.emb (ix3 0 k' l')) 2 = l' := Fin.ext (by show 0 + 1 * l'.val = l'.val; omega)
        rw [e1, e2]
      · refine (Rect.mem_set_unit (inb := in13 b)).mpr fun y => ?_
        match y with
        | ⟨0, _⟩ => exact ⟨le_refl _, by show b.val < b.val + 1; omega⟩
        | ⟨1, _⟩ => exact ⟨Nat.zero_le _, by show k.val < 0 + 512; omega⟩
        | ⟨2, _⟩ => exact ⟨Nat.zero_le _, by show l.val < 0 + 128; omega⟩
    · have hx : a.val ≠ n := fun e => h (Fin.ext (e.trans hbn.symm))
      simp only [show (a.val < n + 1 ↔ a.val < n) by omega]
      refine Eq.trans (View.read_writes_apply_of_forall_not_mem v _ _ _ fun p hp hm => ?_) (ih (by omega) a k l)
      obtain rfl := List.mem_singleton.mp hp
      have h1 : b.val ≤ a.val ∧ a.val < b.val + 1 := (Rect.mem_set_unit (inb := in13 b)).mp hm 0
      omega

end Cert.AttnV

end
-- ==== Proof.AttnPoint.lean ====
/- One run of the attention backward body, as real numbers: what it leaves in the three gradient buffers. -/
module

public import proofs.«01_k».proof.Proof.AttnLoop
public import proofs.«01_k».proof.Proof.AttnDiag
public import proofs.«01_k».proof.Proof.AttnRun

@[expose] public section

set_option maxRecDepth 16384

noncomputable section

open Idealize.ShloMosaic Idealize.ShloMosaic.TcCoe Idealize.ShloMosaic.Tactic

namespace Cert.AttnV

open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen Base Cert.AttnK

variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x0 : Vec Ideal S4096x512 .bf16) (x1 : Vec Ideal S512x512 .bf16) (x2 : Vec Ideal S512x512 .bf16) (x3 : Vec Ideal S512x256 .bf16) (x4 : Vec Ideal S4096x256 .bf16) (x5 : Vec Ideal S2x2x4096 .f32) (x6 : Vec Ideal S2x2x4096 .f32) (P9 : sProp (MT nD τ sig Unit (Elt Ideal) ℕ (UR sig nD τ) ℕ)) (G9 : BufTy.Contents (Elt Ideal) arg9.view.ty) (h13 : First (F := Ideal) c i arg2 harg2 arg3 harg3 arg4 harg4 arg5 harg5 arg6 harg6 arg7 harg7 arg8 harg8 arg9 harg9 arg10 harg10 arg11 harg11 arg12 harg12 arg13 harg13 x3 P9 G9)

/-- The value blocks as the body lays them out: the four stores. -/
abbrev lay : List (View.Piece (Elt Ideal) S4x512x128 .bf16) := run.sl.HS0_4 (F := Ideal) arg5 harg5 x3

variable {B : Blk} (R : Reads B (arg2.view.read (Elt Ideal) (harg2.unread x0)) (arg3.view.read (Elt Ideal) (harg3.unread x1)) (arg4.view.read (Elt Ideal) (harg4.unread x2)) (arg6.view.read (Elt Ideal) (harg6.unread x4)) (arg7.view.read (Elt Ideal) (harg7.unread x5)) (arg8.view.read (Elt Ideal) (harg8.unread x6)) (arg12.view.read (Elt Ideal) (arg12.view.writes (Elt Ideal) arg12.view.junk (lay arg5 harg5 x3))))
  (F9 : Fin 512 → Fin 4096 → ℝ) (h9 : ∀ x r, arg9.view.read (Elt Ideal) G9 (ix2 x r) = (F9 x r : EReal))

/-- The key block's own rows. -/
theorem off8_le (i : grid0.Coords) : k0_off8 i 1 + 512 ≤ 4096 := by
  obtain ⟨j, hj⟩ := blk_lt i
  rw [off8, hj]; omega

/-- The weights of a key block: row `k` of the block sees the queries from its own on. -/
def pw (B : Blk) (j : ℕ) (a : Fin 4) (k : Fin 512) (r : Fin 4096) : ℝ := if 512 * j + k.val ≤ r.val then B.p a k r else 0

abbrev W0 (a : Fin 4) : FVec Ideal S512x512 .f32 := pmv (arg2.view.read (Elt Ideal) (harg2.unread x0)) (arg3.view.read (Elt Ideal) (harg3.unread x1)) (arg7.view.read (Elt Ideal) (harg7.unread x5)) a (k0_off8 i 1) (off8_le i)

include R in
theorem W0_at (a : Fin 4) (k q : Fin 512) : W0 i arg2 harg2 arg3 harg3 arg7 harg7 x0 x1 x5 a (ix2 k q) = (pw B (i 1).val a k (ro (k0_off8 i 1) (off8_le i) q) : EReal) := by
  have e : (ro (k0_off8 i 1) (off8_le i) q).val = 512 * (i 1).val + q.val := by rw [← off8]; rfl
  have h : (512 * (i 1).val + k.val ≤ (ro (k0_off8 i 1) (off8_le i) q).val) ↔ k ≤ q := by rw [e, Fin.le_def]; omega
  unfold pw
  simp only [h]
  exact pmv_at R _ (off8_le i) a k q

include R h9 in
set_option maxHeartbeats 4000000 in
theorem run9_at (x : Fin 512) (r : Fin 4096) : arg9.view.read (Elt Ideal) (run (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 P9 G9 h13).1 (ix2 x r)
    = ((F9 x r + (if 512 * (i 1).val ≤ r.val ∧ r.val < 512 * (i 1).val + 512 then ∑ k, B.kt x k * B.ds (hd x) (pw B (i 1).val (hd x)) k r else 0)
        + (if 512 * ((i 1).val + 1) ≤ r.val ∧ r.val < 512 * ((i 1).val + 1 + (7 - (i 1).val)) then ∑ k, B.kt x k * B.ds (hd x) (B.p (hd x)) k r else 0) : ℝ) : EReal) := by
  have e1 := trips1 i
  have e2 := trips2 i
  dsimp only [k0_t1_loop, k0_t2_loop, Scf.Loop.trips] at e1 e2
  unfold run
  dsimp only
  clear! h13
  rw [e1, e2]
  refine (congrFun (congrArg (arg9.view.read (Elt Ideal)) ((View.writes_append (L := []) ..).trans (View.writes_append ..))) _).trans ?_
  refine (loop9 (R := R) (F9 := fun x r => F9 x r + (if 512 * (i 1).val ≤ r.val ∧ r.val < 512 * (i 1).val + 512 then ∑ k, B.kt x k * B.ds (hd x) (pw B (i 1).val (hd x)) k r else 0)) (h9 := ?_) (hn := le_refl _) ..).trans ?_
  · intro x r
    refine (congrFun (congrArg (fun z => arg9.view.read (Elt Ideal) (arg9.view.writes (Elt Ideal) G9 z)) (?_ :
      _ = four (p9 (arg4.view.read (Elt Ideal) (harg4.unread x2)) (arg6.view.read (Elt Ideal) (harg6.unread x4)) (arg8.view.read (Elt Ideal) (harg8.unread x6)) (arg12.view.read (Elt Ideal) (arg12.view.writes (Elt Ideal) arg12.view.junk (lay arg5 harg5 x3)))
        (k0_off8 i 1) (off8_le i) (W0 i arg2 harg2 arg3 harg3 arg7 harg7 x0 x1 x5) (arg9.view.read (Elt Ideal) G9)))) _).trans ?_
    · sl_unfold_words
      rfl
    · refine (write9 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ _ _ rfl F9 h9 x r).trans ?_
      rw [off8]
  · rfl

/-- What the two cleared buffers hold when the loop starts. -/
abbrev d10 (B : Blk) (i : grid0.Coords) (k x : Fin 512) : ℝ :=
  ∑ q, B.ds (hd x) (pw B (i 1).val (hd x)) k (ro (k0_off8 i 1) (off8_le i) q) * B.q (ro (k0_off8 i 1) (off8_le i) q) x
abbrev d13 (B : Blk) (i : grid0.Coords) (a : Fin 4) (k : Fin 512) (l : Fin 128) : ℝ :=
  ∑ q, pw B (i 1).val a k (ro (k0_off8 i 1) (off8_le i) q) * B.g (ro (k0_off8 i 1) (off8_le i) q) (pc a l)

theorem whole10 (X : Vec Ideal S512x512 .f32) (k x : Fin 512) :
    View.ld X (Rect.unit ![0, 0] S512x512.size inb_S512x512_S512x512_0_0) (ix2 k x) = X (ix2 k x) := by
  change X _ = X _; congr 1; funext y; apply Fin.ext
  match y with
  | ⟨0, _⟩ => show 0 + 1 * k.val = k.val; omega
  | ⟨1, _⟩ => show 0 + 1 * x.val = x.val; omega

theorem whole_write {sig : RefSig} {κ : Kind} {sp : Space} (v : View sig κ sp S512x512 .f32) (f : v.ty.Contents (Elt Ideal)) (L : List (View.Piece (Elt Ideal) S512x512 .f32))
    (Y : Vec Ideal S512x512 .f32) (k x : Fin 512) :
    v.read (Elt Ideal) (v.writes (Elt Ideal) f (⟨Rect.unit ![0, 0] S512x512.size inb_S512x512_S512x512_0_0, Y⟩ :: L)) (ix2 k x) = Y (ix2 k x) := by
  refine (congrFun (congrArg (v.read (Elt Ideal)) (View.writes_append (L := [_]) ..)) _).trans ?_
  refine View.read_writes_apply_of_pieces (Val := Elt Ideal) v _ Y _ (fun p hp y => ?_) _ ⟨_, List.mem_singleton_self _, ?_⟩
  · obtain rfl := List.mem_singleton.mp hp
    change Y _ = Y _; congr 1; funext z; apply Fin.ext
    match z with
    | ⟨0, _⟩ => show (y 0).val = 0 + 1 * (y 0).val; omega
    | ⟨1, _⟩ => show (y 1).val = 0 + 1 * (y 1).val; omega
  · refine (Rect.mem_set_unit (inb := inb_S512x512_S512x512_0_0)).mpr fun y => ?_
    match y with
    | ⟨0, _⟩ => exact ⟨Nat.zero_le _, by show k.val < 0 + 512; omega⟩
    | ⟨1, _⟩ => exact ⟨Nat.zero_le _, by show x.val < 0 + 512; omega⟩

include R in
set_option maxHeartbeats 4000000 in
theorem run10_at (k x : Fin 512) : arg10.view.read (Elt Ideal) (run (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 P9 G9 h13).2.1 (ix2 k x)
    = (((d10 B i k x + ∑ r : Fin 4096, (if 512 * ((i 1).val + 1) ≤ r.val ∧ r.val < 512 * ((i 1).val + 1 + (7 - (i 1).val)) then B.ds (hd x) (B.p (hd x)) k r * B.q r x else 0)) * Real.log 2 : ℝ) : EReal) := by
  have e1 := trips1 i
  have e2 := trips2 i
  dsimp only [k0_t1_loop, k0_t2_loop, Scf.Loop.trips] at e1 e2
  unfold run
  dsimp only
  clear! h13
  refine (whole_write arg10.view _ _ _ k x).trans ?_
  unfold run.sl.v304
  simp only [e1, e2]
  refine scaled_at _ k x (d10 B i k x + ∑ r : Fin 4096, (if 512 * ((i 1).val + 1) ≤ r.val ∧ r.val < 512 * ((i 1).val + 1 + (7 - (i 1).val)) then B.ds (hd x) (B.p (hd x)) k r * B.q r x else 0)) ?_
  refine (whole10 (arg10.view.read (Elt Ideal) _) k x).trans ?_
  refine (congrFun (congrArg (arg10.view.read (Elt Ideal)) ((View.writes_append (L := []) ..).trans (View.writes_append ..))) _).trans ?_
  refine (loop10 (R := R) (F10 := d10 B i) (h10 := ?_) (hn := le_refl _) ..).trans rfl
  intro k x
  refine (congrFun (congrArg (fun z => arg10.view.read (Elt Ideal) (arg10.view.writes (Elt Ideal) arg10.view.junk z)) (?_ :
    _ = l10 (arg2.view.read (Elt Ideal) (harg2.unread x0)) (arg6.view.read (Elt Ideal) (harg6.unread x4)) (arg8.view.read (Elt Ideal) (harg8.unread x6)) (arg12.view.read (Elt Ideal) (arg12.view.writes (Elt Ideal) arg12.view.junk (lay arg5 harg5 x3))) (k0_off8 i 1) (off8_le i) (W0 i arg2 harg2 arg3 harg3 arg7 harg7 x0 x1 x5) arg10.view 4)) _).trans ?_
  · sl_unfold_words
    rfl
  · exact (diag10 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ 4 (le_refl _) k x).trans (by rw [if_pos (hd x).isLt])

/-- The value-gradient buffer of four heads when the loop is done. -/
abbrev v13 (B : Blk) (i : grid0.Coords) (a : Fin 4) (k : Fin 512) (l : Fin 128) : ℝ :=
  d13 B i a k l + ∑ r : Fin 4096, (if 512 * ((i 1).val + 1) ≤ r.val ∧ r.val < 512 * ((i 1).val + 1 + (7 - (i 1).val)) then B.p a k r * B.g r (pc a l) else 0)

theorem head13 (X : Vec Ideal S4x512x128 .f32) (a : Fin 4) (k : Fin 512) (l : Fin 128) :
    View.ld X (Rect.unit ![a.val, 0, 0] S1x512x128.size (in13 a)) (ix3 0 k l) = X (ix3 a k l) := by
  change X _ = X _; congr 1; funext y; apply Fin.ext
  match y with
  | ⟨0, _⟩ => show a.val + 1 * 0 = a.val; omega
  | ⟨1, _⟩ => show 0 + 1 * k.val = k.val; omega
  | ⟨2, _⟩ => show 0 + 1 * l.val = l.val; omega

include R in
set_option maxHeartbeats 4000000 in
theorem v290_at (k : Fin 512) (l : Fin 128) : run.sl.v290 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 G9 (ix3 0 k l) = (v13 B i 0 k l : EReal) := by
  have e1 := trips1 i
  have e2 := trips2 i
  dsimp only [k0_t1_loop, k0_t2_loop, Scf.Loop.trips] at e1 e2
  unfold run.sl.v290
  simp only [e1, e2]
  refine (head13 (arg13.view.read (Elt Ideal) _) 0 k l).trans ?_
  refine (congrFun (congrArg (arg13.view.read (Elt Ideal)) ((View.writes_append (L := []) ..).trans (View.writes_append ..))) _).trans ?_
  refine (loop13 (R := R) (F13 := d13 B i) (h13 := ?_) (hn := le_refl _) ..).trans rfl
  intro a k l
  refine (congrFun (congrArg (fun z => arg13.view.read (Elt Ideal) (arg13.view.writes (Elt Ideal) arg13.view.junk z)) (?_ :
    _ = l13 (arg6.view.read (Elt Ideal) (harg6.unread x4)) (k0_off8 i 1) (off8_le i) (W0 i arg2 harg2 arg3 harg3 arg7 harg7 x0 x1 x5) arg13.view 4)) _).trans ?_
  · sl_unfold_words
    rfl
  · exact (diag13 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ 4 (le_refl _) a k l).trans (by rw [if_pos a.isLt])

include R in
set_option maxHeartbeats 4000000 in
theorem v292_at (k : Fin 512) (l : Fin 128) : run.sl.v292 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 G9 (ix3 0 k l) = (v13 B i 1 k l : EReal) := by
  have e1 := trips1 i
  have e2 := trips2 i
  dsimp only [k0_t1_loop, k0_t2_loop, Scf.Loop.trips] at e1 e2
  unfold run.sl.v292
  simp only [e1, e2]
  refine (head13 (arg13.view.read (Elt Ideal) _) 1 k l).trans ?_
  refine (congrFun (congrArg (arg13.view.read (Elt Ideal)) ((View.writes_append (L := []) ..).trans (View.writes_append ..))) _).trans ?_
  refine (loop13 (R := R) (F13 := d13 B i) (h13 := ?_) (hn := le_refl _) ..).trans rfl
  intro a k l
  refine (congrFun (congrArg (fun z => arg13.view.read (Elt Ideal) (arg13.view.writes (Elt Ideal) arg13.view.junk z)) (?_ :
    _ = l13 (arg6.view.read (Elt Ideal) (harg6.unread x4)) (k0_off8 i 1) (off8_le i) (W0 i arg2 harg2 arg3 harg3 arg7 harg7 x0 x1 x5) arg13.view 4)) _).trans ?_
  · sl_unfold_words
    rfl
  · exact (diag13 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ 4 (le_refl _) a k l).trans (by rw [if_pos a.isLt])

include R in
set_option maxHeartbeats 4000000 in
theorem v298_at (k : Fin 512) (l : Fin 128) : run.sl.v298 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 G9 (ix3 0 k l) = (v13 B i 2 k l : EReal) := by
  have e1 := trips1 i
  have e2 := trips2 i
  dsimp only [k0_t1_loop, k0_t2_loop, Scf.Loop.trips] at e1 e2
  unfold run.sl.v298
  simp only [e1, e2]
  refine (head13 (arg13.view.read (Elt Ideal) _) 2 k l).trans ?_
  refine (congrFun (congrArg (arg13.view.read (Elt Ideal)) ((View.writes_append (L := []) ..).trans (View.writes_append ..))) _).trans ?_
  refine (loop13 (R := R) (F13 := d13 B i) (h13 := ?_) (hn := le_refl _) ..).trans rfl
  intro a k l
  refine (congrFun (congrArg (fun z => arg13.view.read (Elt Ideal) (arg13.view.writes (Elt Ideal) arg13.view.junk z)) (?_ :
    _ = l13 (arg6.view.read (Elt Ideal) (harg6.unread x4)) (k0_off8 i 1) (off8_le i) (W0 i arg2 harg2 arg3 harg3 arg7 harg7 x0 x1 x5) arg13.view 4)) _).trans ?_
  · sl_unfold_words
    rfl
  · exact (diag13 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ 4 (le_refl _) a k l).trans (by rw [if_pos a.isLt])

include R in
set_option maxHeartbeats 4000000 in
theorem v300_at (k : Fin 512) (l : Fin 128) : run.sl.v300 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 G9 (ix3 0 k l) = (v13 B i 3 k l : EReal) := by
  have e1 := trips1 i
  have e2 := trips2 i
  dsimp only [k0_t1_loop, k0_t2_loop, Scf.Loop.trips] at e1 e2
  unfold run.sl.v300
  simp only [e1, e2]
  refine (head13 (arg13.view.read (Elt Ideal) _) 3 k l).trans ?_
  refine (congrFun (congrArg (arg13.view.read (Elt Ideal)) ((View.writes_append (L := []) ..).trans (View.writes_append ..))) _).trans ?_
  refine (loop13 (R := R) (F13 := d13 B i) (h13 := ?_) (hn := le_refl _) ..).trans rfl
  intro a k l
  refine (congrFun (congrArg (fun z => arg13.view.read (Elt Ideal) (arg13.view.writes (Elt Ideal) arg13.view.junk z)) (?_ :
    _ = l13 (arg6.view.read (Elt Ideal) (harg6.unread x4)) (k0_off8 i 1) (off8_le i) (W0 i arg2 harg2 arg3 harg3 arg7 harg7 x0 x1 x5) arg13.view 4)) _).trans ?_
  · sl_unfold_words
    rfl
  · exact (diag13 R _ (off8_le i) (W0 i arg2 harg2 arg3 harg3 arg7 harg7 x0 x1 x5) (pw B (i 1).val) (W0_at i arg2 harg2 arg3 harg3 arg4 harg4 arg5 harg5 arg6 harg6 arg7 harg7 arg8 harg8 arg12 x0 x1 x2 x3 x4 x5 x6 R) _ 4 (le_refl _) a k l).trans (by rw [if_pos a.isLt])

/-- A value-gradient block from the two buffers of each pair of heads: the low half from the even head's. -/
abbrev vout (B : Blk) (i : grid0.Coords) (k : Fin 512) (x : Fin 256) : ℝ :=
  if x.val % 128 < 64 then v13 B i ⟨2 * (x.val / 128), by omega⟩ k ⟨x.val % 128, by omega⟩ else v13 B i ⟨2 * (x.val / 128) + 1, by omega⟩ k ⟨x.val % 128, by omega⟩

include R in
theorem run11_at (v : View sig .tc .vmem S512x256 .f32) (f : v.ty.Contents (Elt Ideal)) (k : Fin 512) (x : Fin 256) :
    v.read (Elt Ideal) (v.writes (Elt Ideal) f (run (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 P9 G9 h13).2.2.1) (ix2 k x) = (vout B i k x : EReal) := by
  have s : (run (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 P9 G9 h13).2.2.1
      = [⟨Rect.unit ![0, 128] S512x128.size inb_S512x256_S512x128_0_128, k0_pay1 (iota .tc S512x128 32 [1] iota_S512x128_d1_w32) (run.sl.v298 c i arg2 harg2 arg3 harg3 arg4 harg4 arg5 harg5 arg6 harg6 arg7 harg7 arg8 harg8 arg9 harg9 arg10 harg10 arg11 harg11 arg12 harg12 arg13 harg13 x0 x1 x2 x3 x4 x5 x6 G9) (run.sl.v300 c i arg2 harg2 arg3 harg3 arg4 harg4 arg5 harg5 arg6 harg6 arg7 harg7 arg8 harg8 arg9 harg9 arg10 harg10 arg11 harg11 arg12 harg12 arg13 harg13 x0 x1 x2 x3 x4 x5 x6 G9)⟩,
         ⟨Rect.unit ![0, 0] S512x128.size inb_S512x256_S512x128_0_0, k0_pay1 (iota .tc S512x128 32 [1] iota_S512x128_d1_w32) (run.sl.v290 c i arg2 harg2 arg3 harg3 arg4 harg4 arg5 harg5 arg6 harg6 arg7 harg7 arg8 harg8 arg9 harg9 arg10 harg10 arg11 harg11 arg12 harg12 arg13 harg13 x0 x1 x2 x3 x4 x5 x6 G9) (run.sl.v292 c i arg2 harg2 arg3 harg3 arg4 harg4 arg5 harg5 arg6 harg6 arg7 harg7 arg8 harg8 arg9 harg9 arg10 harg10 arg11 harg11 arg12 harg12 arg13 harg13 x0 x1 x2 x3 x4 x5 x6 G9)⟩] := by
    unfold run
    rfl
  rw [s]
  have key : ∀ (b : ℕ) (hb : ∀ y, (![0, 128 * b] : Fin 2 → ℕ) y + S512x128.size y ≤ S512x256.size y) (hb2 : b < 2) (k' : Fin 512) (l : Fin 128) (z : ℝ),
      z = (if l.val < 64 then v13 B i ⟨2 * b, by omega⟩ k' l else v13 B i ⟨2 * b + 1, by omega⟩ k' l) →
      (z : EReal) = (fun y : S512x256.Idx => (vout B i (y 0) (y 1) : EReal)) ((Rect.unit (s := S512x256) ![0, 128 * b] S512x128.size hb).emb (ix2 k' l)) := by
    intro b hb hb2 k' l z hz
    have e0 : ((Rect.unit (s := S512x256) ![0, 128 * b] S512x128.size hb).emb (ix2 k' l)) 0 = k' := Fin.ext (by show 0 + 1 * k'.val = k'.val; omega)
    have e1 : (((Rect.unit (s := S512x256) ![0, 128 * b] S512x128.size hb).emb (ix2 k' l)) 1).val = 128 * b + l.val := by show 128 * b + 1 * l.val = 128 * b + l.val; omega
    have hl := l.isLt
    dsimp only
    rw [e0, hz]
    unfold vout
    congr 1
    have d : (128 * b + l.val) / 128 = b := by omega
    have m : (128 * b + l.val) % 128 = l.val := by omega
    simp only [e1, d, m]
  refine View.read_writes_apply_of_pieces (Val := Elt Ideal) v f (fun y : S512x256.Idx => (vout B i (y 0) (y 1) : EReal)) _ (fun p hp y => ?_) (ix2 k x) ?_
  · rcases List.mem_cons.mp hp with rfl | hp
    · obtain ⟨k', l, rfl⟩ : ∃ (k' : Fin 512) (l : Fin 128), y = ix2 k' l := ⟨y 0, y 1, by funext z; fin_cases z <;> rfl⟩
      exact (out_at _ _ k' l _ _ (v298_at c i arg2 harg2 arg3 harg3 arg4 harg4 arg5 harg5 arg6 harg6 arg7 harg7 arg8 harg8 arg9 harg9 arg10 harg10 arg11 harg11 arg12 harg12 arg13 harg13 x0 x1 x2 x3 x4 x5 x6 G9 R k' l) (v300_at c i arg2 harg2 arg3 harg3 arg4 harg4 arg5 harg5 arg6 harg6 arg7 harg7 arg8 harg8 arg9 harg9 arg10 harg10 arg11 harg11 arg12 harg12 arg13 harg13 x0 x1 x2 x3 x4 x5 x6 G9 R k' l)).trans (key 1 inb_S512x256_S512x128_0_128 (by omega) k' l _ rfl)
    · obtain rfl := List.mem_singleton.mp hp
      obtain ⟨k', l, rfl⟩ : ∃ (k' : Fin 512) (l : Fin 128), y = ix2 k' l := ⟨y 0, y 1, by funext z; fin_cases z <;> rfl⟩
      exact (out_at _ _ k' l _ _ (v290_at c i arg2 harg2 arg3 harg3 arg4 harg4 arg5 harg5 arg6 harg6 arg7 harg7 arg8 harg8 arg9 harg9 arg10 harg10 arg11 harg11 arg12 harg12 arg13 harg13 x0 x1 x2 x3 x4 x5 x6 G9 R k' l) (v292_at c i arg2 harg2 arg3 harg3 arg4 harg4 arg5 harg5 arg6 harg6 arg7 harg7 arg8 harg8 arg9 harg9 arg10 harg10 arg11 harg11 arg12 harg12 arg13 harg13 x0 x1 x2 x3 x4 x5 x6 G9 R k' l)).trans (key 0 inb_S512x256_S512x128_0_0 (by omega) k' l _ rfl)
  · by_cases h : x.val < 128
    · refine ⟨_, List.mem_cons_of_mem _ (List.mem_singleton_self _), (Rect.mem_set_unit (inb := inb_S512x256_S512x128_0_0)).mpr fun y => ?_⟩
      match y with
      | ⟨0, _⟩ => exact ⟨Nat.zero_le _, by show k.val < 0 + 512; omega⟩
      | ⟨1, _⟩ => exact ⟨Nat.zero_le _, by show x.val < 0 + 128; omega⟩
    · refine ⟨_, List.mem_cons_self, (Rect.mem_set_unit (inb := inb_S512x256_S512x128_0_128)).mpr fun y => ?_⟩
      match y with
      | ⟨0, _⟩ => exact ⟨Nat.zero_le _, by show k.val < 0 + 512; omega⟩
      | ⟨1, _⟩ => exact ⟨by show 128 ≤ x.val; omega, by show x.val < 128 + 128; omega⟩

end Cert.AttnV

end
-- ==== Proof.AttnSum.lean ====
/- The padded value blocks as the body lays them out, and the sums over the queries a key block is seen by. -/
module

public import proofs.«01_k».proof.Proof.AttnPoint

@[expose] public section

set_option maxRecDepth 16384

noncomputable section

open Idealize.ShloMosaic Idealize.ShloMosaic.TcCoe Idealize.SL.Sem
open Idealize.ShloMosaic.Pipeline (Dat)

namespace Cert.AttnV

open Cert.AttnIdeal Cert.AttnIdeal.Gen Base Cert.AttnK

theorem inv (a : Fin 4) (x : Fin 2) : (![0, 128 * (a.val / 2)] : Fin 2 → ℕ) x + S512x128.size x ≤ S512x256.size x := by
  fin_cases x; exacts [(by show 0 + 512 ≤ 512; omega), (by show 128 * (a.val / 2) + 128 ≤ 256; omega)]

/-- The store of head `a`'s values, padded: even heads keep the low half of the pair's columns, odd ones the high half. -/
def pv12 (X : Vec Ideal S512x256 .bf16) (a : Fin 4) : View.Piece (Elt Ideal) S4x512x128 .bf16 :=
  ⟨Rect.unit ![a.val, 0, 0] S1x512x128.size (in13 a),
    if a.val % 2 = 0 then k0_pay68 (View.ld X (Rect.unit ![0, 128 * (a.val / 2)] S512x128.size (inv a)))
    else k0_pay69 (View.ld X (Rect.unit ![0, 128 * (a.val / 2)] S512x128.size (inv a)))⟩

theorem pv12_at (X : Vec Ideal S512x256 .bf16) (v : Fin 512 → Fin 256 → ℝ) (hX : ∀ k x, X (ix2 k x) = (v k x : EReal)) (a : Fin 4)
    (k : Fin 512) (l : Fin 128) : (pv12 X a).2 (ix3 0 k l) = (half v a k l : EReal) := by
  have hl : View.ld X (Rect.unit (s := S512x256) ![0, 128 * (a.val / 2)] S512x128.size (inv a)) (ix2 k l) = (v k (pc a l) : EReal) := by
    rw [← hX]; change X _ = X _; congr 1; funext y; apply Fin.ext
    match y with
    | ⟨0, _⟩ => show 0 + 1 * k.val = k.val; omega
    | ⟨1, _⟩ => show 128 * (a.val / 2) + 1 * l.val = 128 * (a.val / 2) + l.val; omega
  show (if a.val % 2 = 0 then k0_pay68 (View.ld X (Rect.unit (s := S512x256) ![0, 128 * (a.val / 2)] S512x128.size (inv a)))
    else k0_pay69 (View.ld X (Rect.unit (s := S512x256) ![0, 128 * (a.val / 2)] S512x128.size (inv a)))) (ix3 0 k l) = _
  unfold half
  by_cases h : a.val % 2 = 0
  · rw [if_pos h, lo_at _ k l _ hl]; simp only [h, true_iff]
  · rw [if_neg h, hi_at _ k l _ hl]; simp only [h, false_iff, not_lt]

theorem lay_at (arg5 : Memref sig .tc .vmem S512x256 .bf16) (harg5 : arg5.IsWhole) (x3 : Vec Ideal S512x256 .bf16)
    (v : Fin 512 → Fin 256 → ℝ) (hX : ∀ k x, arg5.view.read (Elt Ideal) (harg5.unread x3) (ix2 k x) = (v k x : EReal))
    (w : View sig .tc .vmem S4x512x128 .bf16) (f : w.ty.Contents (Elt Ideal)) (a : Fin 4) (k : Fin 512) (l : Fin 128) :
    w.read (Elt Ideal) (w.writes (Elt Ideal) f (lay arg5 harg5 x3)) (ix3 a k l) = (half v a k l : EReal) := by
  have e : lay arg5 harg5 x3 = four (pv12 (arg5.view.read (Elt Ideal) (harg5.unread x3))) := by
    unfold lay run.sl.HS0_4
    rfl
  rw [e]
  refine View.read_writes_apply_of_pieces (Val := Elt Ideal) w f (fun y : S4x512x128.Idx => (half v (y 0) (y 1) (y 2) : EReal))
    _ (fun p hp' x => ?_) _ ⟨_, four_mem _ a, ?_⟩
  · obtain ⟨b, rfl⟩ := mem_four hp'
    obtain ⟨z, k', l', rfl⟩ : ∃ (z : Fin 1) (k' : Fin 512) (l' : Fin 128), x = ix3 z k' l' := ⟨x 0, x 1, x 2, by funext y; fin_cases y <;> rfl⟩
    obtain rfl : z = 0 := Subsingleton.elim _ _
    rw [pv12_at _ v hX b]
    have e0 : ((pv12 (arg5.view.read (Elt Ideal) (harg5.unread x3)) b).1.emb (ix3 0 k' l')) 0 = b := Fin.ext (by show b.val + 1 * 0 = b.val; omega)
    have e1 : ((pv12 (arg5.view.read (Elt Ideal) (harg5.unread x3)) b).1.emb (ix3 0 k' l')) 1 = k' := Fin.ext (by show 0 + 1 * k'.val = k'.val; omega)
    have e2 : ((pv12 (arg5.view.read (Elt Ideal) (harg5.unread x3)) b).1.emb (ix3 0 k' l')) 2 = l' := Fin.ext (by show 0 + 1 * l'.val = l'.val; omega)
    rw [e0, e1, e2]
  · refine (Rect.mem_set_unit (inb := in13 a)).mpr fun x => ?_
    match x with
    | ⟨0, _⟩ => exact ⟨le_refl _, by show a.val < a.val + 1; omega⟩
    | ⟨1, _⟩ => exact ⟨Nat.zero_le _, by show k.val < 0 + 512; omega⟩
    | ⟨2, _⟩ => exact ⟨Nat.zero_le _, by show l.val < 0 + 128; omega⟩

/-! The sums over the queries from the key block on, as one sum over all queries. -/

theorem pw_lt (B : Blk) (j : ℕ) (a : Fin 4) (k : Fin 512) (r : Fin 4096) (h : r.val < 512 * j) : pw B j a k r = 0 := if_neg (by omega)
theorem pw_ge (B : Blk) (j : ℕ) (a : Fin 4) (k : Fin 512) (r : Fin 4096) (h : 512 * (j + 1) ≤ r.val) : pw B j a k r = B.p a k r := if_pos (by omega)

theorem sum_pw (i : grid0.Coords) (B : Blk) (a : Fin 4) (k : Fin 512) (h : Fin 4096 → ℝ) :
    ∑ q, pw B (i 1).val a k (ro (k0_off8 i 1) (off8_le i) q) * h (ro (k0_off8 i 1) (off8_le i) q)
      + ∑ r : Fin 4096, (if 512 * ((i 1).val + 1) ≤ r.val ∧ r.val < 512 * ((i 1).val + 1 + (7 - (i 1).val)) then B.p a k r * h r else 0)
      = ∑ r, pw B (i 1).val a k r * h r := by
  obtain ⟨j, hj⟩ := blk_lt i
  have ho := off8 i
  have w := sum_win (fun r => pw B (i 1).val a k r * h r) (k0_off8 i 1) (k0_off8 i 1) (le_refl _) (off8_le i)
  rw [Finset.sum_eq_zero (s := Finset.univ) (f := fun r : Fin 4096 => if k0_off8 i 1 ≤ r.val ∧ r.val < k0_off8 i 1 then _ else (0 : ℝ)) fun r _ => if_neg (by omega), zero_add] at w
  rw [← w, ← Finset.sum_add_distrib]
  refine Finset.sum_congr rfl fun r _ => ?_
  have hr := r.isLt
  by_cases h1 : r.val < 512 * (i 1).val
  · rw [if_neg (by omega), if_neg (by omega), pw_lt _ _ _ _ _ h1]; ring
  · by_cases h2 : r.val < 512 * ((i 1).val + 1)
    · rw [if_pos (by omega), if_neg (by omega), add_zero]
    · rw [if_neg (by omega), if_pos (by omega), pw_ge _ _ _ _ _ (by omega), zero_add]

end Cert.AttnV

end
-- ==== Proof.AttnOut.lean ====
/- What each grid point leaves in the three gradient blocks, when the kernel's seven input arrays hold real numbers. -/
module

public import proofs.«01_k».proof.Proof.AttnSum
public import proofs.«01_k».proof.Proof.AttnFrame

@[expose] public section

set_option maxRecDepth 16384

noncomputable section

open Idealize.ShloMosaic Idealize.ShloMosaic.TcCoe Idealize.SL.Sem
open Idealize.ShloMosaic.Pipeline (Dat)

namespace Cert.AttnV

open Cert.AttnIdeal Cert.AttnIdeal.Gen Base Cert.AttnK

/-- The kernel's input arrays as real numbers: the scaled queries, the keys, the values, the output's gradient, the
    base-2 logarithms of the row sums, and the row products of output and gradient. -/
structure Arr where
  q : Fin 4096 → Fin 1024 → ℝ
  k : Fin 4096 → Fin 1024 → ℝ
  v : Fin 4096 → Fin 512 → ℝ
  g : Fin 4096 → Fin 512 → ℝ
  l : Fin 4 → Fin 2 → Fin 4096 → ℝ
  d : Fin 4 → Fin 2 → Fin 4096 → ℝ

variable (m : (ℓ : Loc nD τ sig) → Buf (Elt Ideal) ℓ) (c : Dev nD)

structure Has (A : Arr) : Prop where
  q : ∀ r x, (V m c main_v10 : S4096x1024.Idx → EReal) (ix2 r x) = (A.q r x : EReal)
  k : ∀ r x, (V m c main_v13 : S4096x1024.Idx → EReal) (ix2 r x) = (A.k r x : EReal)
  kt : ∀ x r, (V m c main_v51 : S1024x4096.Idx → EReal) (ix2 x r) = (A.k r x : EReal)
  v : ∀ r x, (V m c main_v15 : S4096x512.Idx → EReal) (ix2 r x) = (A.v r x : EReal)
  g : ∀ r x, (V m c main_v50 : S4096x512.Idx → EReal) (ix2 r x) = (A.g r x : EReal)
  l : ∀ p h r, (V m c main_v44 : S4x2x4096.Idx → EReal) (ix3 p h r) = (A.l p h r : EReal)
  d : ∀ p h r, (V m c main_v48 : S4x2x4096.Idx → EReal) (ix3 p h r) = (A.d p h r : EReal)

/-- Column `x` of head group `g`, and row `k` of key block `j`. -/
def cg (g : Fin 2) (x : Fin 512) : Fin 1024 := ⟨512 * g.val + x.val, by omega⟩
def ch (g : Fin 2) (x : Fin 256) : Fin 512 := ⟨256 * g.val + x.val, by omega⟩
def pg (g : Fin 2) (p : Fin 2) : Fin 4 := ⟨2 * g.val + p.val, by omega⟩
def rj (j : Fin 8) (k : Fin 512) : Fin 4096 := ⟨512 * j.val + k.val, by omega⟩

/-- The blocks of head group `g` and key block `j`. -/
def blkOf (A : Arr) (g : Fin 2) (j : Fin 8) : Blk where
  q r x := A.q r (cg g x)
  k k x := A.k (rj j k) (cg g x)
  kt x k := A.k (rj j k) (cg g x)
  va := half fun k x => A.v (rj j k) (ch g x)
  g r x := A.g r (ch g x)
  l p h r := A.l (pg g p) h r
  d p h r := A.d (pg g p) h r

/-- The head group and the key block of a point. -/
def grp (t : Fin cfg0.N) : Fin 2 := ⟨t.val / 8, by have h : t.val < 16 := t.isLt; omega⟩
def kbk (t : Fin cfg0.N) : Fin 8 := ⟨t.val % 8, by omega⟩

theorem kbk_eq (t : Fin cfg0.N) : (grid0.coords t 1).val = (kbk t).val :=
  (by decide +kernel : ∀ t : Fin grid0.N, (grid0.coords t 1).val = t.val % 8) t

variable {m c} {A : Arr} (H : Has m c A)
include H

theorem b0 (t : Fin cfg0.N) (r : Fin 4096) (x : Fin 512) : (iblk m c 0 t : S4096x512.Idx → EReal) (ix2 r x) = (A.q r (cg (grp t) x) : EReal) := by
  unfold iblk
  rw [View.read_apply]
  refine Eq.trans ?_ (H.q _ _)
  show (V m c main_v10 : S4096x1024.Idx → EReal) _ = _
  congr 1; funext a; apply Fin.ext
  match a with
  | ⟨0, _⟩ =>
    show win0_0.index t 0 * 4096 + 1 * r.val = r.val
    rw [(by decide +kernel : ∀ t : Fin grid0.N, win0_0.index t 0 = 0) t]; omega
  | ⟨1, _⟩ =>
    show win0_0.index t 1 * 512 + 1 * x.val = 512 * (t.val / 8) + x.val
    rw [(by decide +kernel : ∀ t : Fin grid0.N, win0_0.index t 1 = t.val / 8) t]; omega

theorem b1 (t : Fin cfg0.N) (k x : Fin 512) : (iblk m c 1 t : S512x512.Idx → EReal) (ix2 k x) = (A.k (rj (kbk t) k) (cg (grp t) x) : EReal) := by
  unfold iblk
  rw [View.read_apply]
  refine Eq.trans ?_ (H.k _ _)
  show (V m c main_v13 : S4096x1024.Idx → EReal) _ = _
  congr 1; funext a; apply Fin.ext
  match a with
  | ⟨0, _⟩ =>
    show win0_1.index t 0 * 512 + 1 * k.val = 512 * (t.val % 8) + k.val
    rw [(by decide +kernel : ∀ t : Fin grid0.N, win0_1.index t 0 = t.val % 8) t]; omega
  | ⟨1, _⟩ =>
    show win0_1.index t 1 * 512 + 1 * x.val = 512 * (t.val / 8) + x.val
    rw [(by decide +kernel : ∀ t : Fin grid0.N, win0_1.index t 1 = t.val / 8) t]; omega

theorem b2 (t : Fin cfg0.N) (x k : Fin 512) : (iblk m c 2 t : S512x512.Idx → EReal) (ix2 x k) = (A.k (rj (kbk t) k) (cg (grp t) x) : EReal) := by
  unfold iblk
  rw [View.read_apply]
  refine Eq.trans ?_ (H.kt _ _)
  show (V m c main_v51 : S1024x4096.Idx → EReal) _ = _
  congr 1; funext a; apply Fin.ext
  match a with
  | ⟨0, _⟩ =>
    show win0_2.index t 0 * 512 + 1 * x.val = 512 * (t.val / 8) + x.val
    rw [(by decide +kernel : ∀ t : Fin grid0.N, win0_2.index t 0 = t.val / 8) t]; omega
  | ⟨1, _⟩ =>
    show win0_2.index t 1 * 512 + 1 * k.val = 512 * (t.val % 8) + k.val
    rw [(by decide +kernel : ∀ t : Fin grid0.N, win0_2.index t 1 = t.val % 8) t]; omega

theorem b3 (t : Fin cfg0.N) (k : Fin 512) (x : Fin 256) : (iblk m c 3 t : S512x256.Idx → EReal) (ix2 k x) = (A.v (rj (kbk t) k) (ch (grp t) x) : EReal) := by
  unfold iblk
  rw [View.read_apply]
  refine Eq.trans ?_ (H.v _ _)
  show (V m c main_v15 : S4096x512.Idx → EReal) _ = _
  congr 1; funext a; apply Fin.ext
  match a with
  | ⟨0, _⟩ =>
    show win0_3.index t 0 * 512 + 1 * k.val = 512 * (t.val % 8) + k.val
    rw [(by decide +kernel : ∀ t : Fin grid0.N, win0_3.index t 0 = t.val % 8) t]; omega
  | ⟨1, _⟩ =>
    show win0_3.index t 1 * 256 + 1 * x.val = 256 * (t.val / 8) + x.val
    rw [(by decide +kernel : ∀ t : Fin grid0.N, win0_3.index t 1 = t.val / 8) t]; omega

theorem b4 (t : Fin cfg0.N) (r : Fin 4096) (x : Fin 256) : (iblk m c 4 t : S4096x256.Idx → EReal) (ix2 r x) = (A.g r (ch (grp t) x) : EReal) := by
  unfold iblk
  rw [View.read_apply]
  refine Eq.trans ?_ (H.g _ _)
  show (V m c main_v50 : S4096x512.Idx → EReal) _ = _
  congr 1; funext a; apply Fin.ext
  match a with
  | ⟨0, _⟩ =>
    show win0_4.index t 0 * 4096 + 1 * r.val = r.val
    rw [(by decide +kernel : ∀ t : Fin grid0.N, win0_4.index t 0 = 0) t]; omega
  | ⟨1, _⟩ =>
    show win0_4.index t 1 * 256 + 1 * x.val = 256 * (t.val / 8) + x.val
    rw [(by decide +kernel : ∀ t : Fin grid0.N, win0_4.index t 1 = t.val / 8) t]; omega

theorem b5 (t : Fin cfg0.N) (p h : Fin 2) (r : Fin 4096) : (iblk m c 5 t : S2x2x4096.Idx → EReal) (ix3 p h r) = (A.l (pg (grp t) p) h r : EReal) := by
  unfold iblk
  rw [View.read_apply]
  refine Eq.trans ?_ (H.l _ _ _)
  show (V m c main_v44 : S4x2x4096.Idx → EReal) _ = _
  congr 1; funext a; apply Fin.ext
  match a with
  | ⟨0, _⟩ =>
    show win0_5.index t 0 * 2 + 1 * p.val = 2 * (t.val / 8) + p.val
    rw [(by decide +kernel : ∀ t : Fin grid0.N, win0_5.index t 0 = t.val / 8) t]; omega
  | ⟨1, _⟩ =>
    show win0_5.index t 1 * 2 + 1 * h.val = h.val
    rw [(by decide +kernel : ∀ t : Fin grid0.N, win0_5.index t 1 = 0) t]; omega
  | ⟨2, _⟩ =>
    show win0_5.index t 2 * 4096 + 1 * r.val = r.val
    rw [(by decide +kernel : ∀ t : Fin grid0.N, win0_5.index t 2 = 0) t]; omega

theorem b6 (t : Fin cfg0.N) (p h : Fin 2) (r : Fin 4096) : (iblk m c 6 t : S2x2x4096.Idx → EReal) (ix3 p h r) = (A.d (pg (grp t) p) h r : EReal) := by
  unfold iblk
  rw [View.read_apply]
  refine Eq.trans ?_ (H.d _ _ _)
  show (V m c main_v48 : S4x2x4096.Idx → EReal) _ = _
  congr 1; funext a; apply Fin.ext
  match a with
  | ⟨0, _⟩ =>
    show win0_6.index t 0 * 2 + 1 * p.val = 2 * (t.val / 8) + p.val
    rw [(by decide +kernel : ∀ t : Fin grid0.N, win0_6.index t 0 = t.val / 8) t]; omega
  | ⟨1, _⟩ =>
    show win0_6.index t 1 * 2 + 1 * h.val = h.val
    rw [(by decide +kernel : ∀ t : Fin grid0.N, win0_6.index t 1 = 0) t]; omega
  | ⟨2, _⟩ =>
    show win0_6.index t 2 * 4096 + 1 * r.val = r.val
    rw [(by decide +kernel : ∀ t : Fin grid0.N, win0_6.index t 2 = 0) t]; omega

theorem reads (t : Fin cfg0.N) : Reads (blkOf A (grp t) (kbk t)) ((ms0_0 t).view.read (Elt Ideal) ((hs0_0 t).unread (iblk m c 0 t)))
    ((ms0_1 t).view.read (Elt Ideal) ((hs0_1 t).unread (iblk m c 1 t))) ((ms0_2 t).view.read (Elt Ideal) ((hs0_2 t).unread (iblk m c 2 t)))
    ((ms0_4 t).view.read (Elt Ideal) ((hs0_4 t).unread (iblk m c 4 t))) ((ms0_5 t).view.read (Elt Ideal) ((hs0_5 t).unread (iblk m c 5 t)))
    ((ms0_6 t).view.read (Elt Ideal) ((hs0_6 t).unread (iblk m c 6 t)))
    (scM0_0.view.read (Elt Ideal) (scM0_0.view.writes (Elt Ideal) scM0_0.view.junk (lay (ms0_3 t) (hs0_3 t) (iblk m c 3 t)))) where
  q r x := (congrFun ((hs0_0 t).read_unread _) _).trans (b0 H t r x)
  k r x := (congrFun ((hs0_1 t).read_unread _) _).trans (b1 H t r x)
  kt r x := (congrFun ((hs0_2 t).read_unread _) _).trans (b2 H t r x)
  g r x := (congrFun ((hs0_4 t).read_unread _) _).trans (b4 H t r x)
  l p h r := (congrFun ((hs0_5 t).read_unread _) _).trans (b5 H t p h r)
  d p h r := (congrFun ((hs0_6 t).read_unread _) _).trans (b6 H t p h r)
  va a k l := lay_at (ms0_3 t) (hs0_3 t) (iblk m c 3 t) _ (fun k x => (congrFun ((hs0_3 t).read_unread _) _).trans (b3 H t k x)) _ _ a k l

/-- What a point adds to the query gradients; the key gradients and the value gradients of its key block. -/
def dq (A : Arr) (t : Fin cfg0.N) (x : Fin 512) (r : Fin 4096) : ℝ :=
  ∑ k, (blkOf A (grp t) (kbk t)).kt x k * (blkOf A (grp t) (kbk t)).ds (hd x) (pw (blkOf A (grp t) (kbk t)) (kbk t).val (hd x)) k r
def dk (A : Arr) (t : Fin cfg0.N) (k x : Fin 512) : ℝ :=
  (∑ r, (blkOf A (grp t) (kbk t)).ds (hd x) (pw (blkOf A (grp t) (kbk t)) (kbk t).val (hd x)) k r * (blkOf A (grp t) (kbk t)).q r x) * Real.log 2
def dv (A : Arr) (t : Fin cfg0.N) (a : Fin 4) (k : Fin 512) (l : Fin 128) : ℝ :=
  ∑ r, pw (blkOf A (grp t) (kbk t)) (kbk t).val a k r * (blkOf A (grp t) (kbk t)).g r (pc a l)

theorem left9_at (t : Fin cfg0.N) (prev : Vec Ideal S512x4096 .f32) (F9 : Fin 512 → Fin 4096 → ℝ)
    (h9 : ∀ x r, (ms0_7 t).view.read (Elt Ideal) (mid9 m c t prev) (ix2 x r) = (F9 x r : EReal)) (x : Fin 512) (r : Fin 4096) :
    left9 m c t prev (ix2 x r) = ((F9 x r + dq A t x r : ℝ) : EReal) := by
  unfold left9
  refine (run9_at (R := reads H t) (F9 := F9) (h9 := h9) ..).trans ?_
  rw [add_assoc]
  congr 2
  have e := kbk_eq t
  obtain ⟨j, hj⟩ := blk_lt (grid0.coords t)
  have hr := r.isLt
  unfold dq
  rw [← e]
  by_cases h1 : r.val < 512 * (grid0.coords t 1).val
  · rw [if_neg (by omega), if_neg (by omega), add_zero]
    symm
    refine Finset.sum_eq_zero fun k _ => ?_
    unfold Blk.ds
    rw [pw_lt _ _ _ _ _ h1]; ring
  · by_cases h2 : r.val < 512 * ((grid0.coords t 1).val + 1)
    · rw [if_pos (by omega), if_neg (by omega), add_zero]
    · rw [if_neg (by omega), if_pos (by omega), zero_add]
      refine Finset.sum_congr rfl fun k _ => ?_
      unfold Blk.ds
      rw [pw_ge _ _ _ _ _ (by omega)]

theorem left10_at (t : Fin cfg0.N) (prev : Vec Ideal S512x4096 .f32) (k x : Fin 512) :
    left10 m c t prev (ix2 k x) = (dk A t k x : EReal) := by
  unfold left10 runAt
  have h := run10_at (R := reads H t) (P9 := pre9 c t prev) (G9 := mid9 m c t prev) (h13 := first_at m c t prev) (k := k) (x := x)
  rw [h]
  clear h
  refine congrArg _ ?_
  unfold dk d10
  refine congrArg (· * Real.log 2) ?_
  have e := kbk_eq t
  have w := sum_pw (grid0.coords t) (blkOf A (grp t) (kbk t)) (hd x) k
    (fun r => ((blkOf A (grp t) (kbk t)).dp (hd x) k r - (blkOf A (grp t) (kbk t)).d (hp (hd x)) (hr (hd x)) r) * (blkOf A (grp t) (kbk t)).q r x)
  rw [← e]
  simp only [← mul_assoc] at w
  exact w

theorem left11_at (t : Fin cfg0.N) (prev : Vec Ideal S512x4096 .f32) (k : Fin 512) (x : Fin 256) :
    left11 m c t prev (ix2 k x) = ((if x.val % 128 < 64 then dv A t ⟨2 * (x.val / 128), by omega⟩ k ⟨x.val % 128, by omega⟩
      else dv A t ⟨2 * (x.val / 128) + 1, by omega⟩ k ⟨x.val % 128, by omega⟩ : ℝ) : EReal) := by
  unfold left11
  refine (run11_at (R := reads H t) (P9 := pre9 c t prev) (G9 := mid9 m c t prev) (h13 := first_at m c t prev) (v := (ms0_9 t).view) (f := (ms0_9 t).view.junk) (k := k) (x := x) ..).trans ?_
  have e := kbk_eq t
  have w : ∀ a l, v13 (blkOf A (grp t) (kbk t)) (grid0.coords t) a k l = dv A t a k l := fun a l => by
    unfold dv; rw [← e]
    exact sum_pw (grid0.coords t) (blkOf A (grp t) (kbk t)) a k (fun r => (blkOf A (grp t) (kbk t)).g r (pc a l))
  unfold vout
  simp only [w]

end Cert.AttnV

end
-- ==== Proof.AttnFinal.lean ====
/- The three gradient arrays the kernel leaves, when its seven input arrays hold real numbers. -/
module

public import proofs.«01_k».proof.Proof.AttnOut

@[expose] public section

set_option maxRecDepth 16384

noncomputable section

open Idealize.ShloMosaic Idealize.ShloMosaic.TcCoe Idealize.SL.Sem
open Idealize.ShloMosaic.Pipeline (Dat)

namespace Cert.AttnV

open Cert.AttnIdeal Cert.AttnIdeal.Gen Base Cert.AttnK

/-- Column `d` of head `h` among the padded query and key columns, and column `l` among the value columns. -/
def hcol (h : Fin 8) (d : Fin 128) : Fin 1024 := ⟨128 * h.val + d.val, by omega⟩
def vcol (h : Fin 8) (l : Fin 64) : Fin 512 := ⟨64 * h.val + l.val, by omega⟩
/-- The pair a head belongs to, and its place in it. -/
def pr (h : Fin 8) : Fin 4 := ⟨h.val / 2, by omega⟩
def pe (h : Fin 8) : Fin 2 := ⟨h.val % 2, by omega⟩
/-- The head of a column. -/
def hx (x : Fin 1024) : Fin 8 := ⟨x.val / 128, by omega⟩
def hy (y : Fin 512) : Fin 8 := ⟨y.val / 64, by omega⟩
/-- Head `a` of group `g`. -/
def hg (g : Fin 2) (a : Fin 4) : Fin 8 := ⟨4 * g.val + a.val, by omega⟩

namespace Arr
variable (A : Arr) (h : Fin 8) (k r : Fin 4096)

/-- The softmax weight of key `k` for query `r`, and the gradient of the score. -/
def P : ℝ := if k.val ≤ r.val then (2 : ℝ) ^ ((∑ d, A.k k (hcol h d) * A.q r (hcol h d)) - A.l (pr h) (pe h) r) else 0
def DS : ℝ := A.P h k r * ((∑ l, A.v k (vcol h l) * A.g r (vcol h l)) - A.d (pr h) (pe h) r)
/-- The gradients of queries, keys and values. -/
def DQ (x : Fin 1024) : ℝ := ∑ k, A.k k x * A.DS (hx x) k r
def DK (x : Fin 1024) : ℝ := (∑ r, A.DS (hx x) k r * A.q r x) * Real.log 2
def DV (y : Fin 512) : ℝ := ∑ r, A.P (hy y) k r * A.g r y

end Arr

section blocks
variable (A : Arr) (g : Fin 2) (j : Fin 8) (a : Fin 4) (k : Fin 512) (r : Fin 4096)

theorem pw_full : pw (blkOf A g j) j.val a k r = A.P (hg g a) (rj j k) r := by
  have e1 : ∀ d, cg g (hc a d) = hcol (hg g a) d := fun d => Fin.ext (by show 512 * g.val + (128 * a.val + d.val) = 128 * (4 * g.val + a.val) + d.val; omega)
  have e2 : pg g (hp a) = pr (hg g a) := Fin.ext (by show 2 * g.val + a.val / 2 = (4 * g.val + a.val) / 2; omega)
  have e3 : hr a = pe (hg g a) := Fin.ext (by show a.val % 2 = (4 * g.val + a.val) % 2; omega)
  unfold pw Arr.P Blk.p Blk.s
  simp only [blkOf, e1, e2, ← e3]
  rfl

theorem dp_full : (blkOf A g j).dp a k r = ∑ l, A.v (rj j k) (vcol (hg g a) l) * A.g r (vcol (hg g a) l) := by
  unfold Blk.dp
  simp only [blkOf, half]
  rw [Fin.sum_univ_tiles 2 64 (by norm_num), Fin.sum_univ_two]
  rcases Nat.mod_two_eq_zero_or_one a.val with h | h
  · refine (congrArg₂ (· + ·) (Finset.sum_congr rfl fun l _ => ?_) (Finset.sum_eq_zero fun l _ => ?_)).trans (add_zero _)
    · have e : ch g (pc a ⟨0 * 64 + l.val, by omega⟩) = vcol (hg g a) l :=
        Fin.ext (by show 256 * g.val + (128 * (a.val / 2) + (0 * 64 + l.val)) = 64 * (4 * g.val + a.val) + l.val; omega)
      rw [if_pos (iff_of_true h (by show 0 * 64 + l.val < 64; omega))]
      exact congrArg (fun z => A.v (rj j k) z * A.g r z) e
    · rw [if_neg (fun hi => by have := hi.mp h; have h1 : 1 * 64 + l.val < 64 := this; omega), zero_mul]
  · refine (congrArg₂ (· + ·) (Finset.sum_eq_zero fun l _ => ?_) (Finset.sum_congr rfl fun l _ => ?_)).trans (zero_add _)
    · rw [if_neg (fun hi => by have := hi.mpr (by show 0 * 64 + l.val < 64; omega); omega), zero_mul]
    · have e : ch g (pc a ⟨1 * 64 + l.val, by omega⟩) = vcol (hg g a) l :=
        Fin.ext (by show 256 * g.val + (128 * (a.val / 2) + (1 * 64 + l.val)) = 64 * (4 * g.val + a.val) + l.val; omega)
      rw [if_pos (iff_of_false (by omega) (by show ¬ 1 * 64 + l.val < 64; omega))]
      exact congrArg (fun z => A.v (rj j k) z * A.g r z) e

theorem ds_full : (blkOf A g j).ds a (pw (blkOf A g j) j.val a) k r = A.DS (hg g a) (rj j k) r := by
  have e2 : pg g (hp a) = pr (hg g a) := Fin.ext (by show 2 * g.val + a.val / 2 = (4 * g.val + a.val) / 2; omega)
  have e3 : hr a = pe (hg g a) := Fin.ext (by show a.val % 2 = (4 * g.val + a.val) % 2; omega)
  unfold Blk.ds Arr.DS
  rw [pw_full, dp_full, ← e2, ← e3]
  rfl

theorem hx_cg (x : Fin 512) : hx (cg g x) = hg g (hd x) := Fin.ext (by show (512 * g.val + x.val) / 128 = 4 * g.val + x.val / 128; omega)

theorem dq_full (t : Fin cfg0.N) (x : Fin 512) :
    dq A t x r = ∑ k, A.k (rj (kbk t) k) (cg (grp t) x) * A.DS (hx (cg (grp t) x)) (rj (kbk t) k) r := by
  unfold dq
  refine Finset.sum_congr rfl fun k _ => ?_
  rw [ds_full, hx_cg]; rfl

theorem dk_full (t : Fin cfg0.N) (x : Fin 512) : dk A t k x = A.DK (rj (kbk t) k) (cg (grp t) x) := by
  unfold dk Arr.DK
  refine congrArg (· * Real.log 2) (Finset.sum_congr rfl fun r _ => ?_)
  rw [ds_full, hx_cg]; rfl

theorem dv_full (t : Fin cfg0.N) (l : Fin 128) (y : Fin 512) (h1 : hy y = hg (grp t) a) (h2 : y = ch (grp t) (pc a l)) :
    dv A t a k l = A.DV (rj (kbk t) k) y := by
  unfold dv Arr.DV
  refine Finset.sum_congr rfl fun r _ => ?_
  rw [pw_full, h1, h2]; rfl

end blocks

variable {m : (ℓ : Loc nD τ sig) → Buf (Elt Ideal) ℓ} {c : Dev nD}

theorem zero_f32 : Ideal.ofBits .f32 0x00000000#32 = ((0 : ℝ) : EReal) := by simp [Ideal.ofBits, Ideal.ieee]

theorem mid_first (t : Fin cfg0.N) (prev : Vec Ideal S512x4096 .f32) (h : t.val % 8 = 0) (x : Fin 512) (r : Fin 4096) :
    (ms0_7 t).view.read (Elt Ideal) (mid9 m c t prev) (ix2 x r) = ((0 : ℝ) : EReal) := by
  unfold mid9
  rw [dif_pos ((first_iff t).mpr h)]
  refine (View.read_writes_apply_of_pieces (Val := Elt Ideal) (ms0_7 t).view _ (fun _ => ((0 : ℝ) : EReal)) _ (fun p hp y => ?_) _ ⟨_, List.mem_singleton_self _, ?_⟩)
  · obtain rfl := List.mem_singleton.mp hp
    exact zero_f32
  · refine (Rect.mem_set_unit (inb := inb_S512x4096_S512x4096_0_0)).mpr fun y => ?_
    match y with
    | ⟨0, _⟩ => exact ⟨Nat.zero_le _, by show x.val < 0 + 512; omega⟩
    | ⟨1, _⟩ => exact ⟨Nat.zero_le _, by show r.val < 0 + 4096; omega⟩

theorem mid_next (t : Fin cfg0.N) (prev : Vec Ideal S512x4096 .f32) (h : ¬ t.val % 8 = 0) (x : Fin 512) (r : Fin 4096) :
    (ms0_7 t).view.read (Elt Ideal) (mid9 m c t prev) (ix2 x r) = prev (ix2 x r) := by
  unfold mid9
  rw [dif_neg (fun h' => h ((first_iff t).mp h'))]
  exact congrFun ((hs0_7 t).read_unread _) _

theorem lt8 : 7 < 8 := by omega

/-- The point of head group `g` and key block `j`. -/
def pt (g : Fin 2) (j : ℕ) (hj : j < 8) : Fin cfg0.N := ⟨8 * g.val + j, by show 8 * g.val + j < 16; omega⟩

theorem dq_sum (A : Arr) (g : Fin 2) (x : Fin 512) (r : Fin 4096) :
    (∑ i ∈ Finset.range (7 + 1), (if h : i < 8 then dq A (pt g i h) x r else 0)) = A.DQ r (cg g x) := by
  rw [Finset.sum_range]
  unfold Arr.DQ
  refine Eq.trans ?_ (Fin.sum_univ_tiles 8 512 (by norm_num) _).symm
  refine Finset.sum_congr rfl fun i _ => ?_
  rw [dif_pos i.isLt, dq_full]
  have e1 : grp (pt g i.val i.isLt) = g := Fin.ext (by show (8 * g.val + i.val) / 8 = g.val; omega)
  have e2 : kbk (pt g i.val i.isLt) = i := Fin.ext (by show (8 * g.val + i.val) % 8 = i.val; omega)
  rw [e1, e2]
  refine Finset.sum_congr rfl fun k _ => ?_
  have e3 : rj i k = ⟨i.val * 512 + k.val, by omega⟩ := Fin.ext (by show 512 * i.val + k.val = i.val * 512 + k.val; omega)
  rw [e3]

variable {A : Arr} (H : Has m c A)
include H

theorem acc_at (g : Fin 2) (x : Fin 512) (r : Fin 4096) (j : ℕ) (hj : j < 8) :
    acc m c (pt g j hj).val (pt g j hj).isLt (ix2 x r)
      = ((∑ i ∈ Finset.range (j + 1), (if h : i < 8 then dq A (pt g i h) x r else 0) : ℝ) : EReal) := by
  induction j generalizing x r with
  | zero =>
    rw [acc_eq, left9_at H _ _ (fun _ _ => 0) (fun x r => mid_first _ _ (by show (8 * g.val + 0) % 8 = 0; omega) x r)]
    simp
  | succ j ih =>
    rw [acc_eq, left9_at H _ _ _ (fun x r => (mid_next _ _ (by show ¬ (8 * g.val + (j + 1)) % 8 = 0; omega) x r).trans ?_)]
    · rw [Finset.sum_range_succ, dif_pos hj]
    · unfold prevAt
      rw [dif_neg (by show ¬ 8 * g.val + (j + 1) = 0; omega)]
      exact ih x r (by omega)

theorem final7 (X : Fin 1024) (r : Fin 4096) :
    ((dats m 0 c).arrAt 7 cfg0.N : S1024x4096.Idx → EReal) (ix2 X r) = (A.DQ r X : EReal) := by
  obtain ⟨g, x, rfl⟩ : ∃ g x, X = cg g x := ⟨⟨X.val / 512, by omega⟩, ⟨X.val % 512, by omega⟩, Fin.ext (by show X.val = 512 * (X.val / 512) + X.val % 512; omega)⟩
  have e : ((cfg0.win 7).blk (pt g 7 lt8)).view.emb (ix2 x r : S512x4096.Idx) = (ix2 (cg g x) r : S1024x4096.Idx) := by
    funext a; apply Fin.ext
    match a with
    | ⟨0, _⟩ =>
      show win0_7.index (pt g 7 lt8) 0 * 512 + 1 * x.val = 512 * g.val + x.val
      rw [(by decide +kernel : ∀ t : Fin grid0.N, win0_7.index t 0 = t.val / 8) _]; show (8 * g.val + 7) / 8 * 512 + 1 * x.val = _; omega
    | ⟨1, _⟩ =>
      show win0_7.index (pt g 7 lt8) 1 * 4096 + 1 * r.val = r.val
      rw [(by decide +kernel : ∀ t : Fin grid0.N, win0_7.index t 1 = 0) _]; omega
  have hd : ∀ t t' : Fin cfg0.N, (cfg0.win 7).flush t = true → (cfg0.win 7).flush t' = true → t ≠ t' →
      Disjoint ((cfg0.win 7).blk t).view.set ((cfg0.win 7).blk t').view.set :=
    fun t t' h h' hne => (cfg0.win 7).disjoint_blk fun hi => hne ((by decide +kernel : ∀ t t' : Fin grid0.N, win0_7.flush t = true → win0_7.flush t' = true → win0_7.index t = win0_7.index t' → t = t') t t' h h' hi)
  have h := (dats m 0 c).arrAt_emb_eq_flushed 7 hd (pt g 7 lt8) ((by decide +kernel : ∀ g : Fin 2, win0_7.flush (pt g 7 lt8) = true) g) (ix2 x r : S512x4096.Idx)
  rw [e] at h
  refine h.trans ?_
  have h7 := after0_7 m c (pt g 7 lt8)
  refine (congrFun h7 (ix2 x r : S512x4096.Idx)).trans ?_
  have ha := acc_at H g x r 7 lt8
  refine ha.trans ?_
  exact congrArg Real.toEReal (dq_sum A g x r)

theorem split (k : Fin 4096) (g : Fin 2) : ∃ (t : Fin cfg0.N) (k' : Fin 512), grp t = g ∧ k = rj (kbk t) k' :=
  ⟨⟨8 * g.val + k.val / 512, by show _ < 16; omega⟩, ⟨k.val % 512, by omega⟩, Fin.ext (by show (8 * g.val + k.val / 512) / 8 = g.val; omega),
    Fin.ext (by show k.val = 512 * ((8 * g.val + k.val / 512) % 8) + k.val % 512; omega)⟩

theorem final8 (k : Fin 4096) (X : Fin 1024) :
    ((dats m 0 c).arrAt 8 cfg0.N : S4096x1024.Idx → EReal) (ix2 k X) = (A.DK k X : EReal) := by
  obtain ⟨g, x, rfl⟩ : ∃ g x, X = cg g x := ⟨⟨X.val / 512, by omega⟩, ⟨X.val % 512, by omega⟩, Fin.ext (by show X.val = 512 * (X.val / 512) + X.val % 512; omega)⟩
  obtain ⟨t, k, rfl, rfl⟩ := split H k g
  have e : ((cfg0.win 8).blk t).view.emb (ix2 k x : S512x512.Idx) = (ix2 (rj (kbk t) k) (cg (grp t) x) : S4096x1024.Idx) := by
    funext a; apply Fin.ext
    match a with
    | ⟨0, _⟩ =>
      show win0_8.index t 0 * 512 + 1 * k.val = 512 * (t.val % 8) + k.val
      rw [(by decide +kernel : ∀ t : Fin grid0.N, win0_8.index t 0 = t.val % 8) t]; omega
    | ⟨1, _⟩ =>
      show win0_8.index t 1 * 512 + 1 * x.val = 512 * (t.val / 8) + x.val
      rw [(by decide +kernel : ∀ t : Fin grid0.N, win0_8.index t 1 = t.val / 8) t]; omega
  have hd : ∀ t t' : Fin cfg0.N, (cfg0.win 8).flush t = true → (cfg0.win 8).flush t' = true → t ≠ t' →
      Disjoint ((cfg0.win 8).blk t).view.set ((cfg0.win 8).blk t').view.set :=
    fun t t' _ _ hne => (cfg0.win 8).disjoint_blk fun hi => hne ((by decide +kernel : ∀ t t' : Fin grid0.N, win0_8.index t = win0_8.index t' → t = t') t t' hi)
  have h := (dats m 0 c).arrAt_emb_eq_flushed 8 hd t ((by decide +kernel : ∀ t : Fin grid0.N, win0_8.flush t = true) t) (ix2 k x : S512x512.Idx)
  rw [e] at h
  refine h.trans ?_
  refine (congrFun (after0_8 m c t) (ix2 k x : S512x512.Idx)).trans ?_
  rw [left10_at H, dk_full]

theorem final9 (k : Fin 4096) (Y : Fin 512) :
    ((dats m 0 c).arrAt 9 cfg0.N : S4096x512.Idx → EReal) (ix2 k Y) = (A.DV k Y : EReal) := by
  obtain ⟨g, x, rfl⟩ : ∃ g x, Y = ch g x := ⟨⟨Y.val / 256, by omega⟩, ⟨Y.val % 256, by omega⟩, Fin.ext (by show Y.val = 256 * (Y.val / 256) + Y.val % 256; omega)⟩
  obtain ⟨t, k, rfl, rfl⟩ := split H k g
  have e : ((cfg0.win 9).blk t).view.emb (ix2 k x : S512x256.Idx) = (ix2 (rj (kbk t) k) (ch (grp t) x) : S4096x512.Idx) := by
    funext a; apply Fin.ext
    match a with
    | ⟨0, _⟩ =>
      show win0_9.index t 0 * 512 + 1 * k.val = 512 * (t.val % 8) + k.val
      rw [(by decide +kernel : ∀ t : Fin grid0.N, win0_9.index t 0 = t.val % 8) t]; omega
    | ⟨1, _⟩ =>
      show win0_9.index t 1 * 256 + 1 * x.val = 256 * (t.val / 8) + x.val
      rw [(by decide +kernel : ∀ t : Fin grid0.N, win0_9.index t 1 = t.val / 8) t]; omega
  have hd : ∀ t t' : Fin cfg0.N, (cfg0.win 9).flush t = true → (cfg0.win 9).flush t' = true → t ≠ t' →
      Disjoint ((cfg0.win 9).blk t).view.set ((cfg0.win 9).blk t').view.set :=
    fun t t' _ _ hne => (cfg0.win 9).disjoint_blk fun hi => hne ((by decide +kernel : ∀ t t' : Fin grid0.N, win0_9.index t = win0_9.index t' → t = t') t t' hi)
  have h := (dats m 0 c).arrAt_emb_eq_flushed 9 hd t ((by decide +kernel : ∀ t : Fin grid0.N, win0_9.flush t = true) t) (ix2 k x : S512x256.Idx)
  rw [e] at h
  refine h.trans ?_
  refine (congrFun (after0_9 m c t) (ix2 k x : S512x256.Idx)).trans ?_
  rw [left11_at H]
  refine congrArg Real.toEReal ?_
  split_ifs with h0
  · exact dv_full A _ k t _ _ (Fin.ext (by show (256 * (t.val / 8) + x.val) / 64 = 4 * (t.val / 8) + 2 * (x.val / 128); omega))
      (Fin.ext (by show 256 * (t.val / 8) + x.val = 256 * (t.val / 8) + (128 * (2 * (x.val / 128) / 2) + x.val % 128); omega))
  · exact dv_full A _ k t _ _ (Fin.ext (by show (256 * (t.val / 8) + x.val) / 64 = 4 * (t.val / 8) + (2 * (x.val / 128) + 1); omega))
      (Fin.ext (by show 256 * (t.val / 8) + x.val = 256 * (t.val / 8) + (128 * ((2 * (x.val / 128) + 1) / 2) + x.val % 128); omega))

end Cert.AttnV

end
-- ==== Proof.AttnSpec.lean ====
/- The gradient of causal softmax attention over real numbers, and the kernel's form of it. -/
module

public import proofs.«01_k».proof.Proof.AttnFinal

@[expose] public section

noncomputable section

namespace Cert.AttnV

open Base Idealize.ShloMosaic

/-- The arguments of the call as real numbers: the plain and rotary parts of queries and keys, the values, and the output's
    gradient. -/
structure Args where
  qn : Fin 4096 → Fin 8 → Fin 64 → ℝ
  qr : Fin 4096 → Fin 8 → Fin 32 → ℝ
  kn : Fin 4096 → Fin 8 → Fin 64 → ℝ
  kr : Fin 4096 → Fin 32 → ℝ
  v : Fin 4096 → Fin 8 → Fin 64 → ℝ
  g : Fin 4096 → Fin 8 → Fin 64 → ℝ

/-- The score scale, the single-precision value of `96 ^ (-1/2)`. -/
def s0 : ℝ := 13698540 / 2 ^ 27

theorem s0_ne : s0 ≠ 0 := by unfold s0; norm_num

namespace Args
variable (A : Args) (h : Fin 8) (r k : Fin 4096)

def score : ℝ := ((∑ d, A.qn r h d * A.kn k h d) + ∑ d, A.qr r h d * A.kr k d) * s0
/-- The largest score of a row. -/
def mx : ℝ := (Finset.univ.filter fun k : Fin 4096 => k.val ≤ r.val).sup' ⟨r, by simp⟩ fun k => A.score h r k
def ex : ℝ := if k.val ≤ r.val then Real.exp (A.score h r k - A.mx h r) else 0
def L : ℝ := ∑ k, A.ex h r k
/-- The softmax weight, the output, and the row product of output and gradient. -/
def W : ℝ := A.ex h r k / A.L h r
def o (l : Fin 64) : ℝ := ∑ k, A.v k h l * A.W h r k
def D : ℝ := ∑ l, A.g r h l * A.o h r l
/-- The gradient of the weight and of the score. -/
def dP : ℝ := ∑ l, A.g r h l * A.v k h l
def dS : ℝ := A.W h r k * (A.dP h r k - A.D h r)
/-- Queries and keys, both parts side by side, padded with zeros. -/
def Q (d : Fin 128) : ℝ := if h1 : d.val < 64 then A.qn r h ⟨d.val, h1⟩ else if h2 : d.val < 96 then A.qr r h ⟨d.val - 64, by omega⟩ else 0
def K (d : Fin 128) : ℝ := if h1 : d.val < 64 then A.kn k h ⟨d.val, h1⟩ else if h2 : d.val < 96 then A.kr k ⟨d.val - 64, by omega⟩ else 0
/-- The three gradients; that of the queries without the score scale. -/
def rQ (d : Fin 128) : ℝ := ∑ k, A.dS h r k * A.K h k d
def rK (d : Fin 128) : ℝ := (∑ r, A.dS h r k * A.Q h r d) * s0
def rV (l : Fin 64) : ℝ := ∑ r, A.g r h l * A.W h r k

theorem ex_pos : 0 ≤ A.ex h r k := by unfold ex; split_ifs <;> positivity

theorem L_pos : 0 < A.L h r :=
  lt_of_lt_of_le (by unfold ex; rw [if_pos (le_refl _)]; positivity : 0 < A.ex h r r) (Finset.single_le_sum (f := fun k => A.ex h r k) (fun k _ => A.ex_pos h r k) (Finset.mem_univ r))

theorem D_eq : A.D h r = ∑ k, A.dP h r k * A.W h r k := by
  unfold D o dP
  simp only [Finset.mul_sum, Finset.sum_mul]
  rw [Finset.sum_comm]
  exact Finset.sum_congr rfl fun k _ => Finset.sum_congr rfl fun l _ => by ring

/-- A sum over a head's padded columns. -/
theorem sum_pad (f : Fin 64 → ℝ) (g : Fin 32 → ℝ) :
    (∑ d : Fin 128, if h1 : d.val < 64 then f ⟨d.val, h1⟩ else if h2 : d.val < 96 then g ⟨d.val - 64, by omega⟩ else 0) = (∑ d, f d) + ∑ d, g d := by
  rw [Fin.sum_univ_tiles 4 32 (by norm_num), Fin.sum_univ_tiles 2 32 (by norm_num : 2 * 32 = 64) f, Fin.sum_univ_four, Fin.sum_univ_two]
  have e3 : (∑ d : Fin 32, if h1 : (3 : Fin 4).val * 32 + d.val < 64 then f ⟨(3 : Fin 4).val * 32 + d.val, h1⟩ else if h2 : (3 : Fin 4).val * 32 + d.val < 96 then g ⟨(3 : Fin 4).val * 32 + d.val - 64, by omega⟩ else 0) = 0 :=
    Finset.sum_eq_zero fun d _ => by rw [dif_neg (by show ¬ 3 * 32 + d.val < 64; omega), dif_neg (by show ¬ 3 * 32 + d.val < 96; omega)]
  refine (congrArg₂ (· + ·) (congrArg₂ (· + ·) (congrArg₂ (· + ·) ?_ ?_) ?_) e3).trans (add_zero _)
  · exact Finset.sum_congr rfl fun d _ => by rw [dif_pos (by show 0 * 32 + d.val < 64; omega)]; rfl
  · exact Finset.sum_congr rfl fun d _ => by rw [dif_pos (by show 1 * 32 + d.val < 64; omega)]; rfl
  · exact Finset.sum_congr rfl fun d _ => by
      rw [dif_neg (by show ¬ 2 * 32 + d.val < 64; omega), dif_pos (by show 2 * 32 + d.val < 96; omega)]
      exact congrArg g (Fin.ext (by show 2 * 32 + d.val - 64 = d.val; omega))

theorem score_eq : A.score h r k = (∑ d, A.K h k d * A.Q h r d) * s0 := by
  unfold score
  refine congrArg (· * s0) ((sum_pad _ _).symm.trans (Finset.sum_congr rfl fun d _ => ?_))
  unfold Q K
  split_ifs
  · ring
  · ring
  · simp

/-- The arrays the host code hands the kernel. -/
def arr : Arr where
  q r x := A.Q (hx x) r ⟨x.val % 128, by omega⟩ * (s0 / Real.log 2)
  k k x := A.K (hx x) k ⟨x.val % 128, by omega⟩
  v k y := A.v k (hy y) ⟨y.val % 64, by omega⟩
  g r y := A.g r (hy y) ⟨y.val % 64, by omega⟩
  l p e r := (A.mx ⟨2 * p.val + e.val, by omega⟩ r + Real.log (A.L ⟨2 * p.val + e.val, by omega⟩ r)) / Real.log 2
  d p e r := A.D ⟨2 * p.val + e.val, by omega⟩ r

theorem hx_hcol (d : Fin 128) : hx (hcol h d) = h := Fin.ext (by show (128 * h.val + d.val) / 128 = h.val; omega)
theorem hy_vcol (l : Fin 64) : hy (vcol h l) = h := Fin.ext (by show (64 * h.val + l.val) / 64 = h.val; omega)
theorem pr_pe : (⟨2 * (pr h).val + (pe h).val, by omega⟩ : Fin 8) = h := Fin.ext (by show 2 * (h.val / 2) + h.val % 2 = h.val; omega)

theorem arr_P : A.arr.P h k r = A.W h r k := by
  have l2 : Real.log 2 ≠ 0 := (Real.log_pos (by norm_num)).ne'
  have hL := A.L_pos h r
  unfold Arr.P W ex
  split_ifs with hk
  · have e : (∑ d, A.arr.k k (hcol h d) * A.arr.q r (hcol h d)) - A.arr.l (pr h) (pe h) r = (A.score h r k - A.mx h r - Real.log (A.L h r)) / Real.log 2 := by
      have e1 : (∑ d, A.arr.k k (hcol h d) * A.arr.q r (hcol h d)) = (∑ d, A.K h k d * A.Q h r d) * (s0 / Real.log 2) := by
        rw [Finset.sum_mul]
        refine Finset.sum_congr rfl fun d _ => ?_
        have e2 : (⟨(hcol h d).val % 128, by omega⟩ : Fin 128) = d := Fin.ext (by show (128 * h.val + d.val) % 128 = d.val; omega)
        simp only [arr, hx_hcol, e2]; ring
      rw [e1, score_eq]
      simp only [arr, pr_pe]
      field_simp; ring
    rw [e, Real.rpow_def_of_pos (by norm_num), mul_div_cancel₀ _ l2, Real.exp_sub, Real.exp_log hL]
  · rw [zero_div]

theorem arr_DS : A.arr.DS h k r = A.dS h r k := by
  unfold Arr.DS dS
  rw [arr_P]
  refine congrArg (A.W h r k * ·) (congrArg₂ (· - ·) ?_ ?_)
  · unfold dP
    refine Finset.sum_congr rfl fun l _ => ?_
    have e2 : (⟨(vcol h l).val % 64, by omega⟩ : Fin 64) = l := Fin.ext (by show (64 * h.val + l.val) % 64 = l.val; omega)
    simp only [arr, hy_vcol, e2]; ring
  · simp only [arr, pr_pe]

theorem arr_DQ (d : Fin 128) : A.arr.DQ r (hcol h d) = A.rQ h r d := by
  unfold Arr.DQ rQ
  refine Finset.sum_congr rfl fun k _ => ?_
  have e2 : (⟨(hcol h d).val % 128, by omega⟩ : Fin 128) = d := Fin.ext (by show (128 * h.val + d.val) % 128 = d.val; omega)
  rw [arr_DS]
  simp only [arr, hx_hcol, e2]; ring

theorem arr_DK (d : Fin 128) : A.arr.DK k (hcol h d) = A.rK h k d := by
  have l2 : Real.log 2 ≠ 0 := (Real.log_pos (by norm_num)).ne'
  unfold Arr.DK rK
  rw [Finset.sum_mul, Finset.sum_mul]
  refine Finset.sum_congr rfl fun r _ => ?_
  have e2 : (⟨(hcol h d).val % 128, by omega⟩ : Fin 128) = d := Fin.ext (by show (128 * h.val + d.val) % 128 = d.val; omega)
  rw [arr_DS]
  simp only [arr, hx_hcol, e2]; field_simp

theorem arr_DV (l : Fin 64) : A.arr.DV k (vcol h l) = A.rV h k l := by
  unfold Arr.DV rV
  refine Finset.sum_congr rfl fun r _ => ?_
  have e2 : (⟨(vcol h l).val % 64, by omega⟩ : Fin 64) = l := Fin.ext (by show (64 * h.val + l.val) % 64 = l.val; omega)
  rw [arr_P]
  simp only [arr, hy_vcol, e2]; ring

end Args

end Cert.AttnV

end
-- ==== Proof.AttnBase.lean ====
/- The stages of causal softmax that the host code and the reference share, at one entry. -/
module

public import proofs.«01_k».proof.Proof.AttnSpec
public import Idealize.ShloMosaic.Lib.Pointwise

@[expose] public section

noncomputable section

open Idealize.ShloMosaic Idealize.ShloMosaic.TcCoe

namespace Cert.AttnV

open Base

theorem c_s0 : Ideal.ofBits .f32 0x3DD105EC#32 = ((s0 : ℝ) : EReal) := by
  simp [Ideal.ofBits, Ideal.ieee, -EReal.coe_mul, s0]; norm_num
theorem c_two : Ideal.ofBits .f32 0x40000000#32 = ((2 : ℝ) : EReal) := by
  simp [Ideal.ofBits, Ideal.ieee, -EReal.coe_mul]; norm_num
theorem c_bot : Ideal.ofBits .f32 0xFF800000#32 = (⊥ : EReal) := by simp [Ideal.ofBits, Ideal.ieee]

/-- A causally masked entry. -/
theorem masked (k r : Fin 4096) (a b : EReal) :
    Scalar.select (IntOp.cmpi CmpIPredicate.sle (BitVec.ofNat 32 k.val) (BitVec.ofNat 32 r.val)) a b = if k.val ≤ r.val then a else b := by
  rw [WordCmp.cmpi_sle_ofNat (by have := k.isLt; omega) (by have := r.isLt; omega), WordCmp.select_ofBool]
  simp

/-- The largest entry of a row of causally masked real numbers. -/
theorem max_row (x : FVec Ideal ⟨3, ![8, 4096, 4096]⟩ .f32) (hr : (⟨3, ![8, 4096, 4096]⟩ : Shape).ReducesTo [2] ⟨2, ![8, 4096]⟩)
    (hu : 0 < (⟨0, ![]⟩ : Shape).numel) (h : Fin 8) (r : Fin 4096) (A : Args)
    (hx : ∀ k, x (ix3 h r k) = if k.val ≤ r.val then (A.score h r k : EReal) else ⊥) :
    Host.reduce FloatOps.maximumf x (constant (F := Ideal) ⟨0, ![]⟩ .f32 0xFF800000#32) hr hu (ix2 h r) = (A.mx h r : EReal) := by
  have e : Host.reduce FloatOps.maximumf x (constant (F := Ideal) ⟨0, ![]⟩ .f32 0xFF800000#32) hr hu (ix2 h r)
      = Finset.fold max (Ideal.ofBits FTy.f32 4286578688#32) (fun k => x (ix3 h r k)) Finset.univ := by pointwise
  rw [e, c_bot]
  change Finset.univ.sup (fun k => x (ix3 h r k)) = _
  simp only [hx]
  refine le_antisymm (Finset.sup_le fun k _ => ?_) ?_
  · split_ifs with hk
    · exact EReal.coe_le_coe_iff.mpr (Finset.le_sup' (fun k => A.score h r k) (by simpa using hk))
    · exact bot_le
  · obtain ⟨k, hk, e⟩ := Finset.exists_mem_eq_sup' (s := Finset.univ.filter fun k : Fin 4096 => k.val ≤ r.val) ⟨r, by simp⟩ (fun k => A.score h r k)
    unfold Args.mx
    rw [e]
    have hk' : k.val ≤ r.val := by simpa using hk
    refine le_trans (le_of_eq ?_) (Finset.le_sup (f := fun k : Fin 4096 => if k.val ≤ r.val then (A.score h r k : EReal) else ⊥) (Finset.mem_univ k))
    simp only [hk', if_true]

/-- One entry of the row's exponentials. -/
theorem exp_entry (A : Args) (h : Fin 8) (r k : Fin 4096) :
    Ideal.exp ((if k.val ≤ r.val then (A.score h r k : EReal) else ⊥) - (A.mx h r : EReal)) = (A.ex h r k : EReal) := by
  unfold Args.ex
  split_ifs
  · rw [← EReal.coe_sub, Ideal.exp_coe]
  · rw [EReal.bot_sub, Ideal.exp_bot]; rfl

theorem weight (A : Args) (h : Fin 8) (r k : Fin 4096) : Ideal.div (A.ex h r k : EReal) (A.L h r : EReal) = (A.W h r k : EReal) :=
  div_coe' _ _ (A.L_pos h r).ne'

end Cert.AttnV

end
-- ==== Proof.AttnHost.lean ====
/- The arrays the host code hands the attention kernel when the arguments are real numbers. -/
module

public import proofs.«01_k».proof.Proof.AttnBase

@[expose] public section

noncomputable section

open Idealize.ShloMosaic Idealize.ShloMosaic.TcCoe Idealize.SL.Sem

namespace Cert.AttnV

open Cert.AttnIdeal Cert.AttnIdeal.Gen Base Cert.AttnK

/-- The argument arrays hold the real numbers `A`. -/
structure Holds (m : (ℓ : Loc nD τ sig) → Buf (Elt Ideal) ℓ) (c : Dev nD) (A : Args) : Prop where
  qn : ∀ r h d, (m ((c : Thread nD τ).loc main_arg0) : S4096x8x64.Idx → EReal) (ix3 r h d) = (A.qn r h d : EReal)
  qr : ∀ r h d, (m ((c : Thread nD τ).loc main_arg1) : S4096x8x32.Idx → EReal) (ix3 r h d) = (A.qr r h d : EReal)
  kn : ∀ r h d, (m ((c : Thread nD τ).loc main_arg2) : S4096x8x64.Idx → EReal) (ix3 r h d) = (A.kn r h d : EReal)
  kr : ∀ r d, (m ((c : Thread nD τ).loc main_arg3) : S4096x32.Idx → EReal) (ix2 r d) = (A.kr r d : EReal)
  v : ∀ r h d, (m ((c : Thread nD τ).loc main_arg4) : S4096x8x64.Idx → EReal) (ix3 r h d) = (A.v r h d : EReal)
  g : ∀ r h d, (m ((c : Thread nD τ).loc main_arg5) : S4096x8x64.Idx → EReal) (ix3 r h d) = (A.g r h d : EReal)

section stages

variable (x0 x2 x4 x5 : FVec Ideal S4096x8x64 .f32) (x1 : FVec Ideal S4096x8x32 .f32) (x3 : FVec Ideal S4096x32 .f32)
  (s : FVec Ideal S8x4096x4096 .f32)

/-- The scaled queries and the keys, padded. -/
def padq : FVec Ideal S4096x8x128 .f32 :=
  pad S4096x8x128 ![0, 0, 0] ![0, 0, 32] ![0, 0, 0]
    (mulf (concatenate S4096x8x96 2 [⟨S4096x8x64, x0⟩, ⟨S4096x8x32, x1⟩] concatenates_S4096x8x64_S4096x8x32_S4096x8x96_d2)
      (broadcastInDim S4096x8x96 ![] bcast_S_S4096x8x96 (Host.divf (constant S_ .f32 0x3DD105EC#32) (Host.log (constant (F := Ideal) S_ .f32 0x40000000#32)))))
    (sitofp .f32 (constantI S_ 32 0#32)) pads_S4096x8x96_S4096x8x128_000_000_0320 h_S_
def padk : FVec Ideal S4096x8x128 .f32 :=
  pad S4096x8x128 ![0, 0, 0] ![0, 0, 32] ![0, 0, 0]
    (concatenate S4096x8x96 2 [⟨S4096x8x64, x2⟩, ⟨S4096x8x32, broadcastInDim S4096x8x32 ![0, 1, 2] bcast_S4096x1x32_S4096x8x32_0_1_2
      (broadcastInDim S4096x1x32 ![0, 2] bcast_S4096x32_S4096x1x32_0_2 x3)⟩] concatenates_S4096x8x64_S4096x8x32_S4096x8x96_d2)
    (sitofp .f32 (constantI S_ 32 0#32)) pads_S4096x8x96_S4096x8x128_000_000_0320 h_S_
/-- The masked scores, their row maxima, exponentials, row sums, weights, and the output. -/
def sc : FVec Ideal S8x4096x4096 .f32 :=
  select (broadcastInDim S8x4096x4096 ![1, 2] bcast_S4096x4096_S8x4096x4096_1_2 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (addf (Host.dotGeneral dot_S4096x8x64_S4096x8x64_S8x4096x4096_2_2_0_0_1_1 none x0 x2)
      (transpose S8x4096x4096 [2, 1, 0] (Host.dotGeneral dot_S4096x32_S4096x8x32_S4096x4096x8_1_2_0_01_n_n none x3 x1) transposes_S4096x4096x8_S8x4096x4096_2_1_0))
      (broadcastInDim S8x4096x4096 ![] bcast_S_S8x4096x4096 (constant S_ .f32 0x3DD105EC#32)))
    (broadcastInDim S8x4096x4096 ![] bcast_S_S8x4096x4096 (id (constant S_ .f32 0xFF800000#32)))
def mxv : FVec Ideal S8x4096x1 .f32 := broadcastInDim S8x4096x1 ![0, 1] bcast_S8x4096_S8x4096x1_0_1
  (Host.reduce FloatOps.maximumf s (constant S_ .f32 0xFF800000#32) reducesTo_S8x4096x4096_S8x4096_d2 h_S_)
def exv : FVec Ideal S8x4096x4096 .f32 := Host.exp (subf s (broadcastInDim S8x4096x4096 ![0, 1, 2] bcast_S8x4096x1_S8x4096x4096_0_1_2 (mxv s)))
def lv' : FVec Ideal S8x4096x1 .f32 := broadcastInDim S8x4096x1 ![0, 1] bcast_S8x4096_S8x4096x1_0_1
  (Host.reduceAdd (exv s) (constant S_ .f32 0x00000000#32) reducesTo_S8x4096x4096_S8x4096_d2 h_S_)
def wv : FVec Ideal S8x4096x4096 .f32 := Host.divf (exv s) (broadcastInDim S8x4096x4096 ![0, 1, 2] bcast_S8x4096x1_S8x4096x4096_0_1_2 (lv' s))
def ov : FVec Ideal S4096x8x64 .f32 := transpose S4096x8x64 [2, 0, 1]
  (Host.dotGeneral dot_S4096x8x64_S8x4096x4096_S8x64x4096_0_2_2_1_1_0 none x4 (wv s)) transposes_S8x64x4096_S4096x8x64_2_0_1
/-- The logarithms of the row sums, and the row products of output and gradient. -/
def lsev : FVec Ideal S8x4096x1 .f32 := Host.divf (addf (mxv s) (Host.log (lv' s)))
  (broadcastInDim S8x4096x1 ![] bcast_S_S8x4096x1 (Host.log (constant (F := Ideal) S_ .f32 0x40000000#32)))
def dov : FVec Ideal S8x4096 .f32 := transpose S8x4096 [1, 0]
  (Host.reduceAdd (mulf x5 (ov x4 s)) (constant S_ .f32 0x00000000#32) reducesTo_S4096x8x64_S4096x8_d2 h_S_) transposes_S4096x8_S8x4096_1_0

end stages

section host

variable (m : (ℓ : Loc nD τ sig) → Buf (Elt Ideal) ℓ) (c : Dev nD)

abbrev a0 : FVec Ideal S4096x8x64 .f32 := m ((c : Thread nD τ).loc main_arg0)
abbrev a1 : FVec Ideal S4096x8x32 .f32 := m ((c : Thread nD τ).loc main_arg1)
abbrev a2 : FVec Ideal S4096x8x64 .f32 := m ((c : Thread nD τ).loc main_arg2)
abbrev a3 : FVec Ideal S4096x32 .f32 := m ((c : Thread nD τ).loc main_arg3)
abbrev a4 : FVec Ideal S4096x8x64 .f32 := m ((c : Thread nD τ).loc main_arg4)
abbrev a5 : FVec Ideal S4096x8x64 .f32 := m ((c : Thread nD τ).loc main_arg5)

theorem V10 : (V m c main_v10 : S4096x1024.Idx → EReal)
    = truncf .bf16 (shapeCast S4096x1024 (padq (a0 m c) (a1 m c)) shapeCasts_S4096x8x128_S4096x1024) bitsLt_bf16_f32 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V13 : (V m c main_v13 : S4096x1024.Idx → EReal)
    = truncf .bf16 (shapeCast S4096x1024 (padk (a2 m c) (a3 m c)) shapeCasts_S4096x8x128_S4096x1024) bitsLt_bf16_f32 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V51 : (V m c main_v51 : S1024x4096.Idx → EReal)
    = transpose S1024x4096 [1, 0] (truncf .bf16 (shapeCast S4096x1024 (padk (a2 m c) (a3 m c)) shapeCasts_S4096x8x128_S4096x1024) bitsLt_bf16_f32)
      transposes_S4096x1024_S1024x4096_1_0 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V15 : (V m c main_v15 : S4096x512.Idx → EReal) = truncf .bf16 (shapeCast S4096x512 (a4 m c) shapeCasts_S4096x8x64_S4096x512) bitsLt_bf16_f32 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V50 : (V m c main_v50 : S4096x512.Idx → EReal) = truncf .bf16 (shapeCast S4096x512 (a5 m c) shapeCasts_S4096x8x64_S4096x512) bitsLt_bf16_f32 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V44 : (V m c main_v44 : S4x2x4096.Idx → EReal)
    = shapeCast S4x2x4096 (lsev (sc (a0 m c) (a2 m c) (a1 m c) (a3 m c))) shapeCasts_S8x4096x1_S4x2x4096 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl
theorem V48 : (V m c main_v48 : S4x2x4096.Idx → EReal)
    = shapeCast S4x2x4096 (dov (a4 m c) (a5 m c) (sc (a0 m c) (a2 m c) (a1 m c) (a3 m c))) shapeCasts_S8x4096_S4x2x4096 := by
  unfold V
  simp only [hostLists, hostOps0, hostOps0_1, hostOps0_2, hostOps0_3, hostOps0_4, hostOps0_5, hostOps0_6, List.flatten_cons, List.flatten_nil,
    List.append_nil, List.cons_append, List.nil_append]
  after_results
  rfl

end host

end Cert.AttnV

end
-- ==== Proof.AttnHas.lean ====
/- What those arrays hold. -/
module

public import proofs.«01_k».proof.Proof.AttnHost

@[expose] public section

noncomputable section

open Idealize.ShloMosaic Idealize.ShloMosaic.TcCoe Idealize.SL.Sem

namespace Cert.AttnV

open Cert.AttnIdeal Cert.AttnIdeal.Gen Base Cert.AttnK

theorem c_log2 : Ideal.log (Ideal.ofBits .f32 0x40000000#32) = ((Real.log 2 : ℝ) : EReal) := by
  rw [c_two, Ideal.log_coe, if_neg (by norm_num)]

theorem log2_ne : Real.log 2 ≠ 0 := (Real.log_pos (by norm_num)).ne'

theorem c_ratio : Ideal.div (Ideal.ofBits .f32 0x3DD105EC#32) (Ideal.log (Ideal.ofBits .f32 0x40000000#32)) = ((s0 / Real.log 2 : ℝ) : EReal) := by
  rw [c_log2, c_s0, div_coe' _ _ log2_ne]

theorem c_pad : FloatOps.sitofp (F := Ideal) .f32 0#32 = ((0 : ℝ) : EReal) := by
  show (((0#32 : BitVec 32).toInt : ℝ) : EReal) = _
  simp

section general
variable (M N : FVec Ideal S8x4096x1 .f32) (h : Fin 8) (r : Fin 4096)

theorem lse_entry : Host.divf (addf M (Host.log N)) (broadcastInDim S8x4096x1 ![] bcast_S_S8x4096x1 (Host.log (constant (F := Ideal) S_ .f32 0x40000000#32))) (ix3 h r 0)
    = Ideal.div (M (ix3 h r 0) + Ideal.log (N (ix3 h r 0))) (Ideal.log (Ideal.ofBits .f32 0x40000000#32)) := by pointwise

end general

variable {x0 x2 x4 x5 : FVec Ideal S4096x8x64 .f32} {x1 : FVec Ideal S4096x8x32 .f32} {x3 : FVec Ideal S4096x32 .f32} {s : FVec Ideal S8x4096x4096 .f32}
  {A : Args} (h : Fin 8) (r k : Fin 4096)

theorem padq_at (h0 : ∀ r h d, x0 (ix3 r h d) = (A.qn r h d : EReal)) (h1 : ∀ r h d, x1 (ix3 r h d) = (A.qr r h d : EReal)) (d : Fin 128) :
    padq x0 x1 (ix3 r h d) = ((A.Q h r d * (s0 / Real.log 2) : ℝ) : EReal) := by
  unfold padq
  pointwise
  rw [c_ratio, c_pad]
  unfold Args.Q
  by_cases d1 : d.val < 64
  · rw [dif_pos (show d.val < 96 by omega), dif_pos d1, dif_pos d1, h0, ← EReal.coe_mul]
  · by_cases d2 : d.val < 96
    · rw [dif_pos d2, dif_neg d1, dif_neg d1, dif_pos d2, h1, ← EReal.coe_mul]
    · rw [dif_neg d2, dif_neg d1, dif_neg d2, zero_mul]

theorem padk_at (h2 : ∀ r h d, x2 (ix3 r h d) = (A.kn r h d : EReal)) (h3 : ∀ r d, x3 (ix2 r d) = (A.kr r d : EReal)) (d : Fin 128) :
    padk x2 x3 (ix3 r h d) = (A.K h r d : EReal) := by
  unfold padk
  pointwise
  rw [c_pad]
  unfold Args.K
  by_cases d1 : d.val < 64
  · rw [dif_pos (show d.val < 96 by omega), dif_pos d1, dif_pos d1, h2]
  · by_cases d2 : d.val < 96
    · rw [dif_pos d2, dif_neg d1, dif_neg d1, dif_pos d2, h3]
    · rw [dif_neg d2, dif_neg d1, dif_neg d2]

theorem sc_at (h0 : ∀ r h d, x0 (ix3 r h d) = (A.qn r h d : EReal)) (h1 : ∀ r h d, x1 (ix3 r h d) = (A.qr r h d : EReal))
    (h2 : ∀ r h d, x2 (ix3 r h d) = (A.kn r h d : EReal)) (h3 : ∀ r d, x3 (ix2 r d) = (A.kr r d : EReal)) :
    sc x0 x2 x1 x3 (ix3 h r k) = if k.val ≤ r.val then (A.score h r k : EReal) else ⊥ := by
  unfold sc
  pointwise
  rw [masked]
  refine if_congr Iff.rfl ?_ c_bot
  simp only [h0, h1, h2, h3, c_s0, ← EReal.coe_mul, coe_sum, ← EReal.coe_add]
  refine congrArg Real.toEReal ?_
  unfold Args.score
  refine congrArg (· * s0) (congrArg₂ (· + ·) rfl (Finset.sum_congr rfl fun d _ => mul_comm _ _))

variable (hs : ∀ h r k, s (ix3 h r k) = if k.val ≤ r.val then (A.score h r k : EReal) else ⊥)
include hs

theorem mxv_at : mxv s (ix3 h r 0) = (A.mx h r : EReal) := by
  have e := max_row s reducesTo_S8x4096x4096_S8x4096_d2 h_S_ h r A (hs h r)
  unfold mxv
  generalize Host.reduce FloatOps.maximumf s (constant (F := Ideal) S_ .f32 0xFF800000#32) reducesTo_S8x4096x4096_S8x4096_d2 h_S_ = x at e
  pointwise
  exact e

theorem exv_at : exv s (ix3 h r k) = (A.ex h r k : EReal) := by
  have e := mxv_at h r hs
  unfold exv
  generalize mxv s = x at e
  pointwise
  rw [e, hs, exp_entry]

theorem lv'_at : lv' s (ix3 h r 0) = (A.L h r : EReal) := by
  have e := fun k => exv_at h r k hs
  unfold lv'
  generalize exv s = x at e
  pointwise
  simp only [e, coe_sum]; rfl

theorem wv_at : wv s (ix3 h r k) = (A.W h r k : EReal) := by
  have e := exv_at h r k hs
  have e' := lv'_at h r hs
  unfold wv
  generalize exv s = x at e
  generalize lv' s = y at e'
  pointwise
  rw [e, e', weight]

theorem ov_at (h4 : ∀ r h d, x4 (ix3 r h d) = (A.v r h d : EReal)) (l : Fin 64) : ov x4 s (ix3 r h l) = (A.o h r l : EReal) := by
  have e := fun k => wv_at h r k hs
  unfold ov
  generalize wv s = x at e
  pointwise
  simp only [h4, e, ← EReal.coe_mul, coe_sum]; rfl

theorem lsev_at : lsev s (ix3 h r 0) = (((A.mx h r + Real.log (A.L h r)) / Real.log 2 : ℝ) : EReal) := by
  have e := mxv_at h r hs
  have e' := lv'_at h r hs
  unfold lsev
  generalize mxv s = x at e
  generalize lv' s = y at e'
  rw [lse_entry, e, e', c_log2, Ideal.log_coe, if_neg (not_le.mpr (A.L_pos h r)), ← EReal.coe_add, div_coe' _ _ log2_ne]

theorem dov_at (h4 : ∀ r h d, x4 (ix3 r h d) = (A.v r h d : EReal)) (h5 : ∀ r h d, x5 (ix3 r h d) = (A.g r h d : EReal)) :
    dov x4 x5 s (ix2 h r) = (A.D h r : EReal) := by
  have e := fun l => ov_at h r hs h4 l
  unfold dov
  generalize ov x4 s = x at e
  pointwise
  simp only [h5, e, ← EReal.coe_mul, coe_sum]; rfl

omit hs

variable {m : (ℓ : Loc nD τ sig) → Buf (Elt Ideal) ℓ} {c : Dev nD}

theorem has (H : Holds m c A) : Has m c A.arr where
  q r X := by
    rw [V10]
    generalize hp : padq (a0 m c) (a1 m c) = x
    pointwise
    rw [← hp, padq_at _ _ H.qn H.qr]; rfl
  k r X := by
    rw [V13]
    generalize hp : padk (a2 m c) (a3 m c) = x
    pointwise
    rw [← hp, padk_at _ _ H.kn H.kr]; rfl
  kt X r := by
    rw [V51]
    generalize hp : padk (a2 m c) (a3 m c) = x
    pointwise
    rw [← hp, padk_at _ _ H.kn H.kr]; rfl
  v r Y := by
    rw [V15]
    generalize hp : a4 m c = x
    pointwise
    rw [← hp]
    exact H.v _ _ _
  g r Y := by
    rw [V50]
    generalize hp : a5 m c = x
    pointwise
    rw [← hp]
    exact H.g _ _ _
  l p e r := by
    rw [V44]
    generalize hp : lsev (sc (a0 m c) (a2 m c) (a1 m c) (a3 m c)) = x
    pointwise
    rw [← hp, lsev_at _ _ (fun h r k => sc_at h r k H.qn H.qr H.kn H.kr)]
    have e1 : (⟨p.val * 2 + e.val, by omega⟩ : Fin 8) = ⟨2 * p.val + e.val, by omega⟩ := Fin.ext (by show p.val * 2 + e.val = 2 * p.val + e.val; omega)
    rw [e1]; rfl
  d p e r := by
    rw [V48]
    generalize hp : dov (a4 m c) (a5 m c) (sc (a0 m c) (a2 m c) (a1 m c) (a3 m c)) = x
    pointwise
    rw [← hp, dov_at _ _ (fun h r k => sc_at h r k H.qn H.qr H.kn H.kr) H.v H.g]
    have e1 : (⟨p.val * 2 + e.val, by omega⟩ : Fin 8) = ⟨2 * p.val + e.val, by omega⟩ := Fin.ext (by show p.val * 2 + e.val = 2 * p.val + e.val; omega)
    rw [e1]; rfl

end Cert.AttnV

end
-- ==== Proof.AttnRef.lean ====
/- The attention reference's results when its arguments are real numbers. -/
module

public import proofs.«01_k».proof.Proof.Gen.AttnRefIdeal.Read
public import proofs.«01_k».proof.Proof.AttnBase

@[expose] public section

noncomputable section

open Idealize.ShloMosaic Idealize.ShloMosaic.TcCoe

namespace Cert.AttnR

open Cert.AttnRefIdeal Cert.AttnRefIdeal.Gen Cert.AttnRefIdeal.Read Base
open Cert.AttnV hiding pr

variable {x0 x2 x4 x5 : FVec Ideal S4096x8x64 .f32} {x1 : FVec Ideal S4096x8x32 .f32} {x3 : FVec Ideal S4096x32 .f32}

/-- The argument arrays hold the real numbers `A`. -/
structure Holds (x0 : FVec Ideal S4096x8x64 .f32) (x1 : FVec Ideal S4096x8x32 .f32) (x2 : FVec Ideal S4096x8x64 .f32)
    (x3 : FVec Ideal S4096x32 .f32) (x4 x5 : FVec Ideal S4096x8x64 .f32) (A : Args) : Prop where
  qn : ∀ r h d, x0 (ix3 r h d) = (A.qn r h d : EReal)
  qr : ∀ r h d, x1 (ix3 r h d) = (A.qr r h d : EReal)
  kn : ∀ r h d, x2 (ix3 r h d) = (A.kn r h d : EReal)
  kr : ∀ r d, x3 (ix2 r d) = (A.kr r d : EReal)
  v : ∀ r h d, x4 (ix3 r h d) = (A.v r h d : EReal)
  g : ∀ r h d, x5 (ix3 r h d) = (A.g r h d : EReal)

variable {A : Args} (H : Holds x0 x1 x2 x3 x4 x5 A) (h : Fin 8) (r k : Fin 4096)
include H

theorem v6 : val_main_v6 (F := Ideal) x0 x1 x2 x3 (ix3 h r k) = (A.score h r k : EReal) := by
  pointwise [val_main_v6, val_main_v5, val_main_v4, val_main_v3, val_main_v2, val_main_v1, val_main_v0, val_main_cst]
  simp only [H.qn, H.kn, H.qr, H.kr, c_s0, ← EReal.coe_mul, coe_sum, ← EReal.coe_add]; rfl

theorem v13 : val_main_v13_0 (F := Ideal) x0 x1 x2 x3 (ix3 h r k) = if k.val ≤ r.val then (A.score h r k : EReal) else ⊥ := by
  pointwise [val_main_v13_0, val_main_v13_1, val_main_v12, val_main_v11, val_main_v10, val_main_v9, val_main_v8, val_main_v7, val_main_call0_v2,
    val_main_call0_v0, val_main_cst_0]
  rw [masked, v6 H]
  exact if_congr Iff.rfl rfl c_bot

theorem v14 : val_main_v14 (F := Ideal) x0 x1 x2 x3 (ix2 h r) = (A.mx h r : EReal) := by
  have hx := v13 H h r
  unfold val_main_v14 val_main_cst_1
  generalize val_main_v13_0 (F := Ideal) x0 x1 x2 x3 = x at hx
  exact max_row x _ _ h r A hx

omit H in
theorem soft_entry (x : FVec Ideal S8x4096x4096 .f32) (y : FVec Ideal S8x4096 .f32) :
    Host.exp (subf x (broadcastInDim S8x4096x4096 ![0, 1, 2] bcast_S8x4096x1_S8x4096x4096_0_1_2 (broadcastInDim S8x4096x1 ![0, 1] bcast_S8x4096_S8x4096x1_0_1
      (maximumf (broadcastInDim S8x4096 ![] bcast_S_S8x4096 (constant S_ .f32 0xFF800000#32)) y)))) (ix3 h r k)
      = Ideal.exp (x (ix3 h r k) - max (Ideal.ofBits .f32 0xFF800000#32) (y (ix2 h r))) := by pointwise

theorem v34 : val_main_v34 (F := Ideal) x0 x1 x2 x3 (ix3 h r k) = (A.ex h r k : EReal) := by
  have e := v13 H h r k
  have e' := v14 H h r
  unfold val_main_v34 val_main_v33 val_main_v32 val_main_v31 val_main_v21 val_main_v20 val_main_cst_3
  generalize val_main_v13_0 (F := Ideal) x0 x1 x2 x3 = x at e
  generalize val_main_v14 (F := Ideal) x0 x1 x2 x3 = y at e'
  rw [soft_entry, e, e', c_bot, max_eq_right bot_le, exp_entry]

theorem v35 : val_main_v35 (F := Ideal) x0 x1 x2 x3 (ix2 h r) = (A.L h r : EReal) := by
  have e := v34 H h r
  unfold val_main_v35 val_main_cst_9
  generalize val_main_v34 (F := Ideal) x0 x1 x2 x3 = x at e
  pointwise
  simp only [e, coe_sum]; rfl

theorem v38 : val_main_v38 (F := Ideal) x0 x1 x2 x3 (ix3 h r k) = (A.W h r k : EReal) := by
  have e := v34 H h r k
  have e' := v35 H h r
  unfold val_main_v38 val_main_v37 val_main_v36
  generalize val_main_v34 (F := Ideal) x0 x1 x2 x3 = x at e
  generalize val_main_v35 (F := Ideal) x0 x1 x2 x3 = y at e'
  pointwise
  rw [e, e', weight]

theorem v47 (l : Fin 64) : val_main_v47 (F := Ideal) x0 x1 x2 x3 x5 (ix3 k h l) = (A.rV h k l : EReal) := by
  have e := fun r => v38 H h r k
  unfold val_main_v47 val_main_v46 val_main_v44
  generalize val_main_v38 (F := Ideal) x0 x1 x2 x3 = x at e
  pointwise
  simp only [e, H.g, ← EReal.coe_mul, coe_sum]; rfl

theorem v45 : val_main_v45 (F := Ideal) x4 x5 (ix3 h r k) = (A.dP h r k : EReal) := by
  pointwise [val_main_v45, val_main_v44]
  simp only [H.v, H.g, ← EReal.coe_mul, coe_sum]; rfl

theorem v41 : val_main_v41 (F := Ideal) x0 x1 x2 x3 (ix3 h r 0) = ((1 / (A.L h r * A.L h r) : ℝ) : EReal) := by
  have e := v35 H h r
  unfold val_main_v41 val_main_v40 val_main_cst_10 val_main_v39 val_main_v36
  generalize val_main_v35 (F := Ideal) x0 x1 x2 x3 = x at e
  pointwise
  have hL := A.L_pos h r
  rw [e, ← EReal.coe_mul, ← EReal.coe_one, div_coe' _ _ (by positivity)]

theorem v36 : val_main_v36 (F := Ideal) x0 x1 x2 x3 (ix3 h r 0) = (A.L h r : EReal) := by
  have e := v35 H h r
  unfold val_main_v36
  generalize val_main_v35 (F := Ideal) x0 x1 x2 x3 = x at e
  pointwise
  exact e

omit H in
theorem vmask : val_main_v13_1 (F := Ideal) (ix3 h r k) = IntOp.cmpi CmpIPredicate.sle (BitVec.ofNat 32 k.val) (BitVec.ofNat 32 r.val) := by
  pointwise [val_main_v13_1, val_main_v12, val_main_v11, val_main_v10, val_main_v9, val_main_v8, val_main_v7]

theorem v62 : val_main_v62 (F := Ideal) x0 x1 x2 x3 x4 x5 (ix3 h r k) = ((A.dS h r k * s0 : ℝ) : EReal) := by
  have hL := A.L_pos h r
  have e45 := v45 H h r
  have e36 := v36 H h r
  have e41 := v41 H h r
  have e34 := v34 H h r
  have em := vmask h r k
  unfold val_main_v62 val_main_v61 val_main_cst_13 val_main_v60 val_main_call1_v0 val_main_call1_cst val_main_v59 val_main_v58 val_main_v57
    val_main_v56 val_main_cst_12 val_main_v55 val_main_v54 val_main_v53 val_main_v52 val_main_v51 val_main_cst_11 val_main_v50 val_main_v49 val_main_v48
  generalize val_main_v45 (F := Ideal) x4 x5 = x45 at e45
  generalize val_main_v36 (F := Ideal) x0 x1 x2 x3 = x36 at e36
  generalize val_main_v41 (F := Ideal) x0 x1 x2 x3 = x41 at e41
  generalize val_main_v34 (F := Ideal) x0 x1 x2 x3 = x34 at e34
  generalize val_main_v13_1 (F := Ideal) = xm at em
  pointwise
  rw [em, masked]
  split_ifs with hk
  · rw [Fin.sum_univ_one]
    simp only [e45, e36, e41, e34, c_s0, div_coe' _ _ hL.ne', ← EReal.coe_mul, coe_sum, ← EReal.coe_neg, ← EReal.coe_add]
    refine congrArg Real.toEReal ?_
    unfold Args.dS
    rw [Args.D_eq]
    unfold Args.W
    rw [← Finset.sum_neg_distrib, add_mul, Finset.sum_mul, mul_sub, Finset.mul_sum, sub_eq_add_neg, ← Finset.sum_neg_distrib]
    refine congrArg (· * s0) (congrArg₂ (· + ·) (by ring) (Finset.sum_congr rfl fun k' _ => ?_))
    field_simp
  · unfold Args.dS Args.W Args.ex
    rw [if_neg hk]; simp

theorem v70 (d : Fin 64) : val_main_v70 (F := Ideal) x0 x1 x2 x3 x4 x5 (ix3 r h d) = ((∑ k, A.dS h r k * s0 * A.kn k h d : ℝ) : EReal) := by
  have e := v62 H h r
  unfold val_main_v70 val_main_v69
  generalize val_main_v62 (F := Ideal) x0 x1 x2 x3 x4 x5 = y at e
  pointwise
  simp only [e, H.kn, ← EReal.coe_mul, coe_sum]

theorem v66 (d : Fin 32) : val_main_v66 (F := Ideal) x0 x1 x2 x3 x4 x5 (ix3 r h d) = ((∑ k, A.dS h r k * s0 * A.kr k d : ℝ) : EReal) := by
  have e := v62 H h r
  unfold val_main_v66 val_main_v65 val_main_v1 val_main_v0
  generalize val_main_v62 (F := Ideal) x0 x1 x2 x3 x4 x5 = y at e
  pointwise
  simp only [e, H.kr, ← EReal.coe_mul, coe_sum]

theorem v68 (d : Fin 64) : val_main_v68 (F := Ideal) x0 x1 x2 x3 x4 x5 (ix3 k h d) = ((∑ r, A.dS h r k * s0 * A.qn r h d : ℝ) : EReal) := by
  have e := fun r => v62 H h r k
  unfold val_main_v68 val_main_v67
  generalize val_main_v62 (F := Ideal) x0 x1 x2 x3 x4 x5 = y at e
  pointwise
  simp only [e, H.qn, ← EReal.coe_mul, coe_sum]

theorem v64 (d : Fin 32) : val_main_v64 (F := Ideal) x0 x1 x2 x3 x4 x5 (ix3 k h d) = ((∑ r, A.dS h r k * s0 * A.qr r h d : ℝ) : EReal) := by
  have e := fun r => v62 H h r k
  unfold val_main_v64 val_main_v63
  generalize val_main_v62 (F := Ideal) x0 x1 x2 x3 x4 x5 = y at e
  pointwise
  simp only [e, H.qr, ← EReal.coe_mul, coe_sum]

/-- The three results. -/
theorem v76 (X : Fin 1024) : val_main_v76 (F := Ideal) x0 x1 x2 x3 x4 x5 (ix2 X r) = (A.rQ (hx X) r ⟨X.val % 128, by omega⟩ : EReal) := by
  have e70 := v70 H (hx X) r
  have e66 := v66 H (hx X) r
  unfold val_main_v76 val_main_v75 val_main_v74 val_main_cst_15 val_main_v73 val_main_v72 val_main_v71 val_main_cst_14
  generalize val_main_v70 (F := Ideal) x0 x1 x2 x3 x4 x5 = y70 at e70
  generalize val_main_v66 (F := Ideal) x0 x1 x2 x3 x4 x5 = y66 at e66
  pointwise
  rw [c_s0]
  unfold Args.rQ
  by_cases h1 : X.val % 128 < 64
  · rw [dif_pos h1]
    refine (congrArg (fun z => Ideal.div z _) (e70 _)).trans ?_
    rw [ div_coe' _ _ s0_ne]
    refine congrArg Real.toEReal ?_
    rw [Finset.sum_div]
    refine Finset.sum_congr rfl fun k _ => ?_
    have := s0_ne
    rw [show A.K (hx X) k ⟨X.val % 128, by omega⟩ = A.kn k (hx X) ⟨X.val % 128, h1⟩ from dif_pos h1]
    show A.dS (hx X) r k * s0 * A.kn k (hx X) _ / s0 = _
    field_simp
  by_cases h2 : X.val % 128 - 64 < 32
  · rw [dif_neg h1, dif_pos h2]
    refine (congrArg (fun z => Ideal.div z _) (e66 _)).trans ?_
    rw [ div_coe' _ _ s0_ne]
    refine congrArg Real.toEReal ?_
    rw [Finset.sum_div]
    refine Finset.sum_congr rfl fun k _ => ?_
    have := s0_ne
    rw [show A.K (hx X) k ⟨X.val % 128, by omega⟩ = A.kr k ⟨X.val % 128 - 64, h2⟩ from (dif_neg h1).trans (dif_pos (by show X.val % 128 < 96; omega))]
    show A.dS (hx X) r k * s0 * A.kr k _ / s0 = _
    field_simp
  · rw [dif_neg h1, dif_neg h2]
    rw [← EReal.coe_zero, div_coe' _ _ s0_ne, zero_div]
    refine congrArg Real.toEReal (Finset.sum_eq_zero fun k _ => ?_).symm
    rw [show A.K (hx X) k ⟨X.val % 128, by omega⟩ = 0 from (dif_neg h1).trans (dif_neg (by show ¬ X.val % 128 < 96; omega)), mul_zero]

theorem v79 (X : Fin 1024) : val_main_v79 (F := Ideal) x0 x1 x2 x3 x4 x5 (ix2 k X) = (A.rK (hx X) k ⟨X.val % 128, by omega⟩ : EReal) := by
  have e68 := v68 H (hx X) k
  have e64 := v64 H (hx X) k
  unfold val_main_v79 val_main_v78 val_main_v77 val_main_cst_16
  generalize val_main_v68 (F := Ideal) x0 x1 x2 x3 x4 x5 = y68 at e68
  generalize val_main_v64 (F := Ideal) x0 x1 x2 x3 x4 x5 = y64 at e64
  pointwise
  unfold Args.rK
  rw [Finset.sum_mul]
  by_cases h1 : X.val % 128 < 64
  · rw [dif_pos h1]
    refine (e68 _).trans ?_
    refine congrArg Real.toEReal (Finset.sum_congr rfl fun r _ => ?_)
    rw [show A.Q (hx X) r ⟨X.val % 128, by omega⟩ = A.qn r (hx X) ⟨X.val % 128, h1⟩ from dif_pos h1]
    show A.dS (hx X) r k * s0 * A.qn r (hx X) _ = _
    ring
  by_cases h2 : X.val % 128 - 64 < 32
  · rw [dif_neg h1, dif_pos h2]
    refine (e64 _).trans ?_
    refine congrArg Real.toEReal (Finset.sum_congr rfl fun r _ => ?_)
    rw [show A.Q (hx X) r ⟨X.val % 128, by omega⟩ = A.qr r (hx X) ⟨X.val % 128 - 64, h2⟩ from (dif_neg h1).trans (dif_pos (by show X.val % 128 < 96; omega))]
    show A.dS (hx X) r k * s0 * A.qr r (hx X) _ = _
    ring
  · rw [dif_neg h1, dif_neg h2]
    rw [← EReal.coe_zero]
    refine congrArg Real.toEReal (Finset.sum_eq_zero fun r _ => ?_).symm
    rw [show A.Q (hx X) r ⟨X.val % 128, by omega⟩ = 0 from (dif_neg h1).trans (dif_neg (by show ¬ X.val % 128 < 96; omega)), mul_zero, zero_mul]

theorem v80 (Y : Fin 512) : val_main_v80 (F := Ideal) x0 x1 x2 x3 x5 (ix2 k Y) = (A.rV (hy Y) k ⟨Y.val % 64, by omega⟩ : EReal) := by
  have e := v47 H (hy Y) k
  unfold val_main_v80
  generalize val_main_v47 (F := Ideal) x0 x1 x2 x3 x5 = y at e
  pointwise
  exact e _

end Cert.AttnR

end
-- ==== Proof.AttnAssemble.lean ====
/- The attention backward and its reference agree on arguments that are real numbers. -/
module

public import proofs.«01_k».proof.Defs
public import proofs.«01_k».proof.Proof.AttnHas
public import proofs.«01_k».proof.Proof.AttnRef
public import proofs.«01_k».proof.Proof.Gen.Pre_finite_attn

@[expose] public section

noncomputable section

open Idealize.ShloMosaic Idealize.ShloMosaic.TcCoe Idealize.SL.Sem

namespace Cert.AttnK

open Base

section pre
open Cert.Pre_finite_attn

variable {x0 : FVec Ideal S4096x8x64 .f32} {x1 : FVec Ideal S4096x8x32 .f32} {x2 : FVec Ideal S4096x8x64 .f32}
  {x3 : FVec Ideal S4096x32 .f32} {x4 x5 : FVec Ideal S4096x8x64 .f32}

/-- The real numbers in the argument arrays. -/
def argsOf (x0 : FVec Ideal S4096x8x64 .f32) (x1 : FVec Ideal S4096x8x32 .f32) (x2 : FVec Ideal S4096x8x64 .f32)
    (x3 : FVec Ideal S4096x32 .f32) (x4 x5 : FVec Ideal S4096x8x64 .f32) : AttnV.Args where
  qn r h d := (x0 (ix3 r h d)).toReal
  qr r h d := (x1 (ix3 r h d)).toReal
  kn r h d := (x2 (ix3 r h d)).toReal
  kr r d := (x3 (ix2 r d)).toReal
  v r h d := (x4 (ix3 r h d)).toReal
  g r h d := (x5 (ix3 r h d)).toReal

theorem holds_of_pre [Facts] (h : fn (F := Ideal) x0 x1 x2 x3 x4 x5 = fun _ => 1#1) :
    AttnR.Holds x0 x1 x2 x3 x4 x5 (argsOf x0 x1 x2 x3 x4 x5) := by
  have e := congrFun h ix0
  unfold fn fn_part1 at e
  dsimp only at e
  obtain ⟨e, e5⟩ := andi_split e
  obtain ⟨e, e4⟩ := andi_split e
  obtain ⟨e, e3⟩ := andi_split e
  obtain ⟨e, e2⟩ := andi_split e
  obtain ⟨e0, e1⟩ := andi_split e
  exact ⟨fun r h d => real_of_all _ _ _ _ _ _ e0 _, fun r h d => real_of_all _ _ _ _ _ _ e1 _, fun r h d => real_of_all _ _ _ _ _ _ e2 _,
    fun r d => real_of_all _ _ _ _ _ _ e3 _, fun r h d => real_of_all _ _ _ _ _ _ e4 _, fun r h d => real_of_all _ _ _ _ _ _ e5 _⟩

end pre

section out
open Cert.AttnIdeal Cert.AttnIdeal.Gen
variable {F : FTy → Type} [FloatOps F] [Named F] (m : (ℓ : Loc nD τ sig) → Buf (Elt F) ℓ) (ρ : Dev nD → PrngReg)

/-- The run, with what the output arrays hold after it. -/
theorem run_out : θ_run defs (onTc (τ := τ) (main (F := F))) ⟨m, fun _ => 0, ρ⟩ fun r => ∀ c : Dev nD,
      r.2.mem ((c : Thread nD τ).loc main_v52_0) = (dats m 0 c).arrAt 7 cfg0.N
      ∧ r.2.mem ((c : Thread nD τ).loc main_v52_1) = (dats m 0 c).arrAt 8 cfg0.N
      ∧ r.2.mem ((c : Thread nD τ).loc main_v52_2) = (dats m 0 c).arrAt 9 cfg0.N
      ∧ ∀ b ∈ [main_arg0, main_arg1, main_arg2, main_arg3, main_arg4, main_arg5],
        r.2.mem ((c : Thread nD τ).loc b) = m ((c : Thread nD τ).loc b) :=
  (θ_run defs _ _).mono (fun r h c => ⟨(h.1 c).1 7, (h.1 c).1 8, (h.1 c).1 9, fun b hb =>
    ((h.1 c).2 b (Pipeline.mem_restRefs_of b
      (by simp only [List.mem_cons, List.not_mem_nil, or_false] at hb; rcases hb with rfl | rfl | rfl | rfl | rfl | rfl <;> decide)
      (by simp only [List.mem_cons, List.not_mem_nil, or_false] at hb; rcases hb with rfl | rfl | rfl | rfl | rfl | rfl <;> decide))).trans
      (V_arg m c b hb)⟩) (run_main m ρ)

end out

open AttnV in
set_option maxHeartbeats 2000000 in
theorem algebraic : @algebraic_AttnIdeal_AttnRefIdeal_pre_finite_attn AttnIdeal.Gen.facts AttnRefIdeal.Gen.facts Pre_finite_attn.Gen.facts := by
  intro m g m' g' hpre hargs
  have hR : ∀ c, _ := fun c => holds_of_pre (hpre c)
  have hK : ∀ c, AttnV.Holds m c _ := fun c => ⟨(hR c).qn, (hR c).qr, (hR c).kn, (hR c).kr, (hR c).v, (hR c).g⟩
  refine ⟨_, _, _, (θ_run _ _ _).mono (fun r h c => ⟨(h c).1, (h c).2.1, (h c).2.2.1, (h c).2.2.2 _ (by simp),
      (h c).2.2.2 _ (by simp), (h c).2.2.2 _ (by simp), (h c).2.2.2 _ (by simp), (h c).2.2.2 _ (by simp), (h c).2.2.2 _ (by simp)⟩)
      (run_out (F := Ideal) m g),
    (θ_run _ _ _).mono (fun r h c => ?_) (AttnRefIdeal.Value.run (F := Ideal) m' g')⟩
  obtain ⟨a0, a1, a2, a3, a4, a5⟩ := hargs c
  obtain ⟨r0, r1, r2, k⟩ := h c
  refine ⟨r0.trans ?_, r1.trans ?_, r2.trans ?_, k⟩
  · rw [AttnRefIdeal.Read.val_main_v76_eq, a0, a1, a2, a3, a4, a5]
    funext i
    obtain ⟨X, r, rfl⟩ : ∃ (X : Fin 1024) (r : Fin 4096), i = ix2 X r := ⟨i 0, i 1, eq_ix2 i⟩
    refine (AttnR.v76 (hR c) r X).trans ((final7 (has (hK c)) X r).trans ?_).symm
    rw [← Args.arr_DQ]
    exact congrArg (fun Y => (((argsOf _ _ _ _ _ _).arr.DQ r Y : ℝ) : EReal)) (Fin.ext (by show X.val = 128 * (X.val / 128) + X.val % 128; omega))
  · rw [AttnRefIdeal.Read.val_main_v79_eq, a0, a1, a2, a3, a4, a5]
    funext i
    obtain ⟨k, X, rfl⟩ : ∃ (k : Fin 4096) (X : Fin 1024), i = ix2 k X := ⟨i 0, i 1, eq_ix2 i⟩
    refine (AttnR.v79 (hR c) k X).trans ((final8 (has (hK c)) k X).trans ?_).symm
    rw [← Args.arr_DK]
    exact congrArg (fun Y => (((argsOf _ _ _ _ _ _).arr.DK k Y : ℝ) : EReal)) (Fin.ext (by show X.val = 128 * (X.val / 128) + X.val % 128; omega))
  · rw [AttnRefIdeal.Read.val_main_v80_eq, a0, a1, a2, a3, a5]
    funext i
    obtain ⟨k, Y, rfl⟩ : ∃ (k : Fin 4096) (Y : Fin 512), i = ix2 k Y := ⟨i 0, i 1, eq_ix2 i⟩
    refine (AttnR.v80 (hR c) k Y).trans ((final9 (has (hK c)) k Y).trans ?_).symm
    rw [← Args.arr_DV]
    exact congrArg (fun Z => (((argsOf _ _ _ _ _ _).arr.DV k Z : ℝ) : EReal)) (Fin.ext (by show Y.val = 64 * (Y.val / 64) + Y.val % 64; omega))

end Cert.AttnK

end
-- ==== Proof.InbRun.lean ====
module

public import proofs.«01_k».proof.Proof.Gen.InBIdeal.Frame
public import proofs.«01_k».proof.Proof.Gen.InBIdeal.Skeleton
public import Idealize.ShloMosaic.Lib.VecWindow
public import Idealize.ShloMosaic.Lib.Tactic
public import Idealize.ShloMosaic.Lib.WordCmp

@[expose] public section

set_option maxRecDepth 16384
set_option pp.maxSteps 80

noncomputable section

namespace Cert.InbK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InBIdeal Cert.InBIdeal.Gen

variable {F : FTy → Type} [FloatOps F]

local notation "𝕄" => MT nD τ sig Unit (Elt F) ℕ (UR sig nD τ) ℕ

/-- The question of the body's branch: is this the first row block? -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val = 0 := by decide +kernel

/-- The blocks of the inputs that one point of the grid reads. -/
structure Ins (F : FTy → Type) where
  x1 : Vec F S256x1024 .f32
  x2 : Vec F S256x1024 .f32
  x3 : Vec F S256x384 .f32
  x4 : Vec F S256x128 .f32
  x5 : Vec F S1024x256 .f32
  x6 : Vec F S256x1024 .f32
  x7 : Vec F S256x512 .f32
  x8 : Vec F S256x512 .f32
  x9 : Vec F S256x512 .f32
  x10 : Vec F S256x512 .f32
  x11 : Vec F S256x512 .f32
  x12 : Vec F S256x128 .f32
  x13 : Vec F S256x128 .f32
  x14 : Vec F S1x1024 .f32
  x15 : Vec F S2688x1024 .bf16
  x16 : Vec F S1x384 .f32
  x17 : Vec F S384x1024 .bf16
  x18 : Vec F S1x128 .f32
  x19 : Vec F S128x1024 .bf16
  x20 : Vec F S128x512 .bf16

/-! What the body reads, computes and stores, piece by piece, from the blocks and from the sums so far. -/

abbrev v11 (I : Ins F) : FVec F S256x1024 .f32 := k0_pay11 I.x8 I.x9 I.x10 I.x11 (VecWindow.window I.x15 ![640, 0] S2048x1024.size inb_S2688x1024_S2048x1024_640_0)
abbrev v12 (I : Ins F) : Vec F S1x1024 .f32 := I.x14
abbrev v21 (I : Ins F) : FVec F S256x1 .f32 := k0_pay12 I.x1
abbrev v23 (I : Ins F) : FVec F S256x1024 .f32 := k0_pay13 I.x1
abbrev v25 (I : Ins F) : FVec F S256x1024 .f32 := k0_pay14 I.x14 I.x1
abbrev v28 (I : Ins F) : FVec F S2048x1024 .f32 := k0_pay15 I.x8 I.x9 I.x10 I.x11 I.x14 I.x1
abbrev v32 (I : Ins F) (s22 : Vec F S4x672x1024 .f32) : FVec F S104x1024 .f32 := k0_pay16 I.x8 I.x9 I.x10 I.x11 I.x14 I.x1 (VecWindow.window s22 ![0, 544, 0] S1x104x1024.size inb_S4x672x1024_S1x104x1024_0_544_0)
abbrev o22_1 (I : Ins F) (s22 : Vec F S4x672x1024 .f32) : Vec F S4x672x1024 .f32 := VecWindow.put s22 ![0, 544, 0] S1x104x1024.size (k0_pay17 (v32 I s22))
abbrev o22_2 (I : Ins F) (s22 : Vec F S4x672x1024 .f32) : Vec F S4x672x1024 .f32 := VecWindow.put (o22_1 I s22) ![1, 0, 0] S1x648x1024.size (k0_pay18 (v28 I) (VecWindow.window s22 ![1, 0, 0] S1x648x1024.size inb_S4x672x1024_S1x648x1024_1_0_0))
abbrev o22_3 (I : Ins F) (s22 : Vec F S4x672x1024 .f32) : Vec F S4x672x1024 .f32 := VecWindow.put (o22_2 I s22) ![2, 0, 0] S1x648x1024.size (k0_pay19 (v28 I) (VecWindow.window s22 ![2, 0, 0] S1x648x1024.size inb_S4x672x1024_S1x648x1024_2_0_0))
abbrev o22_4 (I : Ins F) (s22 : Vec F S4x672x1024 .f32) : Vec F S4x672x1024 .f32 := VecWindow.put (o22_3 I s22) ![3, 0, 0] S1x648x1024.size (k0_pay20 (v28 I) (VecWindow.window s22 ![3, 0, 0] S1x648x1024.size inb_S4x672x1024_S1x648x1024_3_0_0))
abbrev v58 (I : Ins F) : FVec F S256x128 .f32 := k0_pay21 I.x12
abbrev v60 (I : Ins F) : FVec F S256x128 .f32 := k0_pay22 I.x13
abbrev v61 (I : Ins F) : IVec S256x128 32 := (iota .tc S256x128 32 [1] iota_S256x128_d1_w32)
abbrev v63 (I : Ins F) : IVec S256x128 1 := k0_pay23
abbrev v75 (I : Ins F) : FVec F S256x128 .f32 := k0_pay24 (v60 I) (v61 I) (v63 I)
abbrev v77 (I : Ins F) : FVec F S256x128 .f32 := k0_pay25 (v60 I) (v61 I)
abbrev v78 (I : Ins F) : IVec S256x128 32 := (iota .tc S256x128 32 [1] iota_S256x128_d1_w32)
abbrev v80 (I : Ins F) : FVec F S256x1024 .f32 := k0_pay26 I.x6
abbrev v93 (I : Ins F) : FVec F S256x128 .f32 := k0_pay27 (v58 I) (v60 I) (v61 I) (v63 I) (VecWindow.window I.x5 ![0, 0] S128x256.size inb_S1024x256_S128x256_0_0)
abbrev v95 (I : Ins F) : FVec F S256x128 .f32 := k0_pay28 I.x6
abbrev v100 (I : Ins F) : FVec F S256x128 .f32 := k0_pay29 (VecWindow.window I.x5 ![128, 0] S128x256.size inb_S1024x256_S128x256_128_0)
abbrev v104 (I : Ins F) : FVec F S256x128 .f32 := k0_pay30 (v58 I) (v60 I) (v61 I) (v63 I) (VecWindow.window I.x5 ![128, 0] S128x256.size inb_S1024x256_S128x256_128_0)
abbrev c16_i32_54 (I : Ins F) : BitVec 32 := 16#32
abbrev v107 (I : Ins F) : FVec F S256x128 .f32 := k0_pay31 (v77 I) (v100 I) (v104 I) (c16_i32_54 I)
abbrev v121 (I : Ins F) : FVec F S256x128 .f32 := k0_pay32 (v58 I) (v75 I) (v77 I) (VecWindow.window I.x5 ![256, 0] S128x256.size inb_S1024x256_S128x256_256_0)
abbrev v135 (I : Ins F) : FVec F S256x128 .f32 := k0_pay33 (v58 I) (v75 I) (v77 I) (VecWindow.window I.x5 ![384, 0] S128x256.size inb_S1024x256_S128x256_384_0)
abbrev v137 (I : Ins F) : FVec F S256x128 .f32 := k0_pay34 (v80 I) (v95 I)
abbrev v149 (I : Ins F) : FVec F S256x128 .f32 := k0_pay35 (v58 I) (v75 I) (v77 I) (VecWindow.window I.x5 ![512, 0] S128x256.size inb_S1024x256_S128x256_512_0)
abbrev v193 (I : Ins F) : FVec F S256x128 .f32 := k0_pay36 (v80 I) (v137 I)
abbrev v194 (I : Ins F) : FVec F S256x1024 .f32 := k0_pay37 (v58 I) (v75 I) (v77 I) (v93 I) (v107 I) (v121 I) (v135 I) (v149 I) (VecWindow.window I.x5 ![640, 0] S128x256.size inb_S1024x256_S128x256_640_0) (VecWindow.window I.x5 ![768, 0] S128x256.size inb_S1024x256_S128x256_768_0) (VecWindow.window I.x5 ![896, 0] S128x256.size inb_S1024x256_S128x256_896_0)
abbrev o23 (I : Ins F) (s23 : Vec F S384x1024 .f32) : Vec F S384x1024 .f32 := (k0_pay42 (v194 I) I.x16 I.x3 s23)
abbrev v208 (I : Ins F) : FVec F S256x128 .f32 := k0_pay38 (v58 I) (v75 I) (v77 I) (v78 I) (v193 I)
abbrev v209 (I : Ins F) : Vec F S1x384 .f32 := I.x16
abbrev v219 (I : Ins F) : FVec F S256x1 .f32 := k0_pay40 I.x3
abbrev v221 (I : Ins F) : FVec F S256x384 .f32 := k0_pay41 I.x3
abbrev v232 (I : Ins F) : FVec F S384x1024 .bf16 := k0_pay43 I.x17
abbrev v233 (I : Ins F) : FVec F S256x1024 .bf16 := k0_pay44 (v194 I)
abbrev cst_99 (I : Ins F) : FVec F S256x384 .f32 := (constant S256x384 .f32 0x00000000#32)
abbrev o27 (I : Ins F) (s27 : Vec F S1x384 .f32) : Vec F S1x384 .f32 := (k0_pay47 (v221 I) (v232 I) (v233 I) (cst_99 I) s27)
abbrev v246 (I : Ins F) : FVec F S256x384 .f32 := k0_pay46 (v209 I) (v219 I) (v221 I) (v232 I) (v233 I) (cst_99 I)
abbrev v254 (I : Ins F) : Vec F S1x128 .f32 := I.x18
abbrev v264 (I : Ins F) : FVec F S256x1 .f32 := k0_pay49 I.x4
abbrev v266 (I : Ins F) : FVec F S256x128 .f32 := k0_pay50 I.x4
abbrev v268 (I : Ins F) : FVec F S256x128 .f32 := k0_pay51 I.x18 I.x4
abbrev v270 (I : Ins F) : FVec F S256x512 .f32 := k0_pay52 I.x7
abbrev v272 (I : Ins F) (s24 : Vec F S128x1024 .f32) : FVec F S128x1024 .f32 := k0_pay53 s24
abbrev v273 (I : Ins F) : FVec F S256x128 .bf16 := k0_pay54 I.x18 I.x4
abbrev v274 (I : Ins F) : FVec F S256x1024 .bf16 := k0_pay55 (v80 I)
abbrev o24 (I : Ins F) (s24 : Vec F S128x1024 .f32) : Vec F S128x1024 .f32 := (k0_pay56 (v272 I s24) (v273 I) (v274 I))
abbrev o25 (I : Ins F) (s25 : Vec F S128x512 .f32) : Vec F S128x512 .f32 := (k0_pay57 (v268 I) (v270 I) s25)
abbrev v305 (I : Ins F) : FVec F S256x128 .f32 := k0_pay59 (v80 I) (v254 I) (v264 I) (v266 I) (v270 I) I.x19 I.x20
abbrev v311 (I : Ins F) (s28 : Vec F S1x128 .f32) : FVec F S1x128 .f32 := k0_pay60 (v80 I) (v266 I) (v270 I) I.x19 I.x20 s28
abbrev o28 (I : Ins F) (s28 : Vec F S1x128 .f32) : Vec F S1x128 .f32 := (v311 I s28)
abbrev o22_5 (I : Ins F) (s22 : Vec F S4x672x1024 .f32) : Vec F S4x672x1024 .f32 := VecWindow.put s22 ![0, 0, 0] S1x512x1024.size (k0_pay63 (v25 I) (v208 I) (v246 I) (v305 I) (VecWindow.window s22 ![0, 0, 0] S1x512x1024.size inb_S4x672x1024_S1x512x1024_0_0_0))
abbrev o22_6 (I : Ins F) (s22 : Vec F S4x672x1024 .f32) : Vec F S4x672x1024 .f32 := VecWindow.put (o22_5 I s22) ![0, 512, 0] S1x32x1024.size (k0_pay64 (v25 I) (v208 I) (v246 I) (v305 I) (VecWindow.window s22 ![0, 512, 0] S1x32x1024.size inb_S4x672x1024_S1x32x1024_0_512_0))
abbrev v347 (I : Ins F) : FVec F S256x1024 .f32 := k0_pay66 (v11 I) (v12 I) (v21 I) (v23 I) (v208 I) (v246 I) (v305 I) (VecWindow.window I.x15 ![0, 0] S640x1024.size inb_S2688x1024_S640x1024_0_0)
abbrev v349 (I : Ins F) : FVec F S1024 .f32 := k0_pay67 (v11 I) (v23 I) (v208 I) (v246 I) (v305 I) (VecWindow.window I.x15 ![0, 0] S640x1024.size inb_S2688x1024_S640x1024_0_0)
abbrev o26 (I : Ins F) (s26 : Vec F S1x1024 .f32) : Vec F S1x1024 .f32 := (k0_pay1 (v349 I) s26)
abbrev o21 (I : Ins F) : Vec F S256x1024 .f32 := (k0_pay2 (v347 I) I.x2)

/-! The sums when the body goes on: zeros at the first row block. -/

def st22 (i : grid0.Coords) (s : Vec F S4x672x1024 .f32) : Vec F S4x672x1024 .f32 := if first i then k0_pay3 else s
def st23 (i : grid0.Coords) (s : Vec F S384x1024 .f32) : Vec F S384x1024 .f32 := if first i then k0_pay4 else s
def st24 (i : grid0.Coords) (s : Vec F S128x1024 .f32) : Vec F S128x1024 .f32 := if first i then k0_pay5 else s
def st25 (i : grid0.Coords) (s : Vec F S128x512 .f32) : Vec F S128x512 .f32 := if first i then k0_pay6 else s
def st26 (i : grid0.Coords) (s : Vec F S1x1024 .f32) : Vec F S1x1024 .f32 := if first i then k0_pay7 else s
def st27 (i : grid0.Coords) (s : Vec F S1x384 .f32) : Vec F S1x384 .f32 := if first i then k0_pay8 else s
def st28 (i : grid0.Coords) (s : Vec F S1x128 .f32) : Vec F S1x128 .f32 := if first i then k0_pay9 else s

variable (c : Dev nD) (i : grid0.Coords)
variable (arg1 : Memref sig .tc .vmem S256x1024 .f32) (harg1 : arg1.IsWhole)
variable (arg2 : Memref sig .tc .vmem S256x1024 .f32) (harg2 : arg2.IsWhole)
variable (arg3 : Memref sig .tc .vmem S256x384 .f32) (harg3 : arg3.IsWhole)
variable (arg4 : Memref sig .tc .vmem S256x128 .f32) (harg4 : arg4.IsWhole)
variable (arg5 : Memref sig .tc .vmem S1024x256 .f32) (harg5 : arg5.IsWhole)
variable (arg6 : Memref sig .tc .vmem S256x1024 .f32) (harg6 : arg6.IsWhole)
variable (arg7 : Memref sig .tc .vmem S256x512 .f32) (harg7 : arg7.IsWhole)
variable (arg8 : Memref sig .tc .vmem S256x512 .f32) (harg8 : arg8.IsWhole)
variable (arg9 : Memref sig .tc .vmem S256x512 .f32) (harg9 : arg9.IsWhole)
variable (arg10 : Memref sig .tc .vmem S256x512 .f32) (harg10 : arg10.IsWhole)
variable (arg11 : Memref sig .tc .vmem S256x512 .f32) (harg11 : arg11.IsWhole)
variable (arg12 : Memref sig .tc .vmem S256x128 .f32) (harg12 : arg12.IsWhole)
variable (arg13 : Memref sig .tc .vmem S256x128 .f32) (harg13 : arg13.IsWhole)
variable (arg14 : Memref sig .tc .vmem S1x1024 .f32) (harg14 : arg14.IsWhole)
variable (arg15 : Memref sig .tc .vmem S2688x1024 .bf16) (harg15 : arg15.IsWhole)
variable (arg16 : Memref sig .tc .vmem S1x384 .f32) (harg16 : arg16.IsWhole)
variable (arg17 : Memref sig .tc .vmem S384x1024 .bf16) (harg17 : arg17.IsWhole)
variable (arg18 : Memref sig .tc .vmem S1x128 .f32) (harg18 : arg18.IsWhole)
variable (arg19 : Memref sig .tc .vmem S128x1024 .bf16) (harg19 : arg19.IsWhole)
variable (arg20 : Memref sig .tc .vmem S128x512 .bf16) (harg20 : arg20.IsWhole)
variable (arg21 : Memref sig .tc .vmem S256x1024 .f32) (harg21 : arg21.IsWhole)
variable (arg22 : Memref sig .tc .vmem S4x672x1024 .f32) (harg22 : arg22.IsWhole)
variable (arg23 : Memref sig .tc .vmem S384x1024 .f32) (harg23 : arg23.IsWhole)
variable (arg24 : Memref sig .tc .vmem S128x1024 .f32) (harg24 : arg24.IsWhole)
variable (arg25 : Memref sig .tc .vmem S128x512 .f32) (harg25 : arg25.IsWhole)
variable (arg26 : Memref sig .tc .vmem S1x1024 .f32) (harg26 : arg26.IsWhole)
variable (arg27 : Memref sig .tc .vmem S1x384 .f32) (harg27 : arg27.IsWhole)
variable (arg28 : Memref sig .tc .vmem S1x128 .f32) (harg28 : arg28.IsWhole)
variable (I : Ins F)

set_option maxHeartbeats 1600000 in
theorem part1 (s22 : Vec F S4x672x1024 .f32) (s23 : Vec F S384x1024 .f32) (s24 : Vec F S128x1024 .f32) (s25 : Vec F S128x512 .f32) (s26 : Vec F S1x1024 .f32) (s27 : Vec F S1x384 .f32) (s28 : Vec F S1x128 .f32) (E : Set ℕ) (K : _ → sProp 𝕄) :
    iprop(owns (c : Thread nD τ) arg1 fullShare I.x1 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg14 fullShare I.x14 ∗ owns (c : Thread nD τ) arg15 fullShare I.x15 ∗ owns (c : Thread nD τ) arg22 fullShare s22 ∗ owns (c : Thread nD τ) arg23 fullShare s23 ∗ owns (c : Thread nD τ) arg24 fullShare s24 ∗ owns (c : Thread nD τ) arg25 fullShare s25 ∗ owns (c : Thread nD τ) arg26 fullShare s26 ∗ owns (c : Thread nD τ) arg27 fullShare s27 ∗ owns (c : Thread nD τ) arg28 fullShare s28
      ∗ (iprop(owns (c : Thread nD τ) arg1 fullShare I.x1 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg14 fullShare I.x14 ∗ owns (c : Thread nD τ) arg15 fullShare I.x15 ∗ owns (c : Thread nD τ) arg22 fullShare (st22 i s22) ∗ owns (c : Thread nD τ) arg23 fullShare (st23 i s23) ∗ owns (c : Thread nD τ) arg24 fullShare (st24 i s24) ∗ owns (c : Thread nD τ) arg25 fullShare (st25 i s25) ∗ owns (c : Thread nD τ) arg26 fullShare (st26 i s26) ∗ owns (c : Thread nD τ) arg27 fullShare (st27 i s27) ∗ owns (c : Thread nD τ) arg28 fullShare (st28 i s28))
          -∗ K ⟨v11 I, v12 I, v21 I, v23 I, v25 I, v28 I, v32 I (st22 i s22)⟩))
    ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) K := by
  simp only [k0_part1_eq_skeleton]; unfold k0_part1_skel
  unfold owns
  iintro ⟨⟨%f1, %hf1, H1⟩, ⟨%f8, %hf8, H8⟩, ⟨%f9, %hf9, H9⟩, ⟨%f10, %hf10, H10⟩, ⟨%f11, %hf11, H11⟩, ⟨%f14, %hf14, H14⟩, ⟨%f15, %hf15, H15⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
  have r0 : View.readAt (Elt F) arg8.view (Rect.unit (s := S256x512) ![0, 0] ![256, 512] inb_S256x512_S256x512_0_0).toLoadRect f8 = I.x8 := (View.readAt_full (s := S256x512) arg8.view f8 inb_S256x512_S256x512_0_0).trans hf8
  have r1 : View.readAt (Elt F) arg9.view (Rect.unit (s := S256x512) ![0, 0] ![256, 512] inb_S256x512_S256x512_0_0).toLoadRect f9 = I.x9 := (View.readAt_full (s := S256x512) arg9.view f9 inb_S256x512_S256x512_0_0).trans hf9
  have r2 : View.readAt (Elt F) arg10.view (Rect.unit (s := S256x512) ![0, 0] ![256, 512] inb_S256x512_S256x512_0_0).toLoadRect f10 = I.x10 := (View.readAt_full (s := S256x512) arg10.view f10 inb_S256x512_S256x512_0_0).trans hf10
  have r3 : View.readAt (Elt F) arg11.view (Rect.unit (s := S256x512) ![0, 0] ![256, 512] inb_S256x512_S256x512_0_0).toLoadRect f11 = I.x11 := (View.readAt_full (s := S256x512) arg11.view f11 inb_S256x512_S256x512_0_0).trans hf11
  have r4 : View.readAt (Elt F) arg15.view (Rect.unit (s := S2688x1024) ![640, 0] ![2048, 1024] inb_S2688x1024_S2048x1024_640_0).toLoadRect f15 = VecWindow.window I.x15 ![640, 0] S2048x1024.size inb_S2688x1024_S2048x1024_640_0 := (View.readAt_unit arg15.view f15 inb_S2688x1024_S2048x1024_640_0 rfl inb_S2688x1024_S2048x1024_640_0).trans (by rw [hf15])
  have r5 : View.readAt (Elt F) arg14.view (Rect.unit (s := S1x1024) ![0, 0] ![1, 1024] inb_S1x1024_S1x1024_0_0).toLoadRect f14 = I.x14 := (View.readAt_full (s := S1x1024) arg14.view f14 inb_S1x1024_S1x1024_0_0).trans hf14
  have r6 : View.readAt (Elt F) arg1.view (Rect.unit (s := S256x1024) ![0, 0] ![256, 1024] inb_S256x1024_S256x1024_0_0).toLoadRect f1 = I.x1 := (View.readAt_full (s := S256x1024) arg1.view f1 inb_S256x1024_S256x1024_0_0).trans hf1
  by_cases hc0 : first i
  · simp only [st22, st23, st24, st25, st26, st27, st28, if_pos hc0]
    have rc : ∀ L, View.readCov (Val := Elt F) arg22.view (⟨Rect.unit (s := S4x672x1024) ![0, 0, 0] ![4, 672, 1024] inb_S4x672x1024_S4x672x1024_0_0_0, k0_pay3⟩ :: L) (Rect.unit (s := S4x672x1024) ![0, 544, 0] ![1, 104, 1024] inb_S4x672x1024_S1x104x1024_0_544_0).toLoadRect = VecWindow.window (k0_pay3 (F := F)) ![0, 544, 0] S1x104x1024.size inb_S4x672x1024_S1x104x1024_0_544_0 :=
      fun L => (View.readAt_unit arg22.view _ inb_S4x672x1024_S1x104x1024_0_544_0 rfl inb_S4x672x1024_S1x104x1024_0_544_0).trans (congrArg (fun z => VecWindow.window z _ _ _) (View.read_writes_full (s := S4x672x1024) arg22.view _ inb_S4x672x1024_S4x672x1024_0_0_0 _ L))
    sl_exec (disch := first | sl_exact hc0)
    sl_step
    sl_unfold_words
    simp only [r0, r1, r2, r3, r4, r5, r6, rc]
    iapply Hk
    isplitl [H1]
    · iexists _; isplitr; swap; · iexact H1
      ipureintro; exact hf1
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H14]
    · iexists _; isplitr; swap; · iexact H14
      ipureintro; exact hf14
    isplitl [H15]
    · iexists _; isplitr; swap; · iexact H15
      ipureintro; exact hf15
    isplitl [H22]
    · iexists _; isplitr; swap; · iexact H22
      ipureintro; exact View.read_writes_full (s := S4x672x1024) arg22.view f22 inb_S4x672x1024_S4x672x1024_0_0_0 _ _
    isplitl [H23]
    · iexists _; isplitr; swap; · iexact H23
      ipureintro; exact View.read_writes_full (s := S384x1024) arg23.view f23 inb_S384x1024_S384x1024_0_0 _ _
    isplitl [H24]
    · iexists _; isplitr; swap; · iexact H24
      ipureintro; exact View.read_writes_full (s := S128x1024) arg24.view f24 inb_S128x1024_S128x1024_0_0 _ _
    isplitl [H25]
    · iexists _; isplitr; swap; · iexact H25
      ipureintro; exact View.read_writes_full (s := S128x512) arg25.view f25 inb_S128x512_S128x512_0_0 _ _
    isplitl [H26]
    · iexists _; isplitr; swap; · iexact H26
      ipureintro; exact View.read_writes_full (s := S1x1024) arg26.view f26 inb_S1x1024_S1x1024_0_0 _ _
    isplitl [H27]
    · iexists _; isplitr; swap; · iexact H27
      ipureintro; exact View.read_writes_full (s := S1x384) arg27.view f27 inb_S1x384_S1x384_0_0 _ _
    iexists _; isplitr; swap; · iexact H28
    ipureintro; exact View.read_writes_full (s := S1x128) arg28.view f28 inb_S1x128_S1x128_0_0 _ _
  · simp only [st22, st23, st24, st25, st26, st27, st28, if_neg hc0]
    have r22 : View.readAt (Elt F) arg22.view (Rect.unit (s := S4x672x1024) ![0, 544, 0] ![1, 104, 1024] inb_S4x672x1024_S1x104x1024_0_544_0).toLoadRect f22 = VecWindow.window s22 ![0, 544, 0] S1x104x1024.size inb_S4x672x1024_S1x104x1024_0_544_0 := (View.readAt_unit arg22.view f22 inb_S4x672x1024_S1x104x1024_0_544_0 rfl inb_S4x672x1024_S1x104x1024_0_544_0).trans (by rw [hf22])
    sl_exec (disch := first | sl_exact hc0)
    sl_step
    sl_unfold_words
    simp only [r0, r1, r2, r3, r4, r5, r6, r22]
    iapply Hk
    isplitl [H1]
    · iexists _; isplitr; swap; · iexact H1
      ipureintro; exact hf1
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H14]
    · iexists _; isplitr; swap; · iexact H14
      ipureintro; exact hf14
    isplitl [H15]
    · iexists _; isplitr; swap; · iexact H15
      ipureintro; exact hf15
    isplitl [H22]
    · iexists _; isplitr; swap; · iexact H22
      ipureintro; exact hf22
    isplitl [H23]
    · iexists _; isplitr; swap; · iexact H23
      ipureintro; exact hf23
    isplitl [H24]
    · iexists _; isplitr; swap; · iexact H24
      ipureintro; exact hf24
    isplitl [H25]
    · iexists _; isplitr; swap; · iexact H25
      ipureintro; exact hf25
    isplitl [H26]
    · iexists _; isplitr; swap; · iexact H26
      ipureintro; exact hf26
    isplitl [H27]
    · iexists _; isplitr; swap; · iexact H27
      ipureintro; exact hf27
    iexists _; isplitr; swap; · iexact H28
    ipureintro; exact hf28

set_option maxHeartbeats 1600000 in
theorem part2 (s22 : Vec F S4x672x1024 .f32) (E : Set ℕ) (K : _ → sProp 𝕄) :
    iprop(owns (c : Thread nD τ) arg12 fullShare I.x12 ∗ owns (c : Thread nD τ) arg13 fullShare I.x13 ∗ owns (c : Thread nD τ) arg22 fullShare s22
      ∗ (iprop(owns (c : Thread nD τ) arg12 fullShare I.x12 ∗ owns (c : Thread nD τ) arg13 fullShare I.x13 ∗ owns (c : Thread nD τ) arg22 fullShare (o22_4 I s22))
          -∗ K ⟨v58 I, v60 I, v61 I, v63 I⟩))
    ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v28 I) (v32 I s22)) K := by
  simp only [k0_part2_eq_skeleton]; unfold k0_part2_skel
  unfold owns
  iintro ⟨⟨%f12, %hf12, H12⟩, ⟨%f13, %hf13, H13⟩, ⟨%f22, %hf22, H22⟩, Hk⟩
  have r0 : View.readAt (Elt F) arg22.view (Rect.unit (s := S4x672x1024) ![0, 544, 0] ![1, 104, 1024] inb_S4x672x1024_S1x104x1024_0_544_0).toLoadRect f22 = VecWindow.window s22 ![0, 544, 0] S1x104x1024.size inb_S4x672x1024_S1x104x1024_0_544_0 := (View.readAt_unit arg22.view f22 inb_S4x672x1024_S1x104x1024_0_544_0 rfl inb_S4x672x1024_S1x104x1024_0_544_0).trans (by rw [hf22])
  have r1 : View.readAt (Elt F) arg22.view (Rect.unit (s := S4x672x1024) ![1, 0, 0] ![1, 648, 1024] inb_S4x672x1024_S1x648x1024_1_0_0).toLoadRect f22 = VecWindow.window s22 ![1, 0, 0] S1x648x1024.size inb_S4x672x1024_S1x648x1024_1_0_0 := (View.readAt_unit arg22.view f22 inb_S4x672x1024_S1x648x1024_1_0_0 rfl inb_S4x672x1024_S1x648x1024_1_0_0).trans (by rw [hf22])
  have r3 : View.readAt (Elt F) arg22.view (Rect.unit (s := S4x672x1024) ![2, 0, 0] ![1, 648, 1024] inb_S4x672x1024_S1x648x1024_2_0_0).toLoadRect f22 = VecWindow.window s22 ![2, 0, 0] S1x648x1024.size inb_S4x672x1024_S1x648x1024_2_0_0 := (View.readAt_unit arg22.view f22 inb_S4x672x1024_S1x648x1024_2_0_0 rfl inb_S4x672x1024_S1x648x1024_2_0_0).trans (by rw [hf22])
  have r5 : View.readAt (Elt F) arg22.view (Rect.unit (s := S4x672x1024) ![3, 0, 0] ![1, 648, 1024] inb_S4x672x1024_S1x648x1024_3_0_0).toLoadRect f22 = VecWindow.window s22 ![3, 0, 0] S1x648x1024.size inb_S4x672x1024_S1x648x1024_3_0_0 := (View.readAt_unit arg22.view f22 inb_S4x672x1024_S1x648x1024_3_0_0 rfl inb_S4x672x1024_S1x648x1024_3_0_0).trans (by rw [hf22])
  have r7 : View.readAt (Elt F) arg12.view (Rect.unit (s := S256x128) ![0, 0] ![256, 128] inb_S256x128_S256x128_0_0).toLoadRect f12 = I.x12 := (View.readAt_full (s := S256x128) arg12.view f12 inb_S256x128_S256x128_0_0).trans hf12
  have r8 : View.readAt (Elt F) arg13.view (Rect.unit (s := S256x128) ![0, 0] ![256, 128] inb_S256x128_S256x128_0_0).toLoadRect f13 = I.x13 := (View.readAt_full (s := S256x128) arg13.view f13 inb_S256x128_S256x128_0_0).trans hf13
  sl_exec
  sl_step
  sl_unfold_words
  simp only [r0, r1, r3, r5, r7, r8]
  iapply Hk
  isplitl [H12]
  · iexists _; isplitr; swap; · iexact H12
    ipureintro; exact hf12
  isplitl [H13]
  · iexists _; isplitr; swap; · iexact H13
    ipureintro; exact hf13
  iexists _; isplitr; swap; · iexact H22
  ipureintro
  rw [View.read_writes_cons_put arg22.view f22 inb_S4x672x1024_S1x648x1024_3_0_0 _ _ rfl]
  rw [View.read_writes_cons_put arg22.view f22 inb_S4x672x1024_S1x648x1024_2_0_0 _ _ rfl]
  rw [View.read_writes_cons_put arg22.view f22 inb_S4x672x1024_S1x648x1024_1_0_0 _ _ rfl]
  rw [View.read_writes_cons_put arg22.view f22 inb_S4x672x1024_S1x104x1024_0_544_0 _ _ rfl]
  rw [View.writes_nil, hf22]

set_option maxHeartbeats 1600000 in
theorem part3 (E : Set ℕ) (K : _ → sProp 𝕄) :
    iprop(owns (c : Thread nD τ) arg5 fullShare I.x5 ∗ owns (c : Thread nD τ) arg6 fullShare I.x6
      ∗ (iprop(owns (c : Thread nD τ) arg5 fullShare I.x5 ∗ owns (c : Thread nD τ) arg6 fullShare I.x6)
          -∗ K ⟨v75 I, v77 I, v78 I, v80 I, v93 I, v95 I, v100 I, v104 I, c16_i32_54 I⟩))
    ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v58 I) (v60 I) (v61 I) (v63 I)) K := by
  simp only [k0_part3_eq_skeleton]; unfold k0_part3_skel
  unfold owns
  iintro ⟨⟨%f5, %hf5, H5⟩, ⟨%f6, %hf6, H6⟩, Hk⟩
  have r0 : View.readAt (Elt F) arg6.view (Rect.unit (s := S256x1024) ![0, 0] ![256, 1024] inb_S256x1024_S256x1024_0_0).toLoadRect f6 = I.x6 := (View.readAt_full (s := S256x1024) arg6.view f6 inb_S256x1024_S256x1024_0_0).trans hf6
  have r1 : View.readAt (Elt F) arg5.view (Rect.unit (s := S1024x256) ![0, 0] ![128, 256] inb_S1024x256_S128x256_0_0).toLoadRect f5 = VecWindow.window I.x5 ![0, 0] S128x256.size inb_S1024x256_S128x256_0_0 := (View.readAt_unit arg5.view f5 inb_S1024x256_S128x256_0_0 rfl inb_S1024x256_S128x256_0_0).trans (by rw [hf5])
  have r2 : View.readAt (Elt F) arg5.view (Rect.unit (s := S1024x256) ![128, 0] ![128, 256] inb_S1024x256_S128x256_128_0).toLoadRect f5 = VecWindow.window I.x5 ![128, 0] S128x256.size inb_S1024x256_S128x256_128_0 := (View.readAt_unit arg5.view f5 inb_S1024x256_S128x256_128_0 rfl inb_S1024x256_S128x256_128_0).trans (by rw [hf5])
  sl_exec
  sl_step
  sl_unfold_words
  simp only [r0, r1, r2]
  iapply Hk
  isplitl [H5]
  · iexists _; isplitr; swap; · iexact H5
    ipureintro; exact hf5
  iexists _; isplitr; swap; · iexact H6
  ipureintro; exact hf6

set_option maxHeartbeats 1600000 in
theorem part4 (E : Set ℕ) (K : _ → sProp 𝕄) :
    iprop(owns (c : Thread nD τ) arg5 fullShare I.x5
      ∗ (iprop(owns (c : Thread nD τ) arg5 fullShare I.x5)
          -∗ K ⟨v107 I, v121 I, v135 I, v137 I, v149 I⟩))
    ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v58 I) (v75 I) (v77 I) (v80 I) (v95 I) (v100 I) (v104 I) (c16_i32_54 I)) K := by
  simp only [k0_part4_eq_skeleton]; unfold k0_part4_skel
  unfold owns
  iintro ⟨⟨%f5, %hf5, H5⟩, Hk⟩
  have r0 : View.readAt (Elt F) arg5.view (Rect.unit (s := S1024x256) ![256, 0] ![128, 256] inb_S1024x256_S128x256_256_0).toLoadRect f5 = VecWindow.window I.x5 ![256, 0] S128x256.size inb_S1024x256_S128x256_256_0 := (View.readAt_unit arg5.view f5 inb_S1024x256_S128x256_256_0 rfl inb_S1024x256_S128x256_256_0).trans (by rw [hf5])
  have r1 : View.readAt (Elt F) arg5.view (Rect.unit (s := S1024x256) ![384, 0] ![128, 256] inb_S1024x256_S128x256_384_0).toLoadRect f5 = VecWindow.window I.x5 ![384, 0] S128x256.size inb_S1024x256_S128x256_384_0 := (View.readAt_unit arg5.view f5 inb_S1024x256_S128x256_384_0 rfl inb_S1024x256_S128x256_384_0).trans (by rw [hf5])
  have r2 : View.readAt (Elt F) arg5.view (Rect.unit (s := S1024x256) ![512, 0] ![128, 256] inb_S1024x256_S128x256_512_0).toLoadRect f5 = VecWindow.window I.x5 ![512, 0] S128x256.size inb_S1024x256_S128x256_512_0 := (View.readAt_unit arg5.view f5 inb_S1024x256_S128x256_512_0 rfl inb_S1024x256_S128x256_512_0).trans (by rw [hf5])
  sl_exec
  sl_step
  sl_unfold_words
  simp only [r0, r1, r2]
  iapply Hk
  iexists _; isplitr; swap; · iexact H5
  ipureintro; exact hf5

set_option maxHeartbeats 1600000 in
theorem part5 (E : Set ℕ) (K : _ → sProp 𝕄) :
    iprop(owns (c : Thread nD τ) arg5 fullShare I.x5
      ∗ (iprop(owns (c : Thread nD τ) arg5 fullShare I.x5)
          -∗ K ⟨v193 I, v194 I⟩))
    ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v58 I) (v75 I) (v77 I) (v80 I) (v93 I) (v107 I) (v121 I) (v135 I) (v137 I) (v149 I)) K := by
  simp only [k0_part5_eq_skeleton]; unfold k0_part5_skel
  unfold owns
  iintro ⟨⟨%f5, %hf5, H5⟩, Hk⟩
  have r0 : View.readAt (Elt F) arg5.view (Rect.unit (s := S1024x256) ![640, 0] ![128, 256] inb_S1024x256_S128x256_640_0).toLoadRect f5 = VecWindow.window I.x5 ![640, 0] S128x256.size inb_S1024x256_S128x256_640_0 := (View.readAt_unit arg5.view f5 inb_S1024x256_S128x256_640_0 rfl inb_S1024x256_S128x256_640_0).trans (by rw [hf5])
  have r1 : View.readAt (Elt F) arg5.view (Rect.unit (s := S1024x256) ![768, 0] ![128, 256] inb_S1024x256_S128x256_768_0).toLoadRect f5 = VecWindow.window I.x5 ![768, 0] S128x256.size inb_S1024x256_S128x256_768_0 := (View.readAt_unit arg5.view f5 inb_S1024x256_S128x256_768_0 rfl inb_S1024x256_S128x256_768_0).trans (by rw [hf5])
  have r2 : View.readAt (Elt F) arg5.view (Rect.unit (s := S1024x256) ![896, 0] ![128, 256] inb_S1024x256_S128x256_896_0).toLoadRect f5 = VecWindow.window I.x5 ![896, 0] S128x256.size inb_S1024x256_S128x256_896_0 := (View.readAt_unit arg5.view f5 inb_S1024x256_S128x256_896_0 rfl inb_S1024x256_S128x256_896_0).trans (by rw [hf5])
  sl_exec
  sl_step
  sl_unfold_words
  simp only [r0, r1, r2]
  iapply Hk
  iexists _; isplitr; swap; · iexact H5
  ipureintro; exact hf5

set_option maxHeartbeats 1600000 in
theorem part6 (s23 : Vec F S384x1024 .f32) (E : Set ℕ) (K : _ → sProp 𝕄) :
    iprop(owns (c : Thread nD τ) arg3 fullShare I.x3 ∗ owns (c : Thread nD τ) arg16 fullShare I.x16 ∗ owns (c : Thread nD τ) arg17 fullShare I.x17 ∗ owns (c : Thread nD τ) arg23 fullShare s23
      ∗ (iprop(owns (c : Thread nD τ) arg3 fullShare I.x3 ∗ owns (c : Thread nD τ) arg16 fullShare I.x16 ∗ owns (c : Thread nD τ) arg17 fullShare I.x17 ∗ owns (c : Thread nD τ) arg23 fullShare (o23 I s23))
          -∗ K ⟨v208 I, v209 I, v219 I, v221 I, v232 I, v233 I, cst_99 I⟩))
    ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v58 I) (v75 I) (v77 I) (v78 I) (v193 I) (v194 I)) K := by
  simp only [k0_part6_eq_skeleton]; unfold k0_part6_skel
  unfold owns
  iintro ⟨⟨%f3, %hf3, H3⟩, ⟨%f16, %hf16, H16⟩, ⟨%f17, %hf17, H17⟩, ⟨%f23, %hf23, H23⟩, Hk⟩
  have r0 : View.readAt (Elt F) arg16.view (Rect.unit (s := S1x384) ![0, 0] ![1, 384] inb_S1x384_S1x384_0_0).toLoadRect f16 = I.x16 := (View.readAt_full (s := S1x384) arg16.view f16 inb_S1x384_S1x384_0_0).trans hf16
  have r1 : View.readAt (Elt F) arg3.view (Rect.unit (s := S256x384) ![0, 0] ![256, 384] inb_S256x384_S256x384_0_0).toLoadRect f3 = I.x3 := (View.readAt_full (s := S256x384) arg3.view f3 inb_S256x384_S256x384_0_0).trans hf3
  have r2 : View.readAt (Elt F) arg23.view (Rect.unit (s := S384x1024) ![0, 0] ![384, 1024] inb_S384x1024_S384x1024_0_0).toLoadRect f23 = s23 := (View.readAt_full (s := S384x1024) arg23.view f23 inb_S384x1024_S384x1024_0_0).trans hf23
  have r4 : View.readAt (Elt F) arg17.view (Rect.unit (s := S384x1024) ![0, 0] ![384, 1024] inb_S384x1024_S384x1024_0_0).toLoadRect f17 = I.x17 := (View.readAt_full (s := S384x1024) arg17.view f17 inb_S384x1024_S384x1024_0_0).trans hf17
  sl_exec
  sl_step
  sl_unfold_words
  simp only [r0, r1, r2, r4]
  iapply Hk
  isplitl [H3]
  · iexists _; isplitr; swap; · iexact H3
    ipureintro; exact hf3
  isplitl [H16]
  · iexists _; isplitr; swap; · iexact H16
    ipureintro; exact hf16
  isplitl [H17]
  · iexists _; isplitr; swap; · iexact H17
    ipureintro; exact hf17
  iexists _; isplitr; swap; · iexact H23
  ipureintro; exact View.read_writes_full (s := S384x1024) arg23.view f23 inb_S384x1024_S384x1024_0_0 _ []

set_option maxHeartbeats 1600000 in
theorem part7 (s24 : Vec F S128x1024 .f32) (s27 : Vec F S1x384 .f32) (E : Set ℕ) (K : _ → sProp 𝕄) :
    iprop(owns (c : Thread nD τ) arg4 fullShare I.x4 ∗ owns (c : Thread nD τ) arg7 fullShare I.x7 ∗ owns (c : Thread nD τ) arg18 fullShare I.x18 ∗ owns (c : Thread nD τ) arg24 fullShare s24 ∗ owns (c : Thread nD τ) arg27 fullShare s27
      ∗ (iprop(owns (c : Thread nD τ) arg4 fullShare I.x4 ∗ owns (c : Thread nD τ) arg7 fullShare I.x7 ∗ owns (c : Thread nD τ) arg18 fullShare I.x18 ∗ owns (c : Thread nD τ) arg24 fullShare s24 ∗ owns (c : Thread nD τ) arg27 fullShare (o27 I s27))
          -∗ K ⟨v246 I, v254 I, v264 I, v266 I, v268 I, v270 I, v272 I s24, v273 I, v274 I⟩))
    ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v80 I) (v209 I) (v219 I) (v221 I) (v232 I) (v233 I) (cst_99 I)) K := by
  simp only [k0_part7_eq_skeleton]; unfold k0_part7_skel
  unfold owns
  iintro ⟨⟨%f4, %hf4, H4⟩, ⟨%f7, %hf7, H7⟩, ⟨%f18, %hf18, H18⟩, ⟨%f24, %hf24, H24⟩, ⟨%f27, %hf27, H27⟩, Hk⟩
  have r0 : View.readAt (Elt F) arg27.view (Rect.unit (s := S1x384) ![0, 0] ![1, 384] inb_S1x384_S1x384_0_0).toLoadRect f27 = s27 := (View.readAt_full (s := S1x384) arg27.view f27 inb_S1x384_S1x384_0_0).trans hf27
  have r2 : View.readAt (Elt F) arg18.view (Rect.unit (s := S1x128) ![0, 0] ![1, 128] inb_S1x128_S1x128_0_0).toLoadRect f18 = I.x18 := (View.readAt_full (s := S1x128) arg18.view f18 inb_S1x128_S1x128_0_0).trans hf18
  have r3 : View.readAt (Elt F) arg4.view (Rect.unit (s := S256x128) ![0, 0] ![256, 128] inb_S256x128_S256x128_0_0).toLoadRect f4 = I.x4 := (View.readAt_full (s := S256x128) arg4.view f4 inb_S256x128_S256x128_0_0).trans hf4
  have r4 : View.readAt (Elt F) arg7.view (Rect.unit (s := S256x512) ![0, 0] ![256, 512] inb_S256x512_S256x512_0_0).toLoadRect f7 = I.x7 := (View.readAt_full (s := S256x512) arg7.view f7 inb_S256x512_S256x512_0_0).trans hf7
  have r5 : View.readAt (Elt F) arg24.view (Rect.unit (s := S128x1024) ![0, 0] ![128, 1024] inb_S128x1024_S128x1024_0_0).toLoadRect f24 = s24 := (View.readAt_full (s := S128x1024) arg24.view f24 inb_S128x1024_S128x1024_0_0).trans hf24
  sl_exec
  sl_step
  sl_unfold_words
  simp only [r0, r2, r3, r4, r5]
  iapply Hk
  isplitl [H4]
  · iexists _; isplitr; swap; · iexact H4
    ipureintro; exact hf4
  isplitl [H7]
  · iexists _; isplitr; swap; · iexact H7
    ipureintro; exact hf7
  isplitl [H18]
  · iexists _; isplitr; swap; · iexact H18
    ipureintro; exact hf18
  isplitl [H24]
  · iexists _; isplitr; swap; · iexact H24
    ipureintro; exact hf24
  iexists _; isplitr; swap; · iexact H27
  ipureintro; exact View.read_writes_full (s := S1x384) arg27.view f27 inb_S1x384_S1x384_0_0 _ []

set_option maxHeartbeats 1600000 in
theorem part8 (s24 : Vec F S128x1024 .f32) (s25 : Vec F S128x512 .f32) (s28 : Vec F S1x128 .f32) (E : Set ℕ) (K : _ → sProp 𝕄) :
    iprop(owns (c : Thread nD τ) arg19 fullShare I.x19 ∗ owns (c : Thread nD τ) arg20 fullShare I.x20 ∗ owns (c : Thread nD τ) arg24 fullShare s24 ∗ owns (c : Thread nD τ) arg25 fullShare s25 ∗ owns (c : Thread nD τ) arg28 fullShare s28
      ∗ (iprop(owns (c : Thread nD τ) arg19 fullShare I.x19 ∗ owns (c : Thread nD τ) arg20 fullShare I.x20 ∗ owns (c : Thread nD τ) arg24 fullShare (o24 I s24) ∗ owns (c : Thread nD τ) arg25 fullShare (o25 I s25) ∗ owns (c : Thread nD τ) arg28 fullShare s28)
          -∗ K ⟨v305 I, v311 I s28⟩))
    ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v80 I) (v254 I) (v264 I) (v266 I) (v268 I) (v270 I) (v272 I s24) (v273 I) (v274 I)) K := by
  simp only [k0_part8_eq_skeleton]; unfold k0_part8_skel
  unfold owns
  iintro ⟨⟨%f19, %hf19, H19⟩, ⟨%f20, %hf20, H20⟩, ⟨%f24, %hf24, H24⟩, ⟨%f25, %hf25, H25⟩, ⟨%f28, %hf28, H28⟩, Hk⟩
  have r0 : View.readAt (Elt F) arg24.view (Rect.unit (s := S128x1024) ![0, 0] ![128, 1024] inb_S128x1024_S128x1024_0_0).toLoadRect f24 = s24 := (View.readAt_full (s := S128x1024) arg24.view f24 inb_S128x1024_S128x1024_0_0).trans hf24
  have r1 : View.readAt (Elt F) arg25.view (Rect.unit (s := S128x512) ![0, 0] ![128, 512] inb_S128x512_S128x512_0_0).toLoadRect f25 = s25 := (View.readAt_full (s := S128x512) arg25.view f25 inb_S128x512_S128x512_0_0).trans hf25
  have r3 : View.readAt (Elt F) arg19.view (Rect.unit (s := S128x1024) ![0, 0] ![128, 1024] inb_S128x1024_S128x1024_0_0).toLoadRect f19 = I.x19 := (View.readAt_full (s := S128x1024) arg19.view f19 inb_S128x1024_S128x1024_0_0).trans hf19
  have r4 : View.readAt (Elt F) arg20.view (Rect.unit (s := S128x512) ![0, 0] ![128, 512] inb_S128x512_S128x512_0_0).toLoadRect f20 = I.x20 := (View.readAt_full (s := S128x512) arg20.view f20 inb_S128x512_S128x512_0_0).trans hf20
  have r5 : View.readAt (Elt F) arg28.view (Rect.unit (s := S1x128) ![0, 0] ![1, 128] inb_S1x128_S1x128_0_0).toLoadRect f28 = s28 := (View.readAt_full (s := S1x128) arg28.view f28 inb_S1x128_S1x128_0_0).trans hf28
  sl_exec
  sl_step
  sl_unfold_words
  simp only [r0, r1, r3, r4, r5]
  iapply Hk
  isplitl [H19]
  · iexists _; isplitr; swap; · iexact H19
    ipureintro; exact hf19
  isplitl [H20]
  · iexists _; isplitr; swap; · iexact H20
    ipureintro; exact hf20
  isplitl [H24]
  · iexists _; isplitr; swap; · iexact H24
    ipureintro; exact View.read_writes_full (s := S128x1024) arg24.view f24 inb_S128x1024_S128x1024_0_0 _ []
  isplitl [H25]
  · iexists _; isplitr; swap; · iexact H25
    ipureintro; exact View.read_writes_full (s := S128x512) arg25.view f25 inb_S128x512_S128x512_0_0 _ []
  iexists _; isplitr; swap; · iexact H28
  ipureintro; exact hf28

set_option maxHeartbeats 1600000 in
theorem part9 (s22 : Vec F S4x672x1024 .f32) (s28 : Vec F S1x128 .f32) (E : Set ℕ) (K : _ → sProp 𝕄) :
    iprop(owns (c : Thread nD τ) arg15 fullShare I.x15 ∗ owns (c : Thread nD τ) arg22 fullShare s22 ∗ owns (c : Thread nD τ) arg28 fullShare s28
      ∗ (iprop(owns (c : Thread nD τ) arg15 fullShare I.x15 ∗ owns (c : Thread nD τ) arg22 fullShare (o22_6 I s22) ∗ owns (c : Thread nD τ) arg28 fullShare (o28 I s28))
          -∗ K ⟨v347 I, v349 I⟩))
    ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (v11 I) (v12 I) (v21 I) (v23 I) (v25 I) (v208 I) (v246 I) (v305 I) (v311 I s28)) K := by
  simp only [k0_part9_eq_skeleton]; unfold k0_part9_skel
  unfold owns
  iintro ⟨⟨%f15, %hf15, H15⟩, ⟨%f22, %hf22, H22⟩, ⟨%f28, %hf28, H28⟩, Hk⟩
  have r0 : View.readAt (Elt F) arg28.view (Rect.unit (s := S1x128) ![0, 0] ![1, 128] inb_S1x128_S1x128_0_0).toLoadRect f28 = s28 := (View.readAt_full (s := S1x128) arg28.view f28 inb_S1x128_S1x128_0_0).trans hf28
  have r1 : View.readAt (Elt F) arg22.view (Rect.unit (s := S4x672x1024) ![0, 0, 0] ![1, 512, 1024] inb_S4x672x1024_S1x512x1024_0_0_0).toLoadRect f22 = VecWindow.window s22 ![0, 0, 0] S1x512x1024.size inb_S4x672x1024_S1x512x1024_0_0_0 := (View.readAt_unit arg22.view f22 inb_S4x672x1024_S1x512x1024_0_0_0 rfl inb_S4x672x1024_S1x512x1024_0_0_0).trans (by rw [hf22])
  have r3 : View.readAt (Elt F) arg22.view (Rect.unit (s := S4x672x1024) ![0, 512, 0] ![1, 32, 1024] inb_S4x672x1024_S1x32x1024_0_512_0).toLoadRect f22 = VecWindow.window s22 ![0, 512, 0] S1x32x1024.size inb_S4x672x1024_S1x32x1024_0_512_0 := (View.readAt_unit arg22.view f22 inb_S4x672x1024_S1x32x1024_0_512_0 rfl inb_S4x672x1024_S1x32x1024_0_512_0).trans (by rw [hf22])
  have r5 : View.readAt (Elt F) arg15.view (Rect.unit (s := S2688x1024) ![0, 0] ![640, 1024] inb_S2688x1024_S640x1024_0_0).toLoadRect f15 = VecWindow.window I.x15 ![0, 0] S640x1024.size inb_S2688x1024_S640x1024_0_0 := (View.readAt_unit arg15.view f15 inb_S2688x1024_S640x1024_0_0 rfl inb_S2688x1024_S640x1024_0_0).trans (by rw [hf15])
  sl_exec
  sl_step
  sl_unfold_words
  simp only [r0, r1, r3, r5]
  iapply Hk
  isplitl [H15]
  · iexists _; isplitr; swap; · iexact H15
    ipureintro; exact hf15
  isplitl [H22]
  · iexists _; isplitr; swap; · iexact H22
    ipureintro
    rw [View.read_writes_cons_put arg22.view f22 inb_S4x672x1024_S1x32x1024_0_512_0 _ _ rfl]
    rw [View.read_writes_cons_put arg22.view f22 inb_S4x672x1024_S1x512x1024_0_0_0 _ _ rfl]
    rw [View.writes_nil, hf22]
  iexists _; isplitr; swap; · iexact H28
  ipureintro; exact View.read_writes_full (s := S1x128) arg28.view f28 inb_S1x128_S1x128_0_0 _ []

set_option maxHeartbeats 3200000 in
/-- What the body does on whole staging memrefs. -/
theorem run (s21 : Vec F S256x1024 .f32) (s22 : Vec F S4x672x1024 .f32) (s23 : Vec F S384x1024 .f32) (s24 : Vec F S128x1024 .f32) (s25 : Vec F S128x512 .f32) (s26 : Vec F S1x1024 .f32) (s27 : Vec F S1x384 .f32) (s28 : Vec F S1x128 .f32) (E : Set ℕ) (K : PUnit → sProp 𝕄) :
    iprop(owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.x16 ∗ owns (c : Thread nD τ) arg17 fullShare I.x17 ∗ owns (c : Thread nD τ) arg18 fullShare I.x18 ∗ owns (c : Thread nD τ) arg19 fullShare I.x19 ∗ owns (c : Thread nD τ) arg20 fullShare I.x20 ∗ owns (c : Thread nD τ) arg21 fullShare s21 ∗ owns (c : Thread nD τ) arg22 fullShare s22 ∗ owns (c : Thread nD τ) arg23 fullShare s23 ∗ owns (c : Thread nD τ) arg24 fullShare s24 ∗ owns (c : Thread nD τ) arg25 fullShare s25 ∗ owns (c : Thread nD τ) arg26 fullShare s26 ∗ owns (c : Thread nD τ) arg27 fullShare s27 ∗ owns (c : Thread nD τ) arg28 fullShare s28
      ∗ (iprop(owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.x16 ∗ owns (c : Thread nD τ) arg17 fullShare I.x17 ∗ owns (c : Thread nD τ) arg18 fullShare I.x18 ∗ owns (c : Thread nD τ) arg19 fullShare I.x19 ∗ owns (c : Thread nD τ) arg20 fullShare I.x20 ∗ owns (c : Thread nD τ) arg21 fullShare (o21 I) ∗ owns (c : Thread nD τ) arg22 fullShare (o22_6 I (o22_4 I (st22 i s22))) ∗ owns (c : Thread nD τ) arg23 fullShare (o23 I (st23 i s23)) ∗ owns (c : Thread nD τ) arg24 fullShare (o24 I (st24 i s24)) ∗ owns (c : Thread nD τ) arg25 fullShare (o25 I (st25 i s25)) ∗ owns (c : Thread nD τ) arg26 fullShare (o26 I (st26 i s26)) ∗ owns (c : Thread nD τ) arg27 fullShare (o27 I (st27 i s27)) ∗ owns (c : Thread nD τ) arg28 fullShare (o28 I (st28 i s28))) -∗ K ⟨⟩))
    ⊢ wp frame (wpE (defs₀ (F := F)) Variants.none c none) E (cc0_in_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_in_bwd_eq_skeleton]; unfold cc0_in_bwd_skel
  iintro ⟨H1, H2, H3, H4, H5, H6, H7, H8, H9, H10, H11, H12, H13, H14, H15, H16, H17, H18, H19, H20, H21, H22, H23, H24, H25, H26, H27, H28, Hk⟩
  rw [wp_bind]
  iapply (part1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I s22 s23 s24 s25 s26 s27 s28 E)
  isplitl [H1]; · iexact H1
  isplitl [H8]; · iexact H8
  isplitl [H9]; · iexact H9
  isplitl [H10]; · iexact H10
  isplitl [H11]; · iexact H11
  isplitl [H14]; · iexact H14
  isplitl [H15]; · iexact H15
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H8, H9, H10, H11, H14, H15, H22, H23, H24, H25, H26, H27, H28⟩
  rw [wp_bind]
  iapply (part2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I (st22 i s22) E)
  isplitl [H12]; · iexact H12
  isplitl [H13]; · iexact H13
  isplitl [H22]; · iexact H22
  iintro ⟨H12, H13, H22⟩
  rw [wp_bind]
  iapply (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I  E)
  isplitl [H5]; · iexact H5
  isplitl [H6]; · iexact H6
  iintro ⟨H5, H6⟩
  rw [wp_bind]
  iapply (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I  E)
  isplitl [H5]; · iexact H5
  iintro ⟨H5⟩
  rw [wp_bind]
  iapply (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I  E)
  isplitl [H5]; · iexact H5
  iintro ⟨H5⟩
  rw [wp_bind]
  iapply (part6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I (st23 i s23) E)
  isplitl [H3]; · iexact H3
  isplitl [H16]; · iexact H16
  isplitl [H17]; · iexact H17
  isplitl [H23]; · iexact H23
  iintro ⟨H3, H16, H17, H23⟩
  rw [wp_bind]
  iapply (part7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I (st24 i s24) (st27 i s27) E)
  isplitl [H4]; · iexact H4
  isplitl [H7]; · iexact H7
  isplitl [H18]; · iexact H18
  isplitl [H24]; · iexact H24
  isplitl [H27]; · iexact H27
  iintro ⟨H4, H7, H18, H24, H27⟩
  rw [wp_bind]
  iapply (part8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I (st24 i s24) (st25 i s25) (st28 i s28) E)
  isplitl [H19]; · iexact H19
  isplitl [H20]; · iexact H20
  isplitl [H24]; · iexact H24
  isplitl [H25]; · iexact H25
  isplitl [H28]; · iexact H28
  iintro ⟨H19, H20, H24, H25, H28⟩
  rw [wp_bind]
  iapply (part9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 I (o22_4 I (st22 i s22)) (st28 i s28) E)
  isplitl [H15]; · iexact H15
  isplitl [H22]; · iexact H22
  isplitl [H28]; · iexact H28
  iintro ⟨H15, H22, H28⟩
  unfold owns
  icases H2 with ⟨%f2, %hf2, H2⟩
  icases H21 with ⟨%f21, %hf21, H21⟩
  icases H26 with ⟨%f26, %hf26, H26⟩
  have r0 : View.readAt (Elt F) arg26.view (Rect.unit (s := S1x1024) ![0, 0] ![1, 1024] inb_S1x1024_S1x1024_0_0).toLoadRect f26 = (st26 i s26) := (View.readAt_full (s := S1x1024) arg26.view f26 inb_S1x1024_S1x1024_0_0).trans hf26
  have r2 : View.readAt (Elt F) arg2.view (Rect.unit (s := S256x1024) ![0, 0] ![256, 1024] inb_S256x1024_S256x1024_0_0).toLoadRect f2 = I.x2 := (View.readAt_full (s := S256x1024) arg2.view f2 inb_S256x1024_S256x1024_0_0).trans hf2
  have r3 : View.readAt (Elt F) arg21.view (Rect.unit (s := S256x1024) ![0, 0] ![256, 1024] inb_S256x1024_S256x1024_0_0).toLoadRect f21 = s21 := (View.readAt_full (s := S256x1024) arg21.view f21 inb_S256x1024_S256x1024_0_0).trans hf21
  sl_exec
  sl_step
  sl_unfold_words
  simp only [r0, r2, r3]
  iapply Hk
  isplitl [H1]; · iexact H1
  isplitl [H2]
  · iexists _; isplitr; swap; · iexact H2
    ipureintro; exact hf2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; isplitr; swap; · iexact H21
    ipureintro; exact View.read_writes_full (s := S256x1024) arg21.view f21 inb_S256x1024_S256x1024_0_0 _ []
  isplitl [H22]; · iexact H22
  isplitl [H23]; · iexact H23
  isplitl [H24]; · iexact H24
  isplitl [H25]; · iexact H25
  isplitl [H26]
  · iexists _; isplitr; swap; · iexact H26
    ipureintro; exact View.read_writes_full (s := S1x1024) arg26.view f26 inb_S1x1024_S1x1024_0_0 _ []
  isplitl [H27]; · iexact H27
  iexact H28

end Cert.InbK

end
-- ==== Proof.InbFrame.lean ====
/- The frame of the projections' backward: what every point of the grid leaves in the windows, and the launch. -/
module

public import proofs.«01_k».proof.Proof.InbRun
public import Idealize.ShloMosaic.Lib.Claim

@[expose] public section

set_option maxRecDepth 16384

noncomputable section

namespace Cert.InbK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InBIdeal Cert.InBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2688x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x384 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S384x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x1024 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x672x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S384x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S128x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S128x512 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x384 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x128 .f32 := win0_27.stage (cfg0.slots t 27)
abbrev hs0_27 (t : Fin cfg0.N) : (ms0_27 t).IsWhole := hstage0_27 ((cfg0.slots t 27).cast nbuf0_27)

/-- The grid's point number `n`. -/
def pt (n : ℕ) : Fin cfg0.N := ⟨n % 16, lt_of_lt_of_eq (Nat.mod_lt _ (by decide)) (show 16 = cfg0.N from N_0.symm)⟩

theorem pt_eq (t : Fin cfg0.N) : pt t.val = t := Fin.ext (Nat.mod_eq_of_lt (lt_of_lt_of_eq t.isLt (show cfg0.N = 16 from N_0)))

/-- The blocks the body reads at point `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- An accumulator after the body at position `n`, from its start and its step. -/
def accOf {α : Type} (z : α) (f : Ins F → α → α) (c : Dev nD) : ℕ → α
  | 0 => f (ins m c (pt 0)) z
  | n + 1 => f (ins m c (pt (n + 1))) (accOf z f c n)

/-- The projection weights' gradient after one more row block. -/
abbrev ow (I : Ins F) (s : Vec F S4x672x1024 .f32) : Vec F S4x672x1024 .f32 := o22_6 I (o22_4 I s)

abbrev acc21 (c : Dev nD) (n : ℕ) : Vec F S4x672x1024 .f32 := accOf m k0_pay3 ow c n
abbrev acc22 (c : Dev nD) (n : ℕ) : Vec F S384x1024 .f32 := accOf m k0_pay4 o23 c n
abbrev acc23 (c : Dev nD) (n : ℕ) : Vec F S128x1024 .f32 := accOf m k0_pay5 o24 c n
abbrev acc24 (c : Dev nD) (n : ℕ) : Vec F S128x512 .f32 := accOf m k0_pay6 o25 c n
abbrev acc25 (c : Dev nD) (n : ℕ) : Vec F S1x1024 .f32 := accOf m k0_pay7 o26 c n
abbrev acc26 (c : Dev nD) (n : ℕ) : Vec F S1x384 .f32 := accOf m k0_pay8 o27 c n
abbrev acc27 (c : Dev nD) (n : ℕ) : Vec F S1x128 .f32 := accOf m k0_pay9 o28 c n

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => o21 (ins m c t)
    | ⟨21, _⟩ => acc21 m c t.val
    | ⟨22, _⟩ => acc22 m c t.val
    | ⟨23, _⟩ => acc23 m c t.val
    | ⟨24, _⟩ => acc24 m c t.val
    | ⟨25, _⟩ => acc25 m c t.val
    | ⟨26, _⟩ => acc26 m c t.val
    | ⟨27, _⟩ => acc27 m c t.val
    | ⟨_ + 28, h⟩ => absurd h (Nat.not_lt.mpr (Nat.le_add_left 28 _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = o21 (ins m c t) := by dsimp only [dats]
theorem after0_21 (c : Dev nD) (t : Fin cfg0.N) : (dats m 0 c).after 21 t = acc21 m c t.val := by dsimp only [dats]
theorem after0_22 (c : Dev nD) (t : Fin cfg0.N) : (dats m 0 c).after 22 t = acc22 m c t.val := by dsimp only [dats]
theorem after0_23 (c : Dev nD) (t : Fin cfg0.N) : (dats m 0 c).after 23 t = acc23 m c t.val := by dsimp only [dats]
theorem after0_24 (c : Dev nD) (t : Fin cfg0.N) : (dats m 0 c).after 24 t = acc24 m c t.val := by dsimp only [dats]
theorem after0_25 (c : Dev nD) (t : Fin cfg0.N) : (dats m 0 c).after 25 t = acc25 m c t.val := by dsimp only [dats]
theorem after0_26 (c : Dev nD) (t : Fin cfg0.N) : (dats m 0 c).after 26 t = acc26 m c t.val := by dsimp only [dats]
theorem after0_27 (c : Dev nD) (t : Fin cfg0.N) : (dats m 0 c).after 27 t = acc27 m c t.val := by dsimp only [dats]

/-! Each input's staging buffer holds its block at every point. -/

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d
theorem before0_16 (c : Dev nD) (t : Fin cfg0.N) (d) : (dats m 0 c).before 16 t d = iblk m c 16 t := before0_16_of m (dats m 0 c) (A_eq m c 16) (after0_16 m c) t d
theorem before0_17 (c : Dev nD) (t : Fin cfg0.N) (d) : (dats m 0 c).before 17 t d = iblk m c 17 t := before0_17_of m (dats m 0 c) (A_eq m c 17) (after0_17 m c) t d
theorem before0_18 (c : Dev nD) (t : Fin cfg0.N) (d) : (dats m 0 c).before 18 t d = iblk m c 18 t := before0_18_of m (dats m 0 c) (A_eq m c 18) (after0_18 m c) t d
theorem before0_19 (c : Dev nD) (t : Fin cfg0.N) (d) : (dats m 0 c).before 19 t d = iblk m c 19 t := before0_19_of m (dats m 0 c) (A_eq m c 19) (after0_19 m c) t d

/-- One step of an accumulator, from whatever the pipeline hands over: at the first point the start, later what the point before left. -/
theorem acc_step {α : Type} (z : α) (f : Ins F → α → α) (c : Dev nD) (t : Fin cfg0.N) (b : α)
    (hb : t.val ≠ 0 → b = accOf m z f c (t.val - 1)) :
    f (ins m c t) (if first (grid0.coords t) then z else b) = accOf m z f c t.val := by
  obtain ⟨n, hn⟩ := t
  cases n with
  | zero =>
    rw [if_pos ((first_iff _).mpr rfl)]
    show _ = f (ins m c (pt 0)) z
    rw [show pt 0 = (⟨0, hn⟩ : Fin cfg0.N) from pt_eq ⟨0, hn⟩]
  | succ n =>
    rw [if_neg (fun h => absurd ((first_iff _).mp h) (Nat.succ_ne_zero n)), hb (Nat.succ_ne_zero n)]
    show _ = f (ins m c (pt (n + 1))) (accOf m z f c n)
    rw [show pt (n + 1) = (⟨n + 1, hn⟩ : Fin cfg0.N) from pt_eq ⟨n + 1, hn⟩]
    rfl

theorem acc21_step (c : Dev nD) (t : Fin cfg0.N) (d) :
    o22_6 (ins m c t) (o22_4 (ins m c t) (st22 (grid0.coords t) ((dats m 0 c).before 21 t d))) = acc21 m c t.val := by
  have hN : t.val < 16 := lt_of_lt_of_eq t.isLt (show cfg0.N = 16 from N_0)
  refine acc_step m k0_pay3 ow c t _ fun h0 => ?_
  rw [Dat.before_out_kept _ 21 rfl t (by omega) (Bool.eq_false_iff.mpr fun h => by have := (flush0_21 _).mp h; dsimp only at this; omega)
      (fun _ => rfl) (fun _ _ => rfl), after0_21]

theorem acc22_step (c : Dev nD) (t : Fin cfg0.N) (d) :
    o23 (ins m c t) (st23 (grid0.coords t) ((dats m 0 c).before 22 t d)) = acc22 m c t.val := by
  have hN : t.val < 16 := lt_of_lt_of_eq t.isLt (show cfg0.N = 16 from N_0)
  refine acc_step m k0_pay4 o23 c t _ fun h0 => ?_
  rw [Dat.before_out_kept _ 22 rfl t (by omega) (Bool.eq_false_iff.mpr fun h => by have := (flush0_22 _).mp h; dsimp only at this; omega)
      (fun _ => rfl) (fun _ _ => rfl), after0_22]

theorem acc23_step (c : Dev nD) (t : Fin cfg0.N) (d) :
    o24 (ins m c t) (st24 (grid0.coords t) ((dats m 0 c).before 23 t d)) = acc23 m c t.val := by
  have hN : t.val < 16 := lt_of_lt_of_eq t.isLt (show cfg0.N = 16 from N_0)
  refine acc_step m k0_pay5 o24 c t _ fun h0 => ?_
  rw [Dat.before_out_kept _ 23 rfl t (by omega) (Bool.eq_false_iff.mpr fun h => by have := (flush0_23 _).mp h; dsimp only at this; omega)
      (fun _ => rfl) (fun _ _ => rfl), after0_23]

theorem acc24_step (c : Dev nD) (t : Fin cfg0.N) (d) :
    o25 (ins m c t) (st25 (grid0.coords t) ((dats m 0 c).before 24 t d)) = acc24 m c t.val := by
  have hN : t.val < 16 := lt_of_lt_of_eq t.isLt (show cfg0.N = 16 from N_0)
  refine acc_step m k0_pay6 o25 c t _ fun h0 => ?_
  rw [Dat.before_out_kept _ 24 rfl t (by omega) (Bool.eq_false_iff.mpr fun h => by have := (flush0_24 _).mp h; dsimp only at this; omega)
      (fun _ => rfl) (fun _ _ => rfl), after0_24]

theorem acc25_step (c : Dev nD) (t : Fin cfg0.N) (d) :
    o26 (ins m c t) (st26 (grid0.coords t) ((dats m 0 c).before 25 t d)) = acc25 m c t.val := by
  have hN : t.val < 16 := lt_of_lt_of_eq t.isLt (show cfg0.N = 16 from N_0)
  refine acc_step m k0_pay7 o26 c t _ fun h0 => ?_
  rw [Dat.before_out_kept _ 25 rfl t (by omega) (Bool.eq_false_iff.mpr fun h => by have := (flush0_25 _).mp h; dsimp only at this; omega)
      (fun _ => rfl) (fun _ _ => rfl), after0_25]

theorem acc26_step (c : Dev nD) (t : Fin cfg0.N) (d) :
    o27 (ins m c t) (st27 (grid0.coords t) ((dats m 0 c).before 26 t d)) = acc26 m c t.val := by
  have hN : t.val < 16 := lt_of_lt_of_eq t.isLt (show cfg0.N = 16 from N_0)
  refine acc_step m k0_pay8 o27 c t _ fun h0 => ?_
  rw [Dat.before_out_kept _ 26 rfl t (by omega) (Bool.eq_false_iff.mpr fun h => by have := (flush0_26 _).mp h; dsimp only at this; omega)
      (fun _ => rfl) (fun _ _ => rfl), after0_26]

theorem acc27_step (c : Dev nD) (t : Fin cfg0.N) (d) :
    o28 (ins m c t) (st28 (grid0.coords t) ((dats m 0 c).before 27 t d)) = acc27 m c t.val := by
  have hN : t.val < 16 := lt_of_lt_of_eq t.isLt (show cfg0.N = 16 from N_0)
  refine acc_step m k0_pay9 o28 c t _ fun h0 => ?_
  rw [Dat.before_out_kept _ 27 rfl t (by omega) (Bool.eq_false_iff.mpr fun h => by have := (flush0_27 _).mp h; dsimp only at this; omega)
      (fun _ => rfl) (fun _ _ => rfl), after0_27]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)) ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t) ∗ owns (c : Thread nD τ) (ms0_23 t) fullShare ((dats m 0 c).after 23 t) ∗ owns (c : Thread nD τ) (ms0_24 t) fullShare ((dats m 0 c).after 24 t) ∗ owns (c : Thread nD τ) (ms0_25 t) fullShare ((dats m 0 c).after 25 t) ∗ owns (c : Thread nD τ) (ms0_26 t) fullShare ((dats m 0 c).after 26 t) ∗ owns (c : Thread nD τ) (ms0_27 t) fullShare ((dats m 0 c).after 27 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl,
    show (dats m 0 c).Φ t.succ = (dats m 0 c).Φ t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ins m c t) ((dats m 0 c).before 20 t d20) ((dats m 0 c).before 21 t d21) ((dats m 0 c).before 22 t d22) ((dats m 0 c).before 23 t d23) ((dats m 0 c).before 24 t d24) ((dats m 0 c).before 25 t d25) ((dats m 0 c).before 26 t d26) ((dats m 0 c).before 27 t d27) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H0, H1, H2, H3, H4, H5, H6, H7, H8, H9, H10, H11, H12, H13, H14, H15, H16, H17, H18, H19, H20, H21, H22, H23, H24, H25, H26, H27⟩
  rw [acc21_step, acc22_step, acc23_step, acc24_step, acc25_step, acc26_step, acc27_step]
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact .rfl

/-- What the launch leaves in every array, the host lines after the call included. -/
abbrev Wt (c : Dev nD) (b : Ref sig .tc) := Pipeline.afterTail₀ cfgs (dats m) 0 (V0 m) [hostOps1] c b

set_option backward.isDefEq.respectTransparency.types false in
/-- The launch: the arrays end at what the pipeline computes from the proof data, the counters at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 4000000 in
/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).1 13).trans (((dats m 0 c).arrAt_in 13 rfl _).trans ((A_eq m c 13).trans (V_main_arg2 m c))),
      ((h.1 c).2 main_arg3 (Pipeline.mem_restRefs_of main_arg3 (by decide) (by decide))).trans (W_main_arg3 m (dats m) c),
      ((h.1 c).1 15).trans (((dats m 0 c).arrAt_in 15 rfl _).trans ((A_eq m c 15).trans (V_main_arg4 m c))),
      ((h.1 c).2 main_arg5 (Pipeline.mem_restRefs_of main_arg5 (by decide) (by decide))).trans (W_main_arg5 m (dats m) c),
      ((h.1 c).1 17).trans (((dats m 0 c).arrAt_in 17 rfl _).trans ((A_eq m c 17).trans (V_main_arg6 m c))),
      ((h.1 c).2 main_arg7 (Pipeline.mem_restRefs_of main_arg7 (by decide) (by decide))).trans (W_main_arg7 m (dats m) c),
      ((h.1 c).1 1).trans (((dats m 0 c).arrAt_in 1 rfl _).trans ((A_eq m c 1).trans (V_main_arg8 m c))),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c),
      ((h.1 c).1 7).trans (((dats m 0 c).arrAt_in 7 rfl _).trans ((A_eq m c 7).trans (V_main_arg12 m c))),
      ((h.1 c).1 8).trans (((dats m 0 c).arrAt_in 8 rfl _).trans ((A_eq m c 8).trans (V_main_arg13 m c))),
      ((h.1 c).1 9).trans (((dats m 0 c).arrAt_in 9 rfl _).trans ((A_eq m c 9).trans (V_main_arg14 m c))),
      ((h.1 c).1 10).trans (((dats m 0 c).arrAt_in 10 rfl _).trans ((A_eq m c 10).trans (V_main_arg15 m c)))⟩, h.2⟩) (run_main m ρ)

end Cert.InbK

end
-- ==== Proof.InbPlain.lean ====
/- The frame of the projections' backward as the version has it, from the one of its idealized copy: the two have the same text. -/
module

public import proofs.«01_k».proof.Defs
public import proofs.«01_k».proof.Proof.Gen.InB
public import proofs.«01_k».proof.Proof.InbFrame

@[expose] public section

set_option maxRecDepth 65536

noncomputable section

namespace Cert.InbK

open Idealize.ShloMosaic Idealize.ShloMosaic.TcCoe Idealize.ShloMosaic.Tactic Idealize.SL.Sem

section
open Cert.InBIdeal Cert.InBIdeal.Gen
/-- The frame of the idealized copy's text at bit patterns. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem frame_bits : FrameBits := fun m ρ _ => frame m ρ
end

/-- It is the frame of the version's own text. -/
theorem bits_eq_plain : FrameBits = quiescent_InB (hInB := Cert.InB.Gen.facts) := by sl_kernel_rfl

theorem frame_plain : quiescent_InB (hInB := Cert.InB.Gen.facts) := bits_eq_plain.mp frame_bits

end Cert.InbK

end
-- ==== Proof.InbPay.lean ====
/- The input layer's gradients as formulas, and what one body of the kernel computes from its blocks. -/
module

public import proofs.«01_k».proof.Proof.InbFrame
public import proofs.«01_k».proof.Proof.Base

@[expose] public section

set_option maxRecDepth 16384

noncomputable section

open Idealize.ShloMosaic Idealize.ShloMosaic.TcCoe Idealize.SL.Sem

namespace Cert.InbV

open Cert.InBIdeal Cert.InBIdeal.Gen Base Cert.InbK

/-- The reciprocal root mean square of a row, `n` being the float that divides the sum of squares. -/
def rms (n : BitVec 32) {k : Nat} (v : Fin k → EReal) : EReal :=
  Ideal.rsqrt (Ideal.div (∑ i, v i * v i) (Ideal.ofBits .f32 n) + Ideal.ofBits .f32 0x358637BD#32)

/-- The attention scale. -/
def sc : EReal := Ideal.ofBits .f32 0x3DD105EC#32

theorem zero_f32 : Ideal.ofBits .f32 0x00000000#32 = 0 := by simp [Ideal.ofBits, Ideal.ieee]

section norms
variable {x : Vec Ideal S256x128 .f32} {y : Vec Ideal S256x384 .f32} {a : Fin 256 → Fin 128 → EReal} {b : Fin 256 → Fin 384 → EReal}
  (hx : ∀ r k, x (ix2 r k) = a r k) (hy : ∀ r k, y (ix2 r k) = b r k) (r : Fin 256) (k : Fin 128) (q : Fin 384)

include hx in
theorem pay49 : k0_pay49 x (ix2 r 0) = rms 0x43000000#32 (a r) := by
  pointwise [k0_pay49, k0_pay48]
  simp only [hx, zero_f32, zero_add]; rfl

include hx in
theorem pay50 : k0_pay50 x (ix2 r k) = a r k * rms 0x43000000#32 (a r) := by
  have e := pay49 hx r
  unfold k0_pay50 k0_pay48
  generalize k0_pay49 x = z at e
  pointwise
  rw [hx, e]

include hx in
theorem pay51 (x18 : Vec Ideal S1x128 .f32) : k0_pay51 x18 x (ix2 r k) = a r k * rms 0x43000000#32 (a r) * x18 (ix2 0 k) := by
  have e := pay50 hx r k
  unfold k0_pay51
  generalize k0_pay50 x = z at e
  pointwise
  rw [e]

include hy in
theorem pay40 : k0_pay40 y (ix2 r 0) = rms 0x43C00000#32 (b r) := by
  pointwise [k0_pay40, k0_pay39]
  simp only [hy, zero_f32, zero_add]; rfl

include hy in
theorem pay41 : k0_pay41 y (ix2 r q) = b r q * rms 0x43C00000#32 (b r) := by
  have e := pay40 hy r
  unfold k0_pay41 k0_pay39
  generalize k0_pay40 y = z at e
  pointwise
  rw [hy, e]

end norms

section steps
variable {I : Ins Ideal} {a : Fin 256 → Fin 128 → EReal} {b : Fin 256 → Fin 384 → EReal}
  (h4 : ∀ r k, I.x4 (ix2 r k) = a r k) (h3 : ∀ r k, I.x3 (ix2 r k) = b r k)
  (k : Fin 128) (q : Fin 384) (l : Fin 1024) (e : Fin 512)

include h4 in
theorem o24_at (s : Vec Ideal S128x1024 .f32) : o24 I s (ix2 k l) =
    s (ix2 k l) + ∑ r, a r k * rms 0x43000000#32 (a r) * I.x18 (ix2 0 k) * I.x6 (ix2 r l) := by
  have e := fun r => pay51 h4 r k I.x18
  show k0_pay56 (k0_pay53 s) (k0_pay54 I.x18 I.x4) (k0_pay55 (k0_pay26 I.x6)) (ix2 k l) = _
  unfold k0_pay54
  generalize k0_pay51 I.x18 I.x4 = z at e
  pointwise [k0_pay56, k0_pay53, k0_pay55, k0_pay26]
  simp only [e, zero_f32, zero_add]

include h4 in
theorem o25_at (s : Vec Ideal S128x512 .f32) : o25 I s (ix2 k e) =
    s (ix2 k e) + ∑ r, a r k * rms 0x43000000#32 (a r) * I.x18 (ix2 0 k) * I.x7 (ix2 r e) := by
  have e' := fun r => pay51 h4 r k I.x18
  show k0_pay57 (k0_pay51 I.x18 I.x4) (k0_pay52 I.x7) s (ix2 k e) = _
  generalize k0_pay51 I.x18 I.x4 = z at e'
  pointwise [k0_pay57, k0_pay52]
  simp only [e', zero_f32, zero_add]

include h4 in
theorem o28_at (s : Vec Ideal S1x128 .f32) : o28 I s (ix2 0 k) =
    s (ix2 0 k) + ∑ r, ((∑ l, I.x6 (ix2 r l) * I.x19 (ix2 k l)) + ∑ e, I.x7 (ix2 r e) * I.x20 (ix2 k e)) * (a r k * rms 0x43000000#32 (a r)) := by
  have e := fun r => pay50 h4 r k
  show k0_pay60 (k0_pay26 I.x6) (k0_pay50 I.x4) (k0_pay52 I.x7) I.x19 I.x20 s (ix2 0 k) = _
  generalize k0_pay50 I.x4 = z at e
  pointwise [k0_pay60, k0_pay58, k0_pay26, k0_pay52]
  simp only [e, zero_f32, zero_add]

include h3 in
theorem o23_at (s : Vec Ideal S384x1024 .f32) : o23 I s (ix2 q l) =
    s (ix2 q l) + ∑ r, b r q * rms 0x43C00000#32 (b r) * I.x16 (ix2 0 q) * v194 I (ix2 r l) := by
  have e := fun r => pay41 h3 r q
  show k0_pay42 (v194 I) I.x16 I.x3 s (ix2 q l) = _
  generalize v194 I = w
  unfold k0_pay42
  generalize k0_pay41 I.x3 = z at e
  pointwise
  simp only [e, zero_f32, zero_add]

include h3 in
theorem o27_at (s : Vec Ideal S1x384 .f32) : o27 I s (ix2 0 q) =
    s (ix2 0 q) + ∑ r, (∑ l, v194 I (ix2 r l) * I.x17 (ix2 q l)) * (b r q * rms 0x43C00000#32 (b r)) := by
  have e := fun r => pay41 h3 r q
  show k0_pay47 (k0_pay41 I.x3) (k0_pay43 I.x17) (k0_pay44 (v194 I)) _ s (ix2 0 q) = _
  generalize v194 I = w
  generalize k0_pay41 I.x3 = z at e
  pointwise [k0_pay47, k0_pay45, k0_pay43, k0_pay44]
  simp only [e, zero_f32, zero_add]

end steps

end Cert.InbV

end
-- ==== Proof.InbRope.lean ====
/- The rotary part of the kernel's body: the eight heads' gradients of the query projection, side by side. -/
module

public import proofs.«01_k».proof.Proof.InbPay

@[expose] public section

set_option maxRecDepth 16384

noncomputable section

open Idealize.ShloMosaic Idealize.ShloMosaic.TcCoe Idealize.SL.Sem

namespace Cert.InbV

open Cert.InBIdeal Cert.InBIdeal.Gen Base Cert.InbK

/-- One head: scaled, turned back by the rotary angles. -/
def rope (c sa sb : FVec Ideal S256x128 .f32) (p : Vec Ideal S128x256 .f32) : FVec Ideal S256x128 .f32 :=
  k0_pay35 c sa sb p

theorem v194_eq (I : Ins Ideal) : v194 I = concatenate S256x1024 1
    [⟨S256x128, rope (v58 I) (v75 I) (v77 I) (VecWindow.window I.x5 ![0, 0] S128x256.size inb_S1024x256_S128x256_0_0)⟩,
     ⟨S256x128, rope (v58 I) (v75 I) (v77 I) (VecWindow.window I.x5 ![128, 0] S128x256.size inb_S1024x256_S128x256_128_0)⟩,
     ⟨S256x128, rope (v58 I) (v75 I) (v77 I) (VecWindow.window I.x5 ![256, 0] S128x256.size inb_S1024x256_S128x256_256_0)⟩,
     ⟨S256x128, rope (v58 I) (v75 I) (v77 I) (VecWindow.window I.x5 ![384, 0] S128x256.size inb_S1024x256_S128x256_384_0)⟩,
     ⟨S256x128, rope (v58 I) (v75 I) (v77 I) (VecWindow.window I.x5 ![512, 0] S128x256.size inb_S1024x256_S128x256_512_0)⟩,
     ⟨S256x128, rope (v58 I) (v75 I) (v77 I) (VecWindow.window I.x5 ![640, 0] S128x256.size inb_S1024x256_S128x256_640_0)⟩,
     ⟨S256x128, rope (v58 I) (v75 I) (v77 I) (VecWindow.window I.x5 ![768, 0] S128x256.size inb_S1024x256_S128x256_768_0)⟩,
     ⟨S256x128, rope (v58 I) (v75 I) (v77 I) (VecWindow.window I.x5 ![896, 0] S128x256.size inb_S1024x256_S128x256_896_0)⟩]
    concatenates_S256x128_S256x128_S256x128_S256x128_S256x128_S256x128_S256x128_S256x128_S256x1024_d1 := rfl

theorem rope_at (c sa sb : FVec Ideal S256x128 .f32) (p : Vec Ideal S128x256 .f32) (r : Fin 256) (j : Fin 128) :
    rope c sa sb p (ix2 r j) = p (ix2 j r) * sc * c (ix2 r j) - p (ix2 ⟨(j.val + 16) % 128, by omega⟩ r) * sc * sa (ix2 r j)
      - p (ix2 ⟨(j.val + 112) % 128, by omega⟩ r) * sc * sb (ix2 r j) := by
  unfold rope
  pointwise [k0_pay35]
  have e1 : (⟨(j.val + 16) % 128, by omega⟩ : Fin 128) = ⟨(j.val + 128 - 112) % 128, by omega⟩ := Fin.ext (by show (j.val + 16) % 128 = (j.val + 128 - 112) % 128; omega)
  have e2 : (⟨(j.val + 112) % 128, by omega⟩ : Fin 128) = ⟨(j.val + 128 - 16) % 128, by omega⟩ := Fin.ext (by show (j.val + 112) % 128 = (j.val + 128 - 16) % 128; omega)
  rw [e1, e2]; rfl

theorem cat_at (a0 a1 a2 a3 a4 a5 a6 a7 : FVec Ideal S256x128 .f32) (r : Fin 256) (h : Fin 8) (j : Fin 128) :
    concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩]
      concatenates_S256x128_S256x128_S256x128_S256x128_S256x128_S256x128_S256x128_S256x128_S256x1024_d1 (ix2 r (⟨h.val * 128 + j.val, by omega⟩ : Fin 1024))
    = ![a0, a1, a2, a3, a4, a5, a6, a7] h (ix2 r j) := by
  fin_cases h <;> pointwise <;> (repeat rw [dif_neg (by omega)]) <;> (try rw [dif_pos (by omega)]) <;>
    (congr 2; apply Fin.ext; dsimp only; omega)

theorem sa_at (I : Ins Ideal) (r : Fin 256) (j : Fin 128) :
    v75 I (ix2 r j) = if 64 ≤ j.val ∧ j.val < 80 then - I.x13 (ix2 r j) else 0 := by
  unfold v75 v60 v61 v63
  pointwise [k0_pay24, k0_pay22, k0_pay23]
  have e : ∀ j : Fin 128, IntOp.andi (IntOp.cmpi CmpIPredicate.sge (BitVec.ofNat 32 j.val) 64#32) (IntOp.cmpi CmpIPredicate.slt (BitVec.ofNat 32 j.val) 80#32)
      = BitVec.ofBool (decide (64 ≤ j.val ∧ j.val < 80)) := by decide +kernel
  rw [e, WordCmp.select_ofBool, zero_sub]
  simp only [decide_eq_true_eq]

theorem sb_at (I : Ins Ideal) (r : Fin 256) (j : Fin 128) :
    v77 I (ix2 r j) = if 80 ≤ j.val ∧ j.val < 96 then I.x13 (ix2 r j) else 0 := by
  unfold v77 v60 v61
  pointwise [k0_pay25, k0_pay22]
  have e : ∀ j : Fin 128, IntOp.andi (IntOp.cmpi CmpIPredicate.sge (BitVec.ofNat 32 j.val) 80#32) (IntOp.cmpi CmpIPredicate.slt (BitVec.ofNat 32 j.val) 96#32)
      = BitVec.ofBool (decide (80 ≤ j.val ∧ j.val < 96)) := by decide +kernel
  rw [e, WordCmp.select_ofBool]
  simp only [decide_eq_true_eq]

theorem win_at (x : Vec Ideal S1024x256 .f32) (o : Nat) (h : ∀ a, (![o, 0] : Fin 2 → Nat) a + S128x256.size a ≤ S1024x256.size a) (j : Fin 128) (r : Fin 256)
    (k : Fin 1024) (hk : k.val = o + j.val) : VecWindow.window x ![o, 0] S128x256.size h (ix2 j r) = x (ix2 k r) := by
  unfold VecWindow.window
  congr 1
  funext a
  apply Fin.ext
  match a with
  | ⟨0, _⟩ => show o + 1 * j.val = k.val; omega
  | ⟨1, _⟩ => show 0 + 1 * r.val = r.val; omega

/-- One head's row of the gradient after scaling and the turn back: the first 64 entries scaled, then the two rotated halves. -/
def dql (d : Fin 96 → EReal) (co si : Fin 16 → EReal) (j : Fin 96) : EReal :=
  if h : j.val < 64 then d j * sc
  else if h' : j.val < 80 then d j * sc * co ⟨j.val - 64, by omega⟩ + d ⟨j.val + 16, by omega⟩ * sc * si ⟨j.val - 64, by omega⟩
  else d j * sc * co ⟨j.val - 80, by omega⟩ - d ⟨j.val - 16, by omega⟩ * sc * si ⟨j.val - 80, by omega⟩

theorem lane_lt (h : Fin 8) (j : Fin 96) : h.val * 128 + j.val < 1024 := by omega
theorem fr_lt (i : Fin 16) : 64 + i.val < 128 := by omega
theorem fr_lt' (i : Fin 16) : 80 + i.val < 128 := by omega

section lanes
variable {I : Ins Ideal} {d : Fin 256 → Fin 8 → Fin 96 → EReal} {co si : Fin 256 → Fin 16 → EReal}
  (h5 : ∀ r (h : Fin 8) (j : Fin 96), I.x5 (ix2 (⟨h.val * 128 + j.val, lane_lt h j⟩ : Fin 1024) r) = d r h j)
  (c0 : ∀ r (j : Fin 128), j.val < 64 → I.x12 (ix2 r j) = 1)
  (c1 : ∀ r (i : Fin 16), I.x12 (ix2 r (⟨64 + i.val, fr_lt i⟩ : Fin 128)) = co r i) (c2 : ∀ r (i : Fin 16), I.x12 (ix2 r (⟨80 + i.val, fr_lt' i⟩ : Fin 128)) = co r i)
  (s1 : ∀ r (i : Fin 16), I.x13 (ix2 r (⟨64 + i.val, fr_lt i⟩ : Fin 128)) = si r i) (s2 : ∀ r (i : Fin 16), I.x13 (ix2 r (⟨80 + i.val, fr_lt' i⟩ : Fin 128)) = si r i)
  (r : Fin 256) (h : Fin 8) (j : Fin 96)
include h5 c0 c1 c2 s1 s2

theorem head_at (o : Nat) (ho : o = h.val * 128) (hw : ∀ a, (![o, 0] : Fin 2 → Nat) a + S128x256.size a ≤ S1024x256.size a) :
    rope (v58 I) (v75 I) (v77 I) (VecWindow.window I.x5 ![o, 0] S128x256.size hw) (ix2 r (⟨j.val, by omega⟩ : Fin 128)) = dql (d r h) (co r) (si r) j := by
  have hc : ∀ k : Fin 128, v58 I (ix2 r k) = I.x12 (ix2 r k) := fun k => by unfold v58; pointwise [k0_pay21]
  rw [rope_at, hc, sa_at, sb_at]
  have hd : ∀ (k : Fin 128) (hk : k.val < 96), VecWindow.window I.x5 ![o, 0] S128x256.size hw (ix2 k r) = d r h ⟨k.val, hk⟩ := fun k hk => by
    rw [win_at _ o hw k r ⟨h.val * 128 + k.val, by omega⟩ (by show h.val * 128 + k.val = o + k.val; omega)]
    exact h5 r h ⟨k.val, hk⟩
  unfold dql
  by_cases hj : j.val < 64
  · rw [dif_pos hj, if_neg (by show ¬ (64 ≤ j.val ∧ j.val < 80); omega), if_neg (by show ¬ (80 ≤ j.val ∧ j.val < 96); omega), c0 r _ hj, hd _ (by show j.val < 96; omega)]
    simp only [mul_zero, sub_zero, mul_one]
  · rw [dif_neg hj]
    by_cases hj' : j.val < 80
    · rw [dif_pos hj', if_pos (by show 64 ≤ j.val ∧ j.val < 80; omega), if_neg (by show ¬ (80 ≤ j.val ∧ j.val < 96); omega)]
      have ej : (⟨j.val, by omega⟩ : Fin 128) = ⟨64 + (j.val - 64), by omega⟩ := Fin.ext (by show j.val = 64 + (j.val - 64); omega)
      have ec := c1 r ⟨j.val - 64, by omega⟩
      have es := s1 r ⟨j.val - 64, by omega⟩
      have e16 : (⟨((⟨j.val, by omega⟩ : Fin 128).val + 16) % 128, by omega⟩ : Fin 128) = ⟨j.val + 16, by omega⟩ := Fin.ext (by show (j.val + 16) % 128 = j.val + 16; omega)
      rw [e16, hd ⟨j.val + 16, by omega⟩ (by show j.val + 16 < 96; omega), hd _ (by show j.val < 96; omega)]
      simp only [← ej] at ec es
      rw [ec, es, mul_zero, sub_zero, mul_neg, sub_eq_add_neg, neg_neg]
    · rw [dif_neg hj', if_neg (by show ¬ (64 ≤ j.val ∧ j.val < 80); omega), if_pos (by show 80 ≤ j.val ∧ j.val < 96; omega)]
      have ej : (⟨j.val, by omega⟩ : Fin 128) = ⟨80 + (j.val - 80), by omega⟩ := Fin.ext (by show j.val = 80 + (j.val - 80); omega)
      have ec := c2 r ⟨j.val - 80, by omega⟩
      have es := s2 r ⟨j.val - 80, by omega⟩
      have e16 : (⟨((⟨j.val, by omega⟩ : Fin 128).val + 112) % 128, by omega⟩ : Fin 128) = ⟨j.val - 16, by omega⟩ := Fin.ext (by show (j.val + 112) % 128 = j.val - 16; omega)
      rw [e16, hd ⟨j.val - 16, by omega⟩ (by show j.val - 16 < 96; omega), hd _ (by show j.val < 96; omega)]
      simp only [← ej] at ec es
      rw [ec, es, mul_zero, sub_zero]

theorem v194_at : v194 I (ix2 r (⟨h.val * 128 + j.val, lane_lt h j⟩ : Fin 1024)) = dql (d r h) (co r) (si r) j := by
  rw [v194_eq]
  refine (cat_at _ _ _ _ _ _ _ _ r h ⟨j.val, by omega⟩).trans ?_
  fin_cases h
  · exact head_at h5 c0 c1 c2 s1 s2 r 0 j 0 rfl _
  · exact head_at h5 c0 c1 c2 s1 s2 r 1 j 128 rfl _
  · exact head_at h5 c0 c1 c2 s1 s2 r 2 j 256 rfl _
  · exact head_at h5 c0 c1 c2 s1 s2 r 3 j 384 rfl _
  · exact head_at h5 c0 c1 c2 s1 s2 r 4 j 512 rfl _
  · exact head_at h5 c0 c1 c2 s1 s2 r 5 j 640 rfl _
  · exact head_at h5 c0 c1 c2 s1 s2 r 6 j 768 rfl _
  · exact head_at h5 c0 c1 c2 s1 s2 r 7 j 896 rfl _

end lanes

end Cert.InbV

end
-- ==== Proof.InbRef.lean ====
/- The reference's four weight gradients as formulas of its own forward values. -/
module

public import proofs.«01_k».proof.Proof.Gen.InBRefIdeal.Read
public import proofs.«01_k».proof.Proof.InbRope

@[expose] public section

noncomputable section

open Idealize.ShloMosaic Idealize.ShloMosaic.TcCoe

namespace Cert.InbR

open Cert.InBRefIdeal Cert.InBRefIdeal.Gen Cert.InBRefIdeal.Read Base Cert.InbV

variable (x0 : FVec Ideal S4096x1024 .f32) (x1 : IVec S4096 32) (x2 : FVec Ideal S1x1024 .f32) (x3 : FVec Ideal S1024x2592 .f32) (x4 : FVec Ideal S1x384 .f32)
  (x5 : FVec Ideal S384x8x96 .f32) (x6 : FVec Ideal S1x128 .f32) (x7 : FVec Ideal S128x8x128 .f32) (x9 x10 : FVec Ideal S4096x8x96 .f32) (x11 : FVec Ideal S4096x8x64 .f32)
  (s : Fin 4096) (q : Fin 384) (k : Fin 128) (h : Fin 8) (j : Fin 96) (i : Fin 16)

/-- The two latent columns and the angles' cosine and sine, as the reference has them. -/
def cq (s : Fin 4096) (q : Fin 384) : EReal := val_main_v35 (F := Ideal) x0 x2 x3 (ix2 s q)
def ckv (s : Fin 4096) (k : Fin 128) : EReal := val_main_v36 (F := Ideal) x0 x2 x3 (ix2 s k)
def co (s : Fin 4096) (i : Fin 16) : EReal := val_main_v17 (F := Ideal) x1 (ix2 s i)
def si (s : Fin 4096) (i : Fin 16) : EReal := val_main_v18 (F := Ideal) x1 (ix2 s i)

theorem v45 : val_main_v45 (F := Ideal) x0 x2 x3 (ix2 s 0) = rms 0x43C00000#32 (cq x0 x2 x3 s) := by
  unfold cq val_main_v45 val_main_v44 val_main_v43 val_main_v42 val_main_v41 val_main_v40 val_main_v39 val_main_v38 val_main_cst_8 val_main_cst_9 val_main_cst_10
  generalize val_main_v35 (F := Ideal) x0 x2 x3 = y
  pointwise
  rfl

theorem v50 : val_main_v50 (F := Ideal) x0 x2 x3 (ix2 s q) = cq x0 x2 x3 s q * rms 0x43C00000#32 (cq x0 x2 x3 s) := by
  have e := v45 x0 x2 x3 s
  unfold val_main_v50 val_main_v49
  generalize val_main_v45 (F := Ideal) x0 x2 x3 = y at e
  unfold cq at e ⊢
  generalize val_main_v35 (F := Ideal) x0 x2 x3 = z at e ⊢
  pointwise
  rw [e]

theorem v52 : val_main_v52 (F := Ideal) x0 x2 x3 x4 (ix2 s q) = cq x0 x2 x3 s q * rms 0x43C00000#32 (cq x0 x2 x3 s) * x4 (ix2 0 q) := by
  have e := v50 x0 x2 x3 s q
  unfold val_main_v52 val_main_v51
  generalize val_main_v50 (F := Ideal) x0 x2 x3 = y at e
  pointwise
  rw [e]

theorem v61 : val_main_v61 (F := Ideal) x0 x2 x3 (ix2 s 0) = rms 0x43000000#32 (ckv x0 x2 x3 s) := by
  unfold ckv val_main_v61 val_main_v60 val_main_v59 val_main_v58 val_main_v57 val_main_v56 val_main_v55 val_main_v54 val_main_cst_12 val_main_cst_13 val_main_cst_14
  generalize val_main_v36 (F := Ideal) x0 x2 x3 = y
  pointwise
  rfl

theorem v66 : val_main_v66 (F := Ideal) x0 x2 x3 (ix2 s k) = ckv x0 x2 x3 s k * rms 0x43000000#32 (ckv x0 x2 x3 s) := by
  have e := v61 x0 x2 x3 s
  unfold val_main_v66 val_main_v65
  generalize val_main_v61 (F := Ideal) x0 x2 x3 = y at e
  unfold ckv at e ⊢
  generalize val_main_v36 (F := Ideal) x0 x2 x3 = z at e ⊢
  pointwise
  rw [e]

theorem v68 : val_main_v68 (F := Ideal) x0 x2 x3 x6 (ix2 s k) = ckv x0 x2 x3 s k * rms 0x43000000#32 (ckv x0 x2 x3 s) * x6 (ix2 0 k) := by
  have e := v66 x0 x2 x3 s k
  unfold val_main_v68 val_main_v67
  generalize val_main_v66 (F := Ideal) x0 x2 x3 = y at e
  pointwise
  rw [e]

/-- The gradient of the key and value projection's columns: per head the keys' 64, then the values' 64. -/
def dkv (s : Fin 4096) (h : Fin 8) (d : Fin 128) : EReal :=
  if hd : d.val < 64 then x10 (ix3 s h ⟨d.val, by omega⟩) else x11 (ix3 s h ⟨d.val - 64, by omega⟩)

theorem v119 : val_main_v119 (F := Ideal) x10 x11 (ix3 s h k) = dkv x10 x11 s h k := by
  unfold val_main_v119 val_main_v118 val_main_v116 val_main_v115 val_main_cst_21 val_main_cst_22
  pointwise
  unfold dkv
  by_cases hk : k.val < 64
  · rw [dif_neg (by omega), dif_pos hk, dif_pos hk, zero_add]
  · rw [dif_pos (by omega), dif_neg hk, dif_neg hk, add_zero]

theorem v153 : val_main_v153 (F := Ideal) x1 x9 (ix3 s h j) = dql (fun d => x9 (ix3 s h d)) (co x1 s) (si x1 s) j := by
  unfold co si val_main_v153 val_main_v152 val_main_v151 val_main_v150 val_main_v149 val_main_v148 val_main_v147 val_main_v146 val_main_v145 val_main_v144 val_main_v143 val_main_v142 val_main_v141 val_main_v140 val_main_v139 val_main_v138
    val_main_v124 val_main_v123 val_main_v122 val_main_v121 val_main_v120 val_main_v71 val_main_v72 val_main_cst_23 val_main_cst_24 val_main_cst_27
  generalize val_main_v17 (F := Ideal) x1 = y
  generalize val_main_v18 (F := Ideal) x1 = z
  pointwise
  unfold dql sc
  by_cases hj : j.val < 64
  · have h1 : ¬ (64 ≤ j.val ∧ j.val - 64 < 32) := by omega
    simp only [dif_pos hj, dif_neg h1, add_zero]
  · have h1 : 64 ≤ j.val ∧ j.val - 64 < 32 := by omega
    simp only [dif_neg hj, dif_pos h1, zero_add]
    by_cases hj' : j.val < 80
    · have h2 : j.val - 64 < 16 := by omega
      simp only [dif_pos h2, dif_pos hj', show 64 + (16 + (j.val - 64)) = j.val + 16 by omega, show 64 + (j.val - 64) = j.val by omega]
      exact add_comm _ _
    · have h2 : ¬ j.val - 64 < 16 := by omega
      simp only [dif_neg h2, dif_neg hj', neg_mul, ← sub_eq_add_neg, show j.val - 64 - 16 = j.val - 80 by omega,
        show 64 + (16 + (j.val - 80)) = j.val by omega, show 64 + (j.val - 80) = j.val - 16 by omega]

theorem v155 (d : Fin 128) : val_main_v155 (F := Ideal) x0 x2 x3 x6 x10 x11 (ix3 k h d) =
    ∑ s, dkv x10 x11 s h d * (ckv x0 x2 x3 s k * rms 0x43000000#32 (ckv x0 x2 x3 s) * x6 (ix2 0 k)) := by
  have e := fun s => v68 x0 x2 x3 x6 s k
  have e' := fun s => v119 x10 x11 s d h
  unfold val_main_v155 val_main_v154
  generalize val_main_v68 (F := Ideal) x0 x2 x3 x6 = y at e
  generalize val_main_v119 (F := Ideal) x10 x11 = z at e'
  pointwise
  simp only [e, e']

theorem v156 : val_main_v156 (F := Ideal) x7 x10 x11 (ix2 s k) = ∑ h, ∑ d, dkv x10 x11 s h d * x7 (ix3 k h d) := by
  have e' := fun h d => v119 x10 x11 s d h
  unfold val_main_v156
  generalize val_main_v119 (F := Ideal) x10 x11 = z at e'
  pointwise
  simp only [e']

theorem v159 : val_main_v159 (F := Ideal) x0 x2 x3 x7 x10 x11 (ix2 0 k) =
    ∑ s, ckv x0 x2 x3 s k * rms 0x43000000#32 (ckv x0 x2 x3 s) * ∑ h, ∑ d, dkv x10 x11 s h d * x7 (ix3 k h d) := by
  have e := fun s => v66 x0 x2 x3 s k
  have e' := fun s => v156 x7 x10 x11 s k
  unfold val_main_v159 val_main_v158 val_main_v157 val_main_cst_28
  generalize val_main_v66 (F := Ideal) x0 x2 x3 = y at e
  generalize val_main_v156 (F := Ideal) x7 x10 x11 = z at e'
  pointwise
  simp only [e, e', zero_f32, zero_add]

theorem v177 : val_main_v177 (F := Ideal) x0 x1 x2 x3 x4 x9 (ix3 q h j) =
    ∑ s, dql (fun d => x9 (ix3 s h d)) (co x1 s) (si x1 s) j * (cq x0 x2 x3 s q * rms 0x43C00000#32 (cq x0 x2 x3 s) * x4 (ix2 0 q)) := by
  have e := fun s => v52 x0 x2 x3 x4 s q
  have e' := fun s => v153 x1 x9 s h j
  unfold val_main_v177 val_main_v176
  generalize val_main_v52 (F := Ideal) x0 x2 x3 x4 = y at e
  generalize val_main_v153 (F := Ideal) x1 x9 = z at e'
  pointwise
  simp only [e, e']

theorem v178 : val_main_v178 (F := Ideal) x1 x5 x9 (ix2 s q) =
    ∑ h, ∑ j, dql (fun d => x9 (ix3 s h d)) (co x1 s) (si x1 s) j * x5 (ix3 q h j) := by
  have e' := fun h j => v153 x1 x9 s h j
  unfold val_main_v178
  generalize val_main_v153 (F := Ideal) x1 x9 = z at e'
  pointwise
  simp only [e']

theorem v181 : val_main_v181 (F := Ideal) x0 x1 x2 x3 x5 x9 (ix2 0 q) =
    ∑ s, cq x0 x2 x3 s q * rms 0x43C00000#32 (cq x0 x2 x3 s) * ∑ h, ∑ j, dql (fun d => x9 (ix3 s h d)) (co x1 s) (si x1 s) j * x5 (ix3 q h j) := by
  have e := fun s => v50 x0 x2 x3 s q
  have e' := fun s => v178 x1 x5 x9 s q
  unfold val_main_v181 val_main_v180 val_main_v179 val_main_cst_32
  generalize val_main_v50 (F := Ideal) x0 x2 x3 = y at e
  generalize val_main_v178 (F := Ideal) x1 x5 x9 = z at e'
  pointwise
  simp only [e, e', zero_f32, zero_add]

end Cert.InbR

end
-- ==== Proof.InbHost.lean ====
/- The arrays the host lines prepare for the input layer's kernel. -/
module

public import proofs.«01_k».proof.Proof.InbRef

@[expose] public section

set_option maxRecDepth 16384

noncomputable section

open Idealize.ShloMosaic Idealize.ShloMosaic.TcCoe Idealize.SL.Sem

namespace Cert.InbV

open Cert.InBIdeal Cert.InBIdeal.Gen Base Cert.InbK

variable (m : (ℓ : Loc nD τ sig) → Buf (Elt Ideal) ℓ) (c : Dev nD)

/-- The argument arrays of core `c`. -/
abbrev a0 : FVec Ideal S4096x1024 .f32 := m ((c : Thread nD τ).loc main_arg0)
abbrev a1 : IVec S4096 32 := m ((c : Thread nD τ).loc main_arg1)
abbrev a2 : FVec Ideal S1x1024 .f32 := m ((c : Thread nD τ).loc main_arg2)
abbrev a3 : FVec Ideal S1024x2592 .f32 := m ((c : Thread nD τ).loc main_arg3)
abbrev a4 : FVec Ideal S1x384 .f32 := m ((c : Thread nD τ).loc main_arg4)
abbrev a5 : FVec Ideal S384x8x96 .f32 := m ((c : Thread nD τ).loc main_arg5)
abbrev a6 : FVec Ideal S1x128 .f32 := m ((c : Thread nD τ).loc main_arg6)
abbrev a7 : FVec Ideal S128x8x128 .f32 := m ((c : Thread nD τ).loc main_arg7)
abbrev a9 : FVec Ideal S4096x8x96 .f32 := m ((c : Thread nD τ).loc main_arg9)
abbrev a10 : FVec Ideal S4096x8x96 .f32 := m ((c : Thread nD τ).loc main_arg10)
abbrev a11 : FVec Ideal S4096x8x64 .f32 := m ((c : Thread nD τ).loc main_arg11)

/-- The latent columns and the angles' cosine and sine, from the kernel's arguments. -/
abbrev kcq : Fin 4096 → Fin 384 → EReal := Cert.InbR.cq (a0 m c) (a2 m c) (a3 m c)
abbrev kckv : Fin 4096 → Fin 128 → EReal := Cert.InbR.ckv (a0 m c) (a2 m c) (a3 m c)
abbrev kco : Fin 4096 → Fin 16 → EReal := Cert.InbR.co (a1 m c)
abbrev ksi : Fin 4096 → Fin 16 → EReal := Cert.InbR.si (a1 m c)

/-- Row `r` of row block `n`, the blocks counted around. -/
def row (n : ℕ) (r : Fin 256) : Fin 4096 := ⟨n % 16 * 256 + r.val, by omega⟩

/-- Entry `j` of head `h` in the 1024 lanes, and in the 512 lanes. -/
def l8 (h : Fin 8) (j : Fin 128) : Fin 1024 := ⟨h.val * 128 + j.val, by omega⟩
def l5 (h : Fin 8) (j : Fin 64) : Fin 512 := ⟨h.val * 64 + j.val, by omega⟩
def lo (j : Fin 64) : Fin 128 := ⟨j.val, by omega⟩
def hi (j : Fin 64) : Fin 128 := ⟨64 + j.val, by omega⟩
def fr (i : Fin 16) : Fin 128 := ⟨64 + i.val, by omega⟩
def fr' (i : Fin 16) : Fin 128 := ⟨80 + i.val, by omega⟩

theorem c_pad : FloatOps.sitofp (F := Ideal) .f32 0#32 = (0 : EReal) := by
  show (((0#32 : BitVec 32).toInt : ℝ) : EReal) = _
  simp
theorem c_padb : FloatOps.sitofp (F := Ideal) .bf16 0#32 = (0 : EReal) := by
  show (((0#32 : BitVec 32).toInt : ℝ) : EReal) = _
  simp

theorem V50 (s : Fin 4096) (q : Fin 384) : (V m c main_v50 : S4096x384.Idx → EReal) (ix2 s q) = (kcq m c s q : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V51 (s : Fin 4096) (k : Fin 128) : (V m c main_v51 : S4096x128.Idx → EReal) (ix2 s k) = (kckv m c s k : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V54 (h : Fin 8) (j : Fin 128) (s : Fin 4096) : (V m c main_v54 : S1024x4096.Idx → EReal) (ix2 (l8 h j) s) = (if hj : j.val < 96 then a9 m c (ix3 s h ⟨j.val, hj⟩) else (0 : EReal) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l8
  pointwise
  have e1 : ∀ p, (⟨(h.val * 128 + j.val) / 128, p⟩ : Fin 8) = h := fun p => Fin.ext (by show (h.val * 128 + j.val) / 128 = h.val; omega)
  have e2 : ∀ p, (⟨(h.val * 128 + j.val) % 128, p⟩ : Fin 128) = j := fun p => Fin.ext (by show (h.val * 128 + j.val) % 128 = j.val; omega)
  simp only [e1, e2]
  show pad S4096x8x128 ![0, 0, 0] ![0, 0, 32] ![0, 0, 0] (a9 m c) (sitofp (F := Ideal) .f32 (constantI S_ 32 0#32)) pads_S4096x8x96_S4096x8x128_000_000_0320 h_S_ (ix3 s h j) = _
  pointwise
  rw [c_pad]

theorem V56 (s : Fin 4096) (h : Fin 8) (j : Fin 128) : (V m c main_v56 : S4096x1024.Idx → EReal) (ix2 s (l8 h j)) = (if hj : j.val < 96 then a10 m c (ix3 s h ⟨j.val, hj⟩) else (0 : EReal) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l8
  pointwise
  show pad S4096x8x128 ![0, 0, 0] ![0, 0, 32] ![0, 0, 0] (a10 m c) (sitofp (F := Ideal) .f32 (constantI S_ 32 0#32)) pads_S4096x8x96_S4096x8x128_000_000_0320 h_S_ (ix3 s h j) = _
  pointwise
  rw [c_pad]

theorem V57 (s : Fin 4096) (h : Fin 8) (j : Fin 64) : (V m c main_v57 : S4096x512.Idx → EReal) (ix2 s (l5 h j)) = (a11 m c (ix3 s h j) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l5
  pointwise

theorem V11 (q : Fin 384) (h : Fin 8) (j : Fin 128) : (V m c main_v11 : S384x1024.Idx → EReal) (ix2 q (l8 h j)) = (if hj : j.val < 96 then a5 m c (ix3 q h ⟨j.val, hj⟩) else (0 : EReal) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l8
  pointwise
  show pad S384x8x128 ![0, 0, 0] ![0, 0, 32] ![0, 0, 0] ((a5 m c : FVec Ideal S384x8x96 .f32)) (sitofp (F := Ideal) .bf16 (constantI S_ 32 0#32)) pads_S384x8x96_S384x8x128_000_000_0320 h_S_ (ix3 q h j) = _
  pointwise
  rw [c_padb]

theorem V14 (k : Fin 128) (h : Fin 8) (j : Fin 128) : (V m c main_v14 : S128x1024.Idx → EReal) (ix2 k (l8 h j)) = (if hj : j.val < 64 then a7 m c (ix3 k h j) else (0 : EReal) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l8
  pointwise
  show pad S128x8x128 ![0, 0, 0] ![0, 0, 64] ![0, 0, 0] (extractStridedSlice S128x8x64 ![0, 0, 0] (a7 m c) slices_S128x8x128_S128x8x64_0_0_0) (sitofp (F := Ideal) .bf16 (constantI S_ 32 0#32)) pads_S128x8x64_S128x8x128_000_000_0640 h_S_ (ix3 k h j) = _
  pointwise
  rw [c_padb]

theorem V16 (k : Fin 128) (h : Fin 8) (j : Fin 64) : (V m c main_v16 : S128x512.Idx → EReal) (ix2 k (l5 h j)) = (a7 m c (ix3 k h (hi j)) : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold l5 hi
  pointwise

/-- A token's angle at one of the sixteen frequencies. -/
abbrev kang (s : Fin 4096) (i : Fin 16) : EReal := Cert.InBRefIdeal.Read.val_main_v16 (F := Ideal) (a1 m c) (ix2 s i)

omit m c in
theorem kang_at (x1 : IVec S4096 32) (s : Fin 4096) (i : Fin 16) : Cert.InBRefIdeal.Read.val_main_v16 (F := Ideal) x1 (ix2 s i) =
    FloatOps.sitofp (F := Ideal) .f32 (x1 (ix1 s)) * Cert.InBRefIdeal.Read.val_main_v10 (F := Ideal) (ix1 i) := by
  unfold Cert.InBRefIdeal.Read.val_main_v16 Cert.InBRefIdeal.Read.val_main_v15 Cert.InBRefIdeal.Read.val_main_v14 Cert.InBRefIdeal.Read.val_main_v13
    Cert.InBRefIdeal.Read.val_main_v12 Cert.InBRefIdeal.Read.val_main_v11
  generalize Cert.InBRefIdeal.Read.val_main_v10 (F := Ideal) = y
  pointwise

set_option maxHeartbeats 4000000 in
theorem V49_lo (s : Fin 4096) (j : Fin 128) (hj : j.val < 64) : (V m c main_v49 : S4096x128.Idx → EReal) (ix2 s j) = (0 : EReal) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  pointwise
  simp only [dif_pos hj]
  after_results_steps
  pointwise
  exact mul_zero (M₀ := EReal) _

set_option maxHeartbeats 4000000 in
theorem V49_fr (s : Fin 4096) (i : Fin 16) : (V m c main_v49 : S4096x128.Idx → EReal) (ix2 s (fr i)) = kang m c s i := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold fr
  pointwise
  after_results_steps
  exact (kang_at (a1 m c) s i).symm

set_option maxHeartbeats 4000000 in
theorem V49_fr' (s : Fin 4096) (i : Fin 16) : (V m c main_v49 : S4096x128.Idx → EReal) (ix2 s (fr' i)) = kang m c s i := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  unfold fr'
  pointwise
  have h0 : ¬ 80 + i.val < 64 := by omega
  have h1 : ¬ 80 + i.val - 64 < 16 := by omega
  have h3 : 80 + i.val - 64 - 16 = i.val := by omega
  simp only [dif_neg h0, dif_neg h1, h3, dif_pos i.isLt]
  after_results_steps
  exact (kang_at (a1 m c) s i).symm

theorem V58 (i : S4096x128.Idx) : (V m c main_v58 : S4096x128.Idx → EReal) i = Ideal.cos ((V m c main_v49 : S4096x128.Idx → EReal) i) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V59 (i : S4096x128.Idx) : (V m c main_v59 : S4096x128.Idx → EReal) i = Ideal.sin ((V m c main_v49 : S4096x128.Idx → EReal) i) := by
  unfold V V0
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V58_lo (s : Fin 4096) (j : Fin 128) (hj : j.val < 64) : (V m c main_v58 : S4096x128.Idx → EReal) (ix2 s j) = (1 : EReal) := by
  rw [V58 m c]
  refine (congrArg Ideal.cos (V49_lo m c s j hj)).trans ?_
  show ((Real.cos 0 : ℝ) : EReal) = 1
  rw [Real.cos_zero]; rfl

theorem V58_fr (s : Fin 4096) (i : Fin 16) : (V m c main_v58 : S4096x128.Idx → EReal) (ix2 s (fr i)) = kco m c s i := by
  rw [V58 m c]; exact congrArg Ideal.cos (V49_fr m c s i)
theorem V58_fr' (s : Fin 4096) (i : Fin 16) : (V m c main_v58 : S4096x128.Idx → EReal) (ix2 s (fr' i)) = kco m c s i := by
  rw [V58 m c]; exact congrArg Ideal.cos (V49_fr' m c s i)
theorem V59_fr (s : Fin 4096) (i : Fin 16) : (V m c main_v59 : S4096x128.Idx → EReal) (ix2 s (fr i)) = ksi m c s i := by
  rw [V59 m c]; exact congrArg Ideal.sin (V49_fr m c s i)
theorem V59_fr' (s : Fin 4096) (i : Fin 16) : (V m c main_v59 : S4096x128.Idx → EReal) (ix2 s (fr' i)) = ksi m c s i := by
  rw [V59 m c]; exact congrArg Ideal.sin (V49_fr' m c s i)
end Cert.InbV

end
-- ==== Proof.InbBlocks.lean ====
/- What the input layer's kernel finds in its input blocks. -/
module

public import proofs.«01_k».proof.Proof.InbHost

@[expose] public section

set_option maxRecDepth 16384

noncomputable section

open Idealize.ShloMosaic Idealize.ShloMosaic.TcCoe Idealize.SL.Sem

namespace Cert.InbV

open Cert.InBIdeal Cert.InBIdeal.Gen Base Cert.InbK

variable (m : (ℓ : Loc nD τ sig) → Buf (Elt Ideal) ℓ) (c : Dev nD)

theorem b11 (t : Fin cfg0.N) (r : Fin 256) (j : Fin 128) : (iblk m c 11 t : S256x128.Idx → EReal) (ix2 r j) = ((V m c main_v58 : S4096x128.Idx → EReal) (ix2 (row t.val r) j) : EReal) := by
  unfold iblk
  rw [View.read_apply]
  show (V m c main_v58 : S4096x128.Idx → EReal) _ = _
  congr 1
  funext a
  apply Fin.ext
  match a with
  | ⟨0, _⟩ =>
    show win0_11.index t 0 * 256 + 1 * r.val = t.val % 16 * 256 + r.val
    rw [(by decide +kernel : ∀ t : Fin grid0.N, win0_11.index t 0 = t.val % 16) t]; omega
  | ⟨1, _⟩ =>
    show win0_11.index t 1 * 128 + 1 * j.val = j.val
    rw [(by decide +kernel : ∀ t : Fin grid0.N, win0_11.index t 1 = 0) t]; omega

theorem b12 (t : Fin cfg0.N) (r : Fin 256) (j : Fin 128) : (iblk m c 12 t : S256x128.Idx → EReal) (ix2 r j) = ((V m c main_v59 : S4096x128.Idx → EReal) (ix2 (row t.val r) j) : EReal) := by
  unfold iblk
  rw [View.read_apply]
  show (V m c main_v59 : S4096x128.Idx → EReal) _ = _
  congr 1
  funext a
  apply Fin.ext
  match a with
  | ⟨0, _⟩ =>
    show win0_12.index t 0 * 256 + 1 * r.val = t.val % 16 * 256 + r.val
    rw [(by decide +kernel : ∀ t : Fin grid0.N, win0_12.index t 0 = t.val % 16) t]; omega
  | ⟨1, _⟩ =>
    show win0_12.index t 1 * 128 + 1 * j.val = j.val
    rw [(by decide +kernel : ∀ t : Fin grid0.N, win0_12.index t 1 = 0) t]; omega

theorem b2 (t : Fin cfg0.N) (r : Fin 256) (q : Fin 384) : (iblk m c 2 t : S256x384.Idx → EReal) (ix2 r q) = (kcq m c (row t.val r) q : EReal) := by
  unfold iblk
  rw [View.read_apply, ← V50]
  show (V m c main_v50 : S4096x384.Idx → EReal) _ = _
  congr 1
  funext a
  apply Fin.ext
  match a with
  | ⟨0, _⟩ =>
    show win0_2.index t 0 * 256 + 1 * r.val = t.val % 16 * 256 + r.val
    rw [(by decide +kernel : ∀ t : Fin grid0.N, win0_2.index t 0 = t.val % 16) t]; omega
  | ⟨1, _⟩ =>
    show win0_2.index t 1 * 384 + 1 * q.val = q.val
    rw [(by decide +kernel : ∀ t : Fin grid0.N, win0_2.index t 1 = 0) t]; omega

theorem b3 (t : Fin cfg0.N) (r : Fin 256) (k : Fin 128) : (iblk m c 3 t : S256x128.Idx → EReal) (ix2 r k) = (kckv m c (row t.val r) k : EReal) := by
  unfold iblk
  rw [View.read_apply, ← V51]
  show (V m c main_v51 : S4096x128.Idx → EReal) _ = _
  congr 1
  funext a
  apply Fin.ext
  match a with
  | ⟨0, _⟩ =>
    show win0_3.index t 0 * 256 + 1 * r.val = t.val % 16 * 256 + r.val
    rw [(by decide +kernel : ∀ t : Fin grid0.N, win0_3.index t 0 = t.val % 16) t]; omega
  | ⟨1, _⟩ =>
    show win0_3.index t 1 * 128 + 1 * k.val = k.val
    rw [(by decide +kernel : ∀ t : Fin grid0.N, win0_3.index t 1 = 0) t]; omega

theorem b4 (t : Fin cfg0.N) (h : Fin 8) (j : Fin 128) (r : Fin 256) : (iblk m c 4 t : S1024x256.Idx → EReal) (ix2 (l8 h j) r) = (if hj : j.val < 96 then a9 m c (ix3 (row t.val r) h ⟨j.val, hj⟩) else (0 : EReal) : EReal) := by
  unfold iblk
  rw [View.read_apply, ← V54]
  show (V m c main_v54 : S1024x4096.Idx → EReal) _ = _
  congr 1
  funext a
  apply Fin.ext
  match a with
  | ⟨0, _⟩ =>
    show win0_4.index t 0 * 1024 + 1 * (h.val * 128 + j.val) = h.val * 128 + j.val
    rw [(by decide +kernel : ∀ t : Fin grid0.N, win0_4.index t 0 = 0) t]; omega
  | ⟨1, _⟩ =>
    show win0_4.index t 1 * 256 + 1 * r.val = t.val % 16 * 256 + r.val
    rw [(by decide +kernel : ∀ t : Fin grid0.N, win0_4.index t 1 = t.val % 16) t]; omega

theorem b5 (t : Fin cfg0.N) (r : Fin 256) (h : Fin 8) (j : Fin 128) : (iblk m c 5 t : S256x1024.Idx → EReal) (ix2 r (l8 h j)) = (if hj : j.val < 96 then a10 m c (ix3 (row t.val r) h ⟨j.val, hj⟩) else (0 : EReal) : EReal) := by
  unfold iblk
  rw [View.read_apply, ← V56]
  show (V m c main_v56 : S4096x1024.Idx → EReal) _ = _
  congr 1
  funext a
  apply Fin.ext
  match a with
  | ⟨0, _⟩ =>
    show win0_5.index t 0 * 256 + 1 * r.val = t.val % 16 * 256 + r.val
    rw [(by decide +kernel : ∀ t : Fin grid0.N, win0_5.index t 0 = t.val % 16) t]; omega
  | ⟨1, _⟩ =>
    show win0_5.index t 1 * 1024 + 1 * (h.val * 128 + j.val) = h.val * 128 + j.val
    rw [(by decide +kernel : ∀ t : Fin grid0.N, win0_5.index t 1 = 0) t]; omega

theorem b6 (t : Fin cfg0.N) (r : Fin 256) (h : Fin 8) (j : Fin 64) : (iblk m c 6 t : S256x512.Idx → EReal) (ix2 r (l5 h j)) = (a11 m c (ix3 (row t.val r) h j) : EReal) := by
  unfold iblk
  rw [View.read_apply, ← V57]
  show (V m c main_v57 : S4096x512.Idx → EReal) _ = _
  congr 1
  funext a
  apply Fin.ext
  match a with
  | ⟨0, _⟩ =>
    show win0_6.index t 0 * 256 + 1 * r.val = t.val % 16 * 256 + r.val
    rw [(by decide +kernel : ∀ t : Fin grid0.N, win0_6.index t 0 = t.val % 16) t]; omega
  | ⟨1, _⟩ =>
    show win0_6.index t 1 * 512 + 1 * (h.val * 64 + j.val) = h.val * 64 + j.val
    rw [(by decide +kernel : ∀ t : Fin grid0.N, win0_6.index t 1 = 0) t]; omega

theorem b16 (t : Fin cfg0.N) (q : Fin 384) (h : Fin 8) (j : Fin 128) : (iblk m c 16 t : S384x1024.Idx → EReal) (ix2 q (l8 h j)) = (if hj : j.val < 96 then a5 m c (ix3 q h ⟨j.val, hj⟩) else (0 : EReal) : EReal) := by
  unfold iblk
  rw [View.read_apply, ← V11]
  show (V m c main_v11 : S384x1024.Idx → EReal) _ = _
  congr 1
  funext a
  apply Fin.ext
  match a with
  | ⟨0, _⟩ =>
    show win0_16.index t 0 * 384 + 1 * q.val = q.val
    rw [(by decide +kernel : ∀ t : Fin grid0.N, win0_16.index t 0 = 0) t]; omega
  | ⟨1, _⟩ =>
    show win0_16.index t 1 * 1024 + 1 * (h.val * 128 + j.val) = h.val * 128 + j.val
    rw [(by decide +kernel : ∀ t : Fin grid0.N, win0_16.index t 1 = 0) t]; omega

theorem b18 (t : Fin cfg0.N) (k : Fin 128) (h : Fin 8) (j : Fin 128) : (iblk m c 18 t : S128x1024.Idx → EReal) (ix2 k (l8 h j)) = (if hj : j.val < 64 then a7 m c (ix3 k h j) else (0 : EReal) : EReal) := by
  unfold iblk
  rw [View.read_apply, ← V14]
  show (V m c main_v14 : S128x1024.Idx → EReal) _ = _
  congr 1
  funext a
  apply Fin.ext
  match a with
  | ⟨0, _⟩ =>
    show win0_18.index t 0 * 128 + 1 * k.val = k.val
    rw [(by decide +kernel : ∀ t : Fin grid0.N, win0_18.index t 0 = 0) t]; omega
  | ⟨1, _⟩ =>
    show win0_18.index t 1 * 1024 + 1 * (h.val * 128 + j.val) = h.val * 128 + j.val
    rw [(by decide +kernel : ∀ t : Fin grid0.N, win0_18.index t 1 = 0) t]; omega

theorem b19 (t : Fin cfg0.N) (k : Fin 128) (h : Fin 8) (j : Fin 64) : (iblk m c 19 t : S128x512.Idx → EReal) (ix2 k (l5 h j)) = (a7 m c (ix3 k h (hi j)) : EReal) := by
  unfold iblk
  rw [View.read_apply, ← V16]
  show (V m c main_v16 : S128x512.Idx → EReal) _ = _
  congr 1
  funext a
  apply Fin.ext
  match a with
  | ⟨0, _⟩ =>
    show win0_19.index t 0 * 128 + 1 * k.val = k.val
    rw [(by decide +kernel : ∀ t : Fin grid0.N, win0_19.index t 0 = 0) t]; omega
  | ⟨1, _⟩ =>
    show win0_19.index t 1 * 512 + 1 * (h.val * 64 + j.val) = h.val * 64 + j.val
    rw [(by decide +kernel : ∀ t : Fin grid0.N, win0_19.index t 1 = 0) t]; omega

theorem b15 (t : Fin cfg0.N) (q : Fin 384) : (iblk m c 15 t : S1x384.Idx → EReal) (ix2 0 q) = (a4 m c (ix2 0 q) : EReal) := by
  unfold iblk
  rw [View.read_apply]; refine Eq.trans ?_ (congrFun (V_main_arg4 m c) (ix2 0 q))
  show (V m c main_arg4 : S1x384.Idx → EReal) _ = _
  congr 1
  funext a
  apply Fin.ext
  match a with
  | ⟨0, _⟩ =>
    show win0_15.index t 0 * 1 + 1 * 0 = 0
    rw [(by decide +kernel : ∀ t : Fin grid0.N, win0_15.index t 0 = 0) t]
  | ⟨1, _⟩ =>
    show win0_15.index t 1 * 384 + 1 * q.val = q.val
    rw [(by decide +kernel : ∀ t : Fin grid0.N, win0_15.index t 1 = 0) t]; omega

theorem b17 (t : Fin cfg0.N) (k : Fin 128) : (iblk m c 17 t : S1x128.Idx → EReal) (ix2 0 k) = (a6 m c (ix2 0 k) : EReal) := by
  unfold iblk
  rw [View.read_apply]; refine Eq.trans ?_ (congrFun (V_main_arg6 m c) (ix2 0 k))
  show (V m c main_arg6 : S1x128.Idx → EReal) _ = _
  congr 1
  funext a
  apply Fin.ext
  match a with
  | ⟨0, _⟩ =>
    show win0_17.index t 0 * 1 + 1 * 0 = 0
    rw [(by decide +kernel : ∀ t : Fin grid0.N, win0_17.index t 0 = 0) t]
  | ⟨1, _⟩ =>
    show win0_17.index t 1 * 128 + 1 * k.val = k.val
    rw [(by decide +kernel : ∀ t : Fin grid0.N, win0_17.index t 1 = 0) t]; omega

theorem b11_lo (t : Fin cfg0.N) (r : Fin 256) (j : Fin 128) (hj : j.val < 64) : (iblk m c 11 t : S256x128.Idx → EReal) (ix2 r j) = (1 : EReal) :=
  (b11 m c t r _).trans (V58_lo m c _ _ hj)

theorem b11_fr (t : Fin cfg0.N) (r : Fin 256) (i : Fin 16) : (iblk m c 11 t : S256x128.Idx → EReal) (ix2 r (fr i)) = (kco m c (row t.val r) i : EReal) :=
  (b11 m c t r _).trans (V58_fr m c _ _)

theorem b11_fr' (t : Fin cfg0.N) (r : Fin 256) (i : Fin 16) : (iblk m c 11 t : S256x128.Idx → EReal) (ix2 r (fr' i)) = (kco m c (row t.val r) i : EReal) :=
  (b11 m c t r _).trans (V58_fr' m c _ _)

theorem b12_fr (t : Fin cfg0.N) (r : Fin 256) (i : Fin 16) : (iblk m c 12 t : S256x128.Idx → EReal) (ix2 r (fr i)) = (ksi m c (row t.val r) i : EReal) :=
  (b12 m c t r _).trans (V59_fr m c _ _)

theorem b12_fr' (t : Fin cfg0.N) (r : Fin 256) (i : Fin 16) : (iblk m c 12 t : S256x128.Idx → EReal) (ix2 r (fr' i)) = (ksi m c (row t.val r) i : EReal) :=
  (b12 m c t r _).trans (V59_fr' m c _ _)

end Cert.InbV

end
-- ==== Proof.InbSums.lean ====
/- What the input layer's accumulators hold after the last grid point, as sums over all rows. -/
module

public import proofs.«01_k».proof.Proof.InbBlocks
public import proofs.«01_k».proof.Proof.InbRope

@[expose] public section

set_option maxRecDepth 16384

noncomputable section

open Idealize.ShloMosaic Idealize.ShloMosaic.TcCoe Idealize.SL.Sem

namespace Cert.InbV

open Cert.InBIdeal Cert.InBIdeal.Gen Base Cert.InbK

variable (m : (ℓ : Loc nD τ sig) → Buf (Elt Ideal) ℓ) (c : Dev nD)

/-- What a body's input blocks hold at the grid's point number `n`. -/
structure At (I : Ins Ideal) (n : ℕ) : Prop where
  x3 : ∀ r q, (I.x3 (ix2 r q) : EReal) = kcq m c (row n r) q
  x4 : ∀ r k, (I.x4 (ix2 r k) : EReal) = kckv m c (row n r) k
  x5 : ∀ h (j : Fin 128) r, (I.x5 (ix2 (l8 h j) r) : EReal) = if hj : j.val < 96 then a9 m c (ix3 (row n r) h ⟨j.val, hj⟩) else (0 : EReal)
  x6 : ∀ r h (j : Fin 128), (I.x6 (ix2 r (l8 h j)) : EReal) = if hj : j.val < 96 then a10 m c (ix3 (row n r) h ⟨j.val, hj⟩) else (0 : EReal)
  x7 : ∀ r h (j : Fin 64), (I.x7 (ix2 r (l5 h j)) : EReal) = a11 m c (ix3 (row n r) h j)
  x16 : ∀ q, (I.x16 (ix2 0 q) : EReal) = a4 m c (ix2 0 q)
  x17 : ∀ q h (j : Fin 128), (I.x17 (ix2 q (l8 h j)) : EReal) = if hj : j.val < 96 then a5 m c (ix3 q h ⟨j.val, hj⟩) else (0 : EReal)
  x18 : ∀ k, (I.x18 (ix2 0 k) : EReal) = a6 m c (ix2 0 k)
  x19 : ∀ k h (j : Fin 128), (I.x19 (ix2 k (l8 h j)) : EReal) = if hj : j.val < 64 then a7 m c (ix3 k h j) else (0 : EReal)
  x20 : ∀ k h (j : Fin 64), (I.x20 (ix2 k (l5 h j)) : EReal) = a7 m c (ix3 k h (hi j))
  clo : ∀ r (j : Fin 128), j.val < 64 → (I.x12 (ix2 r j) : EReal) = 1
  cfr : ∀ r i, (I.x12 (ix2 r (fr i)) : EReal) = kco m c (row n r) i
  cfr' : ∀ r i, (I.x12 (ix2 r (fr' i)) : EReal) = kco m c (row n r) i
  sfr : ∀ r i, (I.x13 (ix2 r (fr i)) : EReal) = ksi m c (row n r) i
  sfr' : ∀ r i, (I.x13 (ix2 r (fr' i)) : EReal) = ksi m c (row n r) i

set_option maxHeartbeats 2000000 in
theorem at_ins (t : Fin cfg0.N) : At m c (ins m c t) t.val :=
  ⟨b2 m c t, b3 m c t, b4 m c t, b5 m c t, b6 m c t, b15 m c t, b16 m c t, b17 m c t, b18 m c t, b19 m c t,
    b11_lo m c t, b11_fr m c t, b11_fr' m c t, b12_fr m c t, b12_fr' m c t⟩

/-- An accumulator that starts at zero and gains one block's rows at each point ends as the sum over all rows. -/
theorem acc_sum {S : Type} {z : S → EReal} {f : Ins Ideal → (S → EReal) → S → EReal} (i : S) (g : Fin 4096 → EReal) (hz : z i = 0)
    (hf : ∀ I n, At m c I n → ∀ s, f I s i = s i + ∑ r : Fin 256, g (row n r)) : accOf m z f c 15 i = ∑ s, g s := by
  have hr : ∀ n (r : Fin 256), row (pt n).val r = row n r := fun n r => Fin.ext (by
    show n % 16 % 16 * 256 + r.val = n % 16 * 256 + r.val
    rw [Nat.mod_mod])
  have h : ∀ n, accOf m z f c n i = ∑ t ∈ Finset.range (n + 1), ∑ r : Fin 256, g (row t r) := by
    intro n
    induction n with
    | zero =>
      rw [Finset.sum_range_one]
      refine (hf _ _ (at_ins m c (pt 0)) z).trans ?_
      rw [hz, zero_add]
      simp only [hr]
    | succ n ih =>
      rw [Finset.sum_range_succ, ← ih]
      refine (hf _ _ (at_ins m c (pt (n + 1))) _).trans ?_
      simp only [hr]
  rw [h 15, Finset.sum_range, Fin.sum_univ_tiles 16 256 (by norm_num) g]
  refine Finset.sum_congr rfl fun t _ => Finset.sum_congr rfl fun r _ => congrArg g (Fin.ext ?_)
  show t.val % 16 * 256 + r.val = t.val * 256 + r.val
  rw [Nat.mod_eq_of_lt t.isLt]

theorem sum_lanes96 (f : Fin 128 → EReal) (hz : ∀ j : Fin 128, ¬ j.val < 96 → f j = 0) : ∑ j, f j = ∑ j : Fin 96, f ⟨j.val, by omega⟩ := by
  refine (Fin.sum_univ_add (a := 96) (b := 32) f).trans ?_
  have e : ∑ i : Fin 32, f (Fin.natAdd 96 i) = 0 := Finset.sum_eq_zero fun i _ => hz _ (by
    show ¬ 96 + i.val < 96
    omega)
  refine (congrArg₂ (fun x y : EReal => x + y) rfl e).trans ?_
  rw [add_zero]
  rfl

theorem sum_lanes64 (f : Fin 128 → EReal) : ∑ j, f j = ∑ j : Fin 64, f (lo j) + ∑ j : Fin 64, f (hi j) :=
  Fin.sum_univ_add (a := 64) (b := 64) f

/-- The kernel's lanes of the turned-back query gradient. -/
theorem dql_at {I : Ins Ideal} {n : ℕ} (H : At m c I n) (r : Fin 256) (h : Fin 8) (j : Fin 128) (hj : j.val < 96) : (v194 I (ix2 r (l8 h j)) : EReal) =
    dql (fun d => a9 m c (ix3 (row n r) h d)) (kco m c (row n r)) (ksi m c (row n r)) ⟨j.val, hj⟩ :=
  v194_at (d := fun r h d => a9 m c (ix3 (row n r) h d)) (co := fun r => kco m c (row n r)) (si := fun r => ksi m c (row n r))
    (fun r h j => (H.x5 h ⟨j.val, by omega⟩ r).trans (by simp only [dif_pos j.isLt]))
    (fun r j hj => H.clo r j hj) (fun r i => H.cfr r i) (fun r i => H.cfr' r i)
    (fun r i => H.sfr r i) (fun r i => H.sfr' r i) r h ⟨j.val, hj⟩

set_option maxHeartbeats 2000000 in
theorem acc22_at (q : Fin 384) (h : Fin 8) (j : Fin 128) (hj : j.val < 96) : (acc22 m c 15 (ix2 q (l8 h j)) : EReal) =
    ∑ s, dql (fun d => a9 m c (ix3 s h d)) (kco m c s) (ksi m c s) ⟨j.val, hj⟩ * (kcq m c s q * rms 0x43C00000#32 (kcq m c s) * a4 m c (ix2 0 q)) := by
  have hz : ((k0_pay4 : FVec Ideal S384x1024 .f32) (ix2 q (l8 h j)) : EReal) = 0 := by
    pointwise [k0_pay4]
  refine acc_sum m c (S := S384x1024.Idx) (z := (k0_pay4 : FVec Ideal S384x1024 .f32)) (f := o23) (ix2 q (l8 h j)) (fun s => dql (fun d => a9 m c (ix3 s h d)) (kco m c s) (ksi m c s) ⟨j.val, hj⟩ * (kcq m c s q * rms 0x43C00000#32 (kcq m c s) * a4 m c (ix2 0 q))) hz fun I n H s => ?_
  refine (o23_at (b := fun r => kcq m c (row n r)) (fun r q => H.x3 r q) q (l8 h j) s).trans ?_
  refine congrArg (_ + ·) (Finset.sum_congr rfl fun r _ => ?_)
  rw [dql_at m c H r h j hj, mul_comm]
  exact congrArg (fun x : EReal => _ * (_ * x)) (H.x16 q)

set_option maxHeartbeats 2000000 in
theorem acc23_at (k : Fin 128) (h : Fin 8) (j : Fin 128) (hj : j.val < 96) : (acc23 m c 15 (ix2 k (l8 h j)) : EReal) =
    ∑ s, a10 m c (ix3 s h ⟨j.val, hj⟩) * (kckv m c s k * rms 0x43000000#32 (kckv m c s) * a6 m c (ix2 0 k)) := by
  have hz : ((k0_pay5 : FVec Ideal S128x1024 .f32) (ix2 k (l8 h j)) : EReal) = 0 := by
    pointwise [k0_pay5]
  refine acc_sum m c (S := S128x1024.Idx) (z := (k0_pay5 : FVec Ideal S128x1024 .f32)) (f := o24) (ix2 k (l8 h j)) (fun s => a10 m c (ix3 s h ⟨j.val, hj⟩) * (kckv m c s k * rms 0x43000000#32 (kckv m c s) * a6 m c (ix2 0 k))) hz fun I n H s => ?_
  refine (o24_at (a := fun r => kckv m c (row n r)) (fun r q => H.x4 r q) k (l8 h j) s).trans ?_
  refine congrArg (_ + ·) (Finset.sum_congr rfl fun r _ => ?_)
  have e := H.x6 r h j
  simp only [dif_pos hj] at e
  rw [mul_comm]
  exact congrArg₂ (fun x y : EReal => x * (_ * y)) e (H.x18 k)

set_option maxHeartbeats 2000000 in
theorem acc24_at (k : Fin 128) (h : Fin 8) (j : Fin 64) : (acc24 m c 15 (ix2 k (l5 h j)) : EReal) =
    ∑ s, a11 m c (ix3 s h j) * (kckv m c s k * rms 0x43000000#32 (kckv m c s) * a6 m c (ix2 0 k)) := by
  have hz : ((k0_pay6 : FVec Ideal S128x512 .f32) (ix2 k (l5 h j)) : EReal) = 0 := by
    pointwise [k0_pay6]
  refine acc_sum m c (S := S128x512.Idx) (z := (k0_pay6 : FVec Ideal S128x512 .f32)) (f := o25) (ix2 k (l5 h j)) (fun s => a11 m c (ix3 s h j) * (kckv m c s k * rms 0x43000000#32 (kckv m c s) * a6 m c (ix2 0 k))) hz fun I n H s => ?_
  refine (o25_at (a := fun r => kckv m c (row n r)) (fun r q => H.x4 r q) k (l5 h j) s).trans ?_
  refine congrArg (_ + ·) (Finset.sum_congr rfl fun r _ => ?_)
  rw [mul_comm]
  exact congrArg₂ (fun x y : EReal => x * (_ * y)) (H.x7 r h j) (H.x18 k)

set_option maxHeartbeats 2000000 in
theorem acc26_at (q : Fin 384) : (acc26 m c 15 (ix2 0 q) : EReal) =
    ∑ s, kcq m c s q * rms 0x43C00000#32 (kcq m c s) *
      ∑ h, ∑ j, dql (fun d => a9 m c (ix3 s h d)) (kco m c s) (ksi m c s) j * a5 m c (ix3 q h j) := by
  have hz : ((k0_pay8 : FVec Ideal S1x384 .f32) (ix2 0 q) : EReal) = 0 := by
    pointwise [k0_pay8]
  refine acc_sum m c (S := S1x384.Idx) (z := (k0_pay8 : FVec Ideal S1x384 .f32)) (f := o27) (ix2 0 q) (fun s => kcq m c s q * rms 0x43C00000#32 (kcq m c s) *
      ∑ h, ∑ j, dql (fun d => a9 m c (ix3 s h d)) (kco m c s) (ksi m c s) j * a5 m c (ix3 q h j)) hz fun I n H s => ?_
  refine (o27_at (b := fun r => kcq m c (row n r)) (fun r q => H.x3 r q) q s).trans ?_
  refine congrArg (_ + ·) (Finset.sum_congr rfl fun r _ => ?_)
  rw [mul_comm]
  refine congrArg₂ (fun x y : EReal => x * y) rfl ?_
  refine (Fin.sum_univ_tiles 8 128 (by norm_num) _).trans (Finset.sum_congr rfl fun h _ => ?_)
  refine (sum_lanes96 _ fun j hj => ?_).trans (Finset.sum_congr rfl fun j _ => ?_)
  · have e := H.x17 q h j
    simp only [dif_neg hj] at e
    exact (congrArg₂ (fun x y : EReal => x * y) rfl e).trans (mul_zero (M₀ := EReal) _)
  · have e := H.x17 q h ⟨j.val, by omega⟩
    simp only [dif_pos j.isLt] at e
    exact congrArg₂ (fun x y : EReal => x * y) (dql_at m c H r h ⟨j.val, by omega⟩ j.isLt) e

set_option maxHeartbeats 2000000 in
theorem acc27_at (k : Fin 128) : (acc27 m c 15 (ix2 0 k) : EReal) =
    ∑ s, kckv m c s k * rms 0x43000000#32 (kckv m c s) *
      ∑ h, ∑ d, Cert.InbR.dkv (a10 m c) (a11 m c) s h d * a7 m c (ix3 k h d) := by
  have hz : ((k0_pay9 : FVec Ideal S1x128 .f32) (ix2 0 k) : EReal) = 0 := by
    pointwise [k0_pay9]
  refine acc_sum m c (S := S1x128.Idx) (z := (k0_pay9 : FVec Ideal S1x128 .f32)) (f := o28) (ix2 0 k) (fun s => kckv m c s k * rms 0x43000000#32 (kckv m c s) *
      ∑ h, ∑ d, Cert.InbR.dkv (a10 m c) (a11 m c) s h d * a7 m c (ix3 k h d)) hz fun I n H s => ?_
  refine (o28_at (a := fun r => kckv m c (row n r)) (fun r q => H.x4 r q) k s).trans ?_
  refine congrArg (_ + ·) (Finset.sum_congr rfl fun r _ => ?_)
  rw [mul_comm]
  refine congrArg₂ (fun x y : EReal => x * y) rfl ?_
  have e1 := (Fin.sum_univ_tiles 8 128 (by norm_num) fun l : Fin 1024 => (I.x6 (ix2 r l) : EReal) * I.x19 (ix2 k l))
  have e2 := (Fin.sum_univ_tiles 8 64 (by norm_num) fun l : Fin 512 => (I.x7 (ix2 r l) : EReal) * I.x20 (ix2 k l))
  refine (congrArg₂ (fun x y : EReal => x + y) e1 e2).trans ?_
  refine Finset.sum_add_distrib.symm.trans (Finset.sum_congr rfl fun h _ => ?_)
  refine Eq.trans ?_ (sum_lanes64 _).symm
  refine congrArg₂ (fun x y : EReal => x + y) ?_ (Finset.sum_congr rfl fun j _ => ?_)
  · refine (sum_lanes64 _).trans ?_
    have z : ∑ j : Fin 64, (I.x6 (ix2 r (l8 h (hi j))) : EReal) * I.x19 (ix2 k (l8 h (hi j))) = 0 := Finset.sum_eq_zero fun j _ => by
      have hj : ¬ (hi j).val < 64 := by show ¬ 64 + j.val < 64; omega
      have e := H.x19 k h (hi j)
      simp only [dif_neg hj] at e
      exact (congrArg₂ (fun x y : EReal => x * y) rfl e).trans (mul_zero (M₀ := EReal) _)
    refine (congrArg₂ (fun x y : EReal => x + y) rfl z).trans ?_
    rw [add_zero]
    refine Finset.sum_congr rfl fun j _ => ?_
    have hj : (lo j).val < 64 := j.isLt
    have hj' : (lo j).val < 96 := by omega
    have e := H.x19 k h (lo j)
    have e' := H.x6 r h (lo j)
    simp only [dif_pos hj] at e
    simp only [dif_pos hj'] at e'
    refine (congrArg₂ (fun x y : EReal => x * y) e' e).trans ?_
    refine congrArg₂ (fun x y : EReal => x * y) ?_ rfl
    unfold Cert.InbR.dkv
    simp only [dif_pos hj]
  · have hj : ¬ (hi j).val < 64 := by show ¬ 64 + j.val < 64; omega
    refine (congrArg₂ (fun x y : EReal => x * y) (H.x7 r h j) (H.x20 k h j)).trans ?_
    refine congrArg₂ (fun x y : EReal => x * y) ?_ rfl
    unfold Cert.InbR.dkv
    simp only [dif_neg hj]
    congr 2
    exact Fin.ext (by show j.val = 64 + j.val - 64; omega)

end Cert.InbV

end
-- ==== Proof.InbArr.lean ====
/- What the input layer's output arrays hold after the kernel. -/
module

public import proofs.«01_k».proof.Proof.InbFrame
public import proofs.«01_k».proof.Proof.Base

@[expose] public section

set_option maxRecDepth 16384

noncomputable section

open Idealize.ShloMosaic Idealize.ShloMosaic.TcCoe Idealize.SL.Sem

namespace Cert.InbV

open Cert.InBIdeal Cert.InBIdeal.Gen Base Cert.InbK

variable (m : (ℓ : Loc nD τ sig) → Buf (Elt Ideal) ℓ) (c : Dev nD)

theorem arr22 (i : Fin 384) (j : Fin 1024) : ((dats m 0 c).arrAt 22 cfg0.N : S384x1024.Idx → EReal) (ix2 i j) = (acc22 m c 15 (ix2 i j) : EReal) := by
  have e : ((cfg0.win 22).blk (pt 15)).view.emb (ix2 i j : S384x1024.Idx) = (ix2 i j : S384x1024.Idx) := by
    funext a; apply Fin.ext
    match a with
    | ⟨0, _⟩ =>
      show win0_22.index (pt 15) 0 * 384 + 1 * i.val = i.val
      rw [(by decide +kernel : ∀ t : Fin grid0.N, win0_22.index t 0 = 0) _]; omega
    | ⟨1, _⟩ =>
      show win0_22.index (pt 15) 1 * 1024 + 1 * j.val = j.val
      rw [(by decide +kernel : ∀ t : Fin grid0.N, win0_22.index t 1 = 0) _]; omega
  have hd : ∀ t t' : Fin cfg0.N, (cfg0.win 22).flush t = true → (cfg0.win 22).flush t' = true → t ≠ t' →
      Disjoint ((cfg0.win 22).blk t).view.set ((cfg0.win 22).blk t').view.set :=
    fun t t' h h' hne => absurd ((by decide +kernel : ∀ t t' : Fin grid0.N, win0_22.flush t = true → win0_22.flush t' = true → t = t') t t' h h') hne
  have h := (dats m 0 c).arrAt_emb_eq_flushed 22 hd (pt 15) (by decide +kernel : win0_22.flush (pt 15) = true) (ix2 i j : S384x1024.Idx)
  rw [e] at h
  exact h.trans (congrFun (after0_22 m c (pt 15)) (ix2 i j : S384x1024.Idx))

theorem arr23 (i : Fin 128) (j : Fin 1024) : ((dats m 0 c).arrAt 23 cfg0.N : S128x1024.Idx → EReal) (ix2 i j) = (acc23 m c 15 (ix2 i j) : EReal) := by
  have e : ((cfg0.win 23).blk (pt 15)).view.emb (ix2 i j : S128x1024.Idx) = (ix2 i j : S128x1024.Idx) := by
    funext a; apply Fin.ext
    match a with
    | ⟨0, _⟩ =>
      show win0_23.index (pt 15) 0 * 128 + 1 * i.val = i.val
      rw [(by decide +kernel : ∀ t : Fin grid0.N, win0_23.index t 0 = 0) _]; omega
    | ⟨1, _⟩ =>
      show win0_23.index (pt 15) 1 * 1024 + 1 * j.val = j.val
      rw [(by decide +kernel : ∀ t : Fin grid0.N, win0_23.index t 1 = 0) _]; omega
  have hd : ∀ t t' : Fin cfg0.N, (cfg0.win 23).flush t = true → (cfg0.win 23).flush t' = true → t ≠ t' →
      Disjoint ((cfg0.win 23).blk t).view.set ((cfg0.win 23).blk t').view.set :=
    fun t t' h h' hne => absurd ((by decide +kernel : ∀ t t' : Fin grid0.N, win0_23.flush t = true → win0_23.flush t' = true → t = t') t t' h h') hne
  have h := (dats m 0 c).arrAt_emb_eq_flushed 23 hd (pt 15) (by decide +kernel : win0_23.flush (pt 15) = true) (ix2 i j : S128x1024.Idx)
  rw [e] at h
  exact h.trans (congrFun (after0_23 m c (pt 15)) (ix2 i j : S128x1024.Idx))

theorem arr24 (i : Fin 128) (j : Fin 512) : ((dats m 0 c).arrAt 24 cfg0.N : S128x512.Idx → EReal) (ix2 i j) = (acc24 m c 15 (ix2 i j) : EReal) := by
  have e : ((cfg0.win 24).blk (pt 15)).view.emb (ix2 i j : S128x512.Idx) = (ix2 i j : S128x512.Idx) := by
    funext a; apply Fin.ext
    match a with
    | ⟨0, _⟩ =>
      show win0_24.index (pt 15) 0 * 128 + 1 * i.val = i.val
      rw [(by decide +kernel : ∀ t : Fin grid0.N, win0_24.index t 0 = 0) _]; omega
    | ⟨1, _⟩ =>
      show win0_24.index (pt 15) 1 * 512 + 1 * j.val = j.val
      rw [(by decide +kernel : ∀ t : Fin grid0.N, win0_24.index t 1 = 0) _]; omega
  have hd : ∀ t t' : Fin cfg0.N, (cfg0.win 24).flush t = true → (cfg0.win 24).flush t' = true → t ≠ t' →
      Disjoint ((cfg0.win 24).blk t).view.set ((cfg0.win 24).blk t').view.set :=
    fun t t' h h' hne => absurd ((by decide +kernel : ∀ t t' : Fin grid0.N, win0_24.flush t = true → win0_24.flush t' = true → t = t') t t' h h') hne
  have h := (dats m 0 c).arrAt_emb_eq_flushed 24 hd (pt 15) (by decide +kernel : win0_24.flush (pt 15) = true) (ix2 i j : S128x512.Idx)
  rw [e] at h
  exact h.trans (congrFun (after0_24 m c (pt 15)) (ix2 i j : S128x512.Idx))

theorem arr26 (i : Fin 1) (j : Fin 384) : ((dats m 0 c).arrAt 26 cfg0.N : S1x384.Idx → EReal) (ix2 i j) = (acc26 m c 15 (ix2 i j) : EReal) := by
  have e : ((cfg0.win 26).blk (pt 15)).view.emb (ix2 i j : S1x384.Idx) = (ix2 i j : S1x384.Idx) := by
    funext a; apply Fin.ext
    match a with
    | ⟨0, _⟩ =>
      show win0_26.index (pt 15) 0 * 1 + 1 * i.val = i.val
      rw [(by decide +kernel : ∀ t : Fin grid0.N, win0_26.index t 0 = 0) _]; omega
    | ⟨1, _⟩ =>
      show win0_26.index (pt 15) 1 * 384 + 1 * j.val = j.val
      rw [(by decide +kernel : ∀ t : Fin grid0.N, win0_26.index t 1 = 0) _]; omega
  have hd : ∀ t t' : Fin cfg0.N, (cfg0.win 26).flush t = true → (cfg0.win 26).flush t' = true → t ≠ t' →
      Disjoint ((cfg0.win 26).blk t).view.set ((cfg0.win 26).blk t').view.set :=
    fun t t' h h' hne => absurd ((by decide +kernel : ∀ t t' : Fin grid0.N, win0_26.flush t = true → win0_26.flush t' = true → t = t') t t' h h') hne
  have h := (dats m 0 c).arrAt_emb_eq_flushed 26 hd (pt 15) (by decide +kernel : win0_26.flush (pt 15) = true) (ix2 i j : S1x384.Idx)
  rw [e] at h
  exact h.trans (congrFun (after0_26 m c (pt 15)) (ix2 i j : S1x384.Idx))

theorem arr27 (i : Fin 1) (j : Fin 128) : ((dats m 0 c).arrAt 27 cfg0.N : S1x128.Idx → EReal) (ix2 i j) = (acc27 m c 15 (ix2 i j) : EReal) := by
  have e : ((cfg0.win 27).blk (pt 15)).view.emb (ix2 i j : S1x128.Idx) = (ix2 i j : S1x128.Idx) := by
    funext a; apply Fin.ext
    match a with
    | ⟨0, _⟩ =>
      show win0_27.index (pt 15) 0 * 1 + 1 * i.val = i.val
      rw [(by decide +kernel : ∀ t : Fin grid0.N, win0_27.index t 0 = 0) _]; omega
    | ⟨1, _⟩ =>
      show win0_27.index (pt 15) 1 * 128 + 1 * j.val = j.val
      rw [(by decide +kernel : ∀ t : Fin grid0.N, win0_27.index t 1 = 0) _]; omega
  have hd : ∀ t t' : Fin cfg0.N, (cfg0.win 27).flush t = true → (cfg0.win 27).flush t' = true → t ≠ t' →
      Disjoint ((cfg0.win 27).blk t).view.set ((cfg0.win 27).blk t').view.set :=
    fun t t' h h' hne => absurd ((by decide +kernel : ∀ t t' : Fin grid0.N, win0_27.flush t = true → win0_27.flush t' = true → t = t') t t' h h') hne
  have h := (dats m 0 c).arrAt_emb_eq_flushed 27 hd (pt 15) (by decide +kernel : win0_27.flush (pt 15) = true) (ix2 i j : S1x128.Idx)
  rw [e] at h
  exact h.trans (congrFun (after0_27 m c (pt 15)) (ix2 i j : S1x128.Idx))

end Cert.InbV

end
-- ==== Proof.InbTail.lean ====
/- What the host lines after the input layer's kernel make of its output arrays. -/
module

public import proofs.«01_k».proof.Proof.InbHost

@[expose] public section

set_option maxRecDepth 16384

noncomputable section

open Idealize.ShloMosaic Idealize.ShloMosaic.TcCoe Idealize.SL.Sem

namespace Cert.InbV

open Cert.InBIdeal Cert.InBIdeal.Gen Base Cert.InbK

variable (m : (ℓ : Loc nD τ sig) → Buf (Elt Ideal) ℓ) (c : Dev nD)

theorem arr_distinct : Function.Injective (Pipeline.arrRef spec0) := by decide +kernel

set_option maxHeartbeats 1000000 in
theorem tail62 (q : Fin 384) (h : Fin 8) (j : Fin 128) (hj : j.val < 96) : (Wt m c main_v62 : S384x8x96.Idx → EReal) (ix3 q h ⟨j.val, hj⟩) =
    (((dats m 0 c).arrAt 22 cfg0.N : S384x1024.Idx → EReal) (ix2 q (l8 h j)) : EReal) := by
  unfold Wt Pipeline.afterTail₀
  simp only [hostOps1, List.flatten_cons, List.flatten_nil, List.append_nil, List.cons_append, List.nil_append]
  have e := Pipeline.withArrays_arr spec0 arr_distinct c (V0 m c) (fun w => (dats m 0 c).arrAt w cfg0.N) 22
  generalize Pipeline.withArrays spec0 c (V0 m c) (fun w => (dats m 0 c).arrAt w cfg0.N) = X at e
  rw [← e]
  after_results
  pointwise
  rfl

set_option maxHeartbeats 1000000 in
theorem tail66 (k : Fin 128) (h : Fin 8) (d : Fin 128) : (Wt m c main_v66 : S128x8x128.Idx → EReal) (ix3 k h d) =
    if hd : d.val < 64 then (((dats m 0 c).arrAt 23 cfg0.N : S128x1024.Idx → EReal) (ix2 k (l8 h d)) : EReal)
    else (((dats m 0 c).arrAt 24 cfg0.N : S128x512.Idx → EReal) (ix2 k (l5 h ⟨d.val - 64, by omega⟩)) : EReal) := by
  unfold Wt Pipeline.afterTail₀
  simp only [hostOps1, List.flatten_cons, List.flatten_nil, List.append_nil, List.cons_append, List.nil_append]
  have e := Pipeline.withArrays_arr spec0 arr_distinct c (V0 m c) (fun w => (dats m 0 c).arrAt w cfg0.N) 23
  have e' := Pipeline.withArrays_arr spec0 arr_distinct c (V0 m c) (fun w => (dats m 0 c).arrAt w cfg0.N) 24
  generalize Pipeline.withArrays spec0 c (V0 m c) (fun w => (dats m 0 c).arrAt w cfg0.N) = X at e e'
  rw [← e, ← e']
  after_results
  pointwise
  rfl

end Cert.InbV

end
-- ==== Proof.InbAssemble.lean ====
/- The input layer's backward and its reference agree on the up-projections' and the two norms' gradients. -/
module

public import proofs.«01_k».proof.Defs
public import proofs.«01_k».proof.Proof.InbSums
public import proofs.«01_k».proof.Proof.InbArr
public import proofs.«01_k».proof.Proof.InbTail
public import proofs.«01_k».proof.Proof.InbRef

@[expose] public section

noncomputable section

open Idealize.ShloMosaic Idealize.ShloMosaic.TcCoe Idealize.SL.Sem

namespace Cert.InbV

open Base

section out
open Cert.InBIdeal Cert.InBIdeal.Gen Cert.InbK
variable {F : FTy → Type} [FloatOps F] (m : (ℓ : Loc nD τ sig) → Buf (Elt F) ℓ) (ρ : Dev nD → PrngReg)

set_option maxHeartbeats 4000000 in
/-- The run, with what the output arrays hold after it. -/
theorem run_out : θ_run defs (onTc (τ := τ) (main (F := F))) ⟨m, fun _ => 0, ρ⟩ fun r => ∀ c : Dev nD,
      r.2.mem ((c : Thread nD τ).loc main_v62) = Wt m c main_v62
      ∧ r.2.mem ((c : Thread nD τ).loc main_v66) = Wt m c main_v66
      ∧ r.2.mem ((c : Thread nD τ).loc main_v60_6) = (dats m 0 c).arrAt 26 cfg0.N
      ∧ r.2.mem ((c : Thread nD τ).loc main_v60_7) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨
      (h.1 c).2 main_v62 (Pipeline.mem_restRefs_of main_v62 (by decide) (by decide)),
      (h.1 c).2 main_v66 (Pipeline.mem_restRefs_of main_v66 (by decide) (by decide)),
      (h.1 c).1 26, (h.1 c).1 27,
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).1 13).trans (((dats m 0 c).arrAt_in 13 rfl _).trans ((A_eq m c 13).trans (V_main_arg2 m c))),
      ((h.1 c).2 main_arg3 (Pipeline.mem_restRefs_of main_arg3 (by decide) (by decide))).trans (W_main_arg3 m (dats m) c),
      ((h.1 c).1 15).trans (((dats m 0 c).arrAt_in 15 rfl _).trans ((A_eq m c 15).trans (V_main_arg4 m c))),
      ((h.1 c).2 main_arg5 (Pipeline.mem_restRefs_of main_arg5 (by decide) (by decide))).trans (W_main_arg5 m (dats m) c),
      ((h.1 c).1 17).trans (((dats m 0 c).arrAt_in 17 rfl _).trans ((A_eq m c 17).trans (V_main_arg6 m c))),
      ((h.1 c).2 main_arg7 (Pipeline.mem_restRefs_of main_arg7 (by decide) (by decide))).trans (W_main_arg7 m (dats m) c),
      ((h.1 c).1 1).trans (((dats m 0 c).arrAt_in 1 rfl _).trans ((A_eq m c 1).trans (V_main_arg8 m c))),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c),
      ((h.1 c).1 7).trans (((dats m 0 c).arrAt_in 7 rfl _).trans ((A_eq m c 7).trans (V_main_arg12 m c))),
      ((h.1 c).1 8).trans (((dats m 0 c).arrAt_in 8 rfl _).trans ((A_eq m c 8).trans (V_main_arg13 m c))),
      ((h.1 c).1 9).trans (((dats m 0 c).arrAt_in 9 rfl _).trans ((A_eq m c 9).trans (V_main_arg14 m c))),
      ((h.1 c).1 10).trans (((dats m 0 c).arrAt_in 10 rfl _).trans ((A_eq m c 10).trans (V_main_arg15 m c)))⟩) (run_main m ρ)

end out

section finals
open Cert.InBIdeal Cert.InBIdeal.Gen Cert.InbK
variable (m : (ℓ : Loc nD τ sig) → Buf (Elt Ideal) ℓ) (c : Dev nD)

theorem final62 (q : Fin 384) (h : Fin 8) (j : Fin 96) : (Wt m c main_v62 : S384x8x96.Idx → EReal) (ix3 q h j) =
    (∑ s, dql (fun d => a9 m c (ix3 s h d)) (kco m c s) (ksi m c s) j * (kcq m c s q * rms 0x43C00000#32 (kcq m c s) * a4 m c (ix2 0 q)) : EReal) :=
  (tail62 m c q h ⟨j.val, by omega⟩ j.isLt).trans ((arr22 m c q _).trans (acc22_at m c q h ⟨j.val, by omega⟩ j.isLt))

theorem final66 (k : Fin 128) (h : Fin 8) (d : Fin 128) : (Wt m c main_v66 : S128x8x128.Idx → EReal) (ix3 k h d) =
    (∑ s, Cert.InbR.dkv (a10 m c) (a11 m c) s h d * (kckv m c s k * rms 0x43000000#32 (kckv m c s) * a6 m c (ix2 0 k)) : EReal) := by
  refine (tail66 m c k h d).trans ?_
  by_cases hd : d.val < 64
  · have hd' : d.val < 96 := by omega
    simp only [dif_pos hd, Cert.InbR.dkv]
    exact (arr23 m c k _).trans (acc23_at m c k h d hd')
  · simp only [dif_neg hd, Cert.InbR.dkv]
    exact (arr24 m c k _).trans (acc24_at m c k h _)

theorem final26 (q : Fin 384) : ((dats m 0 c).arrAt 26 cfg0.N : S1x384.Idx → EReal) (ix2 0 q) =
    (∑ s, kcq m c s q * rms 0x43C00000#32 (kcq m c s) *
      ∑ h, ∑ j, dql (fun d => a9 m c (ix3 s h d)) (kco m c s) (ksi m c s) j * a5 m c (ix3 q h j) : EReal) :=
  (arr26 m c 0 q).trans (acc26_at m c q)

theorem final27 (k : Fin 128) : ((dats m 0 c).arrAt 27 cfg0.N : S1x128.Idx → EReal) (ix2 0 k) =
    (∑ s, kckv m c s k * rms 0x43000000#32 (kckv m c s) *
      ∑ h, ∑ d, Cert.InbR.dkv (a10 m c) (a11 m c) s h d * a7 m c (ix3 k h d) : EReal) :=
  (arr27 m c 0 k).trans (acc27_at m c k)

end finals

set_option maxHeartbeats 4000000 in
theorem algebraic : @algebraic_InBIdeal_InBRefIdeal InBIdeal.Gen.facts InBRefIdeal.Gen.facts := by
  intro m g m' g' _ hargs
  refine ⟨_, _, _, _, (θ_run _ _ _).mono (fun r h => h) (run_out (F := Ideal) m g),
    (θ_run _ _ _).mono (fun r h c => ?_) (InBRefIdeal.Value.run (F := Ideal) m' g')⟩
  obtain ⟨h0, h1, h2, h3, h4, h5, h6, h7, _, h9, h10, h11, _⟩ := hargs c
  obtain ⟨r0, r1, r2, r3, k⟩ := h c
  change StableHlo.launchContents m' c (Proc.devRef .tc InBRefIdeal.main_arg0) = _ at h0
  change StableHlo.launchContents m' c (Proc.devRef .tc InBRefIdeal.main_arg1) = _ at h1
  change StableHlo.launchContents m' c (Proc.devRef .tc InBRefIdeal.main_arg2) = _ at h2
  change StableHlo.launchContents m' c (Proc.devRef .tc InBRefIdeal.main_arg3) = _ at h3
  change StableHlo.launchContents m' c (Proc.devRef .tc InBRefIdeal.main_arg4) = _ at h4
  change StableHlo.launchContents m' c (Proc.devRef .tc InBRefIdeal.main_arg5) = _ at h5
  change StableHlo.launchContents m' c (Proc.devRef .tc InBRefIdeal.main_arg6) = _ at h6
  change StableHlo.launchContents m' c (Proc.devRef .tc InBRefIdeal.main_arg7) = _ at h7
  change StableHlo.launchContents m' c (Proc.devRef .tc InBRefIdeal.main_arg9) = _ at h9
  change StableHlo.launchContents m' c (Proc.devRef .tc InBRefIdeal.main_arg10) = _ at h10
  change StableHlo.launchContents m' c (Proc.devRef .tc InBRefIdeal.main_arg11) = _ at h11
  refine ⟨r0.trans ?_, r1.trans ?_, r2.trans ?_, r3.trans ?_, k⟩
  · rw [InBRefIdeal.Read.val_main_v177_eq, h0, h1, h2, h3, h4, h9]
    funext i
    rw [eq_ix3 i]
    exact (InbR.v177 _ _ _ _ _ _ _ _ _).trans (final62 m c _ _ _).symm
  · rw [InBRefIdeal.Read.val_main_v155_eq, h0, h2, h3, h6, h10, h11]
    funext i
    rw [eq_ix3 i]
    exact (InbR.v155 _ _ _ _ _ _ _ _ _).trans (final66 m c _ _ _).symm
  · rw [InBRefIdeal.Read.val_main_v181_eq, h0, h1, h2, h3, h5, h9]
    funext i
    rw [eq_ix2 i, Fin.fin_one_eq_zero (i 0)]
    exact (InbR.v181 _ _ _ _ _ _ _).trans (final26 m c _).symm
  · rw [InBRefIdeal.Read.val_main_v159_eq, h0, h2, h3, h7, h10, h11]
    funext i
    rw [eq_ix2 i, Fin.fin_one_eq_zero (i 0)]
    exact (InbR.v159 _ _ _ _ _ _ _).trans (final27 m c _).symm

end Cert.InbV

end
-- ==== Proof.FfnbRun.lean ====
module

public import proofs.«01_k».proof.Proof.Gen.FfnBIdeal.Frame
public import proofs.«01_k».proof.Proof.Gen.FfnBIdeal.Skeleton
public import Idealize.ShloMosaic.Lib.VecWindow
public import Idealize.ShloMosaic.Lib.Tactic
public import Idealize.ShloMosaic.Lib.WordCmp

@[expose] public section

set_option maxRecDepth 16384
set_option pp.maxSteps 80

noncomputable section

namespace Cert.FfnbK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnBIdeal Cert.FfnBIdeal.Gen

variable {F : FTy → Type} [FloatOps F]

local notation "𝕄" => MT nD τ sig Unit (Elt F) ℕ (UR sig nD τ) ℕ

/-- The question of the body's first branch: is this the first row block of a chip's columns? -/
abbrev first (i : grid0.Coords) : Prop :=
  (Scalar.cmpi .ne (Scalar.extui (Scalar.cmpi .eq (BitVec.ofNat 32 (i 1).val) 0#32)) 0#32) = 1#1

theorem first_iff : ∀ t : Fin cfg0.N, first (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

theorem cond2_iff : ∀ t : Fin cfg0.N, k0_cond2 (grid0.coords t) = 1#1 ↔ t.val < 8 := by decide +kernel
theorem cond3_iff : ∀ t : Fin cfg0.N, k0_cond3 (grid0.coords t) = 1#1 ↔ 8 ≤ t.val ∧ t.val < 24 := by decide +kernel
theorem cond4_iff : ∀ t : Fin cfg0.N, k0_cond4 (grid0.coords t) = 1#1 ↔ 24 ≤ t.val := by decide +kernel
theorem off1_eq : ∀ t : Fin cfg0.N, k0_off1 (grid0.coords t) = ![512 * (t.val % 8), 0] := by decide +kernel
theorem off2_eq : ∀ t : Fin cfg0.N, k0_off2 (grid0.coords t) = ![512 * (t.val % 8), 0] := by decide +kernel
theorem off3_eq : ∀ t : Fin cfg0.N, k0_off3 (grid0.coords t) = ![512 * (t.val % 8), 0] := by decide +kernel
theorem flush_none : ∀ t : Fin cfg0.N, t.val < 24 → (cfg0.win 10).flush t = false := by decide +kernel

/-- What a weight gradient's block holds when the sum over the row blocks goes on: zeros at the first. -/
def start (i : grid0.Coords) (a : Vec F S1x704x1024 .f32) : Vec F S1x704x1024 .f32 := if first i then k0_pay4 else a

/-- The gate weights' gradient with one more row block, -/
abbrev newDwg (x0 : Vec F S512x1024 .bf16) (x1 x2 : Vec F S1x512x704 .f32) (x3 : Vec F S512x1024 .bf16) (x6 : Vec F S1x704x1024 .bf16) (p : Vec F S1x704x1024 .f32) : Vec F S1x704x1024 .f32 :=
  k0_pay19 (k0_pay7 x0) (k0_pay8 x1) (k0_pay15 x1 x2 x3 x6) (k0_pay16 x1) p
/-- the up weights' -/
abbrev newDwu (x0 : Vec F S512x1024 .bf16) (x1 : Vec F S1x512x704 .f32) (x3 : Vec F S512x1024 .bf16) (x6 : Vec F S1x704x1024 .bf16) (p : Vec F S1x704x1024 .f32) : Vec F S1x704x1024 .f32 :=
  k0_pay20 (k0_pay7 x0) (k0_pay12 x1) (k0_pay13 x3 x6) p
/-- and the down weights'. -/
abbrev newDwd (x1 x2 : Vec F S1x512x704 .f32) (x3 : Vec F S512x1024 .bf16) (p : Vec F S1x704x1024 .f32) : Vec F S1x704x1024 .f32 := k0_pay14 x1 x2 x3 p
/-- One chip's share of a row block of the input's gradient. -/
abbrev dzPart (x1 x2 : Vec F S1x512x704 .f32) (x3 : Vec F S512x1024 .bf16) (x4 x5 x6 : Vec F S1x704x1024 .bf16) : Vec F S512x1024 .f32 :=
  k0_pay21 (k0_pay8 x1) (k0_pay12 x1) (k0_pay13 x3 x6) (k0_pay15 x1 x2 x3 x6) (k0_pay16 x1) x4 x5

/-- The running sums' rows after the body, -/
def newScr (i : grid0.Coords) (z : Vec F S512x1024 .f32) (s : Vec F S4096x1024 .f32) : Vec F S4096x1024 .f32 :=
  if k0_cond2 i = 1#1 then VecWindow.put s (k0_off1 i) S512x1024.size (k0_pay1 z)
  else if h : k0_cond3 i = 1#1 then VecWindow.put s (k0_off2 i) S512x1024.size (k0_pay2 z (VecWindow.window s (k0_off2 i) S512x1024.size (k0_off2_inb i h)))
  else s
/-- and the block of the input's gradient. -/
def newDz (i : grid0.Coords) (z : Vec F S512x1024 .f32) (s : Vec F S4096x1024 .f32) (a : Vec F S512x1024 .f32) : Vec F S512x1024 .f32 :=
  if h : k0_cond4 i = 1#1 then k0_pay3 z (VecWindow.window s (k0_off3 i) S512x1024.size (k0_off3_inb i h)) else a

set_option maxHeartbeats 1600000 in
/-- The first part of the body. -/
theorem part1 (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x0 : Vec F S512x1024 .bf16) (x1 x2 : Vec F S1x512x704 .f32) (x3 : Vec F S512x1024 .bf16) (x4 x5 x6 : Vec F S1x704x1024 .bf16) (a9 a10 a11 : Vec F S1x704x1024 .f32)
    (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare a9 ∗ owns (c : Thread nD τ) arg10 fullShare a10 ∗ owns (c : Thread nD τ) arg11 fullShare a11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6 ∗ owns (c : Thread nD τ) arg9 fullShare (start i a9) ∗ owns (c : Thread nD τ) arg10 fullShare (start i a10) ∗ owns (c : Thread nD τ) arg11 fullShare (newDwd x1 x2 x3 (start i a11)))
          -∗ K ⟨BitVec.ofNat 32 (i 0).val, Scalar.muli (BitVec.ofNat 32 (i 1).val) 512#32, k0_pay7 x0, k0_pay8 x1, k0_pay12 x1, k0_pay13 x3 x6, k0_pay15 x1 x2 x3 x6, k0_pay16 x1⟩))
    ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  have r0 : View.readAt (Elt F) arg2.view (Rect.unit (s := S512x1024) ![0, 0] ![512, 1024] inb_S512x1024_S512x1024_0_0).toLoadRect f0 = x0 := (View.readAt_full (s := S512x1024) arg2.view f0 inb_S512x1024_S512x1024_0_0).trans hf0
  have r1 : View.readAt (Elt F) arg3.view (Rect.unit (s := S1x512x704) ![0, 0, 0] ![1, 512, 704] inb_S1x512x704_S1x512x704_0_0_0).toLoadRect f1 = x1 := (View.readAt_full (s := S1x512x704) arg3.view f1 inb_S1x512x704_S1x512x704_0_0_0).trans hf1
  have r2 : View.readAt (Elt F) arg4.view (Rect.unit (s := S1x512x704) ![0, 0, 0] ![1, 512, 704] inb_S1x512x704_S1x512x704_0_0_0).toLoadRect f2 = x2 := (View.readAt_full (s := S1x512x704) arg4.view f2 inb_S1x512x704_S1x512x704_0_0_0).trans hf2
  have r3 : View.readAt (Elt F) arg5.view (Rect.unit (s := S512x1024) ![0, 0] ![512, 1024] inb_S512x1024_S512x1024_0_0).toLoadRect f3 = x3 := (View.readAt_full (s := S512x1024) arg5.view f3 inb_S512x1024_S512x1024_0_0).trans hf3
  have r6 : View.readAt (Elt F) arg8.view (Rect.unit (s := S1x704x1024) ![0, 0, 0] ![1, 704, 1024] inb_S1x704x1024_S1x704x1024_0_0_0).toLoadRect f6 = x6 := (View.readAt_full (s := S1x704x1024) arg8.view f6 inb_S1x704x1024_S1x704x1024_0_0_0).trans hf6
  have r9 : View.readAt (Elt F) arg11.view (Rect.unit (s := S1x704x1024) ![0, 0, 0] ![1, 704, 1024] inb_S1x704x1024_S1x704x1024_0_0_0).toLoadRect f9 = a11 := (View.readAt_full (s := S1x704x1024) arg11.view f9 inb_S1x704x1024_S1x704x1024_0_0_0).trans hf9
  by_cases hc0 : first i
  · sl_exec (disch := first | sl_exact hc0)
    sl_step
    sl_unfold_words
    simp only [r0, r1, r2, r3, r6, r9]
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H6]
    · iexists _; isplitr; swap; · iexact H6
      ipureintro; exact hf6
    isplitl [H7]
    · iexists _; isplitr; swap; · iexact H7
      ipureintro; simp only [start, if_pos hc0]; exact View.read_writes_full (s := S1x704x1024) arg9.view f7 inb_S1x704x1024_S1x704x1024_0_0_0 _ _
    isplitl [H8]
    · iexists _; isplitr; swap; · iexact H8
      ipureintro; simp only [start, if_pos hc0]; exact View.read_writes_full (s := S1x704x1024) arg10.view f8 inb_S1x704x1024_S1x704x1024_0_0_0 _ _
    iexists _; isplitr; swap; · iexact H9
    ipureintro; simp only [start, if_pos hc0]; exact (View.read_writes_full (s := S1x704x1024) arg11.view f9 inb_S1x704x1024_S1x704x1024_0_0_0 _ _).trans (congrArg (k0_pay14 x1 x2 x3) (View.readCov_full (s := S1x704x1024) arg11.view inb_S1x704x1024_S1x704x1024_0_0_0 inb_S1x704x1024_S1x704x1024_0_0_0 _ []))
  · sl_exec (disch := first | sl_exact hc0)
    sl_step
    sl_unfold_words
    simp only [r0, r1, r2, r3, r6, r9]
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H6]
    · iexists _; isplitr; swap; · iexact H6
      ipureintro; exact hf6
    isplitl [H7]
    · iexists _; isplitr; swap; · iexact H7
      ipureintro; simp only [start, if_neg hc0]; exact hf7
    isplitl [H8]
    · iexists _; isplitr; swap; · iexact H8
      ipureintro; simp only [start, if_neg hc0]; exact hf8
    iexists _; isplitr; swap; · iexact H9
    ipureintro; simp only [start, if_neg hc0]; exact View.read_writes_full (s := S1x704x1024) arg11.view f9 inb_S1x704x1024_S1x704x1024_0_0_0 _ []

/-- What the body does on whole staging memrefs. -/
abbrev Runs (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x0 : Vec F S512x1024 .bf16) (x1 x2 : Vec F S1x512x704 .f32) (x3 : Vec F S512x1024 .bf16) (x4 x5 x6 : Vec F S1x704x1024 .bf16) (a9 a10 a11 : Vec F S1x704x1024 .f32) (a12 : Vec F S512x1024 .f32) (s : Vec F S4096x1024 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare a9 ∗ owns (c : Thread nD τ) arg10 fullShare a10 ∗ owns (c : Thread nD τ) arg11 fullShare a11 ∗ owns (c : Thread nD τ) arg12 fullShare a12 ∗ owns (c : Thread nD τ) arg13 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (newDwg x0 x1 x2 x3 x6 (start i a9)) ∗ owns (c : Thread nD τ) arg10 fullShare (newDwu x0 x1 x3 x6 (start i a10)) ∗ owns (c : Thread nD τ) arg11 fullShare (newDwd x1 x2 x3 (start i a11)) ∗ owns (c : Thread nD τ) arg12 fullShare (newDz i (dzPart x1 x2 x3 x4 x5 x6) s a12) ∗ owns (c : Thread nD τ) arg13 fullShare (newScr i (dzPart x1 x2 x3 x4 x5 x6) s)) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K

set_option maxHeartbeats 3200000 in
theorem run_A (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x0 : Vec F S512x1024 .bf16) (x1 x2 : Vec F S1x512x704 .f32) (x3 : Vec F S512x1024 .bf16) (x4 x5 x6 : Vec F S1x704x1024 .bf16) (a9 a10 a11 : Vec F S1x704x1024 .f32) (a12 : Vec F S512x1024 .f32) (s : Vec F S4096x1024 .f32) (hc2 : k0_cond2 i = 1#1) (hc3 : ¬k0_cond3 i = 1#1) (hc4 : ¬k0_cond4 i = 1#1) :
    Runs c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 a12 s := by
    intro E K
    simp only [cc0_ffn_bwd_eq_skeleton]; unfold cc0_ffn_bwd_skel
    iintro ⟨H0, H1, H2, H3, H4, H5, H6, H7, H8, H9, H10, H11, Hk⟩
    rw [wp_bind]
    iapply (part1 c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 E)
    isplitl [H0]; · iexact H0
    isplitl [H1]; · iexact H1
    isplitl [H2]; · iexact H2
    isplitl [H3]; · iexact H3
    isplitl [H6]; · iexact H6
    isplitl [H7]; · iexact H7
    isplitl [H8]; · iexact H8
    isplitl [H9]; · iexact H9
    iintro ⟨H0, H1, H2, H3, H6, H7, H8, H9⟩
    unfold owns
    icases H4 with ⟨%f4, %hf4, H4⟩
    icases H5 with ⟨%f5, %hf5, H5⟩
    icases H7 with ⟨%f7, %hf7, H7⟩
    icases H8 with ⟨%f8, %hf8, H8⟩
    icases H10 with ⟨%f10, %hf10, H10⟩
    icases H11 with ⟨%f11, %hf11, H11⟩
    have r4 : View.readAt (Elt F) arg6.view (Rect.unit (s := S1x704x1024) ![0, 0, 0] ![1, 704, 1024] inb_S1x704x1024_S1x704x1024_0_0_0).toLoadRect f4 = x4 := (View.readAt_full (s := S1x704x1024) arg6.view f4 inb_S1x704x1024_S1x704x1024_0_0_0).trans hf4
    have r5 : View.readAt (Elt F) arg7.view (Rect.unit (s := S1x704x1024) ![0, 0, 0] ![1, 704, 1024] inb_S1x704x1024_S1x704x1024_0_0_0).toLoadRect f5 = x5 := (View.readAt_full (s := S1x704x1024) arg7.view f5 inb_S1x704x1024_S1x704x1024_0_0_0).trans hf5
    have r7 : View.readAt (Elt F) arg9.view (Rect.unit (s := S1x704x1024) ![0, 0, 0] ![1, 704, 1024] inb_S1x704x1024_S1x704x1024_0_0_0).toLoadRect f7 = start i a9 := (View.readAt_full (s := S1x704x1024) arg9.view f7 inb_S1x704x1024_S1x704x1024_0_0_0).trans hf7
    have r8 : View.readAt (Elt F) arg10.view (Rect.unit (s := S1x704x1024) ![0, 0, 0] ![1, 704, 1024] inb_S1x704x1024_S1x704x1024_0_0_0).toLoadRect f8 = start i a10 := (View.readAt_full (s := S1x704x1024) arg10.view f8 inb_S1x704x1024_S1x704x1024_0_0_0).trans hf8
    skip
    simp only [k0_part2_eq_skeleton]
    sl_exec (disch := first | sl_exact hc2 | sl_exact hc3 | sl_exact hc4)
    sl_step
    sl_unfold_words
    simp only [r4, r5, r7, r8]
    iapply Hk
    isplitl [H0]; · iexact H0
    isplitl [H1]; · iexact H1
    isplitl [H2]; · iexact H2
    isplitl [H3]; · iexact H3
    isplitl [H4]
    · iexists _; isplitr; swap; · iexact H4
      ipureintro; exact hf4
    isplitl [H5]
    · iexists _; isplitr; swap; · iexact H5
      ipureintro; exact hf5
    isplitl [H6]; · iexact H6
    isplitl [H7]
    · iexists _; isplitr; swap; · iexact H7
      ipureintro; exact View.read_writes_full (s := S1x704x1024) arg9.view f7 inb_S1x704x1024_S1x704x1024_0_0_0 _ []
    isplitl [H8]
    · iexists _; isplitr; swap; · iexact H8
      ipureintro; exact View.read_writes_full (s := S1x704x1024) arg10.view f8 inb_S1x704x1024_S1x704x1024_0_0_0 _ []
    isplitl [H9]; · iexact H9
    isplitl [H10]
    · iexists _; isplitr; swap; · iexact H10
      ipureintro; simp only [newDz, dif_neg hc4]; exact hf10
    iexists _; isplitr; swap; · iexact H11
    ipureintro; simp only [newScr, if_pos hc2]; exact (View.read_writes_cons_put arg13.view f11 (k0_off1_inb i hc2) (k0_pay1 (dzPart x1 x2 x3 x4 x5 x6)) [] rfl).trans (by rw [View.writes_nil, hf11])

set_option maxHeartbeats 3200000 in
theorem run_B (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x0 : Vec F S512x1024 .bf16) (x1 x2 : Vec F S1x512x704 .f32) (x3 : Vec F S512x1024 .bf16) (x4 x5 x6 : Vec F S1x704x1024 .bf16) (a9 a10 a11 : Vec F S1x704x1024 .f32) (a12 : Vec F S512x1024 .f32) (s : Vec F S4096x1024 .f32) (hc2 : ¬k0_cond2 i = 1#1) (hc3 : k0_cond3 i = 1#1) (hc4 : ¬k0_cond4 i = 1#1) :
    Runs c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 a12 s := by
    intro E K
    simp only [cc0_ffn_bwd_eq_skeleton]; unfold cc0_ffn_bwd_skel
    iintro ⟨H0, H1, H2, H3, H4, H5, H6, H7, H8, H9, H10, H11, Hk⟩
    rw [wp_bind]
    iapply (part1 c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 E)
    isplitl [H0]; · iexact H0
    isplitl [H1]; · iexact H1
    isplitl [H2]; · iexact H2
    isplitl [H3]; · iexact H3
    isplitl [H6]; · iexact H6
    isplitl [H7]; · iexact H7
    isplitl [H8]; · iexact H8
    isplitl [H9]; · iexact H9
    iintro ⟨H0, H1, H2, H3, H6, H7, H8, H9⟩
    unfold owns
    icases H4 with ⟨%f4, %hf4, H4⟩
    icases H5 with ⟨%f5, %hf5, H5⟩
    icases H7 with ⟨%f7, %hf7, H7⟩
    icases H8 with ⟨%f8, %hf8, H8⟩
    icases H10 with ⟨%f10, %hf10, H10⟩
    icases H11 with ⟨%f11, %hf11, H11⟩
    have r4 : View.readAt (Elt F) arg6.view (Rect.unit (s := S1x704x1024) ![0, 0, 0] ![1, 704, 1024] inb_S1x704x1024_S1x704x1024_0_0_0).toLoadRect f4 = x4 := (View.readAt_full (s := S1x704x1024) arg6.view f4 inb_S1x704x1024_S1x704x1024_0_0_0).trans hf4
    have r5 : View.readAt (Elt F) arg7.view (Rect.unit (s := S1x704x1024) ![0, 0, 0] ![1, 704, 1024] inb_S1x704x1024_S1x704x1024_0_0_0).toLoadRect f5 = x5 := (View.readAt_full (s := S1x704x1024) arg7.view f5 inb_S1x704x1024_S1x704x1024_0_0_0).trans hf5
    have r7 : View.readAt (Elt F) arg9.view (Rect.unit (s := S1x704x1024) ![0, 0, 0] ![1, 704, 1024] inb_S1x704x1024_S1x704x1024_0_0_0).toLoadRect f7 = start i a9 := (View.readAt_full (s := S1x704x1024) arg9.view f7 inb_S1x704x1024_S1x704x1024_0_0_0).trans hf7
    have r8 : View.readAt (Elt F) arg10.view (Rect.unit (s := S1x704x1024) ![0, 0, 0] ![1, 704, 1024] inb_S1x704x1024_S1x704x1024_0_0_0).toLoadRect f8 = start i a10 := (View.readAt_full (s := S1x704x1024) arg10.view f8 inb_S1x704x1024_S1x704x1024_0_0_0).trans hf8
    have r13 : View.readAt (Elt F) arg13.view (Rect.unit (s := S4096x1024) (k0_off2 i) ![512, 1024] (k0_off2_inb i hc3)).toLoadRect f11 = VecWindow.window s (k0_off2 i) S512x1024.size (k0_off2_inb i hc3) := (View.readAt_unit arg13.view f11 (k0_off2_inb i hc3) rfl (k0_off2_inb i hc3)).trans (by rw [hf11])
    simp only [k0_part2_eq_skeleton]
    sl_exec (disch := first | sl_exact hc2 | sl_exact hc3 | sl_exact hc4)
    sl_step
    sl_unfold_words
    simp only [r4, r5, r7, r8, r13]
    iapply Hk
    isplitl [H0]; · iexact H0
    isplitl [H1]; · iexact H1
    isplitl [H2]; · iexact H2
    isplitl [H3]; · iexact H3
    isplitl [H4]
    · iexists _; isplitr; swap; · iexact H4
      ipureintro; exact hf4
    isplitl [H5]
    · iexists _; isplitr; swap; · iexact H5
      ipureintro; exact hf5
    isplitl [H6]; · iexact H6
    isplitl [H7]
    · iexists _; isplitr; swap; · iexact H7
      ipureintro; exact View.read_writes_full (s := S1x704x1024) arg9.view f7 inb_S1x704x1024_S1x704x1024_0_0_0 _ []
    isplitl [H8]
    · iexists _; isplitr; swap; · iexact H8
      ipureintro; exact View.read_writes_full (s := S1x704x1024) arg10.view f8 inb_S1x704x1024_S1x704x1024_0_0_0 _ []
    isplitl [H9]; · iexact H9
    isplitl [H10]
    · iexists _; isplitr; swap; · iexact H10
      ipureintro; simp only [newDz, dif_neg hc4]; exact hf10
    iexists _; isplitr; swap; · iexact H11
    ipureintro; simp only [newScr, if_neg hc2, dif_pos hc3]; exact (View.read_writes_cons_put arg13.view f11 (k0_off2_inb i hc3) (k0_pay2 (dzPart x1 x2 x3 x4 x5 x6) (VecWindow.window s (k0_off2 i) S512x1024.size (k0_off2_inb i hc3))) [] rfl).trans (by rw [View.writes_nil, hf11])

set_option maxHeartbeats 3200000 in
theorem run_C (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x0 : Vec F S512x1024 .bf16) (x1 x2 : Vec F S1x512x704 .f32) (x3 : Vec F S512x1024 .bf16) (x4 x5 x6 : Vec F S1x704x1024 .bf16) (a9 a10 a11 : Vec F S1x704x1024 .f32) (a12 : Vec F S512x1024 .f32) (s : Vec F S4096x1024 .f32) (hc2 : ¬k0_cond2 i = 1#1) (hc3 : ¬k0_cond3 i = 1#1) (hc4 : k0_cond4 i = 1#1) :
    Runs c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 a12 s := by
    intro E K
    simp only [cc0_ffn_bwd_eq_skeleton]; unfold cc0_ffn_bwd_skel
    iintro ⟨H0, H1, H2, H3, H4, H5, H6, H7, H8, H9, H10, H11, Hk⟩
    rw [wp_bind]
    iapply (part1 c i arg2 harg2 arg3 harg3 arg4 harg4 arg5 harg5 arg6 harg6 arg7 harg7 arg8 harg8 arg9 harg9 arg10 harg10 arg11 harg11 arg12 harg12 arg13 harg13 x0 x1 x2 x3 x4 x5 x6 a9 a10 a11 E)
    isplitl [H0]; · iexact H0
    isplitl [H1]; · iexact H1
    isplitl [H2]; · iexact H2
    isplitl [H3]; · iexact H3
    isplitl [H6]; · iexact H6
    isplitl [H7]; · iexact H7
    isplitl [H8]; · iexact H8
    isplitl [H9]; · iexact H9
    iintro ⟨H0, H1, H2, H3, H6, H7, H8, H9⟩
    unfold owns
    icases H4 with ⟨%f4, %hf4, H4⟩
    icases H5 with ⟨%f5, %hf5, H5⟩
    icases H7 with ⟨%f7, %hf7, H7⟩
    icases H8 with ⟨%f8, %hf8, H8⟩
    icases H10 with ⟨%f10, %hf10, H10⟩
    icases H11 with ⟨%f11, %hf11, H11⟩
    have r4 : View.readAt (Elt F) arg6.view (Rect.unit (s := S1x704x1024) ![0, 0, 0] ![1, 704, 1024] inb_S1x704x1024_S1x704x1024_0_0_0).toLoadRect f4 = x4 := (View.readAt_full (s := S1x704x1024) arg6.view f4 inb_S1x704x1024_S1x704x1024_0_0_0).trans hf4
    have r5 : View.readAt (Elt F) arg7.view (Rect.unit (s := S1x704x1024) ![0, 0, 0] ![1, 704, 1024] inb_S1x704x1024_S1x704x1024_0_0_0).toLoadRect f5 = x5 := (View.readAt_full (s := S1x704x1024) arg7.view f5 inb_S1x704x1024_S1x704x1024_0_0_0).trans hf5
    have r7 : View.readAt (Elt F) arg9.view (Rect.unit (s := S1x704x1024) ![0, 0, 0] ![1, 704, 1024] inb_S1x704x1024_S1x704x1024_0_0_0).toLoadRect f7 = start i a9 := (View.readAt_full (s := S1x704x1024) arg9.view f7 inb_S1x704x1024_S1x704x1024_0_0_0).trans hf7
    have r8 : View.readAt (Elt F) arg10.view (Rect.unit (s := S1x704x1024) ![0, 0, 0] ![1, 704, 1024] inb_S1x704x1024_S1x704x1024_0_0_0).toLoadRect f8 = start i a10 := (View.readAt_full (s := S1x704x1024) arg10.view f8 inb_S1x704x1024_S1x704x1024_0_0_0).trans hf8
    have r13 : View.readAt (Elt F) arg13.view (Rect.unit (s := S4096x1024) (k0_off3 i) ![512, 1024] (k0_off3_inb i hc4)).toLoadRect f11 = VecWindow.window s (k0_off3 i) S512x1024.size (k0_off3_inb i hc4) := (View.readAt_unit arg13.view f11 (k0_off3_inb i hc4) rfl (k0_off3_inb i hc4)).trans (by rw [hf11])
    simp only [k0_part2_eq_skeleton]
    sl_exec (disch := first | sl_exact hc2 | sl_exact hc3 | sl_exact hc4)
    sl_step
    sl_unfold_words
    simp only [r4, r5, r7, r8, r13]
    iapply Hk
    isplitl [H0]; · iexact H0
    isplitl [H1]; · iexact H1
    isplitl [H2]; · iexact H2
    isplitl [H3]; · iexact H3
    isplitl [H4]
    · iexists _; isplitr; swap; · iexact H4
      ipureintro; exact hf4
    isplitl [H5]
    · iexists _; isplitr; swap; · iexact H5
      ipureintro; exact hf5
    isplitl [H6]; · iexact H6
    isplitl [H7]
    · iexists _; isplitr; swap; · iexact H7
      ipureintro; exact View.read_writes_full (s := S1x704x1024) arg9.view f7 inb_S1x704x1024_S1x704x1024_0_0_0 _ []
    isplitl [H8]
    · iexists _; isplitr; swap; · iexact H8
      ipureintro; exact View.read_writes_full (s := S1x704x1024) arg10.view f8 inb_S1x704x1024_S1x704x1024_0_0_0 _ []
    isplitl [H9]; · iexact H9
    isplitl [H10]
    · iexists _; isplitr; swap; · iexact H10
      ipureintro; simp only [newDz, dif_pos hc4]
      exact View.read_writes_full (s := S512x1024) arg12.view f10 inb_S512x1024_S512x1024_0_0 _ []
    iexists _; isplitr; swap; · iexact H11
    ipureintro; simp only [newScr, if_neg hc2, dif_neg hc3]; exact hf11

end Cert.FfnbK

end
-- ==== Proof.FfnbFrame.lean ====
module

public import proofs.«01_k».proof.Proof.FfnbRun
public import Idealize.ShloMosaic.Lib.Claim

@[expose] public section

set_option maxRecDepth 16384

noncomputable section

namespace Cert.FfnbK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBIdeal Cert.FfnBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x704 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x704 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x704x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x704x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x704x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x704x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev scM : Memref sig .tc .vmem S4096x1024 .f32 := Memref.whole cc0_scratch0

/-- The scratch operand as a memref owned at some contents. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The body at any point does what `Runs` says. -/
theorem runs (c : Dev nD) (t : Fin cfg0.N) (x0 : Vec F S512x1024 .bf16) (x1 x2 : Vec F S1x512x704 .f32) (x3 : Vec F S512x1024 .bf16) (x4 x5 x6 : Vec F S1x704x1024 .bf16) (a9 a10 a11 : Vec F S1x704x1024 .f32) (a12 : Vec F S512x1024 .f32) (s : Vec F S4096x1024 .f32) :
    Runs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) x0 x1 x2 x3 x4 x5 x6 a9 a10 a11 a12 s := by
  have e2 := cond2_iff t
  have e3 := cond3_iff t
  have e4 := cond4_iff t
  by_cases h1 : t.val < 8
  · exact run_A c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) _ _ _ _ _ _ _ _ _ _ _ _ (e2.mpr h1) (fun h => by have := e3.mp h; omega) (fun h => by have := e4.mp h; omega)
  by_cases h2 : t.val < 24
  · exact run_B c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) _ _ _ _ _ _ _ _ _ _ _ _ (fun h => h1 (e2.mp h)) (e3.mpr ⟨by omega, h2⟩) (fun h => by have := e4.mp h; omega)
  · exact run_C c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) _ _ _ _ _ _ _ _ _ _ _ _ (fun h => h1 (e2.mp h)) (fun h => by have := e3.mp h; omega) (e4.mpr (by omega))

/-! ## What a point leaves -/

/-- The grid's point number `n`. -/
def pt (n : ℕ) : Fin cfg0.N := ⟨n % 32, lt_of_lt_of_eq (Nat.mod_lt _ (by decide)) (show 32 = cfg0.N from N_0.symm)⟩

theorem pt_eq (t : Fin cfg0.N) : pt t.val = t := Fin.ext (Nat.mod_eq_of_lt (lt_of_lt_of_eq t.isLt (show cfg0.N = 32 from N_0)))

/-- A chip's share of the input's gradient at point `t`. -/
def dzAt (c : Dev nD) (t : Fin cfg0.N) : Vec F S512x1024 .f32 := dzPart (iblk m c 1 t) (iblk m c 2 t) (iblk m c 3 t) (iblk m c 4 t) (iblk m c 5 t) (iblk m c 6 t)

/-- The running sum over the chips, of row block `i`, after chip `j`'s share. -/
def accz (c : Dev nD) : ℕ → ℕ → Vec F S512x1024 .f32
  | 0, i => k0_pay1 (dzAt m c (pt i))
  | j + 1, i => k0_pay2 (dzAt m c (pt (8 * (j + 1) + i))) (accz c j i)

/-- The gate weights' gradient block after the body at position `n`. -/
def acc7 (c : Dev nD) : ℕ → Vec F S1x704x1024 .f32
  | 0 => newDwg (iblk m c 0 (pt 0)) (iblk m c 1 (pt 0)) (iblk m c 2 (pt 0)) (iblk m c 3 (pt 0)) (iblk m c 6 (pt 0)) k0_pay4
  | n + 1 => newDwg (iblk m c 0 (pt (n + 1))) (iblk m c 1 (pt (n + 1))) (iblk m c 2 (pt (n + 1))) (iblk m c 3 (pt (n + 1))) (iblk m c 6 (pt (n + 1))) (if (n + 1) % 8 = 0 then k0_pay4 else acc7 c n)

/-- The up weights' gradient block after the body at position `n`. -/
def acc8 (c : Dev nD) : ℕ → Vec F S1x704x1024 .f32
  | 0 => newDwu (iblk m c 0 (pt 0)) (iblk m c 1 (pt 0)) (iblk m c 3 (pt 0)) (iblk m c 6 (pt 0)) k0_pay4
  | n + 1 => newDwu (iblk m c 0 (pt (n + 1))) (iblk m c 1 (pt (n + 1))) (iblk m c 3 (pt (n + 1))) (iblk m c 6 (pt (n + 1))) (if (n + 1) % 8 = 0 then k0_pay4 else acc8 c n)

/-- The down weights' gradient block after the body at position `n`. -/
def acc9 (c : Dev nD) : ℕ → Vec F S1x704x1024 .f32
  | 0 => newDwd (iblk m c 1 (pt 0)) (iblk m c 2 (pt 0)) (iblk m c 3 (pt 0)) k0_pay4
  | n + 1 => newDwd (iblk m c 1 (pt (n + 1))) (iblk m c 2 (pt (n + 1))) (iblk m c 3 (pt (n + 1))) (if (n + 1) % 8 = 0 then k0_pay4 else acc9 c n)

/-- The rows of row block `u % 8` lie inside the running sums. -/
theorem rows_inb (u : ℕ) : ∀ a, (![512 * (u % 8), 0] : Fin 2 → ℕ) a + S512x1024.size a ≤ S4096x1024.size a := by
  intro a
  match a with
  | ⟨0, _⟩ => show 512 * (u % 8) + 512 ≤ 4096; omega
  | ⟨1, _⟩ => show 0 + 1024 ≤ 1024; omega

/-- The running sums before point `n`: each row block holds what the last body that stored it stored. -/
def Good (c : Dev nD) (n : ℕ) (s : Vec F S4096x1024 .f32) : Prop :=
  ∀ u : ℕ, u < 24 → u < n → n ≤ u + 8 → VecWindow.window s ![512 * (u % 8), 0] S512x1024.size (rows_inb u) = accz m c (u / 8) (u % 8)

theorem window_congr (s : Vec F S4096x1024 .f32) {off off' : Fin 2 → ℕ} (e : off = off') (h : ∀ a, off a + S512x1024.size a ≤ S4096x1024.size a) (h' : ∀ a, off' a + S512x1024.size a ≤ S4096x1024.size a) :
    VecWindow.window s off S512x1024.size h = VecWindow.window s off' S512x1024.size h' := by subst e; rfl

/-- One row block stored, the others stay. -/
theorem good_put (c : Dev nD) (n : ℕ) (s : Vec F S4096x1024 .f32) (z : Vec F S512x1024 .f32) (hs : Good m c n s)
    (hz : z = accz m c (n / 8) (n % 8)) : Good m c (n + 1) (VecWindow.put s ![512 * (n % 8), 0] S512x1024.size z) := by
  intro u h24 hu hn
  rcases Nat.lt_succ_iff_lt_or_eq.mp hu with h | rfl
  · refine (VecWindow.window_put_of_disjoint _ _ _ _ _ _ _ (0 : Fin 2) ?_).trans (hs u h24 h (by omega))
    have hne : u % 8 ≠ n % 8 := by omega
    show 512 * (u % 8) + 512 ≤ 512 * (n % 8) ∨ 512 * (n % 8) + 512 ≤ 512 * (u % 8)
    omega
  · exact (VecWindow.window_put_same _ _ _ _ _).trans hz

/-- The body keeps the running sums good. -/
theorem good_step (c : Dev nD) (t : Fin cfg0.N) (s : Vec F S4096x1024 .f32) (hs : Good m c t.val s) :
    Good m c (t.val + 1) (newScr (grid0.coords t) (dzAt m c t) s) := by
  have e2 := cond2_iff t
  have e3 := cond3_iff t
  unfold newScr
  by_cases h1 : t.val < 8
  · rw [if_pos (e2.mpr h1), off1_eq]
    refine good_put m c _ s _ hs ?_
    rw [show t.val / 8 = 0 by omega, show t.val % 8 = t.val by omega]
    show _ = k0_pay1 (dzAt m c (pt t.val)); rw [pt_eq]
  rw [if_neg (fun h => h1 (e2.mp h))]
  by_cases h2 : t.val < 24
  · rw [dif_pos (e3.mpr ⟨by omega, h2⟩), window_congr s (off2_eq t) _ (rows_inb t.val), off2_eq]
    refine good_put m c _ s _ hs ?_
    have em : (t.val - 8) % 8 = t.val % 8 := by omega
    have e : VecWindow.window s ![512 * (t.val % 8), 0] S512x1024.size (rows_inb t.val) = accz m c ((t.val - 8) / 8) (t.val % 8) :=
      (window_congr s (congrArg (fun r => ![512 * r, 0]) em.symm) _ (rows_inb (t.val - 8))).trans ((hs (t.val - 8) (by omega) (by omega) (by omega)).trans (congrArg (accz m c _) em))
    rw [e, show t.val / 8 = (t.val - 8) / 8 + 1 by omega]
    show _ = k0_pay2 (dzAt m c (pt (8 * ((t.val - 8) / 8 + 1) + t.val % 8))) _
    rw [show 8 * ((t.val - 8) / 8 + 1) + t.val % 8 = t.val by omega, pt_eq]
  · rw [dif_neg (fun h => by have := e3.mp h; omega)]
    exact fun u h24 hu hn => hs u h24 (by omega) (by omega)

/-- The input's gradient block the last chip's points store. -/
theorem dz_last (c : Dev nD) (t : Fin cfg0.N) (ht : 24 ≤ t.val) (s : Vec F S4096x1024 .f32) (a : Vec F S512x1024 .f32) (hs : Good m c t.val s) :
    newDz (grid0.coords t) (dzAt m c t) s a = k0_pay3 (dzAt m c t) (accz m c 2 (t.val % 8)) := by
  have hN : t.val < 32 := lt_of_lt_of_eq t.isLt (show cfg0.N = 32 from N_0)
  have em : (t.val - 8) % 8 = t.val % 8 := by omega
  have e : VecWindow.window s ![512 * (t.val % 8), 0] S512x1024.size (rows_inb t.val) = accz m c 2 (t.val % 8) :=
    (window_congr s (congrArg (fun r => ![512 * r, 0]) em.symm) _ (rows_inb (t.val - 8))).trans ((hs (t.val - 8) (by omega) (by omega) (by omega)).trans (congrArg₂ (accz m c) (by omega) em))
  rw [newDz, dif_pos ((cond4_iff t).mpr ht), window_congr s (off3_eq t) _ (rows_inb t.val), e]

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc7 m c t.val
    | ⟨8, _⟩ => acc8 m c t.val
    | ⟨9, _⟩ => acc9 m c t.val
    | ⟨10, _⟩ => k0_pay3 (dzAt m c t) (accz m c 2 (t.val % 8))
  Φ n := iprop((∃ s, ⌜Good m c n.val s⌝ ∗ owns (c : Thread nD τ) scM fullShare s) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = acc7 m c t.val := by dsimp only [dats]
theorem after0_8 (c : Dev nD) (t : Fin cfg0.N) : (dats m 0 c).after 8 t = acc8 m c t.val := by dsimp only [dats]
theorem after0_9 (c : Dev nD) (t : Fin cfg0.N) : (dats m 0 c).after 9 t = acc9 m c t.val := by dsimp only [dats]
theorem after0_10 (c : Dev nD) (t : Fin cfg0.N) : (dats m 0 c).after 10 t = k0_pay3 (dzAt m c t) (accz m c 2 (t.val % 8)) := by dsimp only [dats]

/-! Each input's staging buffer holds its block at every point. -/

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- One step of it, from whatever the pipeline hands over. -/
theorem acc7_step (c : Dev nD) (t : Fin cfg0.N) (d) :
    newDwg (iblk m c 0 t) (iblk m c 1 t) (iblk m c 2 t) (iblk m c 3 t) (iblk m c 6 t) (start (grid0.coords t) ((dats m 0 c).before 7 t d)) = acc7 m c t.val := by
  have hN : t.val < 32 := lt_of_lt_of_eq t.isLt (show cfg0.N = 32 from N_0)
  by_cases h0 : t.val % 8 = 0
  · rw [start, if_pos ((first_iff t).mpr h0)]
    obtain ⟨n, hn⟩ := t
    cases n with
    | zero => rfl
    | succ n => unfold acc7; rw [if_pos h0, pt_eq ⟨n + 1, hn⟩]
  · rw [start, if_neg (fun h => h0 ((first_iff t).mp h)), Dat.before_out_kept _ 7 rfl t (by omega) (Bool.eq_false_iff.mpr fun h => by have := (flush0_7 _).mp h; dsimp only at this; omega)
      (fun _ => rfl) (fun _ _ => rfl), after0_7]
    obtain ⟨n, hn⟩ := t
    cases n with
    | zero => exact absurd rfl h0
    | succ n => show _ = newDwg (iblk m c 0 (pt (n + 1))) (iblk m c 1 (pt (n + 1))) (iblk m c 2 (pt (n + 1))) (iblk m c 3 (pt (n + 1))) (iblk m c 6 (pt (n + 1))) (if (n + 1) % 8 = 0 then k0_pay4 else acc7 m c n); rw [if_neg h0, pt_eq ⟨n + 1, hn⟩]; rfl

/-- One step of it, from whatever the pipeline hands over. -/
theorem acc8_step (c : Dev nD) (t : Fin cfg0.N) (d) :
    newDwu (iblk m c 0 t) (iblk m c 1 t) (iblk m c 3 t) (iblk m c 6 t) (start (grid0.coords t) ((dats m 0 c).before 8 t d)) = acc8 m c t.val := by
  have hN : t.val < 32 := lt_of_lt_of_eq t.isLt (show cfg0.N = 32 from N_0)
  by_cases h0 : t.val % 8 = 0
  · rw [start, if_pos ((first_iff t).mpr h0)]
    obtain ⟨n, hn⟩ := t
    cases n with
    | zero => rfl
    | succ n => unfold acc8; rw [if_pos h0, pt_eq ⟨n + 1, hn⟩]
  · rw [start, if_neg (fun h => h0 ((first_iff t).mp h)), Dat.before_out_kept _ 8 rfl t (by omega) (Bool.eq_false_iff.mpr fun h => by have := (flush0_8 _).mp h; dsimp only at this; omega)
      (fun _ => rfl) (fun _ _ => rfl), after0_8]
    obtain ⟨n, hn⟩ := t
    cases n with
    | zero => exact absurd rfl h0
    | succ n => show _ = newDwu (iblk m c 0 (pt (n + 1))) (iblk m c 1 (pt (n + 1))) (iblk m c 3 (pt (n + 1))) (iblk m c 6 (pt (n + 1))) (if (n + 1) % 8 = 0 then k0_pay4 else acc8 m c n); rw [if_neg h0, pt_eq ⟨n + 1, hn⟩]; rfl

/-- One step of it, from whatever the pipeline hands over. -/
theorem acc9_step (c : Dev nD) (t : Fin cfg0.N) (d) :
    newDwd (iblk m c 1 t) (iblk m c 2 t) (iblk m c 3 t) (start (grid0.coords t) ((dats m 0 c).before 9 t d)) = acc9 m c t.val := by
  have hN : t.val < 32 := lt_of_lt_of_eq t.isLt (show cfg0.N = 32 from N_0)
  by_cases h0 : t.val % 8 = 0
  · rw [start, if_pos ((first_iff t).mpr h0)]
    obtain ⟨n, hn⟩ := t
    cases n with
    | zero => rfl
    | succ n => unfold acc9; rw [if_pos h0, pt_eq ⟨n + 1, hn⟩]
  · rw [start, if_neg (fun h => h0 ((first_iff t).mp h)), Dat.before_out_kept _ 9 rfl t (by omega) (Bool.eq_false_iff.mpr fun h => by have := (flush0_9 _).mp h; dsimp only at this; omega)
      (fun _ => rfl) (fun _ _ => rfl), after0_9]
    obtain ⟨n, hn⟩ := t
    cases n with
    | zero => exact absurd rfl h0
    | succ n => show _ = newDwd (iblk m c 1 (pt (n + 1))) (iblk m c 2 (pt (n + 1))) (iblk m c 3 (pt (n + 1))) (if (n + 1) % 8 = 0 then k0_pay4 else acc9 m c n); rw [if_neg h0, pt_eq ⟨n + 1, hn⟩]; rfl

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))

/-- how it leaves the input's gradient block: at the last chip's points stored, at the others as found, -/
def post10 (c : Dev nD) (t : Fin cfg0.N) : sProp 𝕄 :=
  if 24 ≤ t.val then owns (c : Thread nD τ) (ms0_10 t) fullShare ((dats m 0 c).after 10 t)
  else iprop(∃ d, owns (c : Thread nD τ) (ms0_10 t) fullShare ((dats m 0 c).before 10 t d))

/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ post10 m c t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9,
    show (dats m 0 c).Φ t.castSucc = iprop((∃ s, ⌜Good m c t.val s⌝ ∗ owns (c : Thread nD τ) scM fullShare s) ∗ (∃ r, prngReg c r)) from rfl,
    show (dats m 0 c).Φ t.succ = iprop((∃ s, ⌜Good m c (t.val + 1) s⌝ ∗ owns (c : Thread nD τ) scM fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runs c t (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  rw [acc7_step, acc8_step, acc9_step]
  isplitl [HS Hg]
  · isplitl [HS]
    · iexists _; isplitr; swap; · iexact HS
      ipureintro; exact good_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold post10
  by_cases h : 24 ≤ t.val
  · rw [if_pos h, after0_10, ← dz_last m c t h s ((dats m 0 c).before 10 t d10) hs]; iexact H10
  · rw [if_neg h]; iexists d10
    have e : newDz (grid0.coords t) (dzPart (iblk m c 1 t) (iblk m c 2 t) (iblk m c 3 t) (iblk m c 4 t) (iblk m c 5 t) (iblk m c 6 t)) s ((dats m 0 c).before 10 t d10) = (dats m 0 c).before 10 t d10 := by
      rw [newDz, dif_neg (fun hc => h ((cond4_iff t).mp hc))]
    rw [e]; iexact H10

theorem defs₀_row (t : Fin cfg0.N) :
    defs₀ (F := F) .tc cfg0.body (cfg0.bodyArgs t (cfg0.slots t)) = bodyAt0 t := by
  unfold defs₀; rw [Defs.onTc_tc]

/-- The obligation on the input's gradient block, its cases. -/
theorem post10_of (c : Dev nD) (t : Fin cfg0.N) : post10 m c t ⊢ ((dats m 0 c).leavesExact 10 t : sProp 𝕄) := by
  unfold post10 Dat.leavesExact
  by_cases h : 24 ≤ t.val
  · have hi : cfg0.idle 10 (cfg0.grid.coords t) = false := by
      show (!(k0_cond4 (grid0.coords t) == 1#1)) = false
      rw [(cond4_iff t).mpr h]; rfl
    rw [if_pos h, hi]
  · have hi : cfg0.idle 10 (cfg0.grid.coords t) = true := by
      show (!(k0_cond4 (grid0.coords t) == 1#1)) = true
      rw [beq_eq_false_iff_ne.mpr (fun hc => h ((cond4_iff t).mp hc))]; rfl
    rw [if_neg h, hi, flush_none t (by omega)]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl (sep_mono .rfl (sep_mono .rfl (sep_mono .rfl (sep_mono .rfl (sep_mono .rfl (post10_of m c t))))))))))))

set_option backward.isDefEq.respectTransparency.types false in
/-- The launch: the arrays end at what the pipeline computes from the proof data, the counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show Pipeline.ΦA spec0 c ⊢ iprop((∃ s, ⌜Good m c 0 s⌝ ∗ owns (c : Thread nD τ) scM fullShare s) ∗ (∃ r, prngReg c r))
      rw [PhiA0_eq]
      iintro ⟨⟨%d, H⟩, Hg⟩
      isplitl [H]
      · iexists d; isplitr; swap; · iexact H
        ipureintro; exact fun u _ h _ => absurd h (Nat.not_lt_zero u)
      iexact Hg)
    (hout := fun c => by
      show iprop((∃ s, ⌜Good m c (Fin.last cfg0.N).val s⌝ ∗ owns (c : Thread nD τ) scM fullShare s) ∗ (∃ r, prngReg c r)) ⊢ Pipeline.ΦA spec0 c
      rw [PhiA0_eq]
      iintro ⟨⟨%d, -, H⟩, Hg⟩
      isplitl [H]; · iexists d; iexact H
      iexact Hg)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.FfnbK

end
-- ==== Proof.FfnbPlain.lean ====
/- The frame of the gated layer's backward as the version has it, from the one of its idealized copy: the two have the same text. -/
module

public import proofs.«01_k».proof.Defs
public import proofs.«01_k».proof.Proof.Gen.FfnB
public import proofs.«01_k».proof.Proof.FfnbFrame

@[expose] public section

set_option maxRecDepth 65536

noncomputable section

namespace Cert.FfnbK

open Idealize.ShloMosaic Idealize.ShloMosaic.TcCoe Idealize.ShloMosaic.Tactic Idealize.SL.Sem

section
open Cert.FfnBIdeal Cert.FfnBIdeal.Gen
/-- The frame of the idealized copy's text at bit patterns. -/
def FrameBits : Prop :=
  ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_bits : FrameBits := fun m ρ _ => frame m ρ
end

/-- It is the frame of the version's own text. -/
theorem bits_eq_plain : FrameBits = quiescent_FfnB (hFfnB := Cert.FfnB.Gen.facts) := by sl_kernel_rfl

theorem frame_plain : quiescent_FfnB (hFfnB := Cert.FfnB.Gen.facts) := bits_eq_plain.mp frame_bits

end Cert.FfnbK

end
-- ==== Proof.FfnbPay.lean ====
/- The gated layer's gradients in real numbers, and what one body of the kernel computes from blocks of real numbers. -/
module

public import proofs.«01_k».proof.Proof.FfnbFrame
public import proofs.«01_k».proof.Proof.Spec

@[expose] public section

set_option maxRecDepth 16384

noncomputable section

open Idealize.ShloMosaic Idealize.ShloMosaic.TcCoe Idealize.SL.Sem

namespace Cert.FfnbV

open Cert.FfnBIdeal Cert.FfnBIdeal.Gen Base Spec Cert.FfnbK

/-- The logistic function. -/
def sg (x : ℝ) : ℝ := (1 + Real.exp (-x))⁻¹
/-- The gradients of the gate's and the up product's entries, from the entries `g` and `u` and the gradient `b` of their gated product. -/
def dgf (g u b : ℝ) : ℝ := b * u * sg g * (1 + g * (1 - sg g))
def duf (g b : ℝ) : ℝ := b * (g * sg g)

/-- The arguments as real numbers. -/
structure Args where
  z : Fin 4096 → Fin 1024 → ℝ
  dy : Fin 4096 → Fin 1024 → ℝ
  wg : Fin 1024 → Fin 2816 → ℝ
  wu : Fin 1024 → Fin 2816 → ℝ
  wd : Fin 2816 → Fin 1024 → ℝ

namespace Args
variable (A : Args) (s : Fin 4096) (f : Fin 2816) (l : Fin 1024)

def g : ℝ := lin (A.z s) A.wg f
def u : ℝ := lin (A.z s) A.wu f
/-- The gradient of the gated product. -/
def b : ℝ := ∑ k, A.dy s k * A.wd f k
def dg : ℝ := dgf (A.g s f) (A.u s f) (A.b s f)
def du : ℝ := duf (A.g s f) (A.b s f)
/-- The gradients of the three weights and of the input. -/
def dwg : ℝ := ∑ s, A.dg s f * A.z s l
def dwu : ℝ := ∑ s, A.du s f * A.z s l
def dwd : ℝ := ∑ s, act (A.g s f) (A.u s f) * A.dy s l
def dz : ℝ := (∑ f, A.dg s f * A.wg l f) + ∑ f, A.du s f * A.wu l f

/-- The part of the input's gradient that the columns of chip `j` give. -/
def share (j : Fin 4) : ℝ := (∑ f : Fin 704, A.dg s (sh j f) * A.wg l (sh j f)) + ∑ f : Fin 704, A.du s (sh j f) * A.wu l (sh j f)

theorem dz_shares : A.dz s l = A.share s l 0 + A.share s l 1 + A.share s l 2 + A.share s l 3 := by
  unfold dz share
  rw [sum_shards, sum_shards]
  ring

end Args

theorem logistic_at (g : ℝ) : Ideal.logistic (g : EReal) = (sg g : EReal) := Ideal.logistic_coe g

theorem one_f32 : Ideal.ofBits .f32 0x3F800000#32 = ((1 : ℝ) : EReal) := by
  simp [Ideal.ofBits, Ideal.ieee, -EReal.coe_mul]; try norm_num

section pay
variable {x0 x3 : Vec Ideal S512x1024 .bf16} {x1 x2 : Vec Ideal S1x512x704 .f32} {x4 x5 x6 : Vec Ideal S1x704x1024 .bf16}
  {z d : Fin 512 → Fin 1024 → ℝ} {g u : Fin 512 → Fin 704 → ℝ} {wg wu wd : Fin 704 → Fin 1024 → ℝ}
  (h0 : ∀ r k, x0 (ix2 r k) = (z r k : EReal)) (h3 : ∀ r k, x3 (ix2 r k) = (d r k : EReal))
  (h1 : ∀ r f, x1 (ix3 0 r f) = (g r f : EReal)) (h2 : ∀ r f, x2 (ix3 0 r f) = (u r f : EReal))
  (h4 : ∀ f k, x4 (ix3 0 f k) = (wg f k : EReal)) (h5 : ∀ f k, x5 (ix3 0 f k) = (wu f k : EReal))
  (h6 : ∀ f k, x6 (ix3 0 f k) = (wd f k : EReal))
  (p : Vec Ideal S1x704x1024 .f32) (r : Fin 512) (f : Fin 704) (l : Fin 1024)

section
include h0
theorem pay7 : k0_pay7 x0 (ix2 r l) = (z r l : EReal) := by pointwise [k0_pay7]; exact h0 r l
end

section
include h1
theorem pay8 : k0_pay8 x1 (ix2 r f) = (g r f : EReal) := by pointwise [k0_pay8]; exact h1 r f

theorem pay11 : k0_pay11 x1 (ix2 r f) = (sg (g r f) : EReal) := by
  pointwise [k0_pay11]; rw [pay8 h1, logistic_at]

theorem pay12 : k0_pay12 x1 (ix2 r f) = ((g r f * sg (g r f) : ℝ) : EReal) := by
  pointwise [k0_pay12]; rw [pay8 h1, pay11 h1, ← EReal.coe_mul]

theorem pay16 : k0_pay16 x1 (ix2 r f) = ((1 - sg (g r f) : ℝ) : EReal) := by
  pointwise [k0_pay16]; simp only [pay11 h1, one_f32, ← EReal.coe_one, ← EReal.coe_sub]
end

section
include h3
theorem pay10 : k0_pay10 x3 (ix2 r l) = (d r l : EReal) := by pointwise [k0_pay10]; exact h3 r l

include h6
theorem pay13 : k0_pay13 x3 x6 (ix2 r f) = ((∑ k, d r k * wd f k : ℝ) : EReal) := by
  pointwise [k0_pay13]
  simp only [pay10 h3, h6, ← EReal.coe_mul, coe_sum, zero_add]
end

section
include h2
theorem pay9 : k0_pay9 x2 (ix2 r f) = (u r f : EReal) := by pointwise [k0_pay9]; exact h2 r f
end

section
include h1 h2 h3 h6
theorem pay15 : k0_pay15 x1 x2 x3 x6 (ix2 r f) = (((∑ k, d r k * wd f k) * u r f * sg (g r f) : ℝ) : EReal) := by
  pointwise [k0_pay15]
  rw [pay13 h3 h6, pay9 h2, pay11 h1, ← EReal.coe_mul, ← EReal.coe_mul]

theorem pay17 : k0_pay17 (k0_pay8 x1) (k0_pay15 x1 x2 x3 x6) (k0_pay16 x1) (ix2 r f)
    = (dgf (g r f) (u r f) (∑ k, d r k * wd f k) : EReal) := by
  pointwise [k0_pay17]
  simp only [pay15 h3 h1 h2 h6, pay8 h1, pay16 h1, one_f32, ← EReal.coe_one, ← EReal.coe_mul, ← EReal.coe_add]
  rfl
end

section
include h1 h3 h6
theorem pay18 : k0_pay18 (k0_pay12 x1) (k0_pay13 x3 x6) (ix2 r f) = (duf (g r f) (∑ k, d r k * wd f k) : EReal) := by
  pointwise [k0_pay18]
  rw [pay13 h3 h6, pay12 h1, ← EReal.coe_mul]; rfl
end

section
include h0 h1 h2 h3 h6
theorem newDwg_at : newDwg x0 x1 x2 x3 x6 p (ix3 0 f l)
    = p (ix3 0 f l) + ((∑ r, dgf (g r f) (u r f) (∑ k, d r k * wd f k) * z r l : ℝ) : EReal) := by
  unfold newDwg
  pointwise [k0_pay19]
  simp only [pay17 h3 h1 h2 h6, pay7 h0, ← EReal.coe_mul, coe_sum, zero_add]
end

section
include h0 h1 h3 h6
theorem newDwu_at : newDwu x0 x1 x3 x6 p (ix3 0 f l)
    = p (ix3 0 f l) + ((∑ r, duf (g r f) (∑ k, d r k * wd f k) * z r l : ℝ) : EReal) := by
  unfold newDwu
  pointwise [k0_pay20]
  simp only [pay18 h3 h1 h6, pay7 h0, ← EReal.coe_mul, coe_sum, zero_add]
end

section
include h1 h2 h3
theorem newDwd_at : newDwd x1 x2 x3 p (ix3 0 f l) = p (ix3 0 f l) + ((∑ r, act (g r f) (u r f) * d r l : ℝ) : EReal) := by
  unfold newDwd
  pointwise [k0_pay14]
  simp only [pay12 h1, pay9 h2, pay10 h3, ← EReal.coe_mul, coe_sum, zero_add]
  rfl
end

section
include h1 h2 h3 h4 h5 h6
theorem dzPart_at : dzPart x1 x2 x3 x4 x5 x6 (ix2 r l)
    = (((∑ f, dgf (g r f) (u r f) (∑ k, d r k * wd f k) * wg f l) + ∑ f, duf (g r f) (∑ k, d r k * wd f k) * wu f l : ℝ) : EReal) := by
  unfold dzPart
  pointwise [k0_pay21]
  simp only [pay17 h3 h1 h2 h6, pay18 h3 h1 h6, h4, h5, ← EReal.coe_mul, coe_sum, zero_add, ← EReal.coe_add]
end

end pay

end Cert.FfnbV

end
-- ==== Proof.FfnbBlocks.lean ====
/- What the kernel's input blocks hold when its arguments are real numbers. -/
module

public import proofs.«01_k».proof.Proof.FfnbPay

@[expose] public section

set_option maxRecDepth 16384

noncomputable section

open Idealize.ShloMosaic Idealize.ShloMosaic.TcCoe Idealize.SL.Sem

namespace Cert.FfnbV

open Cert.FfnBIdeal Cert.FfnBIdeal.Gen Base Spec Cert.FfnbK

/-- The argument arrays of core `c` hold the real numbers `A`. -/
structure Holds (m : (ℓ : Loc nD τ sig) → Buf (Elt Ideal) ℓ) (c : Dev nD) (A : FfnbV.Args) : Prop where
  z : ∀ s k, m ((c : Thread nD τ).loc main_arg0) (ix2 s k) = (A.z s k : EReal)
  dy : ∀ s k, m ((c : Thread nD τ).loc main_arg1) (ix2 s k) = (A.dy s k : EReal)
  wg : ∀ k f, m ((c : Thread nD τ).loc main_arg2) (ix2 k f) = (A.wg k f : EReal)
  wu : ∀ k f, m ((c : Thread nD τ).loc main_arg3) (ix2 k f) = (A.wu k f : EReal)
  wd : ∀ f k, m ((c : Thread nD τ).loc main_arg4) (ix2 f k) = (A.wd f k : EReal)

variable {m : (ℓ : Loc nD τ sig) → Buf (Elt Ideal) ℓ} {c : Dev nD} {A : FfnbV.Args} (H : Holds m c A)

/-- Row `r` of row block `n`, the blocks counted around. -/
def row (n : ℕ) (r : Fin 512) : Fin 4096 := ⟨n % 8 * 512 + r.val, by omega⟩
/-- The chip whose columns point `t` works on. -/
def chip (t : Fin cfg0.N) : Fin 4 := ⟨t.val / 8, by have h : t.val < 32 := t.isLt; omega⟩

include H

theorem V14 (s : Fin 4096) (k : Fin 1024) : (V m c main_v14 : S4096x1024.Idx → EReal) (ix2 s k) = (A.z s k : EReal) := by
  rw [← H.z]
  show StableHlo.after hostOps0 _ (Proc.devRef .tc main_v14) _ = _
  after_results
  rfl

theorem V15 (s : Fin 4096) (k : Fin 1024) : (V m c main_v15 : S4096x1024.Idx → EReal) (ix2 s k) = (A.dy s k : EReal) := by
  rw [← H.dy]
  show StableHlo.after hostOps0 _ (Proc.devRef .tc main_v15) _ = _
  after_results
  rfl

theorem V2 (j : Fin 4) (f : Fin 704) (k : Fin 1024) : (V m c main_v2 : S4x704x1024.Idx → EReal) (ix3 j f k) = (A.wg k (sh j f) : EReal) := by
  rw [← H.wg]
  show StableHlo.after hostOps0 _ (Proc.devRef .tc main_v2) _ = _
  after_results
  pointwise
  rfl

theorem V5 (j : Fin 4) (f : Fin 704) (k : Fin 1024) : (V m c main_v5 : S4x704x1024.Idx → EReal) (ix3 j f k) = (A.wu k (sh j f) : EReal) := by
  rw [← H.wu]
  show StableHlo.after hostOps0 _ (Proc.devRef .tc main_v5) _ = _
  after_results
  pointwise
  rfl

theorem V7 (j : Fin 4) (f : Fin 704) (k : Fin 1024) : (V m c main_v7 : S4x704x1024.Idx → EReal) (ix3 j f k) = (A.wd (sh j f) k : EReal) := by
  rw [← H.wd]
  show StableHlo.after hostOps0 _ (Proc.devRef .tc main_v7) _ = _
  after_results
  pointwise
  rfl

omit H in
/-- A product of the input with a weight matrix, laid out by chip. -/
theorem byChip (X : FVec Ideal S4096x1024 .f32) (W : FVec Ideal S1024x2816 .f32) (j : Fin 4) (s : Fin 4096) (f : Fin 704) :
    transpose S4x4096x704 [1, 0, 2] (shapeCast S4096x4x704 (Host.dotGeneral (F := Ideal) dot_S4096x1024_S1024x2816_S4096x2816_1_0_0_1_n_n none X W)
      shapeCasts_S4096x2816_S4096x4x704) transposes_S4096x4x704_S4x4096x704_1_0_2 (ix3 j s f) = ∑ k : Fin 1024, X (ix2 s k) * W (ix2 k (sh j f)) := by
  have e : ∀ q : Fin 2816, Host.dotGeneral (F := Ideal) dot_S4096x1024_S1024x2816_S4096x2816_1_0_0_1_n_n none X W (ix2 s q) = ∑ k : Fin 1024, X (ix2 s k) * W (ix2 k q) := fun q => by pointwise
  rw [← e]
  generalize Host.dotGeneral (F := Ideal) dot_S4096x1024_S1024x2816_S4096x2816_1_0_0_1_n_n none X W = y
  pointwise
  rfl

theorem V10 (j : Fin 4) (s : Fin 4096) (f : Fin 704) : (V m c main_v10 : S4x4096x704.Idx → EReal) (ix3 j s f) = (A.g s (sh j f) : EReal) := by
  have e := byChip (m ((c : Thread nD τ).loc main_arg0)) (m ((c : Thread nD τ).loc main_arg2)) j s f
  simp only [H.z, H.wg, ← EReal.coe_mul, coe_sum] at e
  refine Eq.trans ?_ e
  show StableHlo.after hostOps0 _ (Proc.devRef .tc main_v10) _ = _
  after_results
  rfl

theorem V13 (j : Fin 4) (s : Fin 4096) (f : Fin 704) : (V m c main_v13 : S4x4096x704.Idx → EReal) (ix3 j s f) = (A.u s (sh j f) : EReal) := by
  have e := byChip (m ((c : Thread nD τ).loc main_arg0)) (m ((c : Thread nD τ).loc main_arg3)) j s f
  simp only [H.z, H.wu, ← EReal.coe_mul, coe_sum] at e
  refine Eq.trans ?_ e
  show StableHlo.after hostOps0 _ (Proc.devRef .tc main_v13) _ = _
  after_results
  rfl

theorem b0 (t : Fin cfg0.N) (r : Fin 512) (k : Fin 1024) :
    (iblk m c 0 t : S512x1024.Idx → EReal) (ix2 r k) = (A.z (row t.val r) k : EReal) := by
  unfold iblk
  rw [View.read_apply, ← V14 H]
  show (V m c main_v14 : S4096x1024.Idx → EReal) _ = _
  congr 1
  funext a
  apply Fin.ext
  match a with
  | ⟨0, _⟩ =>
    show win0_0.index t 0 * 512 + 1 * r.val = t.val % 8 * 512 + r.val
    rw [(by decide +kernel : ∀ t : Fin grid0.N, win0_0.index t 0 = t.val % 8) t]; omega
  | ⟨1, _⟩ =>
    show win0_0.index t 1 * 1024 + 1 * k.val = k.val
    rw [(by decide +kernel : ∀ t : Fin grid0.N, win0_0.index t 1 = 0) t]; omega

theorem b3 (t : Fin cfg0.N) (r : Fin 512) (k : Fin 1024) :
    (iblk m c 3 t : S512x1024.Idx → EReal) (ix2 r k) = (A.dy (row t.val r) k : EReal) := by
  unfold iblk
  rw [View.read_apply, ← V15 H]
  show (V m c main_v15 : S4096x1024.Idx → EReal) _ = _
  congr 1
  funext a
  apply Fin.ext
  match a with
  | ⟨0, _⟩ =>
    show win0_3.index t 0 * 512 + 1 * r.val = t.val % 8 * 512 + r.val
    rw [(by decide +kernel : ∀ t : Fin grid0.N, win0_3.index t 0 = t.val % 8) t]; omega
  | ⟨1, _⟩ =>
    show win0_3.index t 1 * 1024 + 1 * k.val = k.val
    rw [(by decide +kernel : ∀ t : Fin grid0.N, win0_3.index t 1 = 0) t]; omega

theorem b1 (t : Fin cfg0.N) (r : Fin 512) (f : Fin 704) :
    (iblk m c 1 t : S1x512x704.Idx → EReal) (ix3 0 r f) = (A.g (row t.val r) (sh (chip t) f) : EReal) := by
  unfold iblk
  rw [View.read_apply, ← V10 H]
  show (V m c main_v10 : S4x4096x704.Idx → EReal) _ = _
  congr 1
  funext a
  apply Fin.ext
  match a with
  | ⟨0, _⟩ =>
    show win0_1.index t 0 * 1 + 1 * 0 = t.val / 8
    rw [(by decide +kernel : ∀ t : Fin grid0.N, win0_1.index t 0 = t.val / 8) t]; omega
  | ⟨1, _⟩ =>
    show win0_1.index t 1 * 512 + 1 * r.val = t.val % 8 * 512 + r.val
    rw [(by decide +kernel : ∀ t : Fin grid0.N, win0_1.index t 1 = t.val % 8) t]; omega
  | ⟨2, _⟩ =>
    show win0_1.index t 2 * 704 + 1 * f.val = f.val
    rw [(by decide +kernel : ∀ t : Fin grid0.N, win0_1.index t 2 = 0) t]; omega

theorem b2 (t : Fin cfg0.N) (r : Fin 512) (f : Fin 704) :
    (iblk m c 2 t : S1x512x704.Idx → EReal) (ix3 0 r f) = (A.u (row t.val r) (sh (chip t) f) : EReal) := by
  unfold iblk
  rw [View.read_apply, ← V13 H]
  show (V m c main_v13 : S4x4096x704.Idx → EReal) _ = _
  congr 1
  funext a
  apply Fin.ext
  match a with
  | ⟨0, _⟩ =>
    show win0_2.index t 0 * 1 + 1 * 0 = t.val / 8
    rw [(by decide +kernel : ∀ t : Fin grid0.N, win0_2.index t 0 = t.val / 8) t]; omega
  | ⟨1, _⟩ =>
    show win0_2.index t 1 * 512 + 1 * r.val = t.val % 8 * 512 + r.val
    rw [(by decide +kernel : ∀ t : Fin grid0.N, win0_2.index t 1 = t.val % 8) t]; omega
  | ⟨2, _⟩ =>
    show win0_2.index t 2 * 704 + 1 * f.val = f.val
    rw [(by decide +kernel : ∀ t : Fin grid0.N, win0_2.index t 2 = 0) t]; omega

theorem b4 (t : Fin cfg0.N) (f : Fin 704) (k : Fin 1024) :
    (iblk m c 4 t : S1x704x1024.Idx → EReal) (ix3 0 f k) = (A.wg k (sh (chip t) f) : EReal) := by
  unfold iblk
  rw [View.read_apply, ← V2 H]
  show (V m c main_v2 : S4x704x1024.Idx → EReal) _ = _
  congr 1
  funext a
  apply Fin.ext
  match a with
  | ⟨0, _⟩ =>
    show win0_4.index t 0 * 1 + 1 * 0 = t.val / 8
    rw [(by decide +kernel : ∀ t : Fin grid0.N, win0_4.index t 0 = t.val / 8) t]; omega
  | ⟨1, _⟩ =>
    show win0_4.index t 1 * 704 + 1 * f.val = f.val
    rw [(by decide +kernel : ∀ t : Fin grid0.N, win0_4.index t 1 = 0) t]; omega
  | ⟨2, _⟩ =>
    show win0_4.index t 2 * 1024 + 1 * k.val = k.val
    rw [(by decide +kernel : ∀ t : Fin grid0.N, win0_4.index t 2 = 0) t]; omega

theorem b5 (t : Fin cfg0.N) (f : Fin 704) (k : Fin 1024) :
    (iblk m c 5 t : S1x704x1024.Idx → EReal) (ix3 0 f k) = (A.wu k (sh (chip t) f) : EReal) := by
  unfold iblk
  rw [View.read_apply, ← V5 H]
  show (V m c main_v5 : S4x704x1024.Idx → EReal) _ = _
  congr 1
  funext a
  apply Fin.ext
  match a with
  | ⟨0, _⟩ =>
    show win0_5.index t 0 * 1 + 1 * 0 = t.val / 8
    rw [(by decide +kernel : ∀ t : Fin grid0.N, win0_5.index t 0 = t.val / 8) t]; omega
  | ⟨1, _⟩ =>
    show win0_5.index t 1 * 704 + 1 * f.val = f.val
    rw [(by decide +kernel : ∀ t : Fin grid0.N, win0_5.index t 1 = 0) t]; omega
  | ⟨2, _⟩ =>
    show win0_5.index t 2 * 1024 + 1 * k.val = k.val
    rw [(by decide +kernel : ∀ t : Fin grid0.N, win0_5.index t 2 = 0) t]; omega

theorem b6 (t : Fin cfg0.N) (f : Fin 704) (k : Fin 1024) :
    (iblk m c 6 t : S1x704x1024.Idx → EReal) (ix3 0 f k) = (A.wd (sh (chip t) f) k : EReal) := by
  unfold iblk
  rw [View.read_apply, ← V7 H]
  show (V m c main_v7 : S4x704x1024.Idx → EReal) _ = _
  congr 1
  funext a
  apply Fin.ext
  match a with
  | ⟨0, _⟩ =>
    show win0_6.index t 0 * 1 + 1 * 0 = t.val / 8
    rw [(by decide +kernel : ∀ t : Fin grid0.N, win0_6.index t 0 = t.val / 8) t]; omega
  | ⟨1, _⟩ =>
    show win0_6.index t 1 * 704 + 1 * f.val = f.val
    rw [(by decide +kernel : ∀ t : Fin grid0.N, win0_6.index t 1 = 0) t]; omega
  | ⟨2, _⟩ =>
    show win0_6.index t 2 * 1024 + 1 * k.val = k.val
    rw [(by decide +kernel : ∀ t : Fin grid0.N, win0_6.index t 2 = 0) t]; omega

end Cert.FfnbV

end
-- ==== Proof.FfnbFinal.lean ====
/- The four gradient arrays the kernel leaves when its arguments are real numbers. -/
module

public import proofs.«01_k».proof.Proof.FfnbBlocks

@[expose] public section

set_option maxRecDepth 16384

noncomputable section

open Idealize.ShloMosaic Idealize.ShloMosaic.TcCoe Idealize.SL.Sem
open Idealize.ShloMosaic.Pipeline (Dat)

namespace Cert.FfnbV

open Cert.FfnBIdeal Cert.FfnBIdeal.Gen Base Spec Cert.FfnbK

/-- The sum over the rows, row block after row block. -/
theorem sum_rows (T : Fin 4096 → ℝ) : ∑ i ∈ Finset.range (7 + 1), ∑ r, T (row i r) = ∑ s, T s := by
  rw [Fin.sum_univ_tiles 8 512 (by norm_num) T, Finset.sum_range]
  refine Finset.sum_congr rfl fun i _ => Finset.sum_congr rfl fun r _ => congrArg T (Fin.ext ?_)
  show i.val % 8 * 512 + r.val = i.val * 512 + r.val
  have := i.isLt
  rw [Nat.mod_eq_of_lt this]

/-- An accumulator that starts from zero at the first of eight row blocks. -/
theorem acc_sum (a : ℕ → EReal) (T : ℕ → ℝ) (h0 : a 0 = ((T 0 : ℝ) : EReal)) (hs : ∀ i, i + 1 < 8 → a (i + 1) = a i + ((T (i + 1) : ℝ) : EReal)) (i : ℕ) (hi : i < 8) :
    a i = ((∑ k ∈ Finset.range (i + 1), T k : ℝ) : EReal) := by
  induction i with
  | zero => simp [h0]
  | succ i ih => rw [hs i hi, ih (by omega), Finset.sum_range_succ _ (i + 1), EReal.coe_add]

theorem pay4_at (i : S1x704x1024.Idx) : (k0_pay4 : FVec Ideal S1x704x1024 .f32) i = 0 := by
  pointwise [k0_pay4]

section points
variable (j : Fin 4) (i : ℕ)

theorem pt_val (hi : i < 8) : (pt (8 * j.val + i)).val = 8 * j.val + i := Nat.mod_eq_of_lt (by omega)
theorem chip_pt (hi : i < 8) : chip (pt (8 * j.val + i)) = j := Fin.ext (by show (pt (8 * j.val + i)).val / 8 = j.val; rw [pt_val j i hi]; omega)
theorem row_pt (hi : i < 8) (r : Fin 512) : row (pt (8 * j.val + i)).val r = row i r :=
  Fin.ext (by show (pt (8 * j.val + i)).val % 8 * 512 + r.val = i % 8 * 512 + r.val; rw [pt_val j i hi]; omega)

end points

variable {m : (ℓ : Loc nD τ sig) → Buf (Elt Ideal) ℓ} {c : Dev nD} {A : Args} (H : Holds m c A)
include H

/-- A body at row block `i` of chip `j` adds the block's rows to the three accumulators. -/
theorem step7 (j : Fin 4) (i : ℕ) (hi : i < 8) (p : Vec Ideal S1x704x1024 .f32) (f : Fin 704) (l : Fin 1024) :
    newDwg (iblk m c 0 (pt (8 * j.val + i))) (iblk m c 1 (pt (8 * j.val + i))) (iblk m c 2 (pt (8 * j.val + i))) (iblk m c 3 (pt (8 * j.val + i))) (iblk m c 6 (pt (8 * j.val + i))) p (ix3 0 f l)
      = p (ix3 0 f l) + ((∑ r, A.dg (row i r) (sh j f) * A.z (row i r) l : ℝ) : EReal) := by
  rw [newDwg_at (b0 H _) (b3 H _) (b1 H _) (b2 H _) (b6 H _)]
  simp only [chip_pt j i hi, row_pt j i hi]
  rfl

theorem step8 (j : Fin 4) (i : ℕ) (hi : i < 8) (p : Vec Ideal S1x704x1024 .f32) (f : Fin 704) (l : Fin 1024) :
    newDwu (iblk m c 0 (pt (8 * j.val + i))) (iblk m c 1 (pt (8 * j.val + i))) (iblk m c 3 (pt (8 * j.val + i))) (iblk m c 6 (pt (8 * j.val + i))) p (ix3 0 f l)
      = p (ix3 0 f l) + ((∑ r, A.du (row i r) (sh j f) * A.z (row i r) l : ℝ) : EReal) := by
  rw [newDwu_at (b0 H _) (b3 H _) (b1 H _) (b6 H _)]
  simp only [chip_pt j i hi, row_pt j i hi]
  rfl

theorem step9 (j : Fin 4) (i : ℕ) (hi : i < 8) (p : Vec Ideal S1x704x1024 .f32) (f : Fin 704) (l : Fin 1024) :
    newDwd (iblk m c 1 (pt (8 * j.val + i))) (iblk m c 2 (pt (8 * j.val + i))) (iblk m c 3 (pt (8 * j.val + i))) p (ix3 0 f l)
      = p (ix3 0 f l) + ((∑ r, act (A.g (row i r) (sh j f)) (A.u (row i r) (sh j f)) * A.dy (row i r) l : ℝ) : EReal) := by
  rw [newDwd_at (b3 H _) (b1 H _) (b2 H _)]
  simp only [chip_pt j i hi, row_pt j i hi]

theorem dzAt_at (j : Fin 4) (i : ℕ) (hi : i < 8) (r : Fin 512) (l : Fin 1024) :
    dzAt m c (pt (8 * j.val + i)) (ix2 r l) = (A.share (row i r) l j : EReal) := by
  unfold dzAt
  rw [dzPart_at (b3 H _) (b1 H _) (b2 H _) (b4 H _) (b5 H _) (b6 H _)]
  simp only [chip_pt j i hi, row_pt j i hi]
  rfl

theorem acc7_first (j : Fin 4) (f : Fin 704) (l : Fin 1024) :
    acc7 m c (8 * j.val + 0) (ix3 0 f l) = ((∑ r, (fun s => A.dg s (sh j f) * A.z s l) (row 0 r) : ℝ) : EReal) := by
  have e := step7 H j 0 (by omega) (k0_pay4 (F := Ideal)) f l
  rw [pay4_at, zero_add] at e
  refine Eq.trans ?_ e
  rcases Nat.eq_zero_or_pos j.val with h | h
  · rw [h]; rfl
  · obtain ⟨n, hn⟩ : ∃ n, 8 * j.val + 0 = n + 1 := ⟨8 * j.val - 1, by omega⟩
    rw [hn, acc7, if_pos (by omega)]

theorem acc7_next (j : Fin 4) (f : Fin 704) (l : Fin 1024) (i : ℕ) (hi : i + 1 < 8) :
    acc7 m c (8 * j.val + (i + 1)) (ix3 0 f l) = acc7 m c (8 * j.val + i) (ix3 0 f l) + ((∑ r, (fun s => A.dg s (sh j f) * A.z s l) (row (i + 1) r) : ℝ) : EReal) := by
  rw [← Nat.add_assoc, acc7, if_neg (by omega)]
  exact step7 H j (i + 1) hi _ f l

theorem acc7_last (j : Fin 4) (f : Fin 704) (l : Fin 1024) :
    acc7 m c (8 * j.val + 7) (ix3 0 f l) = ((∑ s, (fun s => A.dg s (sh j f) * A.z s l) s : ℝ) : EReal) := by
  rw [acc_sum (fun i => acc7 m c (8 * j.val + i) (ix3 0 f l)) (fun i => ∑ r, (fun s => A.dg s (sh j f) * A.z s l) (row i r)) (acc7_first H j f l) (acc7_next H j f l) 7 (by omega)]
  exact congrArg Real.toEReal (sum_rows (fun s => A.dg s (sh j f) * A.z s l))

theorem acc8_first (j : Fin 4) (f : Fin 704) (l : Fin 1024) :
    acc8 m c (8 * j.val + 0) (ix3 0 f l) = ((∑ r, (fun s => A.du s (sh j f) * A.z s l) (row 0 r) : ℝ) : EReal) := by
  have e := step8 H j 0 (by omega) (k0_pay4 (F := Ideal)) f l
  rw [pay4_at, zero_add] at e
  refine Eq.trans ?_ e
  rcases Nat.eq_zero_or_pos j.val with h | h
  · rw [h]; rfl
  · obtain ⟨n, hn⟩ : ∃ n, 8 * j.val + 0 = n + 1 := ⟨8 * j.val - 1, by omega⟩
    rw [hn, acc8, if_pos (by omega)]

theorem acc8_next (j : Fin 4) (f : Fin 704) (l : Fin 1024) (i : ℕ) (hi : i + 1 < 8) :
    acc8 m c (8 * j.val + (i + 1)) (ix3 0 f l) = acc8 m c (8 * j.val + i) (ix3 0 f l) + ((∑ r, (fun s => A.du s (sh j f) * A.z s l) (row (i + 1) r) : ℝ) : EReal) := by
  rw [← Nat.add_assoc, acc8, if_neg (by omega)]
  exact step8 H j (i + 1) hi _ f l

theorem acc8_last (j : Fin 4) (f : Fin 704) (l : Fin 1024) :
    acc8 m c (8 * j.val + 7) (ix3 0 f l) = ((∑ s, (fun s => A.du s (sh j f) * A.z s l) s : ℝ) : EReal) := by
  rw [acc_sum (fun i => acc8 m c (8 * j.val + i) (ix3 0 f l)) (fun i => ∑ r, (fun s => A.du s (sh j f) * A.z s l) (row i r)) (acc8_first H j f l) (acc8_next H j f l) 7 (by omega)]
  exact congrArg Real.toEReal (sum_rows (fun s => A.du s (sh j f) * A.z s l))

theorem acc9_first (j : Fin 4) (f : Fin 704) (l : Fin 1024) :
    acc9 m c (8 * j.val + 0) (ix3 0 f l) = ((∑ r, (fun s => act (A.g s (sh j f)) (A.u s (sh j f)) * A.dy s l) (row 0 r) : ℝ) : EReal) := by
  have e := step9 H j 0 (by omega) (k0_pay4 (F := Ideal)) f l
  rw [pay4_at, zero_add] at e
  refine Eq.trans ?_ e
  rcases Nat.eq_zero_or_pos j.val with h | h
  · rw [h]; rfl
  · obtain ⟨n, hn⟩ : ∃ n, 8 * j.val + 0 = n + 1 := ⟨8 * j.val - 1, by omega⟩
    rw [hn, acc9, if_pos (by omega)]

theorem acc9_next (j : Fin 4) (f : Fin 704) (l : Fin 1024) (i : ℕ) (hi : i + 1 < 8) :
    acc9 m c (8 * j.val + (i + 1)) (ix3 0 f l) = acc9 m c (8 * j.val + i) (ix3 0 f l) + ((∑ r, (fun s => act (A.g s (sh j f)) (A.u s (sh j f)) * A.dy s l) (row (i + 1) r) : ℝ) : EReal) := by
  rw [← Nat.add_assoc, acc9, if_neg (by omega)]
  exact step9 H j (i + 1) hi _ f l

theorem acc9_last (j : Fin 4) (f : Fin 704) (l : Fin 1024) :
    acc9 m c (8 * j.val + 7) (ix3 0 f l) = ((∑ s, (fun s => act (A.g s (sh j f)) (A.u s (sh j f)) * A.dy s l) s : ℝ) : EReal) := by
  rw [acc_sum (fun i => acc9 m c (8 * j.val + i) (ix3 0 f l)) (fun i => ∑ r, (fun s => act (A.g s (sh j f)) (A.u s (sh j f)) * A.dy s l) (row i r)) (acc9_first H j f l) (acc9_next H j f l) 7 (by omega)]
  exact congrArg Real.toEReal (sum_rows (fun s => act (A.g s (sh j f)) (A.u s (sh j f)) * A.dy s l))

theorem accz_at (i : ℕ) (hi : i < 8) (r : Fin 512) (l : Fin 1024) :
    accz m c 2 i (ix2 r l) = ((A.share (row i r) l 0 + A.share (row i r) l 1 + A.share (row i r) l 2 : ℝ) : EReal) := by
  have e0 : dzAt m c (pt i) (ix2 r l) = (A.share (row i r) l 0 : EReal) := by
    refine Eq.trans ?_ (dzAt_at H 0 i hi r l)
    rw [show 8 * (0 : Fin 4).val + i = i from by show 8 * 0 + i = i; omega]
  have e1 := dzAt_at H 1 i hi r l
  have e2 := dzAt_at H 2 i hi r l
  have s0 : accz m c 0 i (ix2 r l) = (A.share (row i r) l 0 : EReal) := by
    rw [← e0]; show k0_pay1 (dzAt m c (pt i)) (ix2 r l) = _
    pointwise [k0_pay1]
  have s1 : accz m c 1 i (ix2 r l) = ((A.share (row i r) l 0 + A.share (row i r) l 1 : ℝ) : EReal) := by
    show k0_pay2 (dzAt m c (pt (8 * (0 + 1) + i))) (accz m c 0 i) (ix2 r l) = _
    generalize accz m c 0 i = y at s0
    rw [EReal.coe_add, ← s0, ← e1]
    pointwise [k0_pay2]
  show k0_pay2 (dzAt m c (pt (8 * (1 + 1) + i))) (accz m c 1 i) (ix2 r l) = _
  generalize accz m c 1 i = y at s1
  rw [EReal.coe_add, ← s1, ← e2]
  pointwise [k0_pay2]

theorem after10 (i : ℕ) (hi : i < 8) (r : Fin 512) (l : Fin 1024) :
    (k0_pay3 (dzAt m c (pt (8 * (3 : Fin 4).val + i))) (accz m c 2 ((pt (8 * (3 : Fin 4).val + i)).val % 8)) : S512x1024.Idx → EReal) (ix2 r l) = (A.dz (row i r) l : EReal) := by
  have hm : (pt (8 * (3 : Fin 4).val + i)).val % 8 = i := by rw [pt_val 3 i hi]; omega
  rw [hm, Args.dz_shares, EReal.coe_add, ← accz_at H i hi r l, ← dzAt_at H 3 i hi r l]
  pointwise [k0_pay3]

theorem final7 (j : Fin 4) (f : Fin 704) (l : Fin 1024) :
    ((dats m 0 c).arrAt 7 cfg0.N : S4x704x1024.Idx → EReal) (ix3 j f l) = (A.dwg (sh j f) l : EReal) := by
  have ht : (pt (8 * j.val + 7)).val = 8 * j.val + 7 := pt_val j 7 (by omega)
  have e : ((cfg0.win 7).blk (pt (8 * j.val + 7))).view.emb (ix3 0 f l : S1x704x1024.Idx) = (ix3 j f l : S4x704x1024.Idx) := by
    funext a; apply Fin.ext
    match a with
    | ⟨0, _⟩ =>
      show win0_7.index (pt (8 * j.val + 7)) 0 * 1 + 1 * 0 = j.val
      rw [(by decide +kernel : ∀ t : Fin grid0.N, win0_7.index t 0 = t.val / 8) _, ht]; omega
    | ⟨1, _⟩ =>
      show win0_7.index (pt (8 * j.val + 7)) 1 * 704 + 1 * f.val = f.val
      rw [(by decide +kernel : ∀ t : Fin grid0.N, win0_7.index t 1 = 0) _]; omega
    | ⟨2, _⟩ =>
      show win0_7.index (pt (8 * j.val + 7)) 2 * 1024 + 1 * l.val = l.val
      rw [(by decide +kernel : ∀ t : Fin grid0.N, win0_7.index t 2 = 0) _]; omega
  have hd : ∀ t t' : Fin cfg0.N, (cfg0.win 7).flush t = true → (cfg0.win 7).flush t' = true → t ≠ t' →
      Disjoint ((cfg0.win 7).blk t).view.set ((cfg0.win 7).blk t').view.set :=
    fun t t' h h' hne => (cfg0.win 7).disjoint_blk fun hi => hne ((by decide +kernel : ∀ t t' : Fin grid0.N, win0_7.flush t = true → win0_7.flush t' = true → win0_7.index t = win0_7.index t' → t = t') t t' h h' hi)
  have h := (dats m 0 c).arrAt_emb_eq_flushed 7 hd (pt (8 * j.val + 7)) ((by decide +kernel : ∀ j : Fin 4, win0_7.flush (pt (8 * j.val + 7)) = true) j) (ix3 0 f l : S1x704x1024.Idx)
  rw [e] at h
  refine h.trans ((congrFun (after0_7 m c (pt (8 * j.val + 7))) (ix3 0 f l : S1x704x1024.Idx)).trans ?_)
  rw [ht]
  exact acc7_last H j f l

theorem final8 (j : Fin 4) (f : Fin 704) (l : Fin 1024) :
    ((dats m 0 c).arrAt 8 cfg0.N : S4x704x1024.Idx → EReal) (ix3 j f l) = (A.dwu (sh j f) l : EReal) := by
  have ht : (pt (8 * j.val + 7)).val = 8 * j.val + 7 := pt_val j 7 (by omega)
  have e : ((cfg0.win 8).blk (pt (8 * j.val + 7))).view.emb (ix3 0 f l : S1x704x1024.Idx) = (ix3 j f l : S4x704x1024.Idx) := by
    funext a; apply Fin.ext
    match a with
    | ⟨0, _⟩ =>
      show win0_8.index (pt (8 * j.val + 7)) 0 * 1 + 1 * 0 = j.val
      rw [(by decide +kernel : ∀ t : Fin grid0.N, win0_8.index t 0 = t.val / 8) _, ht]; omega
    | ⟨1, _⟩ =>
      show win0_8.index (pt (8 * j.val + 7)) 1 * 704 + 1 * f.val = f.val
      rw [(by decide +kernel : ∀ t : Fin grid0.N, win0_8.index t 1 = 0) _]; omega
    | ⟨2, _⟩ =>
      show win0_8.index (pt (8 * j.val + 7)) 2 * 1024 + 1 * l.val = l.val
      rw [(by decide +kernel : ∀ t : Fin grid0.N, win0_8.index t 2 = 0) _]; omega
  have hd : ∀ t t' : Fin cfg0.N, (cfg0.win 8).flush t = true → (cfg0.win 8).flush t' = true → t ≠ t' →
      Disjoint ((cfg0.win 8).blk t).view.set ((cfg0.win 8).blk t').view.set :=
    fun t t' h h' hne => (cfg0.win 8).disjoint_blk fun hi => hne ((by decide +kernel : ∀ t t' : Fin grid0.N, win0_8.flush t = true → win0_8.flush t' = true → win0_8.index t = win0_8.index t' → t = t') t t' h h' hi)
  have h := (dats m 0 c).arrAt_emb_eq_flushed 8 hd (pt (8 * j.val + 7)) ((by decide +kernel : ∀ j : Fin 4, win0_8.flush (pt (8 * j.val + 7)) = true) j) (ix3 0 f l : S1x704x1024.Idx)
  rw [e] at h
  refine h.trans ((congrFun (after0_8 m c (pt (8 * j.val + 7))) (ix3 0 f l : S1x704x1024.Idx)).trans ?_)
  rw [ht]
  exact acc8_last H j f l

theorem final9 (j : Fin 4) (f : Fin 704) (l : Fin 1024) :
    ((dats m 0 c).arrAt 9 cfg0.N : S4x704x1024.Idx → EReal) (ix3 j f l) = (A.dwd (sh j f) l : EReal) := by
  have ht : (pt (8 * j.val + 7)).val = 8 * j.val + 7 := pt_val j 7 (by omega)
  have e : ((cfg0.win 9).blk (pt (8 * j.val + 7))).view.emb (ix3 0 f l : S1x704x1024.Idx) = (ix3 j f l : S4x704x1024.Idx) := by
    funext a; apply Fin.ext
    match a with
    | ⟨0, _⟩ =>
      show win0_9.index (pt (8 * j.val + 7)) 0 * 1 + 1 * 0 = j.val
      rw [(by decide +kernel : ∀ t : Fin grid0.N, win0_9.index t 0 = t.val / 8) _, ht]; omega
    | ⟨1, _⟩ =>
      show win0_9.index (pt (8 * j.val + 7)) 1 * 704 + 1 * f.val = f.val
      rw [(by decide +kernel : ∀ t : Fin grid0.N, win0_9.index t 1 = 0) _]; omega
    | ⟨2, _⟩ =>
      show win0_9.index (pt (8 * j.val + 7)) 2 * 1024 + 1 * l.val = l.val
      rw [(by decide +kernel : ∀ t : Fin grid0.N, win0_9.index t 2 = 0) _]; omega
  have hd : ∀ t t' : Fin cfg0.N, (cfg0.win 9).flush t = true → (cfg0.win 9).flush t' = true → t ≠ t' →
      Disjoint ((cfg0.win 9).blk t).view.set ((cfg0.win 9).blk t').view.set :=
    fun t t' h h' hne => (cfg0.win 9).disjoint_blk fun hi => hne ((by decide +kernel : ∀ t t' : Fin grid0.N, win0_9.flush t = true → win0_9.flush t' = true → win0_9.index t = win0_9.index t' → t = t') t t' h h' hi)
  have h := (dats m 0 c).arrAt_emb_eq_flushed 9 hd (pt (8 * j.val + 7)) ((by decide +kernel : ∀ j : Fin 4, win0_9.flush (pt (8 * j.val + 7)) = true) j) (ix3 0 f l : S1x704x1024.Idx)
  rw [e] at h
  refine h.trans ((congrFun (after0_9 m c (pt (8 * j.val + 7))) (ix3 0 f l : S1x704x1024.Idx)).trans ?_)
  rw [ht]
  exact acc9_last H j f l

theorem final10 (s : Fin 4096) (l : Fin 1024) :
    ((dats m 0 c).arrAt 10 cfg0.N : S4096x1024.Idx → EReal) (ix2 s l) = (A.dz s l : EReal) := by
  obtain ⟨i, r, rfl⟩ : ∃ (i : Fin 8) (r : Fin 512), s = row i.val r :=
    ⟨⟨s.val / 512, by omega⟩, ⟨s.val % 512, by omega⟩, Fin.ext (by show s.val = s.val / 512 % 8 * 512 + s.val % 512; omega)⟩
  have hi := i.isLt
  have ht : (pt (8 * (3 : Fin 4).val + i.val)).val = 8 * (3 : Fin 4).val + i.val := pt_val 3 i.val hi
  have e : ((cfg0.win 10).blk (pt (8 * (3 : Fin 4).val + i.val))).view.emb (ix2 r l : S512x1024.Idx) = (ix2 (row i.val r) l : S4096x1024.Idx) := by
    funext a; apply Fin.ext
    match a with
    | ⟨0, _⟩ =>
      show win0_10.index (pt (8 * (3 : Fin 4).val + i.val)) 0 * 512 + 1 * r.val = i.val % 8 * 512 + r.val
      rw [(by decide +kernel : ∀ i : Fin 8, win0_10.index (pt (8 * (3 : Fin 4).val + i.val)) 0 = i.val) i]; omega
    | ⟨1, _⟩ =>
      show win0_10.index (pt (8 * (3 : Fin 4).val + i.val)) 1 * 1024 + 1 * l.val = l.val
      rw [(by decide +kernel : ∀ t : Fin grid0.N, win0_10.index t 1 = 0) _]; omega
  have hd : ∀ t t' : Fin cfg0.N, (cfg0.win 10).flush t = true → (cfg0.win 10).flush t' = true → t ≠ t' →
      Disjoint ((cfg0.win 10).blk t).view.set ((cfg0.win 10).blk t').view.set :=
    fun t t' h h' hne => (cfg0.win 10).disjoint_blk fun hi => hne ((by decide +kernel : ∀ t t' : Fin grid0.N, win0_10.flush t = true → win0_10.flush t' = true → win0_10.index t = win0_10.index t' → t = t') t t' h h' hi)
  have h := (dats m 0 c).arrAt_emb_eq_flushed 10 hd (pt (8 * (3 : Fin 4).val + i.val)) ((by decide +kernel : ∀ i : Fin 8, win0_10.flush (pt (8 * (3 : Fin 4).val + i.val)) = true) i) (ix2 r l : S512x1024.Idx)
  rw [e] at h
  refine h.trans ((congrFun (after0_10 m c (pt (8 * (3 : Fin 4).val + i.val))) (ix2 r l : S512x1024.Idx)).trans ?_)
  exact after10 H i.val hi r l

end Cert.FfnbV

end
-- ==== Proof.FfnbRef.lean ====
/- The reference's four gradients when its arguments are real numbers. -/
module

public import proofs.«01_k».proof.Proof.Gen.FfnBRefIdeal.Read
public import proofs.«01_k».proof.Proof.FfnbPay

@[expose] public section

noncomputable section

open Idealize.ShloMosaic Idealize.ShloMosaic.TcCoe

namespace Cert.FfnbR

open Cert.FfnBRefIdeal Cert.FfnBRefIdeal.Gen Cert.FfnBRefIdeal.Read Base Spec Cert.FfnbV

variable {x0 x1 : FVec Ideal S4096x1024 .f32} {x2 x3 : FVec Ideal S1024x2816 .f32} {x4 : FVec Ideal S2816x1024 .f32} {A : FfnbV.Args}

/-- The argument arrays hold the real numbers `A`. -/
structure Holds (x0 x1 : FVec Ideal S4096x1024 .f32) (x2 x3 : FVec Ideal S1024x2816 .f32) (x4 : FVec Ideal S2816x1024 .f32) (A : FfnbV.Args) : Prop where
  z : ∀ s k, x0 (ix2 s k) = (A.z s k : EReal)
  dy : ∀ s k, x1 (ix2 s k) = (A.dy s k : EReal)
  wg : ∀ k f, x2 (ix2 k f) = (A.wg k f : EReal)
  wu : ∀ k f, x3 (ix2 k f) = (A.wu k f : EReal)
  wd : ∀ f k, x4 (ix2 f k) = (A.wd f k : EReal)

variable (H : Holds x0 x1 x2 x3 x4 A) (s : Fin 4096) (f : Fin 2816) (l : Fin 1024)
include H

theorem v0 : val_main_v0 (F := Ideal) x0 x2 (ix2 s f) = (A.g s f : EReal) := by
  pointwise [val_main_v0]
  simp only [H.z, H.wg, ← EReal.coe_mul, coe_sum]; rfl

theorem v1 : val_main_v1 (F := Ideal) x0 x3 (ix2 s f) = (A.u s f : EReal) := by
  pointwise [val_main_v1]
  simp only [H.z, H.wu, ← EReal.coe_mul, coe_sum]; rfl

omit H in
theorem sg_coe (g : ℝ) : Ideal.div 1 (1 + Ideal.exp (-(g : EReal))) = (sg g : EReal) := by
  rw [← EReal.coe_neg, Ideal.exp_coe, ← EReal.coe_one, ← EReal.coe_add, div_coe' _ _ (by positivity), one_div]; rfl

theorem v2_2 : val_main_v2_2 (F := Ideal) x0 x2 (ix2 s f) = (sg (A.g s f) : EReal) := by
  have e := v0 H s f
  unfold val_main_v2_2 val_main_call0_v4 val_main_call0_v3 val_main_call0_v2 val_main_call0_v1 val_main_call0_v0 val_main_call0_cst val_main_call0_cst_0
  generalize val_main_v0 (F := Ideal) x0 x2 = y at e
  pointwise
  rw [e, sg_coe]

theorem v2_1 : val_main_v2_1 (F := Ideal) x0 x2 (ix2 s f) = ((sg (A.g s f) * (1 - sg (A.g s f)) : ℝ) : EReal) := by
  have e := v2_2 H s f
  unfold val_main_v2_1 val_main_call0_v7 val_main_call0_v6 val_main_call0_cst_1
  generalize val_main_v2_2 (F := Ideal) x0 x2 = y at e
  pointwise
  simp only [e, ← EReal.coe_one, ← EReal.coe_sub, ← EReal.coe_mul]

theorem v2_0 : val_main_v2_0 (F := Ideal) x0 x2 (ix2 s f) = ((A.g s f * sg (A.g s f) : ℝ) : EReal) := by
  rw [val_main_v2_0_apply, v0 H, v2_2 H, EReal.coe_mul]; rfl

theorem v3 : val_main_v3 (F := Ideal) x0 x2 x3 (ix2 s f) = (act (A.g s f) (A.u s f) : EReal) := by
  rw [val_main_v3_apply, v2_0 H, v1 H]; exact (EReal.coe_mul _ _).symm

theorem v7 : val_main_v7 (F := Ideal) x1 x4 (ix2 s f) = (A.b s f : EReal) := by
  pointwise [val_main_v7]
  simp only [H.dy, H.wd, ← EReal.coe_mul, coe_sum]; rfl

theorem v8 : val_main_v8 (F := Ideal) x0 x1 x2 x4 (ix2 s f) = (A.du s f : EReal) := by
  rw [val_main_v8_apply, v2_0 H, v7 H]
  refine (EReal.coe_mul _ _).symm.trans (congrArg Real.toEReal ?_)
  unfold Args.du duf; ring

theorem v9 : val_main_v9 (F := Ideal) x0 x1 x3 x4 (ix2 s f) = ((A.b s f * A.u s f : ℝ) : EReal) := by
  rw [val_main_v9_apply, v7 H, v1 H]; exact (EReal.coe_mul _ _).symm

theorem v10 : val_main_v10 (F := Ideal) x0 x1 x2 x3 x4 (ix2 s f) = (A.dg s f : EReal) := by
  have e1 : val_main_call1_v1 (F := Ideal) x0 x1 x2 x3 x4 (ix2 s f) = ((A.b s f * A.u s f * sg (A.g s f) : ℝ) : EReal) := by
    refine (congrArg₂ (· * ·) (v9 H s f) (v2_2 H s f)).trans (EReal.coe_mul _ _).symm
  have e0 : val_main_call1_v0 (F := Ideal) x0 x1 x2 x3 x4 (ix2 s f) = ((A.g s f * (A.b s f * A.u s f) : ℝ) : EReal) := by
    refine (congrArg₂ (· * ·) (v0 H s f) (v9 H s f)).trans (EReal.coe_mul _ _).symm
  have e2 : val_main_call1_v2 (F := Ideal) x0 x1 x2 x3 x4 (ix2 s f) = ((A.g s f * (A.b s f * A.u s f) * (sg (A.g s f) * (1 - sg (A.g s f))) : ℝ) : EReal) := by
    refine (congrArg₂ (· * ·) e0 (v2_1 H s f)).trans (EReal.coe_mul _ _).symm
  refine (congrArg₂ (· + ·) e1 e2).trans ((EReal.coe_add _ _).symm.trans (congrArg Real.toEReal ?_))
  unfold Args.dg dgf; ring

theorem v14 : val_main_v14 (F := Ideal) x0 x1 x2 x3 x4 (ix2 f l) = (A.dwg f l : EReal) := by
  have e := fun s => v10 H s f
  unfold val_main_v14
  generalize val_main_v10 (F := Ideal) x0 x1 x2 x3 x4 = y at e
  pointwise
  simp only [e, H.z, ← EReal.coe_mul, coe_sum]; rfl

theorem v11 : val_main_v11 (F := Ideal) x0 x1 x2 x4 (ix2 f l) = (A.dwu f l : EReal) := by
  have e := fun s => v8 H s f
  unfold val_main_v11
  generalize val_main_v8 (F := Ideal) x0 x1 x2 x4 = y at e
  pointwise
  simp only [e, H.z, ← EReal.coe_mul, coe_sum]; rfl

theorem v5 : val_main_v5 (F := Ideal) x0 x1 x2 x3 (ix2 l f) = (A.dwd f l : EReal) := by
  have e := fun s => v3 H s f
  unfold val_main_v5
  generalize val_main_v3 (F := Ideal) x0 x2 x3 = y at e
  pointwise
  simp only [e, H.dy, ← EReal.coe_mul, coe_sum]
  exact congrArg Real.toEReal (Finset.sum_congr rfl fun s _ => mul_comm _ _)

theorem v19 (j : Fin 4) (f : Fin 704) : val_main_v19 (F := Ideal) x0 x1 x2 x3 x4 (ix3 j f l) = (A.dwg (sh j f) l : EReal) := by
  rw [← v14 H]
  unfold val_main_v19 val_main_v18 val_main_v15
  generalize val_main_v14 (F := Ideal) x0 x1 x2 x3 x4 = y
  pointwise
  rfl

theorem v21 (j : Fin 4) (f : Fin 704) : val_main_v21 (F := Ideal) x0 x1 x2 x4 (ix3 j f l) = (A.dwu (sh j f) l : EReal) := by
  rw [← v11 H]
  unfold val_main_v21 val_main_v20 val_main_v12
  generalize val_main_v11 (F := Ideal) x0 x1 x2 x4 = y
  pointwise
  rfl

theorem v22 (j : Fin 4) (f : Fin 704) : val_main_v22 (F := Ideal) x0 x1 x2 x3 (ix3 j f l) = (A.dwd (sh j f) l : EReal) := by
  rw [← v5 H]
  unfold val_main_v22 val_main_v6
  generalize val_main_v5 (F := Ideal) x0 x1 x2 x3 = y
  pointwise
  rfl

theorem v17 : val_main_v17 (F := Ideal) x0 x1 x2 x3 x4 (ix2 s l) = (A.dz s l : EReal) := by
  have e1 : val_main_v13 (F := Ideal) x0 x1 x2 x3 x4 (ix2 s l) = ((∑ f, A.du s f * A.wu l f : ℝ) : EReal) := by
    have e := fun f => v8 H s f
    unfold val_main_v13
    generalize val_main_v8 (F := Ideal) x0 x1 x2 x4 = y at e
    pointwise
    simp only [e, H.wu, ← EReal.coe_mul, coe_sum]
  have e2 : val_main_v16 (F := Ideal) x0 x1 x2 x3 x4 (ix2 s l) = ((∑ f, A.dg s f * A.wg l f : ℝ) : EReal) := by
    have e := fun f => v10 H s f
    unfold val_main_v16
    generalize val_main_v10 (F := Ideal) x0 x1 x2 x3 x4 = y at e
    pointwise
    simp only [e, H.wg, ← EReal.coe_mul, coe_sum]
  rw [val_main_v17_apply, e1, e2]
  exact (EReal.coe_add _ _).symm.trans (congrArg Real.toEReal (add_comm _ _))

end Cert.FfnbR

end
-- ==== Proof.FfnbAssemble.lean ====
/- The gated layer's backward and its reference agree on arguments that are real numbers. -/
module

public import proofs.«01_k».proof.Defs
public import proofs.«01_k».proof.Proof.FfnbFinal
public import proofs.«01_k».proof.Proof.FfnbRef
public import proofs.«01_k».proof.Proof.Gen.Pre_finite_ffnb

@[expose] public section

noncomputable section

open Idealize.ShloMosaic Idealize.ShloMosaic.TcCoe Idealize.SL.Sem

namespace Cert.FfnbK

open Base

section pre
open Cert.Pre_finite_ffnb

variable {x0 x1 : FVec Ideal S4096x1024 .f32} {x2 x3 : FVec Ideal S1024x2816 .f32} {x4 : FVec Ideal S2816x1024 .f32}

/-- The real numbers in the argument arrays. -/
def argsOf (x0 x1 : FVec Ideal S4096x1024 .f32) (x2 x3 : FVec Ideal S1024x2816 .f32) (x4 : FVec Ideal S2816x1024 .f32) : FfnbV.Args where
  z s k := (x0 (ix2 s k)).toReal
  dy s k := (x1 (ix2 s k)).toReal
  wg k f := (x2 (ix2 k f)).toReal
  wu k f := (x3 (ix2 k f)).toReal
  wd f k := (x4 (ix2 f k)).toReal

theorem holds_of_pre [Facts] (h : fn (F := Ideal) x0 x1 x2 x3 x4 = fun _ => 1#1) : FfnbR.Holds x0 x1 x2 x3 x4 (argsOf x0 x1 x2 x3 x4) := by
  have e := congrFun h ix0
  unfold fn at e
  try unfold fn_part1 at e
  dsimp only at e
  obtain ⟨e, e4⟩ := andi_split e
  obtain ⟨e, e3⟩ := andi_split e
  obtain ⟨e, e2⟩ := andi_split e
  obtain ⟨e0, e1⟩ := andi_split e
  exact ⟨fun s k => real_of_all _ _ _ _ _ _ e0 _, fun s k => real_of_all _ _ _ _ _ _ e1 _, fun k f => real_of_all _ _ _ _ _ _ e2 _,
    fun k f => real_of_all _ _ _ _ _ _ e3 _, fun f k => real_of_all _ _ _ _ _ _ e4 _⟩

end pre

section out
open Cert.FfnBIdeal Cert.FfnBIdeal.Gen
variable {F : FTy → Type} [FloatOps F] (m : (ℓ : Loc nD τ sig) → Buf (Elt F) ℓ) (ρ : Dev nD → PrngReg)

/-- The run, with what the output arrays hold after it. -/
theorem run_out : θ_run defs (onTc (τ := τ) (main (F := F))) ⟨m, fun _ => 0, ρ⟩ fun r => ∀ c : Dev nD,
      r.2.mem ((c : Thread nD τ).loc main_v16_0) = (dats m 0 c).arrAt 7 cfg0.N
      ∧ r.2.mem ((c : Thread nD τ).loc main_v16_1) = (dats m 0 c).arrAt 8 cfg0.N
      ∧ r.2.mem ((c : Thread nD τ).loc main_v16_2) = (dats m 0 c).arrAt 9 cfg0.N
      ∧ r.2.mem ((c : Thread nD τ).loc main_v16_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 7, (h.1 c).1 8, (h.1 c).1 9, (h.1 c).1 10,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (run_main m ρ)

end out

open FfnbV in
set_option maxHeartbeats 2000000 in
theorem algebraic : @algebraic_FfnBIdeal_FfnBRefIdeal_pre_finite_ffnb FfnBIdeal.Gen.facts FfnBRefIdeal.Gen.facts Pre_finite_ffnb.Gen.facts := by
  intro m g m' g' hpre hargs
  have hR : ∀ c, _ := fun c => holds_of_pre (hpre c)
  have hK : ∀ c, FfnbV.Holds m c _ := fun c => ⟨(hR c).z, (hR c).dy, (hR c).wg, (hR c).wu, (hR c).wd⟩
  refine ⟨_, _, _, _, (θ_run _ _ _).mono (fun r h => h) (run_out (F := Ideal) m g),
    (θ_run _ _ _).mono (fun r h c => ?_) (FfnBRefIdeal.Value.run (F := Ideal) m' g')⟩
  obtain ⟨a0, a1, a2, a3, a4⟩ := hargs c
  obtain ⟨r0, r1, r2, r3, k⟩ := h c
  refine ⟨r0.trans ?_, r1.trans ?_, r2.trans ?_, r3.trans ?_, k⟩
  · rw [FfnBRefIdeal.Read.val_main_v19_eq, a0, a1, a2, a3, a4]
    funext i
    rw [eq_ix3 i]
    exact (FfnbR.v19 (hR c) _ _ _).trans (final7 (hK c) _ _ _).symm
  · rw [FfnBRefIdeal.Read.val_main_v21_eq, a0, a1, a2, a4]
    funext i
    rw [eq_ix3 i]
    exact (FfnbR.v21 (hR c) _ _ _).trans (final8 (hK c) _ _ _).symm
  · rw [FfnBRefIdeal.Read.val_main_v22_eq, a0, a1, a2, a3]
    funext i
    rw [eq_ix3 i]
    exact (FfnbR.v22 (hR c) _ _ _).trans (final9 (hK c) _ _ _).symm
  · rw [FfnBRefIdeal.Read.val_main_v17_eq, a0, a1, a2, a3, a4]
    funext i
    rw [eq_ix2 i]
    exact (FfnbR.v17 (hR c) _ _).trans (final10 (hK c) _ _).symm

end Cert.FfnbK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Assemble
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Loops
public import proofs.«01_k».proof.Proof.AttnPlain
public import proofs.«01_k».proof.Proof.Gen.Pre_finite_attn
public import proofs.«01_k».proof.Proof.AttnAssemble
public import proofs.«01_k».proof.Proof.Gen.AttnRefIdeal.Run
public import proofs.«01_k».proof.Proof.Gen.AttnRefIdeal.Read
public import proofs.«01_k».proof.Proof.Gen.FfnB
public import proofs.«01_k».proof.Proof.Gen.FfnBIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBRefIdeal.Run
public import proofs.«01_k».proof.Proof.Gen.FfnBRefIdeal.Read
public import proofs.«01_k».proof.Proof.Gen.Pre_finite_ffnb
public import proofs.«01_k».proof.Proof.Gen.InB
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal.Run
public import proofs.«01_k».proof.Proof.Gen.InBRefIdeal.Read
public import proofs.«01_k».proof.Proof.InbPlain
public import proofs.«01_k».proof.Proof.InbAssemble
public import proofs.«01_k».proof.Proof.FfnbPlain
public import proofs.«01_k».proof.Proof.FfnbAssemble
public import Idealize.ShloMosaic.Adequacy
public import Idealize.ShloMosaic.Init

@[expose] public section

noncomputable section

namespace Cert.Proof

open Idealize.ShloMosaic Idealize.SL.Sem Cert.Kernel

/-- The reference of the feed-forward call runs, keeps its arguments, and has no semaphore. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- The reference of the attention call likewise. -/
theorem frame_attn_reference : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

/-- The reference of the gated layer's backward likewise. -/
theorem frame_ffnb_reference : Cert.quiescent_FfnBRefIdeal := fun m ρ _ =>
  (θ_run Cert.FfnBRefIdeal.defs _ _).mono
    (fun r h => ⟨fun c => (h c).2.2.2.2, Idealize.ShloMosaic.sem_eq_zero_of_no_sems (by decide) r.2⟩)
    (Cert.FfnBRefIdeal.Value.run (F := Ideal) m ρ)

/-- The reference of the input layer's backward likewise. -/
theorem frame_inb_reference : Cert.quiescent_InBRefIdeal := fun m ρ _ =>
  (θ_run Cert.InBRefIdeal.defs _ _).mono
    (fun r h => ⟨fun c => (h c).2.2.2.2, Idealize.ShloMosaic.sem_eq_zero_of_no_sems (by decide) r.2⟩)
    (Cert.InBRefIdeal.Value.run (F := Ideal) m ρ)

theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts,
  Cert.FfnB.Gen.facts, Cert.FfnBIdeal.Gen.facts, Cert.FfnBRefIdeal.Gen.facts,
  Cert.InB.Gen.facts, Cert.InBIdeal.Gen.facts, Cert.InBRefIdeal.Gen.facts,
  Cert.Pre_finite.Gen.facts, Cert.Pre_finite_attn.Gen.facts, Cert.Pre_finite_ffnb.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  AttnK.frame_plain,
  fun m ρ _ => AttnK.frame m ρ,
  fun m ρ _ => AttnK.frame m ρ,
  frame_attn_reference,
  fun m ρ _ => frame_attn_reference m ρ trivial,
  FfnbK.frame_plain,
  fun m ρ _ => FfnbK.frame m ρ,
  fun m ρ _ => FfnbK.frame m ρ,
  frame_ffnb_reference,
  fun m ρ _ => frame_ffnb_reference m ρ trivial,
  InbK.frame_plain,
  fun m ρ _ => InbK.frame m ρ,
  frame_inb_reference,
  trivial,
  Assemble.algebraic,
  IdealRules.named_const.statement _ _ _ _ _ rfl,
  AttnK.algebraic,
  trivial,
  FfnbK.algebraic,
  trivial,
  InbV.algebraic⟩

end Cert.Proof

end
